-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite [hPre_finite : Cert.Pre_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite [hPre_finite : Cert.Pre_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Kernel24Ideal_finite_act [hPre_finite_act : Cert.Pre_finite_act.Facts] (m : (ℓ : Loc Cert.Kernel24Ideal.nD Cert.Kernel24Ideal.τ Cert.Kernel24Ideal.sig) → Buf (Elt Ideal) ℓ) : Prop :=
  ∀ c : Dev Cert.Kernel24Ideal.nD,
    (Cert.Pre_finite_act.fn (F := Ideal) (m ((c.tc : Thread Cert.Kernel24Ideal.nD Cert.Kernel24Ideal.τ).loc Cert.Kernel24Ideal.main_arg0)) (m ((c.tc : Thread Cert.Kernel24Ideal.nD Cert.Kernel24Ideal.τ).loc Cert.Kernel24Ideal.main_arg1))) = (fun _ => 1#1)

def Pre_Reference24Ideal (m : (ℓ : Loc Cert.Reference24Ideal.nD Cert.Reference24Ideal.τ Cert.Reference24Ideal.sig) → Buf (Elt Ideal) ℓ) : Prop :=
  True

def Pre_Reference24Ideal_finite_act [hPre_finite_act : Cert.Pre_finite_act.Facts] (m : (ℓ : Loc Cert.Reference24Ideal.nD Cert.Reference24Ideal.τ Cert.Reference24Ideal.sig) → Buf (Elt Ideal) ℓ) : Prop :=
  ∀ c : Dev Cert.Reference24Ideal.nD,
    (Cert.Pre_finite_act.fn (F := Ideal) (m ((c.tc : Thread Cert.Reference24Ideal.nD Cert.Reference24Ideal.τ).loc Cert.Reference24Ideal.main_arg0)) (m ((c.tc : Thread Cert.Reference24Ideal.nD Cert.Reference24Ideal.τ).loc Cert.Reference24Ideal.main_arg1))) = (fun _ => 1#1)

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Kernel2Ideal_pre_finite [hKernel2Ideal : Cert.Kernel2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Reference2Ideal_pre_finite [hReference2Ideal : Cert.Reference2Ideal.Facts] [hPre_finite : Cert.Pre_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3)
      ∧ r.2.mem ((c.tc : Thread Cert.Kernel23.nD Cert.Kernel23.τ).loc Cert.Kernel23.main_arg4) = m ((c.tc : Thread Cert.Kernel23.nD Cert.Kernel23.τ).loc Cert.Kernel23.main_arg4))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
      ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3)
      ∧ r.2.mem ((c.tc : Thread Cert.Reference23Ideal.nD Cert.Reference23Ideal.τ).loc Cert.Reference23Ideal.main_arg4) = m ((c.tc : Thread Cert.Reference23Ideal.nD Cert.Reference23Ideal.τ).loc Cert.Reference23Ideal.main_arg4))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ r.2.sem = fun _ => 0)

def quiescent_Kernel24Ideal_pre_finite_act [hKernel24Ideal : Cert.Kernel24Ideal.Facts] [hPre_finite_act : Cert.Pre_finite_act.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal_finite_act m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1))
      ∧ r.2.sem = fun _ => 0)

def quiescent_Reference24Ideal_pre_finite_act [hReference24Ideal : Cert.Reference24Ideal.Facts] [hPre_finite_act : Cert.Pre_finite_act.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal_finite_act m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2)
      ∧ r.2.mem ((c.tc : Thread Cert.Kernel27.nD Cert.Kernel27.τ).loc Cert.Kernel27.main_arg3) = m ((c.tc : Thread Cert.Kernel27.nD Cert.Kernel27.τ).loc Cert.Kernel27.main_arg3))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
      ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2)
      ∧ r.2.mem ((c.tc : Thread Cert.Reference27Ideal.nD Cert.Reference27Ideal.τ).loc Cert.Reference27Ideal.main_arg3) = m ((c.tc : Thread Cert.Reference27Ideal.nD Cert.Reference27Ideal.τ).loc Cert.Reference27Ideal.main_arg3))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v46_0)) (v1 : (c : Dev Cert.KernelIdeal.nD) → Buf (Elt Ideal) ((c.tc : Thread Cert.KernelIdeal.nD Cert.KernelIdeal.τ).loc Cert.KernelIdeal.main_v46_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46_0) = v0 c
          ∧ r.2.mem ((c.tc : Thread Cert.KernelIdeal.nD Cert.KernelIdeal.τ).loc Cert.KernelIdeal.main_v46_2) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_v79) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  IdealRules.named_const.Statement Cert.Kernel2Ideal.κ "mask" .f32 0xF149F2CA#32 ⊥

def algebraic_Kernel2Ideal_Reference2Ideal_pre_finite [hKernel2Ideal : Cert.Kernel2Ideal.Facts] [hReference2Ideal : Cert.Reference2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v59_0)) (v1 : (c : Dev Cert.Kernel2Ideal.nD) → Buf (Elt Ideal) ((c.tc : Thread Cert.Kernel2Ideal.nD Cert.Kernel2Ideal.τ).loc Cert.Kernel2Ideal.main_v59_1)) (v2 : (c : Dev Cert.Kernel2Ideal.nD) → Buf (Elt Ideal) ((c.tc : Thread Cert.Kernel2Ideal.nD Cert.Kernel2Ideal.τ).loc Cert.Kernel2Ideal.main_v59_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v59_0) = v0 c
          ∧ r.2.mem ((c.tc : Thread Cert.Kernel2Ideal.nD Cert.Kernel2Ideal.τ).loc Cert.Kernel2Ideal.main_v59_1) = v1 c
          ∧ r.2.mem ((c.tc : Thread Cert.Kernel2Ideal.nD Cert.Kernel2Ideal.τ).loc Cert.Kernel2Ideal.main_v59_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v82) = v0 c
          ∧ r.2.mem ((c.tc : Thread Cert.Reference2Ideal.nD Cert.Reference2Ideal.τ).loc Cert.Reference2Ideal.main_v84) = v1 c
          ∧ r.2.mem ((c.tc : Thread Cert.Reference2Ideal.nD Cert.Reference2Ideal.τ).loc Cert.Reference2Ideal.main_v80) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v7) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v7) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v6) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v3) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v6) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v3) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v6) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v4) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v7) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v4) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v4) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v2) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v0) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v1) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v2) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v3) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v0)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v2) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)) →
    ∃ (v0 : (c : Dev Cert.Kernel22Ideal.nD) → Buf (Elt Ideal) ((c.tc : Thread Cert.Kernel22Ideal.nD Cert.Kernel22Ideal.τ).loc Cert.Kernel22Ideal.main_v0)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v3) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)
      ∧ m' ((c.tc : Thread Cert.Reference23Ideal.nD Cert.Reference23Ideal.τ).loc Cert.Reference23Ideal.main_arg4) = m ((c.tc : Thread Cert.Kernel23Ideal.nD Cert.Kernel23Ideal.τ).loc Cert.Kernel23Ideal.main_arg4)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)) (v2 : (c : Dev Cert.Kernel23Ideal.nD) → Buf (Elt Ideal) ((c.tc : Thread Cert.Kernel23Ideal.nD Cert.Kernel23Ideal.τ).loc Cert.Kernel23Ideal.main_v0_2)) (v3 : (c : Dev Cert.Kernel23Ideal.nD) → Buf (Elt Ideal) ((c.tc : Thread Cert.Kernel23Ideal.nD Cert.Kernel23Ideal.τ).loc Cert.Kernel23Ideal.main_v0_3)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_v0_2) = v2 c
          ∧ r.2.mem ((c.tc : Thread Cert.Kernel23Ideal.nD Cert.Kernel23Ideal.τ).loc Cert.Kernel23Ideal.main_v0_3) = v3 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
          ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v32) = v0 c
          ∧ r.2.mem ((c.tc : Thread Cert.Reference23Ideal.nD Cert.Reference23Ideal.τ).loc Cert.Reference23Ideal.main_v34) = v1 c
          ∧ r.2.mem ((c.tc : Thread Cert.Reference23Ideal.nD Cert.Reference23Ideal.τ).loc Cert.Reference23Ideal.main_v36) = v2 c
          ∧ r.2.mem ((c.tc : Thread Cert.Reference23Ideal.nD Cert.Reference23Ideal.τ).loc Cert.Reference23Ideal.main_v38) = v3 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3)
          ∧ r.2.mem ((c.tc : Thread Cert.Reference23Ideal.nD Cert.Reference23Ideal.τ).loc Cert.Reference23Ideal.main_arg4) = m' ((c.tc : Thread Cert.Reference23Ideal.nD Cert.Reference23Ideal.τ).loc Cert.Reference23Ideal.main_arg4))

def preserves_Kernel24_Kernel24Ideal : Prop :=
  True

def algebraic_Kernel24Ideal_Reference24Ideal_pre_finite_act [hKernel24Ideal : Cert.Kernel24Ideal.Facts] [hReference24Ideal : Cert.Reference24Ideal.Facts] [hPre_finite_act : Cert.Pre_finite_act.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal_finite_act m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)) →
    ∃ (v0 : (c : Dev Cert.Kernel24Ideal.nD) → Buf (Elt Ideal) ((c.tc : Thread Cert.Kernel24Ideal.nD Cert.Kernel24Ideal.τ).loc Cert.Kernel24Ideal.main_v0)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v8) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)) →
    ∃ (v0 : (c : Dev Cert.Kernel25Ideal.nD) → Buf (Elt Ideal) ((c.tc : Thread Cert.Kernel25Ideal.nD Cert.Kernel25Ideal.τ).loc Cert.Kernel25Ideal.main_v0_0)) (v1 : (c : Dev Cert.Kernel25Ideal.nD) → Buf (Elt Ideal) ((c.tc : Thread Cert.Kernel25Ideal.nD Cert.Kernel25Ideal.τ).loc Cert.Kernel25Ideal.main_v0_1)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0_0) = v0 c
          ∧ r.2.mem ((c.tc : Thread Cert.Kernel25Ideal.nD Cert.Kernel25Ideal.τ).loc Cert.Kernel25Ideal.main_v0_1) = v1 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v39) = v0 c
          ∧ r.2.mem ((c.tc : Thread Cert.Reference25Ideal.nD Cert.Reference25Ideal.τ).loc Cert.Reference25Ideal.main_v40) = v1 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)) →
    ∃ (v0 : (c : Dev Cert.Kernel26Ideal.nD) → Buf (Elt Ideal) ((c.tc : Thread Cert.Kernel26Ideal.nD Cert.Kernel26Ideal.τ).loc Cert.Kernel26Ideal.main_v0)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0) = v0 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v4) = v0 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)
      ∧ m' ((c.tc : Thread Cert.Reference27Ideal.nD Cert.Reference27Ideal.τ).loc Cert.Reference27Ideal.main_arg3) = m ((c.tc : Thread Cert.Kernel27Ideal.nD Cert.Kernel27Ideal.τ).loc Cert.Kernel27Ideal.main_arg3)) →
    ∃ (v0 : (c : Dev Cert.Kernel27Ideal.nD) → Buf (Elt Ideal) ((c.tc : Thread Cert.Kernel27Ideal.nD Cert.Kernel27Ideal.τ).loc Cert.Kernel27Ideal.main_v0)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0) = v0 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
          ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v20) = v0 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2)
          ∧ r.2.mem ((c.tc : Thread Cert.Reference27Ideal.nD Cert.Reference27Ideal.τ).loc Cert.Reference27Ideal.main_arg3) = m' ((c.tc : Thread Cert.Reference27Ideal.nD Cert.Reference27Ideal.τ).loc Cert.Reference27Ideal.main_arg3))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)) →
    ∃ (v0 : (c : Dev Cert.Kernel28Ideal.nD) → Buf (Elt Ideal) ((c.tc : Thread Cert.Kernel28Ideal.nD Cert.Kernel28Ideal.τ).loc Cert.Kernel28Ideal.main_v0)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0) = v0 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v14) = v0 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hPre_finite : Cert.Pre_finite.Facts) (hPre_finite_act : Cert.Pre_finite_act.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite (hKernel2Ideal := hKernel2Ideal) (hPre_finite := hPre_finite)
    ∧ quiescent_Reference2Ideal (hReference2Ideal := hReference2Ideal)
    ∧ quiescent_Reference2Ideal_pre_finite (hReference2Ideal := hReference2Ideal) (hPre_finite := hPre_finite)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Kernel24Ideal_pre_finite_act (hKernel24Ideal := hKernel24Ideal) (hPre_finite_act := hPre_finite_act)
    ∧ quiescent_Reference24Ideal (hReference24Ideal := hReference24Ideal)
    ∧ quiescent_Reference24Ideal_pre_finite_act (hReference24Ideal := hReference24Ideal) (hPre_finite_act := hPre_finite_act)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite (hKernel2Ideal := hKernel2Ideal) (hReference2Ideal := hReference2Ideal) (hPre_finite := hPre_finite)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal_pre_finite_act (hKernel24Ideal := hKernel24Ideal) (hReference24Ideal := hReference24Ideal) (hPre_finite_act := hPre_finite_act)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
-- ==== Pre_finite.lean ====
abbrev S4112x6528 : Shape := ⟨2, ![4112, 6528]⟩
abbrev S8x4112 : Shape := ⟨2, ![8, 4112]⟩
abbrev S4112x512 : Shape := ⟨2, ![4112, 512]⟩
abbrev S_ : Shape := ⟨0, ![]⟩

class Facts : Prop where
  bcast_S_S4112x6528 : S_.BroadcastsInDim S4112x6528 (![] : Fin 0 → Fin S4112x6528.rank)
  reducesTo_S4112x6528_S_d0_1 : S4112x6528.ReducesTo [0, 1] S_
  h_S_ : 0 < S_.numel
  bcast_S_S8x4112 : S_.BroadcastsInDim S8x4112 (![] : Fin 0 → Fin S8x4112.rank)
  reducesTo_S8x4112_S_d0_1 : S8x4112.ReducesTo [0, 1] S_
  bcast_S_S4112x512 : S_.BroadcastsInDim S4112x512 (![] : Fin 0 → Fin S4112x512.rank)
  reducesTo_S4112x512_S_d0_1 : S4112x512.ReducesTo [0, 1] S_

variable [Facts]

def fn {F : FTy → Type} [FloatOps F] (main_arg0 : FVec F S4112x6528 .f32) (main_arg1 : FVec F S8x4112 .f32) (main_arg2 : FVec F S4112x512 .f32) : IVec S_ 1 :=
  let main_v0 : FVec F S4112x6528 .f32 := Host.absf main_arg0
  let main_cst : FVec F S_ .f32 := constant S_ .f32 0x7F800000#32
  let main_v1 : FVec F S4112x6528 .f32 := broadcastInDim S4112x6528 ![] bcast_S_S4112x6528 main_cst
  let main_v2 : IVec S4112x6528 1 := cmpf .olt main_v0 main_v1
  let main_c : IVec S_ 1 := constantI S_ 1 1#1
  let main_v3 : IVec S_ 1 := (fun x v => Host.reduce IntOp.andi x v reducesTo_S4112x6528_S_d0_1 h_S_) main_v2 main_c
  let main_v4 : FVec F S8x4112 .f32 := Host.absf main_arg1
  let main_cst_0 : FVec F S_ .f32 := constant S_ .f32 0x7F800000#32
  let main_v5 : FVec F S8x4112 .f32 := broadcastInDim S8x4112 ![] bcast_S_S8x4112 main_cst_0
  let main_v6 : IVec S8x4112 1 := cmpf .olt main_v4 main_v5
  let main_c_1 : IVec S_ 1 := constantI S_ 1 1#1
  let main_v7 : IVec S_ 1 := (fun x v => Host.reduce IntOp.andi x v reducesTo_S8x4112_S_d0_1 h_S_) main_v6 main_c_1
  let main_v8 : IVec S_ 1 := andi main_v3 main_v7
  let main_v9 : FVec F S4112x512 .f32 := Host.absf main_arg2
  let main_cst_2 : FVec F S_ .f32 := constant S_ .f32 0x7F800000#32
  let main_v10 : FVec F S4112x512 .f32 := broadcastInDim S4112x512 ![] bcast_S_S4112x512 main_cst_2
  let main_v11 : IVec S4112x512 1 := cmpf .olt main_v9 main_v10
  let main_c_3 : IVec S_ 1 := constantI S_ 1 1#1
  let main_v12 : IVec S_ 1 := (fun x v => Host.reduce IntOp.andi x v reducesTo_S4112x512_S_d0_1 h_S_) main_v11 main_c_3
  let main_v13 : IVec S_ 1 := andi main_v8 main_v12
  main_v13
-- ==== Pre_finite_act.lean ====
abbrev S4224x5632 : Shape := ⟨2, ![4224, 5632]⟩
abbrev S4224x2816 : Shape := ⟨2, ![4224, 2816]⟩
abbrev S_ : Shape := ⟨0, ![]⟩

class Facts : Prop where
  slices_S4224x5632_S4224x2816_0_2816 : S4224x5632.Slices ![0, 2816] S4224x2816
  bcast_S_S4224x2816 : S_.BroadcastsInDim S4224x2816 (![] : Fin 0 → Fin S4224x2816.rank)
  reducesTo_S4224x2816_S_d0_1 : S4224x2816.ReducesTo [0, 1] S_
  h_S_ : 0 < S_.numel

variable [Facts]

def fn {F : FTy → Type} [FloatOps F] (main_arg0 : FVec F S4224x5632 .f32) (main_arg1 : FVec F S4224x2816 .f32) : IVec S_ 1 :=
  let main_v0 : FVec F S4224x2816 .f32 := (extractStridedSlice S4224x2816 ![0, 2816] · slices_S4224x5632_S4224x2816_0_2816) main_arg0
  let main_v1 : FVec F S4224x2816 .f32 := Host.absf main_v0
  let main_cst : FVec F S_ .f32 := constant S_ .f32 0x7F800000#32
  let main_v2 : FVec F S4224x2816 .f32 := broadcastInDim S4224x2816 ![] bcast_S_S4224x2816 main_cst
  let main_v3 : IVec S4224x2816 1 := cmpf .olt main_v1 main_v2
  let main_c : IVec S_ 1 := constantI S_ 1 1#1
  let main_v4 : IVec S_ 1 := (fun x v => Host.reduce IntOp.andi x v reducesTo_S4224x2816_S_d0_1 h_S_) main_v3 main_c
  let main_v5 : FVec F S4224x2816 .f32 := Host.absf main_arg1
  let main_cst_0 : FVec F S_ .f32 := constant S_ .f32 0x7F800000#32
  let main_v6 : FVec F S4224x2816 .f32 := broadcastInDim S4224x2816 ![] bcast_S_S4224x2816 main_cst_0
  let main_v7 : IVec S4224x2816 1 := cmpf .olt main_v5 main_v6
  let main_c_1 : IVec S_ 1 := constantI S_ 1 1#1
  let main_v8 : IVec S_ 1 := (fun x v => Host.reduce IntOp.andi x v reducesTo_S4224x2816_S_d0_1 h_S_) main_v7 main_c_1
  let main_v9 : IVec S_ 1 := andi main_v4 main_v8
  main_v9
-- ==== Kernel.lean ====
abbrev S4112x6528 : Shape := ⟨2, ![4112, 6528]⟩
abbrev S8x4112 : Shape := ⟨2, ![8, 4112]⟩
abbrev S4112x512 : Shape := ⟨2, ![4112, 512]⟩
abbrev S4112x8x64 : Shape := ⟨3, ![4112, 8, 64]⟩
abbrev S8x4112x4112 : Shape := ⟨3, ![8, 4112, 4112]⟩
abbrev S_ : Shape := ⟨0, ![]⟩
abbrev S8x4112x1 : Shape := ⟨3, ![8, 4112, 1]⟩
abbrev S8x1x4112 : Shape := ⟨3, ![8, 1, 4112]⟩
abbrev S4112 : Shape := ⟨1, ![4112]⟩
abbrev S1x4112 : Shape := ⟨2, ![1, 4112]⟩
abbrev S4112x1 : Shape := ⟨2, ![4112, 1]⟩
abbrev S4112x4112 : Shape := ⟨2, ![4112, 4112]⟩
abbrev S8x64x4112 : Shape := ⟨3, ![8, 64, 4112]⟩
abbrev S4224x6528 : Shape := ⟨2, ![4224, 6528]⟩
abbrev S8x4224 : Shape := ⟨2, ![8, 4224]⟩
abbrev S8x4224x1 : Shape := ⟨3, ![8, 4224, 1]⟩
abbrev S8x3x1x1408 : Shape := ⟨4, ![8, 3, 1, 1408]⟩
abbrev S4224x512 : Shape := ⟨2, ![4224, 512]⟩
abbrev S1408x128 : Shape := ⟨2, ![1408, 128]⟩
abbrev S4224x128 : Shape := ⟨2, ![4224, 128]⟩
abbrev S2x1408x1 : Shape := ⟨3, ![2, 1408, 1]⟩
abbrev S2x3x1x1408 : Shape := ⟨4, ![2, 3, 1, 1408]⟩
abbrev S1x128 : Shape := ⟨2, ![1, 128]⟩
abbrev S1408 : Shape := ⟨1, ![1408]⟩
abbrev S1408x1 : Shape := ⟨2, ![1408, 1]⟩
abbrev S1x1408x1 : Shape := ⟨3, ![1, 1408, 1]⟩
abbrev S1x1x1x1408 : Shape := ⟨4, ![1, 1, 1, 1408]⟩
abbrev S1x1408 : Shape := ⟨2, ![1, 1408]⟩
abbrev S1408x1408 : Shape := ⟨2, ![1408, 1408]⟩

abbrev nBuf : Space → Nat
  | .hbm => 71
  | .vmem => 22
  | .smem => 0
  | _ => 0

abbrev bufTy : (tb : Table) → Fin (tcTables nBuf tb) → BufTy
  | .hbm, ⟨0, _⟩ => ⟨S4112x6528, .f32⟩
  | .hbm, ⟨1, _⟩ => ⟨S8x4112, .f32⟩
  | .hbm, ⟨2, _⟩ => ⟨S4112x512, .f32⟩
  | .hbm, ⟨3, _⟩ => ⟨S4112x512, .f32⟩
  | .hbm, ⟨4, _⟩ => ⟨S4112x8x64, .f32⟩
  | .hbm, ⟨5, _⟩ => ⟨S4112x512, .f32⟩
  | .hbm, ⟨6, _⟩ => ⟨S4112x8x64, .f32⟩
  | .hbm, ⟨7, _⟩ => ⟨S8x4112x4112, .f32⟩
  | .hbm, ⟨8, _⟩ => ⟨S_, .f32⟩
  | .hbm, ⟨9, _⟩ => ⟨S8x4112x4112, .f32⟩
  | .hbm, ⟨10, _⟩ => ⟨S8x4112x4112, .f32⟩
  | .hbm, ⟨11, _⟩ => ⟨S8x4112x1, .f32⟩
  | .hbm, ⟨12, _⟩ => ⟨S8x4112x4112, .f32⟩
  | .hbm, ⟨13, _⟩ => ⟨S8x4112x4112, .f32⟩
  | .hbm, ⟨14, _⟩ => ⟨S8x1x4112, .f32⟩
  | .hbm, ⟨15, _⟩ => ⟨S8x4112x4112, .f32⟩
  | .hbm, ⟨16, _⟩ => ⟨S8x4112x4112, .f32⟩
  | .hbm, ⟨17, _⟩ => ⟨S4112, .i32⟩
  | .hbm, ⟨18, _⟩ => ⟨S1x4112, .i32⟩
  | .hbm, ⟨19, _⟩ => ⟨S4112x1, .i32⟩
  | .hbm, ⟨20, _⟩ => ⟨S4112x4112, .i32⟩
  | .hbm, ⟨21, _⟩ => ⟨S4112x4112, .i32⟩
  | .hbm, ⟨22, _⟩ => ⟨S4112x4112, .i1⟩
  | .hbm, ⟨23, _⟩ => ⟨S_, .f32⟩
  | .hbm, ⟨24, _⟩ => ⟨S_, .f32⟩
  | .hbm, ⟨25, _⟩ => ⟨S8x4112x4112, .i1⟩
  | .hbm, ⟨26, _⟩ => ⟨S8x4112x4112, .f32⟩
  | .hbm, ⟨27, _⟩ => ⟨S8x4112x4112, .f32⟩
  | .hbm, ⟨28, _⟩ => ⟨S_, .f32⟩
  | .hbm, ⟨29, _⟩ => ⟨S8x4112, .f32⟩
  | .hbm, ⟨30, _⟩ => ⟨S8x4112x1, .f32⟩
  | .hbm, ⟨31, _⟩ => ⟨S8x4112x4112, .f32⟩
  | .hbm, ⟨32, _⟩ => ⟨S8x4112x4112, .f32⟩
  | .hbm, ⟨33, _⟩ => ⟨S8x4112x4112, .f32⟩
  | .hbm, ⟨34, _⟩ => ⟨S_, .f32⟩
  | .hbm, ⟨35, _⟩ => ⟨S8x4112, .f32⟩
  | .hbm, ⟨36, _⟩ => ⟨S8x4112x1, .f32⟩
  | .hbm, ⟨37, _⟩ => ⟨S8x4112x4112, .f32⟩
  | .hbm, ⟨38, _⟩ => ⟨S8x4112x4112, .f32⟩
  | .hbm, ⟨39, _⟩ => ⟨S4112x512, .f32⟩
  | .hbm, ⟨40, _⟩ => ⟨S4112x8x64, .f32⟩
  | .hbm, ⟨41, _⟩ => ⟨S8x64x4112, .f32⟩
  | .hbm, ⟨42, _⟩ => ⟨S4112x8x64, .f32⟩
  | .hbm, ⟨43, _⟩ => ⟨S4112x512, .f32⟩
  | .hbm, ⟨44, _⟩ => ⟨S8x4112x1, .f32⟩
  | .hbm, ⟨45, _⟩ => ⟨S8x4112x1, .f32⟩
  | .hbm, ⟨46, _⟩ => ⟨S_, .i32⟩
  | .hbm, ⟨47, _⟩ => ⟨S_, .f32⟩
  | .hbm, ⟨48, _⟩ => ⟨S4224x6528, .f32⟩
  | .hbm, ⟨49, _⟩ => ⟨S_, .i32⟩
  | .hbm, ⟨50, _⟩ => ⟨S_, .f32⟩
  | .hbm, ⟨51, _⟩ => ⟨S8x4224, .f32⟩
  | .hbm, ⟨52, _⟩ => ⟨S8x4224x1, .f32⟩
  | .hbm, ⟨53, _⟩ => ⟨S_, .f32⟩
  | .hbm, ⟨54, _⟩ => ⟨S_, .f32⟩
  | .hbm, ⟨55, _⟩ => ⟨S8x4224, .f32⟩
  | .hbm, ⟨56, _⟩ => ⟨S8x3x1x1408, .f32⟩
  | .hbm, ⟨57, _⟩ => ⟨S_, .i32⟩
  | .hbm, ⟨58, _⟩ => ⟨S_, .f32⟩
  | .hbm, ⟨59, _⟩ => ⟨S4224x512, .f32⟩
  | .hbm, ⟨60, _⟩ => ⟨S8x4112, .f32⟩
  | .hbm, ⟨61, _⟩ => ⟨S_, .i32⟩
  | .hbm, ⟨62, _⟩ => ⟨S_, .f32⟩
  | .hbm, ⟨63, _⟩ => ⟨S8x4224, .f32⟩
  | .hbm, ⟨64, _⟩ => ⟨S8x4224x1, .f32⟩
  | .hbm, ⟨65, _⟩ => ⟨S_, .i32⟩
  | .hbm, ⟨66, _⟩ => ⟨S_, .f32⟩
  | .hbm, ⟨67, _⟩ => ⟨S4224x512, .f32⟩
  | .hbm, ⟨68, _⟩ => ⟨S4224x512, .f32⟩
  | .hbm, ⟨69, _⟩ => ⟨S8x4224x1, .f32⟩
  | .hbm, ⟨70, _⟩ => ⟨S8x4224x1, .f32⟩
  | .local _ .vmem, ⟨0, _⟩ => ⟨S1408x128, .f32⟩
  | .local _ .vmem, ⟨1, _⟩ => ⟨S1408x128, .f32⟩
  | .local _ .vmem, ⟨2, _⟩ => ⟨S4224x128, .f32⟩
  | .local _ .vmem, ⟨3, _⟩ => ⟨S4224x128, .f32⟩
  | .local _ .vmem, ⟨4, _⟩ => ⟨S4224x128, .f32⟩
  | .local _ .vmem, ⟨5, _⟩ => ⟨S4224x128, .f32⟩
  | .local _ .vmem, ⟨6, _⟩ => ⟨S2x1408x1, .f32⟩
  | .local _ .vmem, ⟨7, _⟩ => ⟨S2x1408x1, .f32⟩
  | .local _ .vmem, ⟨8, _⟩ => ⟨S2x3x1x1408, .f32⟩
  | .local _ .vmem, ⟨9, _⟩ => ⟨S2x3x1x1408, .f32⟩
  | .local _ .vmem, ⟨10, _⟩ => ⟨S1408x128, .f32⟩
  | .local _ .vmem, ⟨11, _⟩ => ⟨S1408x128, .f32⟩
  | .local _ .vmem, ⟨12, _⟩ => ⟨S2x1408x1, .f32⟩
  | .local _ .vmem, ⟨13, _⟩ => ⟨S2x1408x1, .f32⟩
  | .local _ .vmem, ⟨14, _⟩ => ⟨S1408x128, .f32⟩
  | .local _ .vmem, ⟨15, _⟩ => ⟨S1408x128, .f32⟩
  | .local _ .vmem, ⟨16, _⟩ => ⟨S1408x128, .f32⟩
  | .local _ .vmem, ⟨17, _⟩ => ⟨S1408x128, .f32⟩
  | .local _ .vmem, ⟨18, _⟩ => ⟨S2x1408x1, .f32⟩
  | .local _ .vmem, ⟨19, _⟩ => ⟨S2x1408x1, .f32⟩
  | .local _ .vmem, ⟨20, _⟩ => ⟨S2x1408x1, .f32⟩
  | .local _ .vmem, ⟨21, _⟩ => ⟨S2x1408x1, .f32⟩
  | _, _ => ⟨S4112x6528, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_cst_0 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_v19 : Ref sig .tc := ⟨.hbm, 27, rfl⟩
abbrev main_cst_1 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_2 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_c : Ref sig .tc := ⟨.hbm, 46, rfl⟩
abbrev main_call1_v0 : Ref sig .tc := ⟨.hbm, 47, rfl⟩
abbrev main_v36 : Ref sig .tc := ⟨.hbm, 48, rfl⟩
abbrev main_c_3 : Ref sig .tc := ⟨.hbm, 49, rfl⟩
abbrev main_call2_v0 : Ref sig .tc := ⟨.hbm, 50, rfl⟩
abbrev main_v37 : Ref sig .tc := ⟨.hbm, 51, rfl⟩
abbrev main_v38 : Ref sig .tc := ⟨.hbm, 52, rfl⟩
abbrev main_cst_4 : Ref sig .tc := ⟨.hbm, 53, rfl⟩
abbrev main_call3_v0 : Ref sig .tc := ⟨.hbm, 54, rfl⟩
abbrev main_v39 : Ref sig .tc := ⟨.hbm, 55, rfl⟩
abbrev main_v40 : Ref sig .tc := ⟨.hbm, 56, rfl⟩
abbrev main_c_5 : Ref sig .tc := ⟨.hbm, 57, rfl⟩
abbrev main_call4_v0 : Ref sig .tc := ⟨.hbm, 58, rfl⟩
abbrev main_v41 : Ref sig .tc := ⟨.hbm, 59, rfl⟩
abbrev main_v42 : Ref sig .tc := ⟨.hbm, 60, rfl⟩
abbrev main_c_6 : Ref sig .tc := ⟨.hbm, 61, rfl⟩
abbrev main_call5_v0 : Ref sig .tc := ⟨.hbm, 62, rfl⟩
abbrev main_v43 : Ref sig .tc := ⟨.hbm, 63, rfl⟩
abbrev main_v44 : Ref sig .tc := ⟨.hbm, 64, rfl⟩
abbrev main_c_7 : Ref sig .tc := ⟨.hbm, 65, rfl⟩
abbrev main_call6_v0 : Ref sig .tc := ⟨.hbm, 66, rfl⟩
abbrev main_v45 : Ref sig .tc := ⟨.hbm, 67, rfl⟩
abbrev main_v46_0 : Ref sig .tc := ⟨.hbm, 68, rfl⟩
abbrev main_v46_1 : Ref sig .tc := ⟨.hbm, 69, rfl⟩
abbrev main_v46_2 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 3], ![false, false]⟩

@[reducible] def k0_t1_loop (i : grid0.Coords) : Scf.Loop 32 :=
  let c0_i32 : BitVec 32 := 0#32
  let arg1 : BitVec 32 := BitVec.ofNat 32 (i 1).val
  let v55 : BitVec 32 := Scalar.subi arg1 c0_i32
  let c1_i32 : BitVec 32 := 1#32
  let v57 : BitVec 32 := Scalar.divsi v55 c1_i32
  let v58 : BitVec 32 := Scalar.muli v57 c1_i32
  let v59 : BitVec 32 := Scalar.addi c0_i32 v58
  let c1_i32_27 : BitVec 32 := 1#32
  ⟨c0_i32, v59, c1_i32_27⟩
def k0_mult1 (i : grid0.Coords) (k0_t1 : Fin (k0_t1_loop i).trips) : BitVec 32 :=
  let c0_i32 : BitVec 32 := 0#32
  let c1_i32_27 : BitVec 32 := 1#32
  let arg13 : BitVec 32 := Scf.iv c0_i32 c1_i32_27 k0_t1
  let c1408_i32_62 : BitVec 32 := 1408#32
  let v141 : BitVec 32 := Scalar.muli arg13 c1408_i32_62
  v141
def k0_off1 (i : grid0.Coords) (k0_t1 : Fin (k0_t1_loop i).trips) : Fin 2 → Nat :=
  let c0_i32 : BitVec 32 := 0#32
  let c1_i32_27 : BitVec 32 := 1#32
  let arg13 : BitVec 32 := Scf.iv c0_i32 c1_i32_27 k0_t1
  let c1408_i32_62 : BitVec 32 := 1408#32
  let v141 : BitVec 32 := Scalar.muli arg13 c1408_i32_62
  let v142 : BitVec 32 := v141
  let v143 : Index := Scalar.indexCast v142
  let c0_63 : Index := 0#32
  ![v143.toNat, 0]
def k0_off2 (i : grid0.Coords) (k0_t1 : Fin (k0_t1_loop i).trips) : Fin 4 → Nat :=
  let c0_65 : Index := 0#32
  let c0_i32 : BitVec 32 := 0#32
  let c1_i32_27 : BitVec 32 := 1#32
  let arg13 : BitVec 32 := Scf.iv c0_i32 c1_i32_27 k0_t1
  let v151 : Index := Scalar.indexCast arg13
  let c0_66 : Index := 0#32
  let c0_67 : Index := 0#32
  ![0, v151.toNat, 0, 0]
def k0_off3 (i : grid0.Coords) (k0_t1 : Fin (k0_t1_loop i).trips) : Fin 4 → Nat :=
  let c1_72 : Index := 1#32
  let c0_i32 : BitVec 32 := 0#32
  let c1_i32_27 : BitVec 32 := 1#32
  let arg13 : BitVec 32 := Scf.iv c0_i32 c1_i32_27 k0_t1
  let v171 : Index := Scalar.indexCast arg13
  let c0_73 : Index := 0#32
  let c0_74 : Index := 0#32
  ![1, v171.toNat, 0, 0]
@[reducible] def k0_t2_loop (i : grid0.Coords) : Scf.Loop 32 :=
  let c0_i32 : BitVec 32 := 0#32
  let arg1 : BitVec 32 := BitVec.ofNat 32 (i 1).val
  let v55 : BitVec 32 := Scalar.subi arg1 c0_i32
  let c1_i32 : BitVec 32 := 1#32
  let v57 : BitVec 32 := Scalar.divsi v55 c1_i32
  let v58 : BitVec 32 := Scalar.muli v57 c1_i32
  let v59 : BitVec 32 := Scalar.addi c0_i32 v58
  let v56 : BitVec 32 := Scalar.addi c0_i32 v55
  let c1_i32_28 : BitVec 32 := 1#32
  ⟨v59, v56, c1_i32_28⟩
def k0_mult2 (i : grid0.Coords) (k0_t2 : Fin (k0_t2_loop i).trips) : BitVec 32 :=
  let c0_i32 : BitVec 32 := 0#32
  let arg1 : BitVec 32 := BitVec.ofNat 32 (i 1).val
  let v55 : BitVec 32 := Scalar.subi arg1 c0_i32
  let c1_i32 : BitVec 32 := 1#32
  let v57 : BitVec 32 := Scalar.divsi v55 c1_i32
  let v58 : BitVec 32 := Scalar.muli v57 c1_i32
  let v59 : BitVec 32 := Scalar.addi c0_i32 v58
  let c1_i32_28 : BitVec 32 := 1#32
  let arg13 : BitVec 32 := Scf.iv v59 c1_i32_28 k0_t2
  let c1408_i32_62 : BitVec 32 := 1408#32
  let v141 : BitVec 32 := Scalar.muli arg13 c1408_i32_62
  v141
def k0_off4 (i : grid0.Coords) (k0_t2 : Fin (k0_t2_loop i).trips) : Fin 2 → Nat :=
  let c0_i32 : BitVec 32 := 0#32
  let arg1 : BitVec 32 := BitVec.ofNat 32 (i 1).val
  let v55 : BitVec 32 := Scalar.subi arg1 c0_i32
  let c1_i32 : BitVec 32 := 1#32
  let v57 : BitVec 32 := Scalar.divsi v55 c1_i32
  let v58 : BitVec 32 := Scalar.muli v57 c1_i32
  let v59 : BitVec 32 := Scalar.addi c0_i32 v58
  let c1_i32_28 : BitVec 32 := 1#32
  let arg13 : BitVec 32 := Scf.iv v59 c1_i32_28 k0_t2
  let c1408_i32_62 : BitVec 32 := 1408#32
  let v141 : BitVec 32 := Scalar.muli arg13 c1408_i32_62
  let v142 : BitVec 32 := v141
  let v143 : Index := Scalar.indexCast v142
  let c0_63 : Index := 0#32
  ![v143.toNat, 0]
def k0_off5 (i : grid0.Coords) (k0_t2 : Fin (k0_t2_loop i).trips) : Fin 4 → Nat :=
  let c0_65 : Index := 0#32
  let c0_i32 : BitVec 32 := 0#32
  let arg1 : BitVec 32 := BitVec.ofNat 32 (i 1).val
  let v55 : BitVec 32 := Scalar.subi arg1 c0_i32
  let c1_i32 : BitVec 32 := 1#32
  let v57 : BitVec 32 := Scalar.divsi v55 c1_i32
  let v58 : BitVec 32 := Scalar.muli v57 c1_i32
  let v59 : BitVec 32 := Scalar.addi c0_i32 v58
  let c1_i32_28 : BitVec 32 := 1#32
  let arg13 : BitVec 32 := Scf.iv v59 c1_i32_28 k0_t2
  let v151 : Index := Scalar.indexCast arg13
  let c0_66 : Index := 0#32
  let c0_67 : Index := 0#32
  ![0, v151.toNat, 0, 0]
def k0_off6 (i : grid0.Coords) (k0_t2 : Fin (k0_t2_loop i).trips) : Fin 4 → Nat :=
  let c1_72 : Index := 1#32
  let c0_i32 : BitVec 32 := 0#32
  let arg1 : BitVec 32 := BitVec.ofNat 32 (i 1).val
  let v55 : BitVec 32 := Scalar.subi arg1 c0_i32
  let c1_i32 : BitVec 32 := 1#32
  let v57 : BitVec 32 := Scalar.divsi v55 c1_i32
  let v58 : BitVec 32 := Scalar.muli v57 c1_i32
  let v59 : BitVec 32 := Scalar.addi c0_i32 v58
  let c1_i32_28 : BitVec 32 := 1#32
  let arg13 : BitVec 32 := Scf.iv v59 c1_i32_28 k0_t2
  let v171 : Index := Scalar.indexCast arg13
  let c0_73 : Index := 0#32
  let c0_74 : Index := 0#32
  ![1, v171.toNat, 0, 0]
def k0_mult3 (i : grid0.Coords) : BitVec 32 :=
  let arg1 : BitVec 32 := BitVec.ofNat 32 (i 1).val
  let c1408_i32 : BitVec 32 := 1408#32
  let v62 : BitVec 32 := Scalar.muli arg1 c1408_i32
  v62
def k0_off7 (i : grid0.Coords) : Fin 2 → Nat :=
  let arg1 : BitVec 32 := BitVec.ofNat 32 (i 1).val
  let c1408_i32 : BitVec 32 := 1408#32
  let v62 : BitVec 32 := Scalar.muli arg1 c1408_i32
  let v63 : BitVec 32 := v62
  let v64 : Index := Scalar.indexCast v63
  let c0_29 : Index := 0#32
  ![v64.toNat, 0]
def k0_off8 (i : grid0.Coords) : Fin 4 → Nat :=
  let c0_31 : Index := 0#32
  let arg1 : BitVec 32 := BitVec.ofNat 32 (i 1).val
  let v72 : Index := Scalar.indexCast arg1
  let c0_32 : Index := 0#32
  let c0_33 : Index := 0#32
  ![0, v72.toNat, 0, 0]
def k0_off9 (i : grid0.Coords) : Fin 4 → Nat :=
  let c1_39 : Index := 1#32
  let arg1 : BitVec 32 := BitVec.ofNat 32 (i 1).val
  let v97 : Index := Scalar.indexCast arg1
  let c0_40 : Index := 0#32
  let c0_41 : Index := 0#32
  ![1, v97.toNat, 0, 0]
def cc0_transform_0 (i : grid0.Coords) : Fin 2 → Nat :=
  let arg0 : BitVec 32 := BitVec.ofNat 32 (i 0).val
  let arg1 : BitVec 32 := BitVec.ofNat 32 (i 1).val
  let c28_i32 : BitVec 32 := 28#32
  let v0 : BitVec 32 := Scalar.addi c28_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c36_i32 : BitVec 32 := 36#32
  let v0 : BitVec 32 := Scalar.addi c36_i32 arg0
  let c0_i32 : BitVec 32 := 0#32
  let c0_i32_0 : BitVec 32 := 0#32
  ![c0_i32.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1408x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4224x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4224x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2x1408x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x3x1x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1408x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2x1408x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1408x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1408x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S2x1408x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S2x1408x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S4112x6528 : Shape := ⟨2, ![4112, 6528]⟩
abbrev S8x4112 : Shape := ⟨2, ![8, 4112]⟩
abbrev S4112x512 : Shape := ⟨2, ![4112, 512]⟩
abbrev S4112x8x64 : Shape := ⟨3, ![4112, 8, 64]⟩
abbrev S8x4112x4112 : Shape := ⟨3, ![8, 4112, 4112]⟩
abbrev S_ : Shape := ⟨0, ![]⟩
abbrev S8x4112x1 : Shape := ⟨3, ![8, 4112, 1]⟩
abbrev S8x1x4112 : Shape := ⟨3, ![8, 1, 4112]⟩
abbrev S4112 : Shape := ⟨1, ![4112]⟩
abbrev S1x4112 : Shape := ⟨2, ![1, 4112]⟩
abbrev S4112x1 : Shape := ⟨2, ![4112, 1]⟩
abbrev S4112x4112 : Shape := ⟨2, ![4112, 4112]⟩
abbrev S8x64x4112 : Shape := ⟨3, ![8, 64, 4112]⟩
abbrev S8x4112x64 : Shape := ⟨3, ![8, 4112, 64]⟩
abbrev S4224x512 : Shape := ⟨2, ![4224, 512]⟩
abbrev S8x4224 : Shape := ⟨2, ![8, 4224]⟩
abbrev S8x4224x1 : Shape := ⟨3, ![8, 4224, 1]⟩

abbrev nBuf : Space → Nat
  | .hbm => 111
  | .vmem => 0
  | .smem => 0
  | _ => 0

abbrev bufTy : (tb : Table) → Fin (tcTables nBuf tb) → BufTy
  | .hbm, ⟨0, _⟩ => ⟨S4112x6528, .f32⟩
  | .hbm, ⟨1, _⟩ => ⟨S8x4112, .f32⟩
  | .hbm, ⟨2, _⟩ => ⟨S4112x512, .f32⟩
  | .hbm, ⟨3, _⟩ => ⟨S4112x512, .f32⟩
  | .hbm, ⟨4, _⟩ => ⟨S4112x8x64, .f32⟩
  | .hbm, ⟨5, _⟩ => ⟨S4112x512, .f32⟩
  | .hbm, ⟨6, _⟩ => ⟨S4112x8x64, .f32⟩
  | .hbm, ⟨7, _⟩ => ⟨S4112x512, .f32⟩
  | .hbm, ⟨8, _⟩ => ⟨S4112x8x64, .f32⟩
  | .hbm, ⟨9, _⟩ => ⟨S8x4112x4112, .f32⟩
  | .hbm, ⟨10, _⟩ => ⟨S_, .f32⟩
  | .hbm, ⟨11, _⟩ => ⟨S8x4112x4112, .f32⟩
  | .hbm, ⟨12, _⟩ => ⟨S8x4112x4112, .f32⟩
  | .hbm, ⟨13, _⟩ => ⟨S8x4112x1, .f32⟩
  | .hbm, ⟨14, _⟩ => ⟨S8x4112x4112, .f32⟩
  | .hbm, ⟨15, _⟩ => ⟨S8x4112x4112, .f32⟩
  | .hbm, ⟨16, _⟩ => ⟨S8x1x4112, .f32⟩
  | .hbm, ⟨17, _⟩ => ⟨S8x4112x4112, .f32⟩
  | .hbm, ⟨18, _⟩ => ⟨S8x4112x4112, .f32⟩
  | .hbm, ⟨19, _⟩ => ⟨S4112, .i32⟩
  | .hbm, ⟨20, _⟩ => ⟨S1x4112, .i32⟩
  | .hbm, ⟨21, _⟩ => ⟨S4112x1, .i32⟩
  | .hbm, ⟨22, _⟩ => ⟨S4112x4112, .i32⟩
  | .hbm, ⟨23, _⟩ => ⟨S4112x4112, .i32⟩
  | .hbm, ⟨24, _⟩ => ⟨S4112x4112, .i1⟩
  | .hbm, ⟨25, _⟩ => ⟨S_, .f32⟩
  | .hbm, ⟨26, _⟩ => ⟨S_, .f32⟩
  | .hbm, ⟨27, _⟩ => ⟨S8x4112x4112, .i1⟩
  | .hbm, ⟨28, _⟩ => ⟨S8x4112x4112, .f32⟩
  | .hbm, ⟨29, _⟩ => ⟨S8x4112x4112, .f32⟩
  | .hbm, ⟨30, _⟩ => ⟨S_, .f32⟩
  | .hbm, ⟨31, _⟩ => ⟨S8x4112x4112, .f32⟩
  | .hbm, ⟨32, _⟩ => ⟨S_, .f32⟩
  | .hbm, ⟨33, _⟩ => ⟨S8x4112, .f32⟩
  | .hbm, ⟨34, _⟩ => ⟨S8x4112x1, .f32⟩
  | .hbm, ⟨35, _⟩ => ⟨S8x4112x4112, .f32⟩
  | .hbm, ⟨36, _⟩ => ⟨S8x4112x4112, .i1⟩
  | .hbm, ⟨37, _⟩ => ⟨S8x4112x4112, .f32⟩
  | .hbm, ⟨38, _⟩ => ⟨S_, .f32⟩
  | .hbm, ⟨39, _⟩ => ⟨S8x4112, .f32⟩
  | .hbm, ⟨40, _⟩ => ⟨S_, .f32⟩
  | .hbm, ⟨41, _⟩ => ⟨S8x4112, .f32⟩
  | .hbm, ⟨42, _⟩ => ⟨S8x4112, .f32⟩
  | .hbm, ⟨43, _⟩ => ⟨S_, .f32⟩
  | .hbm, ⟨44, _⟩ => ⟨S8x4112, .f32⟩
  | .hbm, ⟨45, _⟩ => ⟨S8x4112, .i1⟩
  | .hbm, ⟨46, _⟩ => ⟨S_, .f32⟩
  | .hbm, ⟨47, _⟩ => ⟨S8x4112, .f32⟩
  | .hbm, ⟨48, _⟩ => ⟨S8x4112, .i1⟩
  | .hbm, ⟨49, _⟩ => ⟨S_, .f32⟩
  | .hbm, ⟨50, _⟩ => ⟨S8x4112, .f32⟩
  | .hbm, ⟨51, _⟩ => ⟨S_, .f32⟩
  | .hbm, ⟨52, _⟩ => ⟨S8x4112, .f32⟩
  | .hbm, ⟨53, _⟩ => ⟨S_, .f32⟩
  | .hbm, ⟨54, _⟩ => ⟨S8x4112, .f32⟩
  | .hbm, ⟨55, _⟩ => ⟨S8x4112, .f32⟩
  | .hbm, ⟨56, _⟩ => ⟨S8x4112, .f32⟩
  | .hbm, ⟨57, _⟩ => ⟨S8x4112x1, .f32⟩
  | .hbm, ⟨58, _⟩ => ⟨S8x4112x4112, .f32⟩
  | .hbm, ⟨59, _⟩ => ⟨S8x4112x4112, .f32⟩
  | .hbm, ⟨60, _⟩ => ⟨S8x4112x4112, .f32⟩
  | .hbm, ⟨61, _⟩ => ⟨S_, .f32⟩
  | .hbm, ⟨62, _⟩ => ⟨S8x4112, .f32⟩
  | .hbm, ⟨63, _⟩ => ⟨S8x4112x1, .f32⟩
  | .hbm, ⟨64, _⟩ => ⟨S8x4112x4112, .f32⟩
  | .hbm, ⟨65, _⟩ => ⟨S8x4112x4112, .f32⟩
  | .hbm, ⟨66, _⟩ => ⟨S8x4112x1, .f32⟩
  | .hbm, ⟨67, _⟩ => ⟨S_, .f32⟩
  | .hbm, ⟨68, _⟩ => ⟨S8x4112x1, .f32⟩
  | .hbm, ⟨69, _⟩ => ⟨S8x4112x1, .f32⟩
  | .hbm, ⟨70, _⟩ => ⟨S8x64x4112, .f32⟩
  | .hbm, ⟨71, _⟩ => ⟨S4112x8x64, .f32⟩
  | .hbm, ⟨72, _⟩ => ⟨S4112x512, .f32⟩
  | .hbm, ⟨73, _⟩ => ⟨S4112x8x64, .f32⟩
  | .hbm, ⟨74, _⟩ => ⟨S8x64x4112, .f32⟩
  | .hbm, ⟨75, _⟩ => ⟨S8x4112x4112, .f32⟩
  | .hbm, ⟨76, _⟩ => ⟨S8x4112x4112, .f32⟩
  | .hbm, ⟨77, _⟩ => ⟨S8x4112x4112, .f32⟩
  | .hbm, ⟨78, _⟩ => ⟨S8x4112x4112, .f32⟩
  | .hbm, ⟨79, _⟩ => ⟨S_, .f32⟩
  | .hbm, ⟨80, _⟩ => ⟨S8x4112, .f32⟩
  | .hbm, ⟨81, _⟩ => ⟨S8x4112x1, .f32⟩
  | .hbm, ⟨82, _⟩ => ⟨S8x4112x1, .f32⟩
  | .hbm, ⟨83, _⟩ => ⟨S8x4112x4112, .f32⟩
  | .hbm, ⟨84, _⟩ => ⟨S8x4112x4112, .f32⟩
  | .hbm, ⟨85, _⟩ => ⟨S_, .f32⟩
  | .hbm, ⟨86, _⟩ => ⟨S8x4112, .f32⟩
  | .hbm, ⟨87, _⟩ => ⟨S8x4112x4112, .f32⟩
  | .hbm, ⟨88, _⟩ => ⟨S8x4112x4112, .f32⟩
  | .hbm, ⟨89, _⟩ => ⟨S8x4112x4112, .f32⟩
  | .hbm, ⟨90, _⟩ => ⟨S_, .f32⟩
  | .hbm, ⟨91, _⟩ => ⟨S8x4112x4112, .f32⟩
  | .hbm, ⟨92, _⟩ => ⟨S8x4112x4112, .f32⟩
  | .hbm, ⟨93, _⟩ => ⟨S_, .f32⟩
  | .hbm, ⟨94, _⟩ => ⟨S8x4112, .f32⟩
  | .hbm, ⟨95, _⟩ => ⟨S8x4112x1, .f32⟩
  | .hbm, ⟨96, _⟩ => ⟨S_, .f32⟩
  | .hbm, ⟨97, _⟩ => ⟨S8x4112, .f32⟩
  | .hbm, ⟨98, _⟩ => ⟨S_, .f32⟩
  | .hbm, ⟨99, _⟩ => ⟨S8x4112x4112, .f32⟩
  | .hbm, ⟨100, _⟩ => ⟨S8x4112x4112, .f32⟩
  | .hbm, ⟨101, _⟩ => ⟨S8x4112x64, .f32⟩
  | .hbm, ⟨102, _⟩ => ⟨S4112x8x64, .f32⟩
  | .hbm, ⟨103, _⟩ => ⟨S4112x512, .f32⟩
  | .hbm, ⟨104, _⟩ => ⟨S_, .i32⟩
  | .hbm, ⟨105, _⟩ => ⟨S_, .f32⟩
  | .hbm, ⟨106, _⟩ => ⟨S4224x512, .f32⟩
  | .hbm, ⟨107, _⟩ => ⟨S_, .i32⟩
  | .hbm, ⟨108, _⟩ => ⟨S_, .f32⟩
  | .hbm, ⟨109, _⟩ => ⟨S8x4224, .f32⟩
  | .hbm, ⟨110, _⟩ => ⟨S8x4224x1, .f32⟩
  | _, _ => ⟨S4112x6528, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_cst_0 : Ref sig .tc := ⟨.hbm, 25, rfl⟩
abbrev main_call0_v0 : Ref sig .tc := ⟨.hbm, 26, rfl⟩
abbrev main_v21_1 : Ref sig .tc := ⟨.hbm, 27, rfl⟩
abbrev main_call0_v2 : Ref sig .tc := ⟨.hbm, 28, rfl⟩
abbrev main_v21_0 : Ref sig .tc := ⟨.hbm, 29, rfl⟩
abbrev main_call0_cst : Ref sig .tc := ⟨.hbm, 30, rfl⟩
abbrev main_v21_2 : Ref sig .tc := ⟨.hbm, 31, rfl⟩
abbrev main_cst_1 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_2 : Ref sig .tc := ⟨.hbm, 38, rfl⟩
abbrev main_v27 : Ref sig .tc := ⟨.hbm, 39, rfl⟩
abbrev main_cst_3 : Ref sig .tc := ⟨.hbm, 40, rfl⟩
abbrev main_v28 : Ref sig .tc := ⟨.hbm, 41, rfl⟩
abbrev main_v29 : Ref sig .tc := ⟨.hbm, 42, rfl⟩
abbrev main_cst_4 : Ref sig .tc := ⟨.hbm, 43, rfl⟩
abbrev main_v30 : Ref sig .tc := ⟨.hbm, 44, rfl⟩
abbrev main_v31 : Ref sig .tc := ⟨.hbm, 45, rfl⟩
abbrev main_cst_5 : Ref sig .tc := ⟨.hbm, 46, rfl⟩
abbrev main_v32 : Ref sig .tc := ⟨.hbm, 47, rfl⟩
abbrev main_v33 : Ref sig .tc := ⟨.hbm, 48, rfl⟩
abbrev main_cst_6 : Ref sig .tc := ⟨.hbm, 49, rfl⟩
abbrev main_v34 : Ref sig .tc := ⟨.hbm, 50, rfl⟩
abbrev main_cst_7 : Ref sig .tc := ⟨.hbm, 51, rfl⟩
abbrev main_v35 : Ref sig .tc := ⟨.hbm, 52, rfl⟩
abbrev main_cst_8 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_9 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_10 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_cst_11 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_cst_12 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_call1_cst : Ref sig .tc := ⟨.hbm, 90, rfl⟩
abbrev main_call1_v0 : Ref sig .tc := ⟨.hbm, 91, rfl⟩
abbrev main_v68 : Ref sig .tc := ⟨.hbm, 92, rfl⟩
abbrev main_cst_13 : Ref sig .tc := ⟨.hbm, 93, rfl⟩
abbrev main_v69 : Ref sig .tc := ⟨.hbm, 94, rfl⟩
abbrev main_v70 : Ref sig .tc := ⟨.hbm, 95, rfl⟩
abbrev main_cst_14 : Ref sig .tc := ⟨.hbm, 96, rfl⟩
abbrev main_v71 : Ref sig .tc := ⟨.hbm, 97, rfl⟩
abbrev main_cst_15 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_c : Ref sig .tc := ⟨.hbm, 104, rfl⟩
abbrev main_call2_v0 : Ref sig .tc := ⟨.hbm, 105, rfl⟩
abbrev main_v77 : Ref sig .tc := ⟨.hbm, 106, rfl⟩
abbrev main_c_16 : Ref sig .tc := ⟨.hbm, 107, rfl⟩
abbrev main_call3_v0 : Ref sig .tc := ⟨.hbm, 108, rfl⟩
abbrev main_v78 : Ref sig .tc := ⟨.hbm, 109, rfl⟩
abbrev main_v79 : Ref sig .tc := ⟨.hbm, 110, rfl⟩

abbrev nD : Nat := 1
abbrev τ : Topo := Topo.v7x

variable {F : FTy → Type} [FloatOps F]
-- ==== Kernel2.lean ====
abbrev S4112x6528 : Shape := ⟨2, ![4112, 6528]⟩
abbrev S8x4112 : Shape := ⟨2, ![8, 4112]⟩
abbrev S4112x512 : Shape := ⟨2, ![4112, 512]⟩
abbrev S4112x8x64 : Shape := ⟨3, ![4112, 8, 64]⟩
abbrev S8x4112x4112 : Shape := ⟨3, ![8, 4112, 4112]⟩
abbrev S_ : Shape := ⟨0, ![]⟩
abbrev S8x4112x1 : Shape := ⟨3, ![8, 4112, 1]⟩
abbrev S8x1x4112 : Shape := ⟨3, ![8, 1, 4112]⟩
abbrev S4112 : Shape := ⟨1, ![4112]⟩
abbrev S1x4112 : Shape := ⟨2, ![1, 4112]⟩
abbrev S4112x1 : Shape := ⟨2, ![4112, 1]⟩
abbrev S4112x4112 : Shape := ⟨2, ![4112, 4112]⟩
abbrev S8x64x4112 : Shape := ⟨3, ![8, 64, 4112]⟩
abbrev S4112x8 : Shape := ⟨2, ![4112, 8]⟩
abbrev S4224x6528 : Shape := ⟨2, ![4224, 6528]⟩
abbrev S8x4224 : Shape := ⟨2, ![8, 4224]⟩
abbrev S8x4224x1 : Shape := ⟨3, ![8, 4224, 1]⟩
abbrev S8x3x1x1408 : Shape := ⟨4, ![8, 3, 1, 1408]⟩
abbrev S4224x512 : Shape := ⟨2, ![4224, 512]⟩
abbrev S4x2x4224 : Shape := ⟨3, ![4, 2, 4224]⟩
abbrev S4x4224x2 : Shape := ⟨3, ![4, 4224, 2]⟩
abbrev S4x4224x6 : Shape := ⟨3, ![4, 4224, 6]⟩
abbrev S4x3x1408x6 : Shape := ⟨4, ![4, 3, 1408, 6]⟩
abbrev S4224x128 : Shape := ⟨2, ![4224, 128]⟩
abbrev S1x3x1408x6 : Shape := ⟨4, ![1, 3, 1408, 6]⟩
abbrev S1408x128 : Shape := ⟨2, ![1408, 128]⟩
abbrev S2x1x1x1408 : Shape := ⟨4, ![2, 1, 1, 1408]⟩
abbrev S1x128 : Shape := ⟨2, ![1, 128]⟩
abbrev S1x1408 : Shape := ⟨2, ![1, 1408]⟩
abbrev S1x1x1408x6 : Shape := ⟨4, ![1, 1, 1408, 6]⟩
abbrev S1408x6 : Shape := ⟨2, ![1408, 6]⟩
abbrev S1408x1 : Shape := ⟨2, ![1408, 1]⟩
abbrev S1x1x1x1408 : Shape := ⟨4, ![1, 1, 1, 1408]⟩
abbrev S1408x1408 : Shape := ⟨2, ![1408, 1408]⟩
abbrev S1408 : Shape := ⟨1, ![1408]⟩

abbrev nBuf : Space → Nat
  | .hbm => 85
  | .vmem => 18
  | .smem => 0
  | _ => 0

abbrev bufTy : (tb : Table) → Fin (tcTables nBuf tb) → BufTy
  | .hbm, ⟨0, _⟩ => ⟨S4112x6528, .f32⟩
  | .hbm, ⟨1, _⟩ => ⟨S8x4112, .f32⟩
  | .hbm, ⟨2, _⟩ => ⟨S4112x512, .f32⟩
  | .hbm, ⟨3, _⟩ => ⟨S4112x512, .f32⟩
  | .hbm, ⟨4, _⟩ => ⟨S4112x8x64, .f32⟩
  | .hbm, ⟨5, _⟩ => ⟨S4112x512, .f32⟩
  | .hbm, ⟨6, _⟩ => ⟨S4112x8x64, .f32⟩
  | .hbm, ⟨7, _⟩ => ⟨S8x4112x4112, .f32⟩
  | .hbm, ⟨8, _⟩ => ⟨S_, .f32⟩
  | .hbm, ⟨9, _⟩ => ⟨S8x4112x4112, .f32⟩
  | .hbm, ⟨10, _⟩ => ⟨S8x4112x4112, .f32⟩
  | .hbm, ⟨11, _⟩ => ⟨S8x4112x1, .f32⟩
  | .hbm, ⟨12, _⟩ => ⟨S8x4112x4112, .f32⟩
  | .hbm, ⟨13, _⟩ => ⟨S8x4112x4112, .f32⟩
  | .hbm, ⟨14, _⟩ => ⟨S8x1x4112, .f32⟩
  | .hbm, ⟨15, _⟩ => ⟨S8x4112x4112, .f32⟩
  | .hbm, ⟨16, _⟩ => ⟨S8x4112x4112, .f32⟩
  | .hbm, ⟨17, _⟩ => ⟨S4112, .i32⟩
  | .hbm, ⟨18, _⟩ => ⟨S1x4112, .i32⟩
  | .hbm, ⟨19, _⟩ => ⟨S4112x1, .i32⟩
  | .hbm, ⟨20, _⟩ => ⟨S4112x4112, .i32⟩
  | .hbm, ⟨21, _⟩ => ⟨S4112x4112, .i32⟩
  | .hbm, ⟨22, _⟩ => ⟨S4112x4112, .i1⟩
  | .hbm, ⟨23, _⟩ => ⟨S_, .f32⟩
  | .hbm, ⟨24, _⟩ => ⟨S_, .f32⟩
  | .hbm, ⟨25, _⟩ => ⟨S8x4112x4112, .i1⟩
  | .hbm, ⟨26, _⟩ => ⟨S8x4112x4112, .f32⟩
  | .hbm, ⟨27, _⟩ => ⟨S8x4112x4112, .f32⟩
  | .hbm, ⟨28, _⟩ => ⟨S_, .f32⟩
  | .hbm, ⟨29, _⟩ => ⟨S8x4112, .f32⟩
  | .hbm, ⟨30, _⟩ => ⟨S8x4112x1, .f32⟩
  | .hbm, ⟨31, _⟩ => ⟨S8x4112x4112, .f32⟩
  | .hbm, ⟨32, _⟩ => ⟨S8x4112x4112, .f32⟩
  | .hbm, ⟨33, _⟩ => ⟨S8x4112x4112, .f32⟩
  | .hbm, ⟨34, _⟩ => ⟨S_, .f32⟩
  | .hbm, ⟨35, _⟩ => ⟨S8x4112, .f32⟩
  | .hbm, ⟨36, _⟩ => ⟨S8x4112x1, .f32⟩
  | .hbm, ⟨37, _⟩ => ⟨S8x4112x4112, .f32⟩
  | .hbm, ⟨38, _⟩ => ⟨S8x4112x4112, .f32⟩
  | .hbm, ⟨39, _⟩ => ⟨S4112x512, .f32⟩
  | .hbm, ⟨40, _⟩ => ⟨S4112x8x64, .f32⟩
  | .hbm, ⟨41, _⟩ => ⟨S8x64x4112, .f32⟩
  | .hbm, ⟨42, _⟩ => ⟨S4112x8x64, .f32⟩
  | .hbm, ⟨43, _⟩ => ⟨S4112x512, .f32⟩
  | .hbm, ⟨44, _⟩ => ⟨S8x4112x1, .f32⟩
  | .hbm, ⟨45, _⟩ => ⟨S8x4112x1, .f32⟩
  | .hbm, ⟨46, _⟩ => ⟨S4112x512, .f32⟩
  | .hbm, ⟨47, _⟩ => ⟨S4112x8x64, .f32⟩
  | .hbm, ⟨48, _⟩ => ⟨S_, .f32⟩
  | .hbm, ⟨49, _⟩ => ⟨S4112x8, .f32⟩
  | .hbm, ⟨50, _⟩ => ⟨S8x4112, .f32⟩
  | .hbm, ⟨51, _⟩ => ⟨S_, .i32⟩
  | .hbm, ⟨52, _⟩ => ⟨S_, .f32⟩
  | .hbm, ⟨53, _⟩ => ⟨S4224x6528, .f32⟩
  | .hbm, ⟨54, _⟩ => ⟨S_, .i32⟩
  | .hbm, ⟨55, _⟩ => ⟨S_, .f32⟩
  | .hbm, ⟨56, _⟩ => ⟨S8x4224, .f32⟩
  | .hbm, ⟨57, _⟩ => ⟨S8x4224x1, .f32⟩
  | .hbm, ⟨58, _⟩ => ⟨S_, .f32⟩
  | .hbm, ⟨59, _⟩ => ⟨S_, .f32⟩
  | .hbm, ⟨60, _⟩ => ⟨S8x4224, .f32⟩
  | .hbm, ⟨61, _⟩ => ⟨S8x3x1x1408, .f32⟩
  | .hbm, ⟨62, _⟩ => ⟨S8x4112, .f32⟩
  | .hbm, ⟨63, _⟩ => ⟨S_, .i32⟩
  | .hbm, ⟨64, _⟩ => ⟨S_, .f32⟩
  | .hbm, ⟨65, _⟩ => ⟨S8x4224, .f32⟩
  | .hbm, ⟨66, _⟩ => ⟨S8x4224x1, .f32⟩
  | .hbm, ⟨67, _⟩ => ⟨S_, .i32⟩
  | .hbm, ⟨68, _⟩ => ⟨S_, .f32⟩
  | .hbm, ⟨69, _⟩ => ⟨S8x4224, .f32⟩
  | .hbm, ⟨70, _⟩ => ⟨S8x4224x1, .f32⟩
  | .hbm, ⟨71, _⟩ => ⟨S_, .i32⟩
  | .hbm, ⟨72, _⟩ => ⟨S_, .f32⟩
  | .hbm, ⟨73, _⟩ => ⟨S4224x512, .f32⟩
  | .hbm, ⟨74, _⟩ => ⟨S4x2x4224, .f32⟩
  | .hbm, ⟨75, _⟩ => ⟨S4x4224x2, .f32⟩
  | .hbm, ⟨76, _⟩ => ⟨S4x2x4224, .f32⟩
  | .hbm, ⟨77, _⟩ => ⟨S4x4224x2, .f32⟩
  | .hbm, ⟨78, _⟩ => ⟨S4x2x4224, .f32⟩
  | .hbm, ⟨79, _⟩ => ⟨S4x4224x2, .f32⟩
  | .hbm, ⟨80, _⟩ => ⟨S4x4224x6, .f32⟩
  | .hbm, ⟨81, _⟩ => ⟨S4x3x1408x6, .f32⟩
  | .hbm, ⟨82, _⟩ => ⟨S4224x512, .f32⟩
  | .hbm, ⟨83, _⟩ => ⟨S4224x512, .f32⟩
  | .hbm, ⟨84, _⟩ => ⟨S8x3x1x1408, .f32⟩
  | .local _ .vmem, ⟨0, _⟩ => ⟨S4224x128, .f32⟩
  | .local _ .vmem, ⟨1, _⟩ => ⟨S4224x128, .f32⟩
  | .local _ .vmem, ⟨2, _⟩ => ⟨S4224x128, .f32⟩
  | .local _ .vmem, ⟨3, _⟩ => ⟨S4224x128, .f32⟩
  | .local _ .vmem, ⟨4, _⟩ => ⟨S1x3x1408x6, .f32⟩
  | .local _ .vmem, ⟨5, _⟩ => ⟨S1x3x1408x6, .f32⟩
  | .local _ .vmem, ⟨6, _⟩ => ⟨S1408x128, .f32⟩
  | .local _ .vmem, ⟨7, _⟩ => ⟨S1408x128, .f32⟩
  | .local _ .vmem, ⟨8, _⟩ => ⟨S1408x128, .f32⟩
  | .local _ .vmem, ⟨9, _⟩ => ⟨S1408x128, .f32⟩
  | .local _ .vmem, ⟨10, _⟩ => ⟨S2x1x1x1408, .f32⟩
  | .local _ .vmem, ⟨11, _⟩ => ⟨S2x1x1x1408, .f32⟩
  | .local _ .vmem, ⟨12, _⟩ => ⟨S1408x128, .f32⟩
  | .local _ .vmem, ⟨13, _⟩ => ⟨S1408x128, .f32⟩
  | .local _ .vmem, ⟨14, _⟩ => ⟨S1408x128, .f32⟩
  | .local _ .vmem, ⟨15, _⟩ => ⟨S1408x128, .f32⟩
  | .local _ .vmem, ⟨16, _⟩ => ⟨S2x1x1x1408, .f32⟩
  | .local _ .vmem, ⟨17, _⟩ => ⟨S2x1x1x1408, .f32⟩
  | _, _ => ⟨S4112x6528, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_cst_0 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_v19 : Ref sig .tc := ⟨.hbm, 27, rfl⟩
abbrev main_cst_1 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_2 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_cst_3 : Ref sig .tc := ⟨.hbm, 48, rfl⟩
abbrev main_v38 : Ref sig .tc := ⟨.hbm, 49, rfl⟩
abbrev main_v39 : Ref sig .tc := ⟨.hbm, 50, rfl⟩
abbrev main_c : Ref sig .tc := ⟨.hbm, 51, rfl⟩
abbrev main_call1_v0 : Ref sig .tc := ⟨.hbm, 52, rfl⟩
abbrev main_v40 : Ref sig .tc := ⟨.hbm, 53, rfl⟩
abbrev main_c_4 : Ref sig .tc := ⟨.hbm, 54, rfl⟩
abbrev main_call2_v0 : Ref sig .tc := ⟨.hbm, 55, rfl⟩
abbrev main_v41 : Ref sig .tc := ⟨.hbm, 56, rfl⟩
abbrev main_v42 : Ref sig .tc := ⟨.hbm, 57, rfl⟩
abbrev main_cst_5 : Ref sig .tc := ⟨.hbm, 58, rfl⟩
abbrev main_call3_v0 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_c_6 : Ref sig .tc := ⟨.hbm, 63, rfl⟩
abbrev main_call4_v0 : Ref sig .tc := ⟨.hbm, 64, rfl⟩
abbrev main_v46 : Ref sig .tc := ⟨.hbm, 65, rfl⟩
abbrev main_v47 : Ref sig .tc := ⟨.hbm, 66, rfl⟩
abbrev main_c_7 : Ref sig .tc := ⟨.hbm, 67, rfl⟩
abbrev main_call5_v0 : Ref sig .tc := ⟨.hbm, 68, rfl⟩
abbrev main_v48 : Ref sig .tc := ⟨.hbm, 69, rfl⟩
abbrev main_v49 : Ref sig .tc := ⟨.hbm, 70, rfl⟩
abbrev main_c_8 : Ref sig .tc := ⟨.hbm, 71, rfl⟩
abbrev main_call6_v0 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59_0 : Ref sig .tc := ⟨.hbm, 82, rfl⟩
abbrev main_v59_1 : Ref sig .tc := ⟨.hbm, 83, rfl⟩
abbrev main_v59_2 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 3], ![false, false]⟩

def k0_mult1 (i : grid0.Coords) : BitVec 32 :=
  let arg1 : BitVec 32 := BitVec.ofNat 32 (i 1).val
  let c1408_i32 : BitVec 32 := 1408#32
  let v14 : BitVec 32 := Scalar.muli arg1 c1408_i32
  v14
def k0_off1 (i : grid0.Coords) : Fin 2 → Nat :=
  let arg1 : BitVec 32 := BitVec.ofNat 32 (i 1).val
  let c1408_i32 : BitVec 32 := 1408#32
  let v14 : BitVec 32 := Scalar.muli arg1 c1408_i32
  let v15 : BitVec 32 := v14
  let v16 : Index := Scalar.indexCast v15
  let c0_6 : Index := 0#32
  ![v16.toNat, 0]
def k0_off2 (i : grid0.Coords) : Fin 4 → Nat :=
  let c0_13 : Index := 0#32
  let arg1 : BitVec 32 := BitVec.ofNat 32 (i 1).val
  let v44 : Index := Scalar.indexCast arg1
  let c0_14 : Index := 0#32
  let c0_15 : Index := 0#32
  ![0, v44.toNat, 0, 0]
@[reducible] def k0_t1_loop (i : grid0.Coords) : Scf.Loop 32 :=
  let arg1 : BitVec 32 := BitVec.ofNat 32 (i 1).val
  let c1_i32 : BitVec 32 := 1#32
  let v13 : BitVec 32 := Scalar.addi arg1 c1_i32
  let c3_i32 : BitVec 32 := 3#32
  let v113 : BitVec 32 := Scalar.subi c3_i32 v13
  let c1_i32_35 : BitVec 32 := 1#32
  let v115 : BitVec 32 := Scalar.divsi v113 c1_i32_35
  let v116 : BitVec 32 := Scalar.muli v115 c1_i32_35
  let v117 : BitVec 32 := Scalar.addi v13 v116
  let c1_i32_36 : BitVec 32 := 1#32
  ⟨v13, v117, c1_i32_36⟩
def k0_mult2 (i : grid0.Coords) (k0_t1 : Fin (k0_t1_loop i).trips) : BitVec 32 :=
  let arg1 : BitVec 32 := BitVec.ofNat 32 (i 1).val
  let c1_i32 : BitVec 32 := 1#32
  let v13 : BitVec 32 := Scalar.addi arg1 c1_i32
  let c1_i32_36 : BitVec 32 := 1#32
  let arg11 : BitVec 32 := Scf.iv v13 c1_i32_36 k0_t1
  let c1408_i32_50 : BitVec 32 := 1408#32
  let v128 : BitVec 32 := Scalar.muli arg11 c1408_i32_50
  v128
def k0_off3 (i : grid0.Coords) (k0_t1 : Fin (k0_t1_loop i).trips) : Fin 2 → Nat :=
  let arg1 : BitVec 32 := BitVec.ofNat 32 (i 1).val
  let c1_i32 : BitVec 32 := 1#32
  let v13 : BitVec 32 := Scalar.addi arg1 c1_i32
  let c1_i32_36 : BitVec 32 := 1#32
  let arg11 : BitVec 32 := Scf.iv v13 c1_i32_36 k0_t1
  let c1408_i32_50 : BitVec 32 := 1408#32
  let v128 : BitVec 32 := Scalar.muli arg11 c1408_i32_50
  let v129 : BitVec 32 := v128
  let v130 : Index := Scalar.indexCast v129
  let c0_51 : Index := 0#32
  ![v130.toNat, 0]
def k0_off4 (i : grid0.Coords) (k0_t1 : Fin (k0_t1_loop i).trips) : Fin 4 → Nat :=
  let c0_58 : Index := 0#32
  let arg1 : BitVec 32 := BitVec.ofNat 32 (i 1).val
  let c1_i32 : BitVec 32 := 1#32
  let v13 : BitVec 32 := Scalar.addi arg1 c1_i32
  let c1_i32_36 : BitVec 32 := 1#32
  let arg11 : BitVec 32 := Scf.iv v13 c1_i32_36 k0_t1
  let v158 : Index := Scalar.indexCast arg11
  let c0_59 : Index := 0#32
  let c0_60 : Index := 0#32
  ![0, v158.toNat, 0, 0]
@[reducible] def k0_t2_loop (i : grid0.Coords) : Scf.Loop 32 :=
  let arg1 : BitVec 32 := BitVec.ofNat 32 (i 1).val
  let c1_i32 : BitVec 32 := 1#32
  let v13 : BitVec 32 := Scalar.addi arg1 c1_i32
  let c3_i32 : BitVec 32 := 3#32
  let v113 : BitVec 32 := Scalar.subi c3_i32 v13
  let c1_i32_35 : BitVec 32 := 1#32
  let v115 : BitVec 32 := Scalar.divsi v113 c1_i32_35
  let v116 : BitVec 32 := Scalar.muli v115 c1_i32_35
  let v117 : BitVec 32 := Scalar.addi v13 v116
  let v114 : BitVec 32 := Scalar.addi v13 v113
  let c1_i32_37 : BitVec 32 := 1#32
  ⟨v117, v114, c1_i32_37⟩
def k0_mult3 (i : grid0.Coords) (k0_t2 : Fin (k0_t2_loop i).trips) : BitVec 32 :=
  let arg1 : BitVec 32 := BitVec.ofNat 32 (i 1).val
  let c1_i32 : BitVec 32 := 1#32
  let v13 : BitVec 32 := Scalar.addi arg1 c1_i32
  let c3_i32 : BitVec 32 := 3#32
  let v113 : BitVec 32 := Scalar.subi c3_i32 v13
  let c1_i32_35 : BitVec 32 := 1#32
  let v115 : BitVec 32 := Scalar.divsi v113 c1_i32_35
  let v116 : BitVec 32 := Scalar.muli v115 c1_i32_35
  let v117 : BitVec 32 := Scalar.addi v13 v116
  let c1_i32_37 : BitVec 32 := 1#32
  let arg11 : BitVec 32 := Scf.iv v117 c1_i32_37 k0_t2
  let c1408_i32_50 : BitVec 32 := 1408#32
  let v128 : BitVec 32 := Scalar.muli arg11 c1408_i32_50
  v128
def k0_off5 (i : grid0.Coords) (k0_t2 : Fin (k0_t2_loop i).trips) : Fin 2 → Nat :=
  let arg1 : BitVec 32 := BitVec.ofNat 32 (i 1).val
  let c1_i32 : BitVec 32 := 1#32
  let v13 : BitVec 32 := Scalar.addi arg1 c1_i32
  let c3_i32 : BitVec 32 := 3#32
  let v113 : BitVec 32 := Scalar.subi c3_i32 v13
  let c1_i32_35 : BitVec 32 := 1#32
  let v115 : BitVec 32 := Scalar.divsi v113 c1_i32_35
  let v116 : BitVec 32 := Scalar.muli v115 c1_i32_35
  let v117 : BitVec 32 := Scalar.addi v13 v116
  let c1_i32_37 : BitVec 32 := 1#32
  let arg11 : BitVec 32 := Scf.iv v117 c1_i32_37 k0_t2
  let c1408_i32_50 : BitVec 32 := 1408#32
  let v128 : BitVec 32 := Scalar.muli arg11 c1408_i32_50
  let v129 : BitVec 32 := v128
  let v130 : Index := Scalar.indexCast v129
  let c0_51 : Index := 0#32
  ![v130.toNat, 0]
def k0_off6 (i : grid0.Coords) (k0_t2 : Fin (k0_t2_loop i).trips) : Fin 4 → Nat :=
  let c0_58 : Index := 0#32
  let arg1 : BitVec 32 := BitVec.ofNat 32 (i 1).val
  let c1_i32 : BitVec 32 := 1#32
  let v13 : BitVec 32 := Scalar.addi arg1 c1_i32
  let c3_i32 : BitVec 32 := 3#32
  let v113 : BitVec 32 := Scalar.subi c3_i32 v13
  let c1_i32_35 : BitVec 32 := 1#32
  let v115 : BitVec 32 := Scalar.divsi v113 c1_i32_35
  let v116 : BitVec 32 := Scalar.muli v115 c1_i32_35
  let v117 : BitVec 32 := Scalar.addi v13 v116
  let c1_i32_37 : BitVec 32 := 1#32
  let arg11 : BitVec 32 := Scf.iv v117 c1_i32_37 k0_t2
  let v158 : Index := Scalar.indexCast arg11
  let c0_59 : Index := 0#32
  let c0_60 : Index := 0#32
  ![0, v158.toNat, 0, 0]
def cc0_transform_0 (i : grid0.Coords) : Fin 2 → Nat :=
  let arg0 : BitVec 32 := BitVec.ofNat 32 (i 0).val
  let arg1 : BitVec 32 := BitVec.ofNat 32 (i 1).val
  let c28_i32 : BitVec 32 := 28#32
  let v0 : BitVec 32 := Scalar.addi c28_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg0
  let c0_i32 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c36_i32 : BitVec 32 := 36#32
  let v0 : BitVec 32 := Scalar.addi c36_i32 arg0
  let c0_i32 : BitVec 32 := 0#32
  ![arg1.toNat, v0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S4224x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4224x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x3x1408x6 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1408x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1408x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2x1x1x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1408x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1408x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2x1x1x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Kernel2Ideal.lean ====
variable {F : FTy → Type} [FloatOps F] [Named F]
def κ : String → Option EReal := fun
  | "mask" => some ⊥
  | _ => none
-- ==== Reference2Ideal.lean ====
abbrev S4112x6528 : Shape := ⟨2, ![4112, 6528]⟩
abbrev S8x4112 : Shape := ⟨2, ![8, 4112]⟩
abbrev S4112x512 : Shape := ⟨2, ![4112, 512]⟩
abbrev S4112x8x64 : Shape := ⟨3, ![4112, 8, 64]⟩
abbrev S8x4112x4112 : Shape := ⟨3, ![8, 4112, 4112]⟩
abbrev S_ : Shape := ⟨0, ![]⟩
abbrev S8x4112x1 : Shape := ⟨3, ![8, 4112, 1]⟩
abbrev S8x1x4112 : Shape := ⟨3, ![8, 1, 4112]⟩
abbrev S4112 : Shape := ⟨1, ![4112]⟩
abbrev S1x4112 : Shape := ⟨2, ![1, 4112]⟩
abbrev S4112x1 : Shape := ⟨2, ![4112, 1]⟩
abbrev S4112x4112 : Shape := ⟨2, ![4112, 4112]⟩
abbrev S8x64x4112 : Shape := ⟨3, ![8, 64, 4112]⟩
abbrev S8x4112x64 : Shape := ⟨3, ![8, 4112, 64]⟩
abbrev S8x4224 : Shape := ⟨2, ![8, 4224]⟩
abbrev S8x3x1x1408 : Shape := ⟨4, ![8, 3, 1, 1408]⟩
abbrev S4224x512 : Shape := ⟨2, ![4224, 512]⟩

abbrev nBuf : Space → Nat
  | .hbm => 118
  | .vmem => 0
  | .smem => 0
  | _ => 0

abbrev bufTy : (tb : Table) → Fin (tcTables nBuf tb) → BufTy
  | .hbm, ⟨0, _⟩ => ⟨S4112x6528, .f32⟩
  | .hbm, ⟨1, _⟩ => ⟨S8x4112, .f32⟩
  | .hbm, ⟨2, _⟩ => ⟨S4112x512, .f32⟩
  | .hbm, ⟨3, _⟩ => ⟨S4112x512, .f32⟩
  | .hbm, ⟨4, _⟩ => ⟨S4112x8x64, .f32⟩
  | .hbm, ⟨5, _⟩ => ⟨S4112x512, .f32⟩
  | .hbm, ⟨6, _⟩ => ⟨S4112x8x64, .f32⟩
  | .hbm, ⟨7, _⟩ => ⟨S4112x512, .f32⟩
  | .hbm, ⟨8, _⟩ => ⟨S4112x8x64, .f32⟩
  | .hbm, ⟨9, _⟩ => ⟨S8x4112x4112, .f32⟩
  | .hbm, ⟨10, _⟩ => ⟨S_, .f32⟩
  | .hbm, ⟨11, _⟩ => ⟨S8x4112x4112, .f32⟩
  | .hbm, ⟨12, _⟩ => ⟨S8x4112x4112, .f32⟩
  | .hbm, ⟨13, _⟩ => ⟨S8x4112x1, .f32⟩
  | .hbm, ⟨14, _⟩ => ⟨S8x4112x4112, .f32⟩
  | .hbm, ⟨15, _⟩ => ⟨S8x4112x4112, .f32⟩
  | .hbm, ⟨16, _⟩ => ⟨S8x1x4112, .f32⟩
  | .hbm, ⟨17, _⟩ => ⟨S8x4112x4112, .f32⟩
  | .hbm, ⟨18, _⟩ => ⟨S8x4112x4112, .f32⟩
  | .hbm, ⟨19, _⟩ => ⟨S4112, .i32⟩
  | .hbm, ⟨20, _⟩ => ⟨S1x4112, .i32⟩
  | .hbm, ⟨21, _⟩ => ⟨S4112x1, .i32⟩
  | .hbm, ⟨22, _⟩ => ⟨S4112x4112, .i32⟩
  | .hbm, ⟨23, _⟩ => ⟨S4112x4112, .i32⟩
  | .hbm, ⟨24, _⟩ => ⟨S4112x4112, .i1⟩
  | .hbm, ⟨25, _⟩ => ⟨S_, .f32⟩
  | .hbm, ⟨26, _⟩ => ⟨S_, .f32⟩
  | .hbm, ⟨27, _⟩ => ⟨S8x4112x4112, .i1⟩
  | .hbm, ⟨28, _⟩ => ⟨S8x4112x4112, .f32⟩
  | .hbm, ⟨29, _⟩ => ⟨S8x4112x4112, .f32⟩
  | .hbm, ⟨30, _⟩ => ⟨S_, .f32⟩
  | .hbm, ⟨31, _⟩ => ⟨S8x4112x4112, .f32⟩
  | .hbm, ⟨32, _⟩ => ⟨S_, .f32⟩
  | .hbm, ⟨33, _⟩ => ⟨S8x4112, .f32⟩
  | .hbm, ⟨34, _⟩ => ⟨S8x4112x1, .f32⟩
  | .hbm, ⟨35, _⟩ => ⟨S8x4112x4112, .f32⟩
  | .hbm, ⟨36, _⟩ => ⟨S8x4112x4112, .i1⟩
  | .hbm, ⟨37, _⟩ => ⟨S8x4112x4112, .f32⟩
  | .hbm, ⟨38, _⟩ => ⟨S_, .f32⟩
  | .hbm, ⟨39, _⟩ => ⟨S8x4112, .f32⟩
  | .hbm, ⟨40, _⟩ => ⟨S_, .f32⟩
  | .hbm, ⟨41, _⟩ => ⟨S8x4112, .f32⟩
  | .hbm, ⟨42, _⟩ => ⟨S8x4112, .f32⟩
  | .hbm, ⟨43, _⟩ => ⟨S_, .f32⟩
  | .hbm, ⟨44, _⟩ => ⟨S8x4112, .f32⟩
  | .hbm, ⟨45, _⟩ => ⟨S8x4112, .i1⟩
  | .hbm, ⟨46, _⟩ => ⟨S_, .f32⟩
  | .hbm, ⟨47, _⟩ => ⟨S8x4112, .f32⟩
  | .hbm, ⟨48, _⟩ => ⟨S8x4112, .i1⟩
  | .hbm, ⟨49, _⟩ => ⟨S_, .f32⟩
  | .hbm, ⟨50, _⟩ => ⟨S8x4112, .f32⟩
  | .hbm, ⟨51, _⟩ => ⟨S_, .f32⟩
  | .hbm, ⟨52, _⟩ => ⟨S8x4112, .f32⟩
  | .hbm, ⟨53, _⟩ => ⟨S_, .f32⟩
  | .hbm, ⟨54, _⟩ => ⟨S8x4112, .f32⟩
  | .hbm, ⟨55, _⟩ => ⟨S8x4112, .f32⟩
  | .hbm, ⟨56, _⟩ => ⟨S8x4112, .f32⟩
  | .hbm, ⟨57, _⟩ => ⟨S8x4112x1, .f32⟩
  | .hbm, ⟨58, _⟩ => ⟨S8x4112x4112, .f32⟩
  | .hbm, ⟨59, _⟩ => ⟨S8x4112x4112, .f32⟩
  | .hbm, ⟨60, _⟩ => ⟨S8x4112x4112, .f32⟩
  | .hbm, ⟨61, _⟩ => ⟨S_, .f32⟩
  | .hbm, ⟨62, _⟩ => ⟨S8x4112, .f32⟩
  | .hbm, ⟨63, _⟩ => ⟨S8x4112x1, .f32⟩
  | .hbm, ⟨64, _⟩ => ⟨S8x4112x4112, .f32⟩
  | .hbm, ⟨65, _⟩ => ⟨S8x4112x4112, .f32⟩
  | .hbm, ⟨66, _⟩ => ⟨S8x4112x1, .f32⟩
  | .hbm, ⟨67, _⟩ => ⟨S_, .f32⟩
  | .hbm, ⟨68, _⟩ => ⟨S8x4112x1, .f32⟩
  | .hbm, ⟨69, _⟩ => ⟨S8x4112x1, .f32⟩
  | .hbm, ⟨70, _⟩ => ⟨S8x64x4112, .f32⟩
  | .hbm, ⟨71, _⟩ => ⟨S4112x8x64, .f32⟩
  | .hbm, ⟨72, _⟩ => ⟨S4112x512, .f32⟩
  | .hbm, ⟨73, _⟩ => ⟨S4112x8x64, .f32⟩
  | .hbm, ⟨74, _⟩ => ⟨S8x64x4112, .f32⟩
  | .hbm, ⟨75, _⟩ => ⟨S8x4112x4112, .f32⟩
  | .hbm, ⟨76, _⟩ => ⟨S8x64x4112, .f32⟩
  | .hbm, ⟨77, _⟩ => ⟨S4112x8x64, .f32⟩
  | .hbm, ⟨78, _⟩ => ⟨S8x4112x4112, .f32⟩
  | .hbm, ⟨79, _⟩ => ⟨S8x4112x4112, .f32⟩
  | .hbm, ⟨80, _⟩ => ⟨S8x4112x4112, .f32⟩
  | .hbm, ⟨81, _⟩ => ⟨S_, .f32⟩
  | .hbm, ⟨82, _⟩ => ⟨S8x4112, .f32⟩
  | .hbm, ⟨83, _⟩ => ⟨S8x4112x1, .f32⟩
  | .hbm, ⟨84, _⟩ => ⟨S8x4112x1, .f32⟩
  | .hbm, ⟨85, _⟩ => ⟨S8x4112x4112, .f32⟩
  | .hbm, ⟨86, _⟩ => ⟨S8x4112x4112, .f32⟩
  | .hbm, ⟨87, _⟩ => ⟨S_, .f32⟩
  | .hbm, ⟨88, _⟩ => ⟨S8x4112, .f32⟩
  | .hbm, ⟨89, _⟩ => ⟨S8x4112x4112, .f32⟩
  | .hbm, ⟨90, _⟩ => ⟨S8x4112x4112, .f32⟩
  | .hbm, ⟨91, _⟩ => ⟨S8x4112x4112, .f32⟩
  | .hbm, ⟨92, _⟩ => ⟨S_, .f32⟩
  | .hbm, ⟨93, _⟩ => ⟨S8x4112x4112, .f32⟩
  | .hbm, ⟨94, _⟩ => ⟨S8x4112x4112, .f32⟩
  | .hbm, ⟨95, _⟩ => ⟨S8x4112x4112, .f32⟩
  | .hbm, ⟨96, _⟩ => ⟨S_, .f32⟩
  | .hbm, ⟨97, _⟩ => ⟨S8x4112, .f32⟩
  | .hbm, ⟨98, _⟩ => ⟨S8x1x4112, .f32⟩
  | .hbm, ⟨99, _⟩ => ⟨S_, .f32⟩
  | .hbm, ⟨100, _⟩ => ⟨S8x4112, .f32⟩
  | .hbm, ⟨101, _⟩ => ⟨S_, .f32⟩
  | .hbm, ⟨102, _⟩ => ⟨S8x4112x4112, .f32⟩
  | .hbm, ⟨103, _⟩ => ⟨S8x4112x4112, .f32⟩
  | .hbm, ⟨104, _⟩ => ⟨S8x4112x64, .f32⟩
  | .hbm, ⟨105, _⟩ => ⟨S4112x8x64, .f32⟩
  | .hbm, ⟨106, _⟩ => ⟨S_, .i32⟩
  | .hbm, ⟨107, _⟩ => ⟨S_, .f32⟩
  | .hbm, ⟨108, _⟩ => ⟨S8x4224, .f32⟩
  | .hbm, ⟨109, _⟩ => ⟨S8x3x1x1408, .f32⟩
  | .hbm, ⟨110, _⟩ => ⟨S4112x512, .f32⟩
  | .hbm, ⟨111, _⟩ => ⟨S_, .i32⟩
  | .hbm, ⟨112, _⟩ => ⟨S_, .f32⟩
  | .hbm, ⟨113, _⟩ => ⟨S4224x512, .f32⟩
  | .hbm, ⟨114, _⟩ => ⟨S4112x512, .f32⟩
  | .hbm, ⟨115, _⟩ => ⟨S_, .i32⟩
  | .hbm, ⟨116, _⟩ => ⟨S_, .f32⟩
  | .hbm, ⟨117, _⟩ => ⟨S4224x512, .f32⟩
  | _, _ => ⟨S4112x6528, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_cst_0 : Ref sig .tc := ⟨.hbm, 25, rfl⟩
abbrev main_call0_v0 : Ref sig .tc := ⟨.hbm, 26, rfl⟩
abbrev main_v21_1 : Ref sig .tc := ⟨.hbm, 27, rfl⟩
abbrev main_call0_v2 : Ref sig .tc := ⟨.hbm, 28, rfl⟩
abbrev main_v21_0 : Ref sig .tc := ⟨.hbm, 29, rfl⟩
abbrev main_call0_cst : Ref sig .tc := ⟨.hbm, 30, rfl⟩
abbrev main_v21_2 : Ref sig .tc := ⟨.hbm, 31, rfl⟩
abbrev main_cst_1 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_2 : Ref sig .tc := ⟨.hbm, 38, rfl⟩
abbrev main_v27 : Ref sig .tc := ⟨.hbm, 39, rfl⟩
abbrev main_cst_3 : Ref sig .tc := ⟨.hbm, 40, rfl⟩
abbrev main_v28 : Ref sig .tc := ⟨.hbm, 41, rfl⟩
abbrev main_v29 : Ref sig .tc := ⟨.hbm, 42, rfl⟩
abbrev main_cst_4 : Ref sig .tc := ⟨.hbm, 43, rfl⟩
abbrev main_v30 : Ref sig .tc := ⟨.hbm, 44, rfl⟩
abbrev main_v31 : Ref sig .tc := ⟨.hbm, 45, rfl⟩
abbrev main_cst_5 : Ref sig .tc := ⟨.hbm, 46, rfl⟩
abbrev main_v32 : Ref sig .tc := ⟨.hbm, 47, rfl⟩
abbrev main_v33 : Ref sig .tc := ⟨.hbm, 48, rfl⟩
abbrev main_cst_6 : Ref sig .tc := ⟨.hbm, 49, rfl⟩
abbrev main_v34 : Ref sig .tc := ⟨.hbm, 50, rfl⟩
abbrev main_cst_7 : Ref sig .tc := ⟨.hbm, 51, rfl⟩
abbrev main_v35 : Ref sig .tc := ⟨.hbm, 52, rfl⟩
abbrev main_cst_8 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_9 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_10 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_cst_11 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_cst_12 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_call1_cst : Ref sig .tc := ⟨.hbm, 92, rfl⟩
abbrev main_call1_v0 : Ref sig .tc := ⟨.hbm, 93, rfl⟩
abbrev main_v70 : Ref sig .tc := ⟨.hbm, 94, rfl⟩
abbrev main_v71 : Ref sig .tc := ⟨.hbm, 95, rfl⟩
abbrev main_cst_13 : Ref sig .tc := ⟨.hbm, 96, rfl⟩
abbrev main_v72 : Ref sig .tc := ⟨.hbm, 97, rfl⟩
abbrev main_v73 : Ref sig .tc := ⟨.hbm, 98, rfl⟩
abbrev main_cst_14 : Ref sig .tc := ⟨.hbm, 99, rfl⟩
abbrev main_v74 : Ref sig .tc := ⟨.hbm, 100, rfl⟩
abbrev main_cst_15 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_c : Ref sig .tc := ⟨.hbm, 106, rfl⟩
abbrev main_call2_v0 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_c_16 : Ref sig .tc := ⟨.hbm, 111, rfl⟩
abbrev main_call3_v0 : Ref sig .tc := ⟨.hbm, 112, rfl⟩
abbrev main_v82 : Ref sig .tc := ⟨.hbm, 113, rfl⟩
abbrev main_v83 : Ref sig .tc := ⟨.hbm, 114, rfl⟩
abbrev main_c_17 : Ref sig .tc := ⟨.hbm, 115, rfl⟩
abbrev main_call4_v0 : Ref sig .tc := ⟨.hbm, 116, rfl⟩
abbrev main_v84 : Ref sig .tc := ⟨.hbm, 117, rfl⟩

abbrev nD : Nat := 1
abbrev τ : Topo := Topo.v7x

variable {F : FTy → Type} [FloatOps F]
-- ==== Kernel3.lean ====
abbrev S4224x1024 : Shape := ⟨2, ![4224, 1024]⟩
abbrev S4224x6528 : Shape := ⟨2, ![4224, 6528]⟩
abbrev S1024x6528 : Shape := ⟨2, ![1024, 6528]⟩
abbrev S1408x1024 : Shape := ⟨2, ![1408, 1024]⟩
abbrev S1408x2176 : Shape := ⟨2, ![1408, 2176]⟩
abbrev S1024x2176 : Shape := ⟨2, ![1024, 2176]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S4224x1024, .bf16⟩
  | .hbm, ⟨1, _⟩ => ⟨S4224x6528, .bf16⟩
  | .hbm, ⟨2, _⟩ => ⟨S1024x6528, .bf16⟩
  | .local _ .vmem, ⟨0, _⟩ => ⟨S1408x1024, .bf16⟩
  | .local _ .vmem, ⟨1, _⟩ => ⟨S1408x1024, .bf16⟩
  | .local _ .vmem, ⟨2, _⟩ => ⟨S1408x2176, .bf16⟩
  | .local _ .vmem, ⟨3, _⟩ => ⟨S1408x2176, .bf16⟩
  | .local _ .vmem, ⟨4, _⟩ => ⟨S1024x2176, .bf16⟩
  | .local _ .vmem, ⟨5, _⟩ => ⟨S1024x2176, .bf16⟩
  | .local _ .vmem, ⟨6, _⟩ => ⟨S1024x2176, .f32⟩
  | _, _ => ⟨S4224x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 3, 3], ![false, false, false]⟩

def k0_cond2 (i : grid0.Coords) : BitVec 1 :=
  let arg2 : BitVec 32 := BitVec.ofNat 32 (i 2).val
  let c2_i32 : BitVec 32 := 2#32
  let v12 : BitVec 1 := Scalar.cmpi .eq arg2 c2_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x2176 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2176 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4224x1024 : Shape := ⟨2, ![4224, 1024]⟩
abbrev S4224x6528 : Shape := ⟨2, ![4224, 6528]⟩
abbrev S_ : Shape := ⟨0, ![]⟩
abbrev S1024x6528 : Shape := ⟨2, ![1024, 6528]⟩
abbrev S6528x1024 : Shape := ⟨2, ![6528, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4224x1024, .bf16⟩
  | .hbm, ⟨1, _⟩ => ⟨S4224x6528, .bf16⟩
  | .hbm, ⟨2, _⟩ => ⟨S_, .bf16⟩
  | .hbm, ⟨3, _⟩ => ⟨S1024x6528, .bf16⟩
  | .hbm, ⟨4, _⟩ => ⟨S4224x1024, .f32⟩
  | .hbm, ⟨5, _⟩ => ⟨S1024x6528, .f32⟩
  | .hbm, ⟨6, _⟩ => ⟨S4224x6528, .f32⟩
  | .hbm, ⟨7, _⟩ => ⟨S4224x6528, .f32⟩
  | .hbm, ⟨8, _⟩ => ⟨S6528x1024, .f32⟩
  | .hbm, ⟨9, _⟩ => ⟨S1024x6528, .f32⟩
  | .hbm, ⟨10, _⟩ => ⟨S1024x6528, .bf16⟩
  | _, _ => ⟨S4224x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel4.lean ====
abbrev S4224x6528 : Shape := ⟨2, ![4224, 6528]⟩
abbrev S1024x6528 : Shape := ⟨2, ![1024, 6528]⟩
abbrev S4224x1024 : Shape := ⟨2, ![4224, 1024]⟩
abbrev S1408x2176 : Shape := ⟨2, ![1408, 2176]⟩
abbrev S512x2176 : Shape := ⟨2, ![512, 2176]⟩
abbrev S1408x512 : Shape := ⟨2, ![1408, 512]⟩

abbrev nBuf : Space → Nat
  | .hbm => 3
  | .vmem => 7
  | .smem => 0
  | _ => 0

abbrev bufTy : (tb : Table) → Fin (tcTables nBuf tb) → BufTy
  | .hbm, ⟨0, _⟩ => ⟨S4224x6528, .bf16⟩
  | .hbm, ⟨1, _⟩ => ⟨S1024x6528, .bf16⟩
  | .hbm, ⟨2, _⟩ => ⟨S4224x1024, .f32⟩
  | .local _ .vmem, ⟨0, _⟩ => ⟨S1408x2176, .bf16⟩
  | .local _ .vmem, ⟨1, _⟩ => ⟨S1408x2176, .bf16⟩
  | .local _ .vmem, ⟨2, _⟩ => ⟨S512x2176, .bf16⟩
  | .local _ .vmem, ⟨3, _⟩ => ⟨S512x2176, .bf16⟩
  | .local _ .vmem, ⟨4, _⟩ => ⟨S1408x512, .f32⟩
  | .local _ .vmem, ⟨5, _⟩ => ⟨S1408x512, .f32⟩
  | .local _ .vmem, ⟨6, _⟩ => ⟨S1408x512, .f32⟩
  | _, _ => ⟨S4224x6528, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 2, 3], ![false, false, false]⟩

def k0_cond2 (i : grid0.Coords) : BitVec 1 :=
  let arg2 : BitVec 32 := BitVec.ofNat 32 (i 2).val
  let c2_i32 : BitVec 32 := 2#32
  let v11 : BitVec 1 := Scalar.cmpi .eq arg2 c2_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x2176 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2176 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4224x6528 : Shape := ⟨2, ![4224, 6528]⟩
abbrev S1024x6528 : Shape := ⟨2, ![1024, 6528]⟩
abbrev S_ : Shape := ⟨0, ![]⟩
abbrev S4224x1024 : Shape := ⟨2, ![4224, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4224x6528, .bf16⟩
  | .hbm, ⟨1, _⟩ => ⟨S1024x6528, .bf16⟩
  | .hbm, ⟨2, _⟩ => ⟨S_, .f32⟩
  | .hbm, ⟨3, _⟩ => ⟨S4224x1024, .f32⟩
  | .hbm, ⟨4, _⟩ => ⟨S1024x6528, .f32⟩
  | .hbm, ⟨5, _⟩ => ⟨S4224x6528, .f32⟩
  | .hbm, ⟨6, _⟩ => ⟨S4224x6528, .f32⟩
  | .hbm, ⟨7, _⟩ => ⟨S4224x1024, .f32⟩
  | _, _ => ⟨S4224x6528, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel5.lean ====
abbrev S4224x1024 : Shape := ⟨2, ![4224, 1024]⟩
abbrev S4224x5632 : Shape := ⟨2, ![4224, 5632]⟩
abbrev S1024x5632 : Shape := ⟨2, ![1024, 5632]⟩
abbrev S1408x1024 : Shape := ⟨2, ![1408, 1024]⟩
abbrev S1408x1408 : Shape := ⟨2, ![1408, 1408]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S4224x1024, .bf16⟩
  | .hbm, ⟨1, _⟩ => ⟨S4224x5632, .bf16⟩
  | .hbm, ⟨2, _⟩ => ⟨S1024x5632, .bf16⟩
  | .local _ .vmem, ⟨0, _⟩ => ⟨S1408x1024, .bf16⟩
  | .local _ .vmem, ⟨1, _⟩ => ⟨S1408x1024, .bf16⟩
  | .local _ .vmem, ⟨2, _⟩ => ⟨S1408x1408, .bf16⟩
  | .local _ .vmem, ⟨3, _⟩ => ⟨S1408x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .f32⟩
  | _, _ => ⟨S4224x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 3], ![false, false, false]⟩

def k0_cond2 (i : grid0.Coords) : BitVec 1 :=
  let arg2 : BitVec 32 := BitVec.ofNat 32 (i 2).val
  let c2_i32 : BitVec 32 := 2#32
  let v12 : BitVec 1 := Scalar.cmpi .eq arg2 c2_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S4224x1024 : Shape := ⟨2, ![4224, 1024]⟩
abbrev S4224x5632 : Shape := ⟨2, ![4224, 5632]⟩
abbrev S_ : Shape := ⟨0, ![]⟩
abbrev S1024x5632 : Shape := ⟨2, ![1024, 5632]⟩
abbrev S5632x1024 : Shape := ⟨2, ![5632, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4224x1024, .bf16⟩
  | .hbm, ⟨1, _⟩ => ⟨S4224x5632, .bf16⟩
  | .hbm, ⟨2, _⟩ => ⟨S_, .bf16⟩
  | .hbm, ⟨3, _⟩ => ⟨S1024x5632, .bf16⟩
  | .hbm, ⟨4, _⟩ => ⟨S4224x1024, .f32⟩
  | .hbm, ⟨5, _⟩ => ⟨S1024x5632, .f32⟩
  | .hbm, ⟨6, _⟩ => ⟨S4224x5632, .f32⟩
  | .hbm, ⟨7, _⟩ => ⟨S4224x5632, .f32⟩
  | .hbm, ⟨8, _⟩ => ⟨S5632x1024, .f32⟩
  | .hbm, ⟨9, _⟩ => ⟨S1024x5632, .f32⟩
  | .hbm, ⟨10, _⟩ => ⟨S1024x5632, .bf16⟩
  | _, _ => ⟨S4224x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel6.lean ====
abbrev S4224x5632 : Shape := ⟨2, ![4224, 5632]⟩
abbrev S1024x5632 : Shape := ⟨2, ![1024, 5632]⟩
abbrev S4224x1024 : Shape := ⟨2, ![4224, 1024]⟩
abbrev S1408x1408 : Shape := ⟨2, ![1408, 1408]⟩
abbrev S512x1408 : Shape := ⟨2, ![512, 1408]⟩
abbrev S1408x512 : Shape := ⟨2, ![1408, 512]⟩

abbrev nBuf : Space → Nat
  | .hbm => 3
  | .vmem => 7
  | .smem => 0
  | _ => 0

abbrev bufTy : (tb : Table) → Fin (tcTables nBuf tb) → BufTy
  | .hbm, ⟨0, _⟩ => ⟨S4224x5632, .bf16⟩
  | .hbm, ⟨1, _⟩ => ⟨S1024x5632, .bf16⟩
  | .hbm, ⟨2, _⟩ => ⟨S4224x1024, .f32⟩
  | .local _ .vmem, ⟨0, _⟩ => ⟨S1408x1408, .bf16⟩
  | .local _ .vmem, ⟨1, _⟩ => ⟨S1408x1408, .bf16⟩
  | .local _ .vmem, ⟨2, _⟩ => ⟨S512x1408, .bf16⟩
  | .local _ .vmem, ⟨3, _⟩ => ⟨S512x1408, .bf16⟩
  | .local _ .vmem, ⟨4, _⟩ => ⟨S1408x512, .f32⟩
  | .local _ .vmem, ⟨5, _⟩ => ⟨S1408x512, .f32⟩
  | .local _ .vmem, ⟨6, _⟩ => ⟨S1408x512, .f32⟩
  | _, _ => ⟨S4224x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 2, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S4224x5632 : Shape := ⟨2, ![4224, 5632]⟩
abbrev S1024x5632 : Shape := ⟨2, ![1024, 5632]⟩
abbrev S_ : Shape := ⟨0, ![]⟩
abbrev S4224x1024 : Shape := ⟨2, ![4224, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4224x5632, .bf16⟩
  | .hbm, ⟨1, _⟩ => ⟨S1024x5632, .bf16⟩
  | .hbm, ⟨2, _⟩ => ⟨S_, .f32⟩
  | .hbm, ⟨3, _⟩ => ⟨S4224x1024, .f32⟩
  | .hbm, ⟨4, _⟩ => ⟨S1024x5632, .f32⟩
  | .hbm, ⟨5, _⟩ => ⟨S4224x5632, .f32⟩
  | .hbm, ⟨6, _⟩ => ⟨S4224x5632, .f32⟩
  | .hbm, ⟨7, _⟩ => ⟨S4224x1024, .f32⟩
  | _, _ => ⟨S4224x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel7.lean ====
abbrev S4224x2816 : Shape := ⟨2, ![4224, 2816]⟩
abbrev S4224x1024 : Shape := ⟨2, ![4224, 1024]⟩
abbrev S2816x1024 : Shape := ⟨2, ![2816, 1024]⟩
abbrev S1408x1408 : Shape := ⟨2, ![1408, 1408]⟩
abbrev S1408x512 : Shape := ⟨2, ![1408, 512]⟩

abbrev nBuf : Space → Nat
  | .hbm => 3
  | .vmem => 7
  | .smem => 0
  | _ => 0

abbrev bufTy : (tb : Table) → Fin (tcTables nBuf tb) → BufTy
  | .hbm, ⟨0, _⟩ => ⟨S4224x2816, .bf16⟩
  | .hbm, ⟨1, _⟩ => ⟨S4224x1024, .f32⟩
  | .hbm, ⟨2, _⟩ => ⟨S2816x1024, .bf16⟩
  | .local _ .vmem, ⟨0, _⟩ => ⟨S1408x1408, .bf16⟩
  | .local _ .vmem, ⟨1, _⟩ => ⟨S1408x1408, .bf16⟩
  | .local _ .vmem, ⟨2, _⟩ => ⟨S1408x512, .f32⟩
  | .local _ .vmem, ⟨3, _⟩ => ⟨S1408x512, .f32⟩
  | .local _ .vmem, ⟨4, _⟩ => ⟨S1408x512, .bf16⟩
  | .local _ .vmem, ⟨5, _⟩ => ⟨S1408x512, .bf16⟩
  | .local _ .vmem, ⟨6, _⟩ => ⟨S1408x512, .f32⟩
  | _, _ => ⟨S4224x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 3], ![false, false, false]⟩

def k0_cond2 (i : grid0.Coords) : BitVec 1 :=
  let arg2 : BitVec 32 := BitVec.ofNat 32 (i 2).val
  let c2_i32 : BitVec 32 := 2#32
  let v13 : BitVec 1 := Scalar.cmpi .eq arg2 c2_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S4224x2816 : Shape := ⟨2, ![4224, 2816]⟩
abbrev S4224x1024 : Shape := ⟨2, ![4224, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S4224x2816, .bf16⟩
  | .hbm, ⟨1, _⟩ => ⟨S4224x1024, .f32⟩
  | .hbm, ⟨2, _⟩ => ⟨S_, .bf16⟩
  | .hbm, ⟨3, _⟩ => ⟨S2816x1024, .bf16⟩
  | .hbm, ⟨4, _⟩ => ⟨S4224x2816, .f32⟩
  | .hbm, ⟨5, _⟩ => ⟨S2816x1024, .f32⟩
  | .hbm, ⟨6, _⟩ => ⟨S4224x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S4224x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel8.lean ====
abbrev S4224x1024 : Shape := ⟨2, ![4224, 1024]⟩
abbrev S2816x1024 : Shape := ⟨2, ![2816, 1024]⟩
abbrev S4224x2816 : Shape := ⟨2, ![4224, 2816]⟩
abbrev S1408x1024 : Shape := ⟨2, ![1408, 1024]⟩
abbrev S256x1024 : Shape := ⟨2, ![256, 1024]⟩
abbrev S1408x256 : Shape := ⟨2, ![1408, 256]⟩

abbrev nBuf : Space → Nat
  | .hbm => 3
  | .vmem => 7
  | .smem => 0
  | _ => 0

abbrev bufTy : (tb : Table) → Fin (tcTables nBuf tb) → BufTy
  | .hbm, ⟨0, _⟩ => ⟨S4224x1024, .f32⟩
  | .hbm, ⟨1, _⟩ => ⟨S2816x1024, .bf16⟩
  | .hbm, ⟨2, _⟩ => ⟨S4224x2816, .f32⟩
  | .local _ .vmem, ⟨0, _⟩ => ⟨S1408x1024, .f32⟩
  | .local _ .vmem, ⟨1, _⟩ => ⟨S1408x1024, .f32⟩
  | .local _ .vmem, ⟨2, _⟩ => ⟨S256x1024, .bf16⟩
  | .local _ .vmem, ⟨3, _⟩ => ⟨S256x1024, .bf16⟩
  | .local _ .vmem, ⟨4, _⟩ => ⟨S1408x256, .f32⟩
  | .local _ .vmem, ⟨5, _⟩ => ⟨S1408x256, .f32⟩
  | .local _ .vmem, ⟨6, _⟩ => ⟨S1408x256, .f32⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 11, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S4224x1024 : Shape := ⟨2, ![4224, 1024]⟩
abbrev S2816x1024 : Shape := ⟨2, ![2816, 1024]⟩
abbrev S_ : Shape := ⟨0, ![]⟩
abbrev S4224x2816 : Shape := ⟨2, ![4224, 2816]⟩

abbrev nBuf : Space → Nat
  | .hbm => 7
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S2816x1024, .bf16⟩
  | .hbm, ⟨2, _⟩ => ⟨S_, .f32⟩
  | .hbm, ⟨3, _⟩ => ⟨S4224x2816, .f32⟩
  | .hbm, ⟨4, _⟩ => ⟨S2816x1024, .f32⟩
  | .hbm, ⟨5, _⟩ => ⟨S4224x1024, .f32⟩
  | .hbm, ⟨6, _⟩ => ⟨S4224x2816, .f32⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel9.lean ====
abbrev S4224x1024 : Shape := ⟨2, ![4224, 1024]⟩
abbrev S1024x1024 : Shape := ⟨2, ![1024, 1024]⟩
abbrev S1408x1024 : Shape := ⟨2, ![1408, 1024]⟩
abbrev S1408x512 : Shape := ⟨2, ![1408, 512]⟩
abbrev S1024x512 : Shape := ⟨2, ![1024, 512]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S4224x1024, .bf16⟩
  | .hbm, ⟨1, _⟩ => ⟨S4224x1024, .f32⟩
  | .hbm, ⟨2, _⟩ => ⟨S1024x1024, .bf16⟩
  | .local _ .vmem, ⟨0, _⟩ => ⟨S1408x1024, .bf16⟩
  | .local _ .vmem, ⟨1, _⟩ => ⟨S1408x1024, .bf16⟩
  | .local _ .vmem, ⟨2, _⟩ => ⟨S1408x512, .f32⟩
  | .local _ .vmem, ⟨3, _⟩ => ⟨S1408x512, .f32⟩
  | .local _ .vmem, ⟨4, _⟩ => ⟨S1024x512, .bf16⟩
  | .local _ .vmem, ⟨5, _⟩ => ⟨S1024x512, .bf16⟩
  | .local _ .vmem, ⟨6, _⟩ => ⟨S1024x512, .f32⟩
  | _, _ => ⟨S4224x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 3], ![false, false, false]⟩

def k0_cond2 (i : grid0.Coords) : BitVec 1 :=
  let arg2 : BitVec 32 := BitVec.ofNat 32 (i 2).val
  let c2_i32 : BitVec 32 := 2#32
  let v13 : BitVec 1 := Scalar.cmpi .eq arg2 c2_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S4224x1024 : Shape := ⟨2, ![4224, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4224x1024, .bf16⟩
  | .hbm, ⟨1, _⟩ => ⟨S4224x1024, .f32⟩
  | .hbm, ⟨2, _⟩ => ⟨S_, .bf16⟩
  | .hbm, ⟨3, _⟩ => ⟨S1024x1024, .bf16⟩
  | .hbm, ⟨4, _⟩ => ⟨S4224x1024, .f32⟩
  | .hbm, ⟨5, _⟩ => ⟨S1024x1024, .f32⟩
  | .hbm, ⟨6, _⟩ => ⟨S4224x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S4224x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel10.lean ====
abbrev S4224x1024 : Shape := ⟨2, ![4224, 1024]⟩
abbrev S1024x1024 : Shape := ⟨2, ![1024, 1024]⟩
abbrev S1408x1024 : Shape := ⟨2, ![1408, 1024]⟩
abbrev S512x1024 : Shape := ⟨2, ![512, 1024]⟩
abbrev S1408x512 : Shape := ⟨2, ![1408, 512]⟩

abbrev nBuf : Space → Nat
  | .hbm => 3
  | .vmem => 7
  | .smem => 0
  | _ => 0

abbrev bufTy : (tb : Table) → Fin (tcTables nBuf tb) → BufTy
  | .hbm, ⟨0, _⟩ => ⟨S4224x1024, .f32⟩
  | .hbm, ⟨1, _⟩ => ⟨S1024x1024, .bf16⟩
  | .hbm, ⟨2, _⟩ => ⟨S4224x1024, .f32⟩
  | .local _ .vmem, ⟨0, _⟩ => ⟨S1408x1024, .f32⟩
  | .local _ .vmem, ⟨1, _⟩ => ⟨S1408x1024, .f32⟩
  | .local _ .vmem, ⟨2, _⟩ => ⟨S512x1024, .bf16⟩
  | .local _ .vmem, ⟨3, _⟩ => ⟨S512x1024, .bf16⟩
  | .local _ .vmem, ⟨4, _⟩ => ⟨S1408x512, .f32⟩
  | .local _ .vmem, ⟨5, _⟩ => ⟨S1408x512, .f32⟩
  | .local _ .vmem, ⟨6, _⟩ => ⟨S1408x512, .f32⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 2, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S4224x1024 : Shape := ⟨2, ![4224, 1024]⟩
abbrev S1024x1024 : Shape := ⟨2, ![1024, 1024]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S1024x1024, .bf16⟩
  | .hbm, ⟨2, _⟩ => ⟨S_, .f32⟩
  | .hbm, ⟨3, _⟩ => ⟨S4224x1024, .f32⟩
  | .hbm, ⟨4, _⟩ => ⟨S1024x1024, .f32⟩
  | .hbm, ⟨5, _⟩ => ⟨S4224x1024, .f32⟩
  | .hbm, ⟨6, _⟩ => ⟨S4224x1024, .f32⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel11.lean ====
abbrev S4224x512 : Shape := ⟨2, ![4224, 512]⟩
abbrev S4224x1024 : Shape := ⟨2, ![4224, 1024]⟩
abbrev S512x1024 : Shape := ⟨2, ![512, 1024]⟩
abbrev S1408x512 : Shape := ⟨2, ![1408, 512]⟩
abbrev S512x512 : Shape := ⟨2, ![512, 512]⟩
abbrev S512x1408 : Shape := ⟨2, ![512, 1408]⟩

abbrev nBuf : Space → Nat
  | .hbm => 3
  | .vmem => 7
  | .smem => 0
  | _ => 0

abbrev bufTy : (tb : Table) → Fin (tcTables nBuf tb) → BufTy
  | .hbm, ⟨0, _⟩ => ⟨S4224x512, .f32⟩
  | .hbm, ⟨1, _⟩ => ⟨S4224x1024, .bf16⟩
  | .hbm, ⟨2, _⟩ => ⟨S512x1024, .bf16⟩
  | .local _ .vmem, ⟨0, _⟩ => ⟨S1408x512, .f32⟩
  | .local _ .vmem, ⟨1, _⟩ => ⟨S1408x512, .f32⟩
  | .local _ .vmem, ⟨2, _⟩ => ⟨S1408x512, .bf16⟩
  | .local _ .vmem, ⟨3, _⟩ => ⟨S1408x512, .bf16⟩
  | .local _ .vmem, ⟨4, _⟩ => ⟨S512x512, .bf16⟩
  | .local _ .vmem, ⟨5, _⟩ => ⟨S512x512, .bf16⟩
  | .local _ .vmem, ⟨6, _⟩ => ⟨S512x512, .f32⟩
  | _, _ => ⟨S4224x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 3], ![false, false, false]⟩

def k0_cond2 (i : grid0.Coords) : BitVec 1 :=
  let arg2 : BitVec 32 := BitVec.ofNat 32 (i 2).val
  let c2_i32 : BitVec 32 := 2#32
  let v13 : BitVec 1 := Scalar.cmpi .eq arg2 c2_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel11Ideal.lean ====
abbrev S4224x512 : Shape := ⟨2, ![4224, 512]⟩
abbrev S4224x1024 : Shape := ⟨2, ![4224, 1024]⟩
abbrev S512x1024 : Shape := ⟨2, ![512, 1024]⟩
abbrev S1408x512 : Shape := ⟨2, ![1408, 512]⟩
abbrev S512x512 : Shape := ⟨2, ![512, 512]⟩
abbrev S512x1408 : Shape := ⟨2, ![512, 1408]⟩

abbrev nBuf : Space → Nat
  | .hbm => 3
  | .vmem => 7
  | .smem => 0
  | _ => 0

abbrev bufTy : (tb : Table) → Fin (tcTables nBuf tb) → BufTy
  | .hbm, ⟨0, _⟩ => ⟨S4224x512, .f32⟩
  | .hbm, ⟨1, _⟩ => ⟨S4224x1024, .bf16⟩
  | .hbm, ⟨2, _⟩ => ⟨S512x1024, .bf16⟩
  | .local _ .vmem, ⟨0, _⟩ => ⟨S1408x512, .f32⟩
  | .local _ .vmem, ⟨1, _⟩ => ⟨S1408x512, .f32⟩
  | .local _ .vmem, ⟨2, _⟩ => ⟨S1408x512, .bf16⟩
  | .local _ .vmem, ⟨3, _⟩ => ⟨S1408x512, .bf16⟩
  | .local _ .vmem, ⟨4, _⟩ => ⟨S512x512, .bf16⟩
  | .local _ .vmem, ⟨5, _⟩ => ⟨S512x512, .bf16⟩
  | .local _ .vmem, ⟨6, _⟩ => ⟨S512x512, .f32⟩
  | _, _ => ⟨S4224x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 3], ![false, false, false]⟩

def k0_cond2 (i : grid0.Coords) : BitVec 1 :=
  let arg2 : BitVec 32 := BitVec.ofNat 32 (i 2).val
  let c2_i32 : BitVec 32 := 2#32
  let v13 : BitVec 1 := Scalar.cmpi .eq arg2 c2_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S4224x512 : Shape := ⟨2, ![4224, 512]⟩
abbrev S4224x1024 : Shape := ⟨2, ![4224, 1024]⟩
abbrev S_ : Shape := ⟨0, ![]⟩
abbrev S512x1024 : Shape := ⟨2, ![512, 1024]⟩
abbrev S1024x512 : Shape := ⟨2, ![1024, 512]⟩

abbrev nBuf : Space → Nat
  | .hbm => 10
  | .vmem => 0
  | .smem => 0
  | _ => 0

abbrev bufTy : (tb : Table) → Fin (tcTables nBuf tb) → BufTy
  | .hbm, ⟨0, _⟩ => ⟨S4224x512, .f32⟩
  | .hbm, ⟨1, _⟩ => ⟨S4224x1024, .bf16⟩
  | .hbm, ⟨2, _⟩ => ⟨S_, .bf16⟩
  | .hbm, ⟨3, _⟩ => ⟨S512x1024, .bf16⟩
  | .hbm, ⟨4, _⟩ => ⟨S512x1024, .f32⟩
  | .hbm, ⟨5, _⟩ => ⟨S4224x1024, .f32⟩
  | .hbm, ⟨6, _⟩ => ⟨S4224x1024, .f32⟩
  | .hbm, ⟨7, _⟩ => ⟨S1024x512, .f32⟩
  | .hbm, ⟨8, _⟩ => ⟨S512x1024, .f32⟩
  | .hbm, ⟨9, _⟩ => ⟨S512x1024, .bf16⟩
  | _, _ => ⟨S4224x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel12.lean ====
abbrev S4224x1024 : Shape := ⟨2, ![4224, 1024]⟩
abbrev S512x1024 : Shape := ⟨2, ![512, 1024]⟩
abbrev S4224x512 : Shape := ⟨2, ![4224, 512]⟩
abbrev S1408x1024 : Shape := ⟨2, ![1408, 1024]⟩
abbrev S1408x512 : Shape := ⟨2, ![1408, 512]⟩

abbrev nBuf : Space → Nat
  | .hbm => 3
  | .vmem => 6
  | .smem => 0
  | _ => 0

abbrev bufTy : (tb : Table) → Fin (tcTables nBuf tb) → BufTy
  | .hbm, ⟨0, _⟩ => ⟨S4224x1024, .bf16⟩
  | .hbm, ⟨1, _⟩ => ⟨S512x1024, .bf16⟩
  | .hbm, ⟨2, _⟩ => ⟨S4224x512, .f32⟩
  | .local _ .vmem, ⟨0, _⟩ => ⟨S1408x1024, .bf16⟩
  | .local _ .vmem, ⟨1, _⟩ => ⟨S1408x1024, .bf16⟩
  | .local _ .vmem, ⟨2, _⟩ => ⟨S512x1024, .bf16⟩
  | .local _ .vmem, ⟨3, _⟩ => ⟨S1408x512, .f32⟩
  | .local _ .vmem, ⟨4, _⟩ => ⟨S1408x512, .f32⟩
  | .local _ .vmem, ⟨5, _⟩ => ⟨S1408x512, .f32⟩
  | _, _ => ⟨S4224x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![3, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1408x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S4224x1024 : Shape := ⟨2, ![4224, 1024]⟩
abbrev S512x1024 : Shape := ⟨2, ![512, 1024]⟩
abbrev S_ : Shape := ⟨0, ![]⟩
abbrev S4224x512 : Shape := ⟨2, ![4224, 512]⟩

abbrev nBuf : Space → Nat
  | .hbm => 8
  | .vmem => 0
  | .smem => 0
  | _ => 0

abbrev bufTy : (tb : Table) → Fin (tcTables nBuf tb) → BufTy
  | .hbm, ⟨0, _⟩ => ⟨S4224x1024, .bf16⟩
  | .hbm, ⟨1, _⟩ => ⟨S512x1024, .bf16⟩
  | .hbm, ⟨2, _⟩ => ⟨S_, .f32⟩
  | .hbm, ⟨3, _⟩ => ⟨S4224x512, .f32⟩
  | .hbm, ⟨4, _⟩ => ⟨S512x1024, .f32⟩
  | .hbm, ⟨5, _⟩ => ⟨S4224x1024, .f32⟩
  | .hbm, ⟨6, _⟩ => ⟨S4224x1024, .f32⟩
  | .hbm, ⟨7, _⟩ => ⟨S4224x512, .f32⟩
  | _, _ => ⟨S4224x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel13.lean ====
abbrev S4224x512 : Shape := ⟨2, ![4224, 512]⟩
abbrev S4224x1024 : Shape := ⟨2, ![4224, 1024]⟩
abbrev S512x1024 : Shape := ⟨2, ![512, 1024]⟩
abbrev S1408x512 : Shape := ⟨2, ![1408, 512]⟩
abbrev S512x512 : Shape := ⟨2, ![512, 512]⟩
abbrev S512x1408 : Shape := ⟨2, ![512, 1408]⟩

abbrev nBuf : Space → Nat
  | .hbm => 3
  | .vmem => 7
  | .smem => 0
  | _ => 0

abbrev bufTy : (tb : Table) → Fin (tcTables nBuf tb) → BufTy
  | .hbm, ⟨0, _⟩ => ⟨S4224x512, .bf16⟩
  | .hbm, ⟨1, _⟩ => ⟨S4224x1024, .bf16⟩
  | .hbm, ⟨2, _⟩ => ⟨S512x1024, .bf16⟩
  | .local _ .vmem, ⟨0, _⟩ => ⟨S1408x512, .bf16⟩
  | .local _ .vmem, ⟨1, _⟩ => ⟨S1408x512, .bf16⟩
  | .local _ .vmem, ⟨2, _⟩ => ⟨S1408x512, .bf16⟩
  | .local _ .vmem, ⟨3, _⟩ => ⟨S1408x512, .bf16⟩
  | .local _ .vmem, ⟨4, _⟩ => ⟨S512x512, .bf16⟩
  | .local _ .vmem, ⟨5, _⟩ => ⟨S512x512, .bf16⟩
  | .local _ .vmem, ⟨6, _⟩ => ⟨S512x512, .f32⟩
  | _, _ => ⟨S4224x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 3], ![false, false, false]⟩

def k0_cond2 (i : grid0.Coords) : BitVec 1 :=
  let arg2 : BitVec 32 := BitVec.ofNat 32 (i 2).val
  let c2_i32 : BitVec 32 := 2#32
  let v12 : BitVec 1 := Scalar.cmpi .eq arg2 c2_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S4224x512 : Shape := ⟨2, ![4224, 512]⟩
abbrev S4224x1024 : Shape := ⟨2, ![4224, 1024]⟩
abbrev S_ : Shape := ⟨0, ![]⟩
abbrev S512x1024 : Shape := ⟨2, ![512, 1024]⟩
abbrev S1024x512 : Shape := ⟨2, ![1024, 512]⟩

abbrev nBuf : Space → Nat
  | .hbm => 11
  | .vmem => 0
  | .smem => 0
  | _ => 0

abbrev bufTy : (tb : Table) → Fin (tcTables nBuf tb) → BufTy
  | .hbm, ⟨0, _⟩ => ⟨S4224x512, .bf16⟩
  | .hbm, ⟨1, _⟩ => ⟨S4224x1024, .bf16⟩
  | .hbm, ⟨2, _⟩ => ⟨S_, .bf16⟩
  | .hbm, ⟨3, _⟩ => ⟨S512x1024, .bf16⟩
  | .hbm, ⟨4, _⟩ => ⟨S4224x512, .f32⟩
  | .hbm, ⟨5, _⟩ => ⟨S512x1024, .f32⟩
  | .hbm, ⟨6, _⟩ => ⟨S4224x1024, .f32⟩
  | .hbm, ⟨7, _⟩ => ⟨S4224x1024, .f32⟩
  | .hbm, ⟨8, _⟩ => ⟨S1024x512, .f32⟩
  | .hbm, ⟨9, _⟩ => ⟨S512x1024, .f32⟩
  | .hbm, ⟨10, _⟩ => ⟨S512x1024, .bf16⟩
  | _, _ => ⟨S4224x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel14.lean ====
abbrev S4224x512 : Shape := ⟨2, ![4224, 512]⟩
abbrev S4224x1024 : Shape := ⟨2, ![4224, 1024]⟩
abbrev S512x1024 : Shape := ⟨2, ![512, 1024]⟩
abbrev S1408x512 : Shape := ⟨2, ![1408, 512]⟩
abbrev S512x512 : Shape := ⟨2, ![512, 512]⟩
abbrev S512x1408 : Shape := ⟨2, ![512, 1408]⟩

abbrev nBuf : Space → Nat
  | .hbm => 3
  | .vmem => 7
  | .smem => 0
  | _ => 0

abbrev bufTy : (tb : Table) → Fin (tcTables nBuf tb) → BufTy
  | .hbm, ⟨0, _⟩ => ⟨S4224x512, .f32⟩
  | .hbm, ⟨1, _⟩ => ⟨S4224x1024, .bf16⟩
  | .hbm, ⟨2, _⟩ => ⟨S512x1024, .f32⟩
  | .local _ .vmem, ⟨0, _⟩ => ⟨S1408x512, .f32⟩
  | .local _ .vmem, ⟨1, _⟩ => ⟨S1408x512, .f32⟩
  | .local _ .vmem, ⟨2, _⟩ => ⟨S1408x512, .bf16⟩
  | .local _ .vmem, ⟨3, _⟩ => ⟨S1408x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S4224x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 3], ![false, false, false]⟩

def k0_cond2 (i : grid0.Coords) : BitVec 1 :=
  let arg2 : BitVec 32 := BitVec.ofNat 32 (i 2).val
  let c2_i32 : BitVec 32 := 2#32
  let v13 : BitVec 1 := Scalar.cmpi .eq arg2 c2_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S4224x512 : Shape := ⟨2, ![4224, 512]⟩
abbrev S4224x1024 : Shape := ⟨2, ![4224, 1024]⟩
abbrev S_ : Shape := ⟨0, ![]⟩
abbrev S512x1024 : Shape := ⟨2, ![512, 1024]⟩
abbrev S1024x512 : Shape := ⟨2, ![1024, 512]⟩

abbrev nBuf : Space → Nat
  | .hbm => 8
  | .vmem => 0
  | .smem => 0
  | _ => 0

abbrev bufTy : (tb : Table) → Fin (tcTables nBuf tb) → BufTy
  | .hbm, ⟨0, _⟩ => ⟨S4224x512, .f32⟩
  | .hbm, ⟨1, _⟩ => ⟨S4224x1024, .bf16⟩
  | .hbm, ⟨2, _⟩ => ⟨S_, .f32⟩
  | .hbm, ⟨3, _⟩ => ⟨S512x1024, .f32⟩
  | .hbm, ⟨4, _⟩ => ⟨S4224x1024, .f32⟩
  | .hbm, ⟨5, _⟩ => ⟨S4224x1024, .f32⟩
  | .hbm, ⟨6, _⟩ => ⟨S1024x512, .f32⟩
  | .hbm, ⟨7, _⟩ => ⟨S512x1024, .f32⟩
  | _, _ => ⟨S4224x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel15.lean ====
abbrev S4224x1024 : Shape := ⟨2, ![4224, 1024]⟩
abbrev S512x1024 : Shape := ⟨2, ![512, 1024]⟩
abbrev S4224x512 : Shape := ⟨2, ![4224, 512]⟩
abbrev S1408x1024 : Shape := ⟨2, ![1408, 1024]⟩
abbrev S1408x512 : Shape := ⟨2, ![1408, 512]⟩

abbrev nBuf : Space → Nat
  | .hbm => 4
  | .vmem => 8
  | .smem => 0
  | _ => 0

abbrev bufTy : (tb : Table) → Fin (tcTables nBuf tb) → BufTy
  | .hbm, ⟨0, _⟩ => ⟨S4224x1024, .bf16⟩
  | .hbm, ⟨1, _⟩ => ⟨S512x1024, .f32⟩
  | .hbm, ⟨2, _⟩ => ⟨S4224x512, .f32⟩
  | .hbm, ⟨3, _⟩ => ⟨S4224x512, .f32⟩
  | .local _ .vmem, ⟨0, _⟩ => ⟨S1408x1024, .bf16⟩
  | .local _ .vmem, ⟨1, _⟩ => ⟨S1408x1024, .bf16⟩
  | .local _ .vmem, ⟨2, _⟩ => ⟨S512x1024, .f32⟩
  | .local _ .vmem, ⟨3, _⟩ => ⟨S1408x512, .f32⟩
  | .local _ .vmem, ⟨4, _⟩ => ⟨S1408x512, .f32⟩
  | .local _ .vmem, ⟨5, _⟩ => ⟨S1408x512, .f32⟩
  | .local _ .vmem, ⟨6, _⟩ => ⟨S1408x512, .f32⟩
  | .local _ .vmem, ⟨7, _⟩ => ⟨S1408x512, .f32⟩
  | _, _ => ⟨S4224x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![3, 1, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1408x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1408x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference15Ideal.lean ====
abbrev S4224x1024 : Shape := ⟨2, ![4224, 1024]⟩
abbrev S512x1024 : Shape := ⟨2, ![512, 1024]⟩
abbrev S4224x512 : Shape := ⟨2, ![4224, 512]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4224x1024, .bf16⟩
  | .hbm, ⟨1, _⟩ => ⟨S512x1024, .f32⟩
  | .hbm, ⟨2, _⟩ => ⟨S4224x512, .f32⟩
  | .hbm, ⟨3, _⟩ => ⟨S_, .f32⟩
  | .hbm, ⟨4, _⟩ => ⟨S4224x512, .f32⟩
  | .hbm, ⟨5, _⟩ => ⟨S4224x1024, .f32⟩
  | .hbm, ⟨6, _⟩ => ⟨S4224x1024, .f32⟩
  | .hbm, ⟨7, _⟩ => ⟨S4224x512, .f32⟩
  | .hbm, ⟨8, _⟩ => ⟨S4224x512, .f32⟩
  | _, _ => ⟨S4224x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel16.lean ====
abbrev S4224x1024 : Shape := ⟨2, ![4224, 1024]⟩
abbrev S1024x6528 : Shape := ⟨2, ![1024, 6528]⟩
abbrev S4224x6528 : Shape := ⟨2, ![4224, 6528]⟩
abbrev S1408x1024 : Shape := ⟨2, ![1408, 1024]⟩
abbrev S1024x384 : Shape := ⟨2, ![1024, 384]⟩
abbrev S1408x384 : Shape := ⟨2, ![1408, 384]⟩

abbrev nBuf : Space → Nat
  | .hbm => 3
  | .vmem => 7
  | .smem => 0
  | _ => 0

abbrev bufTy : (tb : Table) → Fin (tcTables nBuf tb) → BufTy
  | .hbm, ⟨0, _⟩ => ⟨S4224x1024, .bf16⟩
  | .hbm, ⟨1, _⟩ => ⟨S1024x6528, .bf16⟩
  | .hbm, ⟨2, _⟩ => ⟨S4224x6528, .f32⟩
  | .local _ .vmem, ⟨0, _⟩ => ⟨S1408x1024, .bf16⟩
  | .local _ .vmem, ⟨1, _⟩ => ⟨S1408x1024, .bf16⟩
  | .local _ .vmem, ⟨2, _⟩ => ⟨S1024x384, .bf16⟩
  | .local _ .vmem, ⟨3, _⟩ => ⟨S1024x384, .bf16⟩
  | .local _ .vmem, ⟨4, _⟩ => ⟨S1408x384, .f32⟩
  | .local _ .vmem, ⟨5, _⟩ => ⟨S1408x384, .f32⟩
  | .local _ .vmem, ⟨6, _⟩ => ⟨S1408x384, .f32⟩
  | _, _ => ⟨S4224x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 17, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S4224x1024 : Shape := ⟨2, ![4224, 1024]⟩
abbrev S1024x6528 : Shape := ⟨2, ![1024, 6528]⟩
abbrev S4224x6528 : Shape := ⟨2, ![4224, 6528]⟩

abbrev nBuf : Space → Nat
  | .hbm => 5
  | .vmem => 0
  | .smem => 0
  | _ => 0

abbrev bufTy : (tb : Table) → Fin (tcTables nBuf tb) → BufTy
  | .hbm, ⟨0, _⟩ => ⟨S4224x1024, .bf16⟩
  | .hbm, ⟨1, _⟩ => ⟨S1024x6528, .bf16⟩
  | .hbm, ⟨2, _⟩ => ⟨S4224x1024, .f32⟩
  | .hbm, ⟨3, _⟩ => ⟨S1024x6528, .f32⟩
  | .hbm, ⟨4, _⟩ => ⟨S4224x6528, .f32⟩
  | _, _ => ⟨S4224x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel17.lean ====
abbrev S4224x512 : Shape := ⟨2, ![4224, 512]⟩
abbrev S512x1024 : Shape := ⟨2, ![512, 1024]⟩
abbrev S4224x1024 : Shape := ⟨2, ![4224, 1024]⟩
abbrev S1408x512 : Shape := ⟨2, ![1408, 512]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S4224x512, .f32⟩
  | .hbm, ⟨1, _⟩ => ⟨S512x1024, .f32⟩
  | .hbm, ⟨2, _⟩ => ⟨S4224x1024, .f32⟩
  | .local _ .vmem, ⟨0, _⟩ => ⟨S1408x512, .f32⟩
  | .local _ .vmem, ⟨1, _⟩ => ⟨S1408x512, .f32⟩
  | .local _ .vmem, ⟨2, _⟩ => ⟨S512x512, .f32⟩
  | .local _ .vmem, ⟨3, _⟩ => ⟨S512x512, .f32⟩
  | .local _ .vmem, ⟨4, _⟩ => ⟨S1408x512, .f32⟩
  | .local _ .vmem, ⟨5, _⟩ => ⟨S1408x512, .f32⟩
  | .local _ .vmem, ⟨6, _⟩ => ⟨S1408x512, .f32⟩
  | _, _ => ⟨S4224x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 2, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference17Ideal.lean ====
abbrev S4224x512 : Shape := ⟨2, ![4224, 512]⟩
abbrev S512x1024 : Shape := ⟨2, ![512, 1024]⟩
abbrev S4224x1024 : Shape := ⟨2, ![4224, 1024]⟩

abbrev nBuf : Space → Nat
  | .hbm => 3
  | .vmem => 0
  | .smem => 0
  | _ => 0

abbrev bufTy : (tb : Table) → Fin (tcTables nBuf tb) → BufTy
  | .hbm, ⟨0, _⟩ => ⟨S4224x512, .f32⟩
  | .hbm, ⟨1, _⟩ => ⟨S512x1024, .f32⟩
  | .hbm, ⟨2, _⟩ => ⟨S4224x1024, .f32⟩
  | _, _ => ⟨S4224x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel18.lean ====
abbrev S4224x512 : Shape := ⟨2, ![4224, 512]⟩
abbrev S512x1024 : Shape := ⟨2, ![512, 1024]⟩
abbrev S4224x1024 : Shape := ⟨2, ![4224, 1024]⟩
abbrev S1408x512 : Shape := ⟨2, ![1408, 512]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S4224x512, .f32⟩
  | .hbm, ⟨1, _⟩ => ⟨S512x1024, .bf16⟩
  | .hbm, ⟨2, _⟩ => ⟨S4224x1024, .f32⟩
  | .local _ .vmem, ⟨0, _⟩ => ⟨S1408x512, .f32⟩
  | .local _ .vmem, ⟨1, _⟩ => ⟨S1408x512, .f32⟩
  | .local _ .vmem, ⟨2, _⟩ => ⟨S512x512, .bf16⟩
  | .local _ .vmem, ⟨3, _⟩ => ⟨S512x512, .bf16⟩
  | .local _ .vmem, ⟨4, _⟩ => ⟨S1408x512, .f32⟩
  | .local _ .vmem, ⟨5, _⟩ => ⟨S1408x512, .f32⟩
  | .local _ .vmem, ⟨6, _⟩ => ⟨S1408x512, .f32⟩
  | _, _ => ⟨S4224x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 2, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel18Ideal.lean ====
abbrev S4224x512 : Shape := ⟨2, ![4224, 512]⟩
abbrev S512x1024 : Shape := ⟨2, ![512, 1024]⟩
abbrev S4224x1024 : Shape := ⟨2, ![4224, 1024]⟩
abbrev S1408x512 : Shape := ⟨2, ![1408, 512]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S4224x512, .f32⟩
  | .hbm, ⟨1, _⟩ => ⟨S512x1024, .bf16⟩
  | .hbm, ⟨2, _⟩ => ⟨S4224x1024, .f32⟩
  | .local _ .vmem, ⟨0, _⟩ => ⟨S1408x512, .f32⟩
  | .local _ .vmem, ⟨1, _⟩ => ⟨S1408x512, .f32⟩
  | .local _ .vmem, ⟨2, _⟩ => ⟨S512x512, .bf16⟩
  | .local _ .vmem, ⟨3, _⟩ => ⟨S512x512, .bf16⟩
  | .local _ .vmem, ⟨4, _⟩ => ⟨S1408x512, .f32⟩
  | .local _ .vmem, ⟨5, _⟩ => ⟨S1408x512, .f32⟩
  | .local _ .vmem, ⟨6, _⟩ => ⟨S1408x512, .f32⟩
  | _, _ => ⟨S4224x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 2, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference18Ideal.lean ====
abbrev S4224x512 : Shape := ⟨2, ![4224, 512]⟩
abbrev S512x1024 : Shape := ⟨2, ![512, 1024]⟩
abbrev S4224x1024 : Shape := ⟨2, ![4224, 1024]⟩

abbrev nBuf : Space → Nat
  | .hbm => 4
  | .vmem => 0
  | .smem => 0
  | _ => 0

abbrev bufTy : (tb : Table) → Fin (tcTables nBuf tb) → BufTy
  | .hbm, ⟨0, _⟩ => ⟨S4224x512, .f32⟩
  | .hbm, ⟨1, _⟩ => ⟨S512x1024, .bf16⟩
  | .hbm, ⟨2, _⟩ => ⟨S512x1024, .f32⟩
  | .hbm, ⟨3, _⟩ => ⟨S4224x1024, .f32⟩
  | _, _ => ⟨S4224x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel19.lean ====
abbrev S4224x512 : Shape := ⟨2, ![4224, 512]⟩
abbrev S512x1024 : Shape := ⟨2, ![512, 1024]⟩
abbrev S4224x1024 : Shape := ⟨2, ![4224, 1024]⟩
abbrev S1408x512 : Shape := ⟨2, ![1408, 512]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S4224x512, .bf16⟩
  | .hbm, ⟨1, _⟩ => ⟨S512x1024, .bf16⟩
  | .hbm, ⟨2, _⟩ => ⟨S4224x1024, .f32⟩
  | .local _ .vmem, ⟨0, _⟩ => ⟨S1408x512, .bf16⟩
  | .local _ .vmem, ⟨1, _⟩ => ⟨S1408x512, .bf16⟩
  | .local _ .vmem, ⟨2, _⟩ => ⟨S512x512, .bf16⟩
  | .local _ .vmem, ⟨3, _⟩ => ⟨S512x512, .bf16⟩
  | .local _ .vmem, ⟨4, _⟩ => ⟨S1408x512, .f32⟩
  | .local _ .vmem, ⟨5, _⟩ => ⟨S1408x512, .f32⟩
  | .local _ .vmem, ⟨6, _⟩ => ⟨S1408x512, .f32⟩
  | _, _ => ⟨S4224x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 2, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference19Ideal.lean ====
abbrev S4224x512 : Shape := ⟨2, ![4224, 512]⟩
abbrev S512x1024 : Shape := ⟨2, ![512, 1024]⟩
abbrev S4224x1024 : Shape := ⟨2, ![4224, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4224x512, .bf16⟩
  | .hbm, ⟨1, _⟩ => ⟨S512x1024, .bf16⟩
  | .hbm, ⟨2, _⟩ => ⟨S4224x512, .f32⟩
  | .hbm, ⟨3, _⟩ => ⟨S512x1024, .f32⟩
  | .hbm, ⟨4, _⟩ => ⟨S4224x1024, .f32⟩
  | _, _ => ⟨S4224x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel20.lean ====
abbrev S4224x1024 : Shape := ⟨2, ![4224, 1024]⟩
abbrev S1024x1024 : Shape := ⟨2, ![1024, 1024]⟩
abbrev S1408x1024 : Shape := ⟨2, ![1408, 1024]⟩
abbrev S1024x512 : Shape := ⟨2, ![1024, 512]⟩
abbrev S1408x512 : Shape := ⟨2, ![1408, 512]⟩

abbrev nBuf : Space → Nat
  | .hbm => 4
  | .vmem => 9
  | .smem => 0
  | _ => 0

abbrev bufTy : (tb : Table) → Fin (tcTables nBuf tb) → BufTy
  | .hbm, ⟨0, _⟩ => ⟨S4224x1024, .bf16⟩
  | .hbm, ⟨1, _⟩ => ⟨S1024x1024, .bf16⟩
  | .hbm, ⟨2, _⟩ => ⟨S4224x1024, .f32⟩
  | .hbm, ⟨3, _⟩ => ⟨S4224x1024, .f32⟩
  | .local _ .vmem, ⟨0, _⟩ => ⟨S1408x1024, .bf16⟩
  | .local _ .vmem, ⟨1, _⟩ => ⟨S1408x1024, .bf16⟩
  | .local _ .vmem, ⟨2, _⟩ => ⟨S1024x512, .bf16⟩
  | .local _ .vmem, ⟨3, _⟩ => ⟨S1024x512, .bf16⟩
  | .local _ .vmem, ⟨4, _⟩ => ⟨S1408x512, .f32⟩
  | .local _ .vmem, ⟨5, _⟩ => ⟨S1408x512, .f32⟩
  | .local _ .vmem, ⟨6, _⟩ => ⟨S1408x512, .f32⟩
  | .local _ .vmem, ⟨7, _⟩ => ⟨S1408x512, .f32⟩
  | .local _ .vmem, ⟨8, _⟩ => ⟨S1408x512, .f32⟩
  | _, _ => ⟨S4224x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![3, 2, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1408x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference20Ideal.lean ====
abbrev S4224x1024 : Shape := ⟨2, ![4224, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4224x1024, .bf16⟩
  | .hbm, ⟨1, _⟩ => ⟨S1024x1024, .bf16⟩
  | .hbm, ⟨2, _⟩ => ⟨S4224x1024, .f32⟩
  | .hbm, ⟨3, _⟩ => ⟨S4224x1024, .f32⟩
  | .hbm, ⟨4, _⟩ => ⟨S1024x1024, .f32⟩
  | .hbm, ⟨5, _⟩ => ⟨S4224x1024, .f32⟩
  | .hbm, ⟨6, _⟩ => ⟨S4224x1024, .f32⟩
  | _, _ => ⟨S4224x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel21.lean ====
abbrev S4224x1024 : Shape := ⟨2, ![4224, 1024]⟩
abbrev S1024x5632 : Shape := ⟨2, ![1024, 5632]⟩
abbrev S4224x5632 : Shape := ⟨2, ![4224, 5632]⟩
abbrev S1408x1024 : Shape := ⟨2, ![1408, 1024]⟩
abbrev S1024x512 : Shape := ⟨2, ![1024, 512]⟩
abbrev S1408x512 : Shape := ⟨2, ![1408, 512]⟩

abbrev nBuf : Space → Nat
  | .hbm => 3
  | .vmem => 7
  | .smem => 0
  | _ => 0

abbrev bufTy : (tb : Table) → Fin (tcTables nBuf tb) → BufTy
  | .hbm, ⟨0, _⟩ => ⟨S4224x1024, .bf16⟩
  | .hbm, ⟨1, _⟩ => ⟨S1024x5632, .bf16⟩
  | .hbm, ⟨2, _⟩ => ⟨S4224x5632, .f32⟩
  | .local _ .vmem, ⟨0, _⟩ => ⟨S1408x1024, .bf16⟩
  | .local _ .vmem, ⟨1, _⟩ => ⟨S1408x1024, .bf16⟩
  | .local _ .vmem, ⟨2, _⟩ => ⟨S1024x512, .bf16⟩
  | .local _ .vmem, ⟨3, _⟩ => ⟨S1024x512, .bf16⟩
  | .local _ .vmem, ⟨4, _⟩ => ⟨S1408x512, .f32⟩
  | .local _ .vmem, ⟨5, _⟩ => ⟨S1408x512, .f32⟩
  | .local _ .vmem, ⟨6, _⟩ => ⟨S1408x512, .f32⟩
  | _, _ => ⟨S4224x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 11, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference21Ideal.lean ====
abbrev S4224x1024 : Shape := ⟨2, ![4224, 1024]⟩
abbrev S1024x5632 : Shape := ⟨2, ![1024, 5632]⟩
abbrev S4224x5632 : Shape := ⟨2, ![4224, 5632]⟩

abbrev nBuf : Space → Nat
  | .hbm => 5
  | .vmem => 0
  | .smem => 0
  | _ => 0

abbrev bufTy : (tb : Table) → Fin (tcTables nBuf tb) → BufTy
  | .hbm, ⟨0, _⟩ => ⟨S4224x1024, .bf16⟩
  | .hbm, ⟨1, _⟩ => ⟨S1024x5632, .bf16⟩
  | .hbm, ⟨2, _⟩ => ⟨S4224x1024, .f32⟩
  | .hbm, ⟨3, _⟩ => ⟨S1024x5632, .f32⟩
  | .hbm, ⟨4, _⟩ => ⟨S4224x5632, .f32⟩
  | _, _ => ⟨S4224x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel22.lean ====
abbrev S4224x2816 : Shape := ⟨2, ![4224, 2816]⟩
abbrev S2816x1024 : Shape := ⟨2, ![2816, 1024]⟩
abbrev S4224x1024 : Shape := ⟨2, ![4224, 1024]⟩
abbrev S1408x1408 : Shape := ⟨2, ![1408, 1408]⟩
abbrev S1408x512 : Shape := ⟨2, ![1408, 512]⟩

abbrev nBuf : Space → Nat
  | .hbm => 4
  | .vmem => 9
  | .smem => 0
  | _ => 0

abbrev bufTy : (tb : Table) → Fin (tcTables nBuf tb) → BufTy
  | .hbm, ⟨0, _⟩ => ⟨S4224x2816, .bf16⟩
  | .hbm, ⟨1, _⟩ => ⟨S2816x1024, .bf16⟩
  | .hbm, ⟨2, _⟩ => ⟨S4224x1024, .f32⟩
  | .hbm, ⟨3, _⟩ => ⟨S4224x1024, .f32⟩
  | .local _ .vmem, ⟨0, _⟩ => ⟨S1408x1408, .bf16⟩
  | .local _ .vmem, ⟨1, _⟩ => ⟨S1408x1408, .bf16⟩
  | .local _ .vmem, ⟨2, _⟩ => ⟨S1408x512, .bf16⟩
  | .local _ .vmem, ⟨3, _⟩ => ⟨S1408x512, .bf16⟩
  | .local _ .vmem, ⟨4, _⟩ => ⟨S1408x512, .f32⟩
  | .local _ .vmem, ⟨5, _⟩ => ⟨S1408x512, .f32⟩
  | .local _ .vmem, ⟨6, _⟩ => ⟨S1408x512, .f32⟩
  | .local _ .vmem, ⟨7, _⟩ => ⟨S1408x512, .f32⟩
  | .local _ .vmem, ⟨8, _⟩ => ⟨S1408x512, .f32⟩
  | _, _ => ⟨S4224x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![3, 2, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1408x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference22Ideal.lean ====
abbrev S4224x2816 : Shape := ⟨2, ![4224, 2816]⟩
abbrev S2816x1024 : Shape := ⟨2, ![2816, 1024]⟩
abbrev S4224x1024 : Shape := ⟨2, ![4224, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4224x2816, .bf16⟩
  | .hbm, ⟨1, _⟩ => ⟨S2816x1024, .bf16⟩
  | .hbm, ⟨2, _⟩ => ⟨S4224x1024, .f32⟩
  | .hbm, ⟨3, _⟩ => ⟨S4224x2816, .f32⟩
  | .hbm, ⟨4, _⟩ => ⟨S2816x1024, .f32⟩
  | .hbm, ⟨5, _⟩ => ⟨S4224x1024, .f32⟩
  | .hbm, ⟨6, _⟩ => ⟨S4224x1024, .f32⟩
  | _, _ => ⟨S4224x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel23.lean ====
abbrev S4224x6528 : Shape := ⟨2, ![4224, 6528]⟩
abbrev S4224x1024 : Shape := ⟨2, ![4224, 1024]⟩
abbrev S4224x3072 : Shape := ⟨2, ![4224, 3072]⟩
abbrev S128x3072 : Shape := ⟨2, ![128, 3072]⟩
abbrev S128x1024 : Shape := ⟨2, ![128, 1024]⟩
abbrev S128x1 : Shape := ⟨2, ![128, 1]⟩

abbrev nBuf : Space → Nat
  | .hbm => 9
  | .vmem => 18
  | .smem => 0
  | _ => 0

abbrev bufTy : (tb : Table) → Fin (tcTables nBuf tb) → BufTy
  | .hbm, ⟨0, _⟩ => ⟨S4224x6528, .f32⟩
  | .hbm, ⟨1, _⟩ => ⟨S4224x1024, .f32⟩
  | .hbm, ⟨2, _⟩ => ⟨S4224x1024, .f32⟩
  | .hbm, ⟨3, _⟩ => ⟨S4224x1024, .f32⟩
  | .hbm, ⟨4, _⟩ => ⟨S4224x1024, .f32⟩
  | .hbm, ⟨5, _⟩ => ⟨S4224x1024, .bf16⟩
  | .hbm, ⟨6, _⟩ => ⟨S4224x1024, .bf16⟩
  | .hbm, ⟨7, _⟩ => ⟨S4224x1024, .bf16⟩
  | .hbm, ⟨8, _⟩ => ⟨S4224x3072, .bf16⟩
  | .local _ .vmem, ⟨0, _⟩ => ⟨S128x3072, .f32⟩
  | .local _ .vmem, ⟨1, _⟩ => ⟨S128x3072, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .bf16⟩
  | .local _ .vmem, ⟨11, _⟩ => ⟨S128x1024, .bf16⟩
  | .local _ .vmem, ⟨12, _⟩ => ⟨S128x1024, .bf16⟩
  | .local _ .vmem, ⟨13, _⟩ => ⟨S128x1024, .bf16⟩
  | .local _ .vmem, ⟨14, _⟩ => ⟨S128x1024, .bf16⟩
  | .local _ .vmem, ⟨15, _⟩ => ⟨S128x1024, .bf16⟩
  | .local _ .vmem, ⟨16, _⟩ => ⟨S128x3072, .bf16⟩
  | .local _ .vmem, ⟨17, _⟩ => ⟨S128x3072, .bf16⟩
  | _, _ => ⟨S4224x6528, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x3072 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference23Ideal.lean ====
abbrev S4224x6528 : Shape := ⟨2, ![4224, 6528]⟩
abbrev S4224x1024 : Shape := ⟨2, ![4224, 1024]⟩
abbrev S4224x3072 : Shape := ⟨2, ![4224, 3072]⟩
abbrev S4112x3072 : Shape := ⟨2, ![4112, 3072]⟩
abbrev S4112x1024 : Shape := ⟨2, ![4112, 1024]⟩
abbrev S_ : Shape := ⟨0, ![]⟩

abbrev nBuf : Space → Nat
  | .hbm => 55
  | .vmem => 0
  | .smem => 0
  | _ => 0

abbrev bufTy : (tb : Table) → Fin (tcTables nBuf tb) → BufTy
  | .hbm, ⟨0, _⟩ => ⟨S4224x6528, .f32⟩
  | .hbm, ⟨1, _⟩ => ⟨S4224x1024, .f32⟩
  | .hbm, ⟨2, _⟩ => ⟨S4224x1024, .f32⟩
  | .hbm, ⟨3, _⟩ => ⟨S4224x1024, .f32⟩
  | .hbm, ⟨4, _⟩ => ⟨S4224x1024, .f32⟩
  | .hbm, ⟨5, _⟩ => ⟨S4224x3072, .f32⟩
  | .hbm, ⟨6, _⟩ => ⟨S4112x3072, .f32⟩
  | .hbm, ⟨7, _⟩ => ⟨S4112x1024, .f32⟩
  | .hbm, ⟨8, _⟩ => ⟨S4112x1024, .f32⟩
  | .hbm, ⟨9, _⟩ => ⟨S4112x1024, .f32⟩
  | .hbm, ⟨10, _⟩ => ⟨S4112x3072, .f32⟩
  | .hbm, ⟨11, _⟩ => ⟨S4112x3072, .f32⟩
  | .hbm, ⟨12, _⟩ => ⟨S_, .f32⟩
  | .hbm, ⟨13, _⟩ => ⟨S4112x3072, .f32⟩
  | .hbm, ⟨14, _⟩ => ⟨S4112x3072, .f32⟩
  | .hbm, ⟨15, _⟩ => ⟨S_, .f32⟩
  | .hbm, ⟨16, _⟩ => ⟨S4112x3072, .f32⟩
  | .hbm, ⟨17, _⟩ => ⟨S4112x3072, .f32⟩
  | .hbm, ⟨18, _⟩ => ⟨S_, .f32⟩
  | .hbm, ⟨19, _⟩ => ⟨S4112x3072, .f32⟩
  | .hbm, ⟨20, _⟩ => ⟨S4112x3072, .f32⟩
  | .hbm, ⟨21, _⟩ => ⟨S4112x3072, .f32⟩
  | .hbm, ⟨22, _⟩ => ⟨S4112x1024, .f32⟩
  | .hbm, ⟨23, _⟩ => ⟨S4112x1024, .f32⟩
  | .hbm, ⟨24, _⟩ => ⟨S4112x1024, .f32⟩
  | .hbm, ⟨25, _⟩ => ⟨S4112x1024, .f32⟩
  | .hbm, ⟨26, _⟩ => ⟨S4112x1024, .f32⟩
  | .hbm, ⟨27, _⟩ => ⟨S4112x1024, .f32⟩
  | .hbm, ⟨28, _⟩ => ⟨S4112x1024, .f32⟩
  | .hbm, ⟨29, _⟩ => ⟨S4112x1024, .f32⟩
  | .hbm, ⟨30, _⟩ => ⟨S4112x1024, .f32⟩
  | .hbm, ⟨31, _⟩ => ⟨S4112x1024, .f32⟩
  | .hbm, ⟨32, _⟩ => ⟨S4112x1024, .f32⟩
  | .hbm, ⟨33, _⟩ => ⟨S4112x1024, .f32⟩
  | .hbm, ⟨34, _⟩ => ⟨S4112x1024, .f32⟩
  | .hbm, ⟨35, _⟩ => ⟨S4112x1024, .f32⟩
  | .hbm, ⟨36, _⟩ => ⟨S4112x1024, .f32⟩
  | .hbm, ⟨37, _⟩ => ⟨S4112x3072, .f32⟩
  | .hbm, ⟨38, _⟩ => ⟨S4112x3072, .f32⟩
  | .hbm, ⟨39, _⟩ => ⟨S4112x1024, .bf16⟩
  | .hbm, ⟨40, _⟩ => ⟨S_, .i32⟩
  | .hbm, ⟨41, _⟩ => ⟨S_, .bf16⟩
  | .hbm, ⟨42, _⟩ => ⟨S4224x1024, .bf16⟩
  | .hbm, ⟨43, _⟩ => ⟨S4112x1024, .bf16⟩
  | .hbm, ⟨44, _⟩ => ⟨S_, .i32⟩
  | .hbm, ⟨45, _⟩ => ⟨S_, .bf16⟩
  | .hbm, ⟨46, _⟩ => ⟨S4224x1024, .bf16⟩
  | .hbm, ⟨47, _⟩ => ⟨S4112x1024, .bf16⟩
  | .hbm, ⟨48, _⟩ => ⟨S_, .i32⟩
  | .hbm, ⟨49, _⟩ => ⟨S_, .bf16⟩
  | .hbm, ⟨50, _⟩ => ⟨S4224x1024, .bf16⟩
  | .hbm, ⟨51, _⟩ => ⟨S4112x3072, .bf16⟩
  | .hbm, ⟨52, _⟩ => ⟨S_, .i32⟩
  | .hbm, ⟨53, _⟩ => ⟨S_, .bf16⟩
  | .hbm, ⟨54, _⟩ => ⟨S4224x3072, .bf16⟩
  | _, _ => ⟨S4224x6528, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_c : Ref sig .tc := ⟨.hbm, 40, rfl⟩
abbrev main_call0_v0 : Ref sig .tc := ⟨.hbm, 41, rfl⟩
abbrev main_v32 : Ref sig .tc := ⟨.hbm, 42, rfl⟩
abbrev main_v33 : Ref sig .tc := ⟨.hbm, 43, rfl⟩
abbrev main_c_2 : Ref sig .tc := ⟨.hbm, 44, rfl⟩
abbrev main_call1_v0 : Ref sig .tc := ⟨.hbm, 45, rfl⟩
abbrev main_v34 : Ref sig .tc := ⟨.hbm, 46, rfl⟩
abbrev main_v35 : Ref sig .tc := ⟨.hbm, 47, rfl⟩
abbrev main_c_3 : Ref sig .tc := ⟨.hbm, 48, rfl⟩
abbrev main_call2_v0 : Ref sig .tc := ⟨.hbm, 49, rfl⟩
abbrev main_v36 : Ref sig .tc := ⟨.hbm, 50, rfl⟩
abbrev main_v37 : Ref sig .tc := ⟨.hbm, 51, rfl⟩
abbrev main_c_4 : Ref sig .tc := ⟨.hbm, 52, rfl⟩
abbrev main_call3_v0 : Ref sig .tc := ⟨.hbm, 53, rfl⟩
abbrev main_v38 : Ref sig .tc := ⟨.hbm, 54, rfl⟩

abbrev nD : Nat := 1
abbrev τ : Topo := Topo.v7x

variable {F : FTy → Type} [FloatOps F]
-- ==== Kernel24.lean ====
abbrev S4224x5632 : Shape := ⟨2, ![4224, 5632]⟩
abbrev S4224x2816 : Shape := ⟨2, ![4224, 2816]⟩
abbrev S128x2816 : Shape := ⟨2, ![128, 2816]⟩
abbrev S128x5632 : Shape := ⟨2, ![128, 5632]⟩

abbrev nBuf : Space → Nat
  | .hbm => 3
  | .vmem => 8
  | .smem => 0
  | _ => 0

abbrev bufTy : (tb : Table) → Fin (tcTables nBuf tb) → BufTy
  | .hbm, ⟨0, _⟩ => ⟨S4224x5632, .f32⟩
  | .hbm, ⟨1, _⟩ => ⟨S4224x2816, .f32⟩
  | .hbm, ⟨2, _⟩ => ⟨S4224x5632, .bf16⟩
  | .local _ .vmem, ⟨0, _⟩ => ⟨S128x2816, .f32⟩
  | .local _ .vmem, ⟨1, _⟩ => ⟨S128x2816, .f32⟩
  | .local _ .vmem, ⟨2, _⟩ => ⟨S128x2816, .f32⟩
  | .local _ .vmem, ⟨3, _⟩ => ⟨S128x2816, .f32⟩
  | .local _ .vmem, ⟨4, _⟩ => ⟨S128x2816, .f32⟩
  | .local _ .vmem, ⟨5, _⟩ => ⟨S128x2816, .f32⟩
  | .local _ .vmem, ⟨6, _⟩ => ⟨S128x5632, .bf16⟩
  | .local _ .vmem, ⟨7, _⟩ => ⟨S128x5632, .bf16⟩
  | _, _ => ⟨S4224x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2816 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2816 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x5632 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference24Ideal.lean ====
abbrev S4224x5632 : Shape := ⟨2, ![4224, 5632]⟩
abbrev S4224x2816 : Shape := ⟨2, ![4224, 2816]⟩
abbrev S_ : Shape := ⟨0, ![]⟩

abbrev nBuf : Space → Nat
  | .hbm => 26
  | .vmem => 0
  | .smem => 0
  | _ => 0

abbrev bufTy : (tb : Table) → Fin (tcTables nBuf tb) → BufTy
  | .hbm, ⟨0, _⟩ => ⟨S4224x5632, .f32⟩
  | .hbm, ⟨1, _⟩ => ⟨S4224x2816, .f32⟩
  | .hbm, ⟨2, _⟩ => ⟨S4224x2816, .f32⟩
  | .hbm, ⟨3, _⟩ => ⟨S4224x2816, .f32⟩
  | .hbm, ⟨4, _⟩ => ⟨S4224x2816, .f32⟩
  | .hbm, ⟨5, _⟩ => ⟨S4224x2816, .f32⟩
  | .hbm, ⟨6, _⟩ => ⟨S_, .f32⟩
  | .hbm, ⟨7, _⟩ => ⟨S4224x2816, .f32⟩
  | .hbm, ⟨8, _⟩ => ⟨S4224x2816, .f32⟩
  | .hbm, ⟨9, _⟩ => ⟨S_, .f32⟩
  | .hbm, ⟨10, _⟩ => ⟨S4224x2816, .f32⟩
  | .hbm, ⟨11, _⟩ => ⟨S4224x2816, .f32⟩
  | .hbm, ⟨12, _⟩ => ⟨S_, .f32⟩
  | .hbm, ⟨13, _⟩ => ⟨S4224x2816, .f32⟩
  | .hbm, ⟨14, _⟩ => ⟨S4224x2816, .f32⟩
  | .hbm, ⟨15, _⟩ => ⟨S4224x2816, .f32⟩
  | .hbm, ⟨16, _⟩ => ⟨S4224x2816, .f32⟩
  | .hbm, ⟨17, _⟩ => ⟨S4224x2816, .f32⟩
  | .hbm, ⟨18, _⟩ => ⟨S4224x2816, .f32⟩
  | .hbm, ⟨19, _⟩ => ⟨S4224x2816, .f32⟩
  | .hbm, ⟨20, _⟩ => ⟨S4224x2816, .f32⟩
  | .hbm, ⟨21, _⟩ => ⟨S4224x2816, .f32⟩
  | .hbm, ⟨22, _⟩ => ⟨S4224x2816, .f32⟩
  | .hbm, ⟨23, _⟩ => ⟨S4224x2816, .f32⟩
  | .hbm, ⟨24, _⟩ => ⟨S4224x5632, .f32⟩
  | .hbm, ⟨25, _⟩ => ⟨S4224x5632, .bf16⟩
  | _, _ => ⟨S4224x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v2_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v2_1 : Ref sig .tc := ⟨.hbm, 15, rfl⟩
abbrev main_v2_0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_call1_v0 : Ref sig .tc := ⟨.hbm, 20, rfl⟩
abbrev main_call1_v1 : Ref sig .tc := ⟨.hbm, 21, rfl⟩
abbrev main_call1_v2 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩

abbrev nD : Nat := 1
abbrev τ : Topo := Topo.v7x

variable {F : FTy → Type} [FloatOps F]
-- ==== Kernel25.lean ====
abbrev S4224x1024 : Shape := ⟨2, ![4224, 1024]⟩
abbrev S1x1024 : Shape := ⟨2, ![1, 1024]⟩
abbrev S384x1024 : Shape := ⟨2, ![384, 1024]⟩
abbrev S384x1 : Shape := ⟨2, ![384, 1]⟩
abbrev S384 : Shape := ⟨1, ![384]⟩
abbrev S1024 : Shape := ⟨1, ![1024]⟩

abbrev nBuf : Space → Nat
  | .hbm => 6
  | .vmem => 10
  | .smem => 0
  | _ => 0

abbrev bufTy : (tb : Table) → Fin (tcTables nBuf tb) → BufTy
  | .hbm, ⟨0, _⟩ => ⟨S4224x1024, .f32⟩
  | .hbm, ⟨1, _⟩ => ⟨S1x1024, .f32⟩
  | .hbm, ⟨2, _⟩ => ⟨S4224x1024, .f32⟩
  | .hbm, ⟨3, _⟩ => ⟨S4224x1024, .f32⟩
  | .hbm, ⟨4, _⟩ => ⟨S4224x1024, .f32⟩
  | .hbm, ⟨5, _⟩ => ⟨S1x1024, .f32⟩
  | .local _ .vmem, ⟨0, _⟩ => ⟨S384x1024, .f32⟩
  | .local _ .vmem, ⟨1, _⟩ => ⟨S384x1024, .f32⟩
  | .local _ .vmem, ⟨2, _⟩ => ⟨S384x1024, .f32⟩
  | .local _ .vmem, ⟨3, _⟩ => ⟨S384x1024, .f32⟩
  | .local _ .vmem, ⟨4, _⟩ => ⟨S384x1024, .f32⟩
  | .local _ .vmem, ⟨5, _⟩ => ⟨S384x1024, .f32⟩
  | .local _ .vmem, ⟨6, _⟩ => ⟨S1x1024, .f32⟩
  | .local _ .vmem, ⟨7, _⟩ => ⟨S384x1024, .f32⟩
  | .local _ .vmem, ⟨8, _⟩ => ⟨S384x1024, .f32⟩
  | .local _ .vmem, ⟨9, _⟩ => ⟨S1x1024, .f32⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S384x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S384x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S384x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference25Ideal.lean ====
abbrev S4224x1024 : Shape := ⟨2, ![4224, 1024]⟩
abbrev S1x1024 : Shape := ⟨2, ![1, 1024]⟩
abbrev S1024 : Shape := ⟨1, ![1024]⟩
abbrev S_ : Shape := ⟨0, ![]⟩
abbrev S4224 : Shape := ⟨1, ![4224]⟩
abbrev S4224x1 : Shape := ⟨2, ![4224, 1]⟩
abbrev S4112x1024 : Shape := ⟨2, ![4112, 1024]⟩

abbrev nBuf : Space → Nat
  | .hbm => 56
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S1x1024, .f32⟩
  | .hbm, ⟨2, _⟩ => ⟨S4224x1024, .f32⟩
  | .hbm, ⟨3, _⟩ => ⟨S4224x1024, .f32⟩
  | .hbm, ⟨4, _⟩ => ⟨S1024, .f32⟩
  | .hbm, ⟨5, _⟩ => ⟨S4224x1024, .f32⟩
  | .hbm, ⟨6, _⟩ => ⟨S_, .f32⟩
  | .hbm, ⟨7, _⟩ => ⟨S4224, .f32⟩
  | .hbm, ⟨8, _⟩ => ⟨S4224x1, .f32⟩
  | .hbm, ⟨9, _⟩ => ⟨S_, .f32⟩
  | .hbm, ⟨10, _⟩ => ⟨S4224x1, .f32⟩
  | .hbm, ⟨11, _⟩ => ⟨S4224x1, .f32⟩
  | .hbm, ⟨12, _⟩ => ⟨S_, .f32⟩
  | .hbm, ⟨13, _⟩ => ⟨S4224x1, .f32⟩
  | .hbm, ⟨14, _⟩ => ⟨S4224x1, .f32⟩
  | .hbm, ⟨15, _⟩ => ⟨S4224x1, .f32⟩
  | .hbm, ⟨16, _⟩ => ⟨S4224x1, .f32⟩
  | .hbm, ⟨17, _⟩ => ⟨S_, .f32⟩
  | .hbm, ⟨18, _⟩ => ⟨S4224x1, .f32⟩
  | .hbm, ⟨19, _⟩ => ⟨S4224x1, .f32⟩
  | .hbm, ⟨20, _⟩ => ⟨S4224x1024, .f32⟩
  | .hbm, ⟨21, _⟩ => ⟨S4224x1024, .f32⟩
  | .hbm, ⟨22, _⟩ => ⟨S1x1024, .f32⟩
  | .hbm, ⟨23, _⟩ => ⟨S4224x1024, .f32⟩
  | .hbm, ⟨24, _⟩ => ⟨S4224x1024, .f32⟩
  | .hbm, ⟨25, _⟩ => ⟨S4224x1024, .f32⟩
  | .hbm, ⟨26, _⟩ => ⟨S_, .f32⟩
  | .hbm, ⟨27, _⟩ => ⟨S1024, .f32⟩
  | .hbm, ⟨28, _⟩ => ⟨S1x1024, .f32⟩
  | .hbm, ⟨29, _⟩ => ⟨S4224x1024, .f32⟩
  | .hbm, ⟨30, _⟩ => ⟨S4224x1024, .f32⟩
  | .hbm, ⟨31, _⟩ => ⟨S_, .f32⟩
  | .hbm, ⟨32, _⟩ => ⟨S1024, .f32⟩
  | .hbm, ⟨33, _⟩ => ⟨S4224x1024, .f32⟩
  | .hbm, ⟨34, _⟩ => ⟨S_, .f32⟩
  | .hbm, ⟨35, _⟩ => ⟨S4224, .f32⟩
  | .hbm, ⟨36, _⟩ => ⟨S4224x1, .f32⟩
  | .hbm, ⟨37, _⟩ => ⟨S4224x1024, .f32⟩
  | .hbm, ⟨38, _⟩ => ⟨S4224x1024, .f32⟩
  | .hbm, ⟨39, _⟩ => ⟨S4224x1, .f32⟩
  | .hbm, ⟨40, _⟩ => ⟨S_, .f32⟩
  | .hbm, ⟨41, _⟩ => ⟨S4224x1, .f32⟩
  | .hbm, ⟨42, _⟩ => ⟨S4224x1, .f32⟩
  | .hbm, ⟨43, _⟩ => ⟨S_, .f32⟩
  | .hbm, ⟨44, _⟩ => ⟨S4224, .f32⟩
  | .hbm, ⟨45, _⟩ => ⟨S4224x1024, .f32⟩
  | .hbm, ⟨46, _⟩ => ⟨S4224x1024, .f32⟩
  | .hbm, ⟨47, _⟩ => ⟨S4224x1024, .f32⟩
  | .hbm, ⟨48, _⟩ => ⟨S4224x1024, .f32⟩
  | .hbm, ⟨49, _⟩ => ⟨S4224x1024, .f32⟩
  | .hbm, ⟨50, _⟩ => ⟨S4112x1024, .f32⟩
  | .hbm, ⟨51, _⟩ => ⟨S_, .i32⟩
  | .hbm, ⟨52, _⟩ => ⟨S_, .f32⟩
  | .hbm, ⟨53, _⟩ => ⟨S4224x1024, .f32⟩
  | .hbm, ⟨54, _⟩ => ⟨S4224x1024, .f32⟩
  | .hbm, ⟨55, _⟩ => ⟨S1x1024, .f32⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_c : Ref sig .tc := ⟨.hbm, 51, rfl⟩
abbrev main_call0_v0 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩

abbrev nD : Nat := 1
abbrev τ : Topo := Topo.v7x

variable {F : FTy → Type} [FloatOps F]
-- ==== Kernel26.lean ====
abbrev S4224x5632 : Shape := ⟨2, ![4224, 5632]⟩
abbrev S4224x2816 : Shape := ⟨2, ![4224, 2816]⟩
abbrev S384x2816 : Shape := ⟨2, ![384, 2816]⟩

abbrev nBuf : Space → Nat
  | .hbm => 2
  | .vmem => 6
  | .smem => 0
  | _ => 0

abbrev bufTy : (tb : Table) → Fin (tcTables nBuf tb) → BufTy
  | .hbm, ⟨0, _⟩ => ⟨S4224x5632, .f32⟩
  | .hbm, ⟨1, _⟩ => ⟨S4224x2816, .bf16⟩
  | .local _ .vmem, ⟨0, _⟩ => ⟨S384x2816, .f32⟩
  | .local _ .vmem, ⟨1, _⟩ => ⟨S384x2816, .f32⟩
  | .local _ .vmem, ⟨2, _⟩ => ⟨S384x2816, .f32⟩
  | .local _ .vmem, ⟨3, _⟩ => ⟨S384x2816, .f32⟩
  | .local _ .vmem, ⟨4, _⟩ => ⟨S384x2816, .bf16⟩
  | .local _ .vmem, ⟨5, _⟩ => ⟨S384x2816, .bf16⟩
  | _, _ => ⟨S4224x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x2816 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S384x2816 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S384x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference26Ideal.lean ====
abbrev S4224x5632 : Shape := ⟨2, ![4224, 5632]⟩
abbrev S4224x2816 : Shape := ⟨2, ![4224, 2816]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S4224x5632, .f32⟩
  | .hbm, ⟨1, _⟩ => ⟨S4224x2816, .f32⟩
  | .hbm, ⟨2, _⟩ => ⟨S4224x2816, .f32⟩
  | .hbm, ⟨3, _⟩ => ⟨S4224x2816, .f32⟩
  | .hbm, ⟨4, _⟩ => ⟨S4224x2816, .f32⟩
  | .hbm, ⟨5, _⟩ => ⟨S_, .f32⟩
  | .hbm, ⟨6, _⟩ => ⟨S4224x2816, .f32⟩
  | .hbm, ⟨7, _⟩ => ⟨S4224x2816, .f32⟩
  | .hbm, ⟨8, _⟩ => ⟨S_, .f32⟩
  | .hbm, ⟨9, _⟩ => ⟨S4224x2816, .f32⟩
  | .hbm, ⟨10, _⟩ => ⟨S4224x2816, .f32⟩
  | .hbm, ⟨11, _⟩ => ⟨S4224x2816, .f32⟩
  | .hbm, ⟨12, _⟩ => ⟨S4224x2816, .f32⟩
  | .hbm, ⟨13, _⟩ => ⟨S4224x2816, .bf16⟩
  | _, _ => ⟨S4224x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩

abbrev nD : Nat := 1
abbrev τ : Topo := Topo.v7x

variable {F : FTy → Type} [FloatOps F]
-- ==== Kernel27.lean ====
abbrev S4224x6528 : Shape := ⟨2, ![4224, 6528]⟩
abbrev S4224x1024 : Shape := ⟨2, ![4224, 1024]⟩
abbrev S128x3072 : Shape := ⟨2, ![128, 3072]⟩
abbrev S128x1024 : Shape := ⟨2, ![128, 1024]⟩
abbrev S128x1 : Shape := ⟨2, ![128, 1]⟩

abbrev nBuf : Space → Nat
  | .hbm => 5
  | .vmem => 10
  | .smem => 0
  | _ => 0

abbrev bufTy : (tb : Table) → Fin (tcTables nBuf tb) → BufTy
  | .hbm, ⟨0, _⟩ => ⟨S4224x6528, .f32⟩
  | .hbm, ⟨1, _⟩ => ⟨S4224x1024, .f32⟩
  | .hbm, ⟨2, _⟩ => ⟨S4224x1024, .f32⟩
  | .hbm, ⟨3, _⟩ => ⟨S4224x1024, .f32⟩
  | .hbm, ⟨4, _⟩ => ⟨S4224x1024, .bf16⟩
  | .local _ .vmem, ⟨0, _⟩ => ⟨S128x3072, .f32⟩
  | .local _ .vmem, ⟨1, _⟩ => ⟨S128x3072, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .bf16⟩
  | .local _ .vmem, ⟨9, _⟩ => ⟨S128x1024, .bf16⟩
  | _, _ => ⟨S4224x6528, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference27Ideal.lean ====
abbrev S4224x6528 : Shape := ⟨2, ![4224, 6528]⟩
abbrev S4224x1024 : Shape := ⟨2, ![4224, 1024]⟩
abbrev S4224x3072 : Shape := ⟨2, ![4224, 3072]⟩
abbrev S4112x3072 : Shape := ⟨2, ![4112, 3072]⟩
abbrev S4112x1024 : Shape := ⟨2, ![4112, 1024]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S4224x6528, .f32⟩
  | .hbm, ⟨1, _⟩ => ⟨S4224x1024, .f32⟩
  | .hbm, ⟨2, _⟩ => ⟨S4224x1024, .f32⟩
  | .hbm, ⟨3, _⟩ => ⟨S4224x1024, .f32⟩
  | .hbm, ⟨4, _⟩ => ⟨S4224x3072, .f32⟩
  | .hbm, ⟨5, _⟩ => ⟨S4112x3072, .f32⟩
  | .hbm, ⟨6, _⟩ => ⟨S4112x1024, .f32⟩
  | .hbm, ⟨7, _⟩ => ⟨S4112x1024, .f32⟩
  | .hbm, ⟨8, _⟩ => ⟨S4112x1024, .f32⟩
  | .hbm, ⟨9, _⟩ => ⟨S4112x3072, .f32⟩
  | .hbm, ⟨10, _⟩ => ⟨S4112x3072, .f32⟩
  | .hbm, ⟨11, _⟩ => ⟨S_, .f32⟩
  | .hbm, ⟨12, _⟩ => ⟨S4112x3072, .f32⟩
  | .hbm, ⟨13, _⟩ => ⟨S4112x3072, .f32⟩
  | .hbm, ⟨14, _⟩ => ⟨S_, .f32⟩
  | .hbm, ⟨15, _⟩ => ⟨S4112x3072, .f32⟩
  | .hbm, ⟨16, _⟩ => ⟨S4112x3072, .f32⟩
  | .hbm, ⟨17, _⟩ => ⟨S4112x1024, .f32⟩
  | .hbm, ⟨18, _⟩ => ⟨S4112x1024, .f32⟩
  | .hbm, ⟨19, _⟩ => ⟨S4112x1024, .f32⟩
  | .hbm, ⟨20, _⟩ => ⟨S4112x1024, .f32⟩
  | .hbm, ⟨21, _⟩ => ⟨S4112x1024, .f32⟩
  | .hbm, ⟨22, _⟩ => ⟨S4112x1024, .f32⟩
  | .hbm, ⟨23, _⟩ => ⟨S4112x1024, .f32⟩
  | .hbm, ⟨24, _⟩ => ⟨S4112x1024, .f32⟩
  | .hbm, ⟨25, _⟩ => ⟨S4112x1024, .bf16⟩
  | .hbm, ⟨26, _⟩ => ⟨S_, .i32⟩
  | .hbm, ⟨27, _⟩ => ⟨S_, .bf16⟩
  | .hbm, ⟨28, _⟩ => ⟨S4224x1024, .bf16⟩
  | _, _ => ⟨S4224x6528, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_c : Ref sig .tc := ⟨.hbm, 26, rfl⟩
abbrev main_call0_v0 : Ref sig .tc := ⟨.hbm, 27, rfl⟩
abbrev main_v20 : Ref sig .tc := ⟨.hbm, 28, rfl⟩

abbrev nD : Nat := 1
abbrev τ : Topo := Topo.v7x

variable {F : FTy → Type} [FloatOps F]
-- ==== Kernel28.lean ====
abbrev S4224x1024 : Shape := ⟨2, ![4224, 1024]⟩
abbrev S1x1024 : Shape := ⟨2, ![1, 1024]⟩
abbrev S384x1024 : Shape := ⟨2, ![384, 1024]⟩
abbrev S384 : Shape := ⟨1, ![384]⟩
abbrev S384x1 : Shape := ⟨2, ![384, 1]⟩

abbrev nBuf : Space → Nat
  | .hbm => 3
  | .vmem => 5
  | .smem => 0
  | _ => 0

abbrev bufTy : (tb : Table) → Fin (tcTables nBuf tb) → BufTy
  | .hbm, ⟨0, _⟩ => ⟨S4224x1024, .f32⟩
  | .hbm, ⟨1, _⟩ => ⟨S1x1024, .f32⟩
  | .hbm, ⟨2, _⟩ => ⟨S4224x1024, .bf16⟩
  | .local _ .vmem, ⟨0, _⟩ => ⟨S384x1024, .f32⟩
  | .local _ .vmem, ⟨1, _⟩ => ⟨S384x1024, .f32⟩
  | .local _ .vmem, ⟨2, _⟩ => ⟨S1x1024, .f32⟩
  | .local _ .vmem, ⟨3, _⟩ => ⟨S384x1024, .bf16⟩
  | .local _ .vmem, ⟨4, _⟩ => ⟨S384x1024, .bf16⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S384x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference28Ideal.lean ====
abbrev S4224x1024 : Shape := ⟨2, ![4224, 1024]⟩
abbrev S1x1024 : Shape := ⟨2, ![1, 1024]⟩
abbrev S1024 : Shape := ⟨1, ![1024]⟩
abbrev S_ : Shape := ⟨0, ![]⟩
abbrev S4224 : Shape := ⟨1, ![4224]⟩
abbrev S4224x1 : Shape := ⟨2, ![4224, 1]⟩

abbrev nBuf : Space → Nat
  | .hbm => 20
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S1x1024, .f32⟩
  | .hbm, ⟨2, _⟩ => ⟨S1024, .f32⟩
  | .hbm, ⟨3, _⟩ => ⟨S4224x1024, .f32⟩
  | .hbm, ⟨4, _⟩ => ⟨S_, .f32⟩
  | .hbm, ⟨5, _⟩ => ⟨S4224, .f32⟩
  | .hbm, ⟨6, _⟩ => ⟨S4224x1, .f32⟩
  | .hbm, ⟨7, _⟩ => ⟨S_, .f32⟩
  | .hbm, ⟨8, _⟩ => ⟨S4224x1, .f32⟩
  | .hbm, ⟨9, _⟩ => ⟨S4224x1, .f32⟩
  | .hbm, ⟨10, _⟩ => ⟨S_, .f32⟩
  | .hbm, ⟨11, _⟩ => ⟨S4224x1, .f32⟩
  | .hbm, ⟨12, _⟩ => ⟨S4224x1, .f32⟩
  | .hbm, ⟨13, _⟩ => ⟨S4224x1, .f32⟩
  | .hbm, ⟨14, _⟩ => ⟨S4224x1024, .f32⟩
  | .hbm, ⟨15, _⟩ => ⟨S4224x1024, .f32⟩
  | .hbm, ⟨16, _⟩ => ⟨S1x1024, .f32⟩
  | .hbm, ⟨17, _⟩ => ⟨S4224x1024, .f32⟩
  | .hbm, ⟨18, _⟩ => ⟨S4224x1024, .f32⟩
  | .hbm, ⟨19, _⟩ => ⟨S4224x1024, .bf16⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Proof.Finite.lean ====
module
public import proofs.«01_k».proof.Pre_finite
public import Idealize.ShloMosaic.Lib.ReduceAll
public import Idealize.ShloMosaic.Lib.Pipeline.ValueKit
public import Idealize.ShloMosaic.Lib.Pointwise
@[expose] public section
noncomputable section
/-! The precondition read back: every entry of the three arguments is a real number. -/
namespace Cert.Pre_finite
open Idealize.ShloMosaic
variable [Facts]
open Facts

theorem inf_word : (Ideal.ofBits .f32 0x7F800000#32 : EReal) = ⊤ := by
  simp [Ideal.ofBits, Ideal.ieee]

theorem real_of_below (x : EReal) (h : FloatOps.cmpf (F := Ideal) (φ := .f32) .olt (FloatOps.hostAbsf (F := Ideal) (φ := .f32) x) (⊤ : EReal) = 1#1) : x = (x.toReal : EReal) := by
  induction x with
  | bot => simp [FloatOps.cmpf, FloatOps.hostAbsf, Ideal.cmp] at h
  | top => simp [FloatOps.cmpf, FloatOps.hostAbsf, Ideal.cmp] at h
  | coe r => simp

instance : Subsingleton S_.Idx := ⟨fun a b => funext fun d => d.elim0⟩

theorem all_real {s : Shape} (x : FVec Ideal s .f32) {axes : List (Fin s.rank)} (hb : S_.BroadcastsInDim s (![] : Fin 0 → Fin s.rank))
    (hr : s.ReducesTo axes S_) (hu : 0 < S_.numel) (init : IVec S_ 1) (j : S_.Idx)
    (h : Host.reduce IntOp.andi (cmpf .olt (Host.absf x) (broadcastInDim s ![] hb (constant S_ .f32 0x7F800000#32))) init hr hu j = 1#1)
    (i : s.Idx) : x i = ((x i).toReal : EReal) := by
  have e := Host.reduce_andi_all _ init hr hu j h i
  refine real_of_below (x i) ?_
  rw [← inf_word]
  exact e

/-- Where the precondition holds, every entry is a real number. -/
theorem real_of_fn (x0 : FVec Ideal S4112x6528 .f32) (x1 : FVec Ideal S8x4112 .f32) (x2 : FVec Ideal S4112x512 .f32)
    (h : fn x0 x1 x2 = fun _ => 1#1) :
    (∀ i, x0 i = ((x0 i).toReal : EReal)) ∧ (∀ i, x1 i = ((x1 i).toReal : EReal)) ∧ ∀ i, x2 i = ((x2 i).toReal : EReal) := by
  have e := congrFun h (Shape.Idx.first h_S_)
  obtain ⟨e01, e2⟩ := IntOp.andi_eq_one.1 (show IntOp.andi _ _ = 1#1 from e)
  obtain ⟨e0, e1⟩ := IntOp.andi_eq_one.1 (show IntOp.andi _ _ = 1#1 from e01)
  exact ⟨all_real x0 _ _ _ _ _ e0, all_real x1 _ _ _ _ _ e1, all_real x2 _ _ _ _ _ e2⟩

end Cert.Pre_finite
-- ==== Proof.Fox.lean ====
module
public import Idealize.ShloMosaic.Lib.Pipeline.ValueKit
public import Idealize.ShloMosaic.Lib.Pointwise
@[expose] public section
noncomputable section
namespace Cert.Fox
open Idealize.ShloMosaic

/-! ## Padded rows -/

/-- A row of 4224 entries that holds `z` in the first 112 places and then `f`. -/
def padRow (f : Fin 4112 → EReal) (z : EReal) (i : Fin 4224) : EReal :=
  if h : 112 ≤ i.val then f ⟨i.val - 112, by omega⟩ else z

theorem padRow_eq (f : Fin 4112 → EReal) (z : EReal) (i : Fin 4224) :
    (if h : 112 ≤ i.val ∧ i.val - 112 < 4112 then f ⟨i.val - 112, h.2⟩ else z) = padRow f z i := by
  unfold padRow
  by_cases h : 112 ≤ i.val
  · rw [dif_pos ⟨h, by omega⟩, dif_pos h]
  · rw [dif_neg (fun h' => h h'.1), dif_neg h]

/-- The padded place of token `t`. -/
def place (t : Fin 4112) : Fin 4224 := ⟨112 + t.val, by omega⟩

theorem padRow_place (f : Fin 4112 → EReal) (z : EReal) (t : Fin 4112) : padRow f z (place t) = f t := by
  unfold padRow place
  rw [dif_pos (by simp)]
  congr 1
  ext; simp

theorem padRow_low (f : Fin 4112 → EReal) (z : EReal) (i : Fin 4224) (h : i.val < 112) : padRow f z i = z := by
  unfold padRow
  rw [dif_neg (by omega)]

/-- Every padded place is one of the first 112 or a token's. -/
theorem place_cases (i : Fin 4224) : i.val < 112 ∨ ∃ t, i = place t := by
  by_cases h : i.val < 112
  · exact Or.inl h
  · exact Or.inr ⟨⟨i.val - 112, by omega⟩, by ext; simp [place]; omega⟩

theorem coe_sum {ι : Type} (s : Finset ι) (f : ι → ℝ) : ((∑ x ∈ s, f x : ℝ) : EReal) = ∑ x ∈ s, (f x : EReal) := by
  classical
  induction s using Finset.induction_on with
  | empty => simp
  | insert a s ha ih => rw [Finset.sum_insert ha, Finset.sum_insert ha, EReal.coe_add, ih]

theorem sum_pad (T : Fin 4224 → EReal) (h0 : ∀ j : Fin 4224, j.val < 112 → T j = 0) : ∑ j, T j = ∑ t, T (place t) := by
  rw [Fin.sum_univ_add (a := 112) (b := 4112) T, Finset.sum_eq_zero (fun j _ => h0 (Fin.castAdd 4112 j) j.isLt), zero_add]
  rfl

theorem sum_thirds (T : Fin 4224 → EReal) : ∑ j, T j
    = (∑ x : Fin 1408, T ⟨x.val, by omega⟩ + ∑ x : Fin 1408, T ⟨1408 + x.val, by omega⟩) + ∑ x : Fin 1408, T ⟨2816 + x.val, by omega⟩ := by
  rw [Fin.sum_univ_add (a := 2816) (b := 1408) T, Fin.sum_univ_add (a := 1408) (b := 1408) (fun x : Fin 2816 => T (Fin.castAdd 1408 x))]
  rfl

/-- Full key blocks before a query block, the diagonal block, and nothing after it: the sum over all keys. -/
theorem sum_causal (T : Fin 4224 → EReal) (b : ℕ) (hb : b < 3) (f : ℕ → Fin 1408 → EReal) (g : Fin 1408 → EReal)
    (hf : ∀ n (h : n < b) (x : Fin 1408), f n x = T ⟨n * 1408 + x.val, by omega⟩) (hg : ∀ x : Fin 1408, g x = T ⟨b * 1408 + x.val, by omega⟩)
    (hz : ∀ j : Fin 4224, (b + 1) * 1408 ≤ j.val → T j = 0) :
    ∑ n ∈ Finset.range b, ∑ x, f n x + ∑ x, g x = ∑ j, T j := by
  rw [sum_thirds T]
  have hb' : b = 0 ∨ b = 1 ∨ b = 2 := by omega
  rcases hb' with rfl | rfl | rfl
  · rw [Finset.sum_range_zero, zero_add,
      Finset.sum_eq_zero (s := Finset.univ) (f := fun x : Fin 1408 => T ⟨1408 + x.val, by omega⟩) (fun x _ => hz _ (by simp)),
      Finset.sum_eq_zero (s := Finset.univ) (f := fun x : Fin 1408 => T ⟨2816 + x.val, by omega⟩) (fun x _ => hz _ (by simp; omega)), add_zero, add_zero]
    refine Finset.sum_congr rfl fun x _ => (hg x).trans (congrArg T (Fin.ext (by simp)))
  · rw [Finset.sum_range_one,
      Finset.sum_eq_zero (s := Finset.univ) (f := fun x : Fin 1408 => T ⟨2816 + x.val, by omega⟩) (fun x _ => hz _ (by simp)), add_zero]
    refine congrArg₂ _ (Finset.sum_congr rfl fun x _ => (hf 0 (by omega) x).trans (congrArg T (Fin.ext (by simp))))
      (Finset.sum_congr rfl fun x _ => (hg x).trans (congrArg T (Fin.ext (by simp))))
  · rw [Finset.sum_range_succ, Finset.sum_range_one]
    refine congrArg₂ _ (congrArg₂ _ (Finset.sum_congr rfl fun x _ => (hf 0 (by omega) x).trans (congrArg T (Fin.ext (by simp))))
      (Finset.sum_congr rfl fun x _ => (hf 1 (by omega) x).trans (congrArg T (Fin.ext (by simp)))))
      (Finset.sum_congr rfl fun x _ => (hg x).trans (congrArg T (Fin.ext (by simp))))

/-- The columns of head `h` from column `o` on. -/
def col (o : ℕ) (ho : o + 512 ≤ 6528) (P : Fin 4112 → Fin 6528 → ℝ) (h : Fin 8) (n : Fin 4112) (d : Fin 64) : ℝ :=
  P n ⟨o + (h.val * 64 + d.val), by omega⟩

/-- The queries, keys and values of head `h`, and its part of the output's gradient. -/
abbrev qOf (P : Fin 4112 → Fin 6528 → ℝ) (h : Fin 8) : Fin 4112 → Fin 64 → ℝ := col 3584 (by decide) P h
abbrev kOf (P : Fin 4112 → Fin 6528 → ℝ) (h : Fin 8) : Fin 4112 → Fin 64 → ℝ := col 4096 (by decide) P h
abbrev vOf (P : Fin 4112 → Fin 6528 → ℝ) (h : Fin 8) : Fin 4112 → Fin 64 → ℝ := col 4608 (by decide) P h
def gOf (D : Fin 4112 → Fin 512 → ℝ) (h : Fin 8) (n : Fin 4112) (d : Fin 64) : ℝ := D n ⟨h.val * 64 + d.val, by omega⟩

theorem ofBits_bot : (Ideal.ofBits .f32 4286578688#32 : EReal) = ⊥ := by
  simp [Ideal.ofBits, Ideal.ieee]

/-! ## One head over the reals -/

variable (q k v g : Fin 4112 → Fin 64 → ℝ) (c : Fin 4112 → ℝ)

/-- The score of query `i` and key `j`. -/
def sc (i j : Fin 4112) : ℝ := (∑ d, q i d * k j d) * (1 / 8) + c i - c j

/-- The score under the causal mask. -/
def msk (i j : Fin 4112) : EReal := if j.val ≤ i.val then (sc q k c i j : EReal) else ⊥

/-- The largest score of a query. -/
def top (i : Fin 4112) : ℝ := (Finset.fold max ⊥ (fun j => msk q k c i j) Finset.univ).toReal

theorem fold_top (i : Fin 4112) : Finset.fold max ⊥ (fun j => msk q k c i j) Finset.univ = (top q k c i : EReal) := by
  unfold top
  rw [EReal.coe_toReal]
  · refine ne_of_lt ((Finset.fold_max_lt _).mpr ⟨bot_lt_top, fun j _ => ?_⟩)
    unfold msk
    split
    · exact EReal.coe_lt_top _
    · exact bot_lt_top
  · refine ne_of_gt ((Finset.lt_fold_max _).mpr (Or.inr ⟨i, Finset.mem_univ _, ?_⟩))
    unfold msk
    rw [if_pos le_rfl]
    exact EReal.bot_lt_coe _

/-- The exponential of a score under the query's largest. -/
def ex (i j : Fin 4112) : ℝ := if j.val ≤ i.val then Real.exp (sc q k c i j - top q k c i) else 0

theorem exp_msk (i j : Fin 4112) : Ideal.exp (msk q k c i j - (top q k c i : EReal)) = (ex q k c i j : EReal) := by
  unfold msk ex
  by_cases h : j.val ≤ i.val
  · rw [if_pos h, if_pos h, ← EReal.coe_sub, Ideal.exp_coe]
  · rw [if_neg h, if_neg h, EReal.bot_sub]
    simp

/-- The normaliser of a query. -/
def nrm (i : Fin 4112) : ℝ := ∑ j, ex q k c i j

theorem ex_nonneg (i j : Fin 4112) : 0 ≤ ex q k c i j := by
  unfold ex
  split
  · exact (Real.exp_pos _).le
  · exact le_rfl

theorem nrm_pos (i : Fin 4112) : 0 < nrm q k c i :=
  Finset.sum_pos' (fun j _ => ex_nonneg q k c i j) ⟨i, Finset.mem_univ _, by unfold ex; rw [if_pos le_rfl]; exact Real.exp_pos _⟩

/-- The attention weight. -/
def wt (i j : Fin 4112) : ℝ := ex q k c i j / nrm q k c i

/-- The attention's output. -/
def out (i : Fin 4112) (d : Fin 64) : ℝ := ∑ j, v j d * wt q k c i j

/-- The logarithm of the sum of the exponentials of a query's scores. -/
def lse (i : Fin 4112) : ℝ := top q k c i + Real.log (nrm q k c i)

theorem wt_above (i j : Fin 4112) (h : ¬ j.val ≤ i.val) : wt q k c i j = 0 := by
  unfold wt ex
  rw [if_neg h, zero_div]

theorem exp_lse (i j : Fin 4112) : Ideal.exp (msk q k c i j - (lse q k c i : EReal)) = (wt q k c i j : EReal) := by
  by_cases h : j.val ≤ i.val
  · unfold msk wt ex lse
    rw [if_pos h, if_pos h, ← EReal.coe_sub, Ideal.exp_coe, ← sub_sub, Real.exp_sub, Real.exp_log (nrm_pos q k c i)]
  · rw [wt_above q k c i j h]
    unfold msk
    rw [if_neg h, EReal.bot_sub]
    simp

/-- The row sum of the output with its gradient. -/
def del (i : Fin 4112) : ℝ := ∑ d, g i d * out q k v c i d

/-- The gradient of the weight before the softmax's own correction. -/
def dp (i j : Fin 4112) : ℝ := ∑ d, g i d * v j d

/-- The gradient of the score. -/
def ds (i j : Fin 4112) : ℝ := wt q k c i j * (dp v g i j - del q k v g c i)

theorem ds_above (i j : Fin 4112) (h : ¬ j.val ≤ i.val) : ds q k v g c i j = 0 := by
  unfold ds
  rw [wt_above q k c i j h, zero_mul]

theorem del_eq (i : Fin 4112) : del q k v g c i = ∑ j, wt q k c i j * dp v g i j := by
  unfold del out dp
  simp only [Finset.mul_sum]
  rw [Finset.sum_comm]
  refine Finset.sum_congr rfl fun j _ => Finset.sum_congr rfl fun d _ => by ring

/-- The query's gradient. -/
def dq (i : Fin 4112) (d : Fin 64) : ℝ := (∑ j, ds q k v g c i j * k j d) * (1 / 8)

/-- The gradient of the query's running gate. -/
def dcq (i : Fin 4112) : ℝ := ∑ j, ds q k v g c i j

/-- The head and the coordinate of a lane of 512. -/
def headOf (l : Fin 512) : Fin 8 := ⟨l.val / 64, by omega⟩
def dimOf (l : Fin 512) : Fin 64 := ⟨l.val % 64, by omega⟩

/-- The padded gradients of the queries, and of their running gates. -/
def dqPad (P : Fin 4112 → Fin 6528 → ℝ) (C : Fin 8 → Fin 4112 → ℝ) (D : Fin 4112 → Fin 512 → ℝ) (i : Fin 4224) (l : Fin 512) : EReal :=
  padRow (fun n => (dq (qOf P (headOf l)) (kOf P (headOf l)) (vOf P (headOf l)) (gOf D (headOf l)) (C (headOf l)) n (dimOf l) : EReal)) 0 i
def dcqPad (P : Fin 4112 → Fin 6528 → ℝ) (C : Fin 8 → Fin 4112 → ℝ) (D : Fin 4112 → Fin 512 → ℝ) (h : Fin 8) (i : Fin 4224) : EReal :=
  padRow (fun n => (dcq (qOf P h) (kOf P h) (vOf P h) (gOf D h) (C h) n : EReal)) 0 i

theorem eighth : (Ideal.ofBits .f32 1040187392#32 : EReal) = ((1 / 8 : ℝ) : EReal) := by
  simp [Ideal.ofBits, Ideal.ieee]
  rw [← EReal.coe_mul]
  norm_num

/-- The kernel's score gradient of padded query `i` and padded key `j`. -/
def cellPad (i j : Fin 4224) : EReal :=
  Ideal.exp ((if j.val ≤ i.val then ∑ d, padRow (fun n => (q n d : EReal)) 0 i * Ideal.ofBits .f32 1040187392#32 * padRow (fun n => (k n d : EReal)) 0 j
      + padRow (fun n => (c n : EReal)) 0 i - padRow (fun n => (c n : EReal)) ⊤ j else ⊥) - padRow (fun n => (lse q k c n : EReal)) 0 i)
    * (∑ d, padRow (fun n => (g n d : EReal)) 0 i * padRow (fun n => (v n d : EReal)) 0 j
      - ∑ d, padRow (fun n => (g n d : EReal)) 0 i * padRow (fun n => (out q k v c n d : EReal)) 0 i)

theorem cellPad_place (i j : Fin 4112) : cellPad q k v g c (place i) (place j) = (ds q k v g c i j : EReal) := by
  unfold cellPad ds
  simp only [padRow_place, eighth]
  rw [EReal.coe_mul, ← exp_lse]
  congr 1
  · congr 2
    unfold msk sc
    have hp : (place j).val ≤ (place i).val ↔ j.val ≤ i.val := by simp [place]
    by_cases h : j.val ≤ i.val
    · rw [if_pos h, if_pos (hp.mpr h)]
      simp only [← EReal.coe_mul, ← coe_sum, ← EReal.coe_add, ← EReal.coe_sub]
      congr 3
      rw [Finset.sum_mul]
      refine Finset.sum_congr rfl fun d _ => by ring
    · rw [if_neg h, if_neg (fun h' => h (hp.mp h'))]

theorem padRow_real (f : Fin 4112 → ℝ) (i : Fin 4224) : ∃ x : ℝ, padRow (fun n => (f n : EReal)) 0 i = (x : EReal) := by
  rcases place_cases i with h | ⟨t, rfl⟩
  · exact ⟨0, by rw [padRow_low _ _ _ h]; rfl⟩
  · exact ⟨f t, padRow_place _ _ _⟩

theorem mul_real (f : Fin 4224 → Fin 64 → EReal) (hf : ∀ i d, ∃ x : ℝ, f i d = (x : EReal)) :
    ∃ f' : Fin 4224 → Fin 64 → ℝ, ∀ i d, f i d = (f' i d : EReal) :=
  ⟨fun i d => (hf i d).choose, fun i d => (hf i d).choose_spec⟩

theorem cellPad_zero (i j : Fin 4224) (h : i.val < 112 ∨ j.val < 112 ∨ ¬ j.val ≤ i.val) : cellPad q k v g c i j = 0 := by
  obtain ⟨q', hq⟩ := mul_real (fun i d => padRow (fun n => (q n d : EReal)) 0 i) (fun i d => padRow_real _ _)
  obtain ⟨k', hk⟩ := mul_real (fun i d => padRow (fun n => (k n d : EReal)) 0 i) (fun i d => padRow_real _ _)
  obtain ⟨v', hv⟩ := mul_real (fun i d => padRow (fun n => (v n d : EReal)) 0 i) (fun i d => padRow_real _ _)
  obtain ⟨g', hg⟩ := mul_real (fun i d => padRow (fun n => (g n d : EReal)) 0 i) (fun i d => padRow_real _ _)
  obtain ⟨o', ho⟩ := mul_real (fun i d => padRow (fun n => (out q k v c n d : EReal)) 0 i) (fun i d => padRow_real _ _)
  obtain ⟨c', hc⟩ := padRow_real c i
  obtain ⟨l', hl⟩ := padRow_real (lse q k c) i
  unfold cellPad
  simp only [hq, hk, hv, hg, ho, hc, hl, eighth]
  have hs : (if j.val ≤ i.val then ∑ d, (q' i d : EReal) * ((1 / 8 : ℝ) : EReal) * (k' j d : EReal) + (c' : EReal) - padRow (fun n => (c n : EReal)) ⊤ j else ⊥) = ⊥ := by
    by_cases hji : j.val ≤ i.val
    · rw [if_pos hji, padRow_low _ _ j (by omega)]
      simp only [← EReal.coe_mul, ← coe_sum, ← EReal.coe_add]
      exact EReal.sub_top _
    · rw [if_neg hji]
  rw [hs, EReal.bot_sub]
  simp only [← EReal.coe_mul, ← coe_sum, ← EReal.coe_sub]
  simp

end Cert.Fox
end
-- ==== Proof.DqHost.lean ====
module
public import proofs.«01_k».proof.Proof.Gen.KernelIdeal.Value
public import Idealize.ShloMosaic.Lib.Pipeline.ValueKit
public import Idealize.ShloMosaic.Lib.Pointwise
public import Idealize.ShloMosaic.Lib.StableHlo.ReadAt
@[expose] public section
set_option maxRecDepth 16384
noncomputable section
namespace Cert.KernelIdeal.Gen
open Idealize.ShloMosaic Idealize.ShloMosaic.TcCoe Idealize.ShloMosaic.Tactic

/-- The row maxima of the scores. -/
def topOf (x : Vec Ideal S8x4112x4112 .f32) : Vec Ideal S8x4112 .f32 :=
  Host.reduce (FloatOps.maximumf (F := Ideal) (φ := .f32)) x (constant (F := Ideal) S_ .f32 0xFF800000#32) reducesTo_S8x4112x4112_S8x4112_d2 h_S_

/-- The row maxima as a column. -/
def topCol (x : Vec Ideal S8x4112x4112 .f32) : Vec Ideal S8x4112x1 .f32 :=
  broadcastInDim S8x4112x1 ![0, 1] bcast_S8x4112_S8x4112x1_0_1 (topOf x)

/-- The exponentials of the scores under their maxima. -/
def expOf (x : Vec Ideal S8x4112x4112 .f32) : Vec Ideal S8x4112x4112 .f32 :=
  Host.exp (F := Ideal) (φ := .f32) (subf (F := Ideal) (φ := .f32) x (broadcastInDim S8x4112x4112 ![0, 1, 2] bcast_S8x4112x1_S8x4112x4112_0_1_2 (topCol x)))

/-- Their row sums. -/
def sumOf (x : Vec Ideal S8x4112x4112 .f32) : Vec Ideal S8x4112 .f32 :=
  Host.reduceAdd (F := Ideal) (φ := .f32) x (constant S_ .f32 0x00000000#32) reducesTo_S8x4112x4112_S8x4112_d2 h_S_

/-- The row sums as a column. -/
def sumCol (x : Vec Ideal S8x4112x4112 .f32) : Vec Ideal S8x4112x1 .f32 :=
  broadcastInDim S8x4112x1 ![0, 1] bcast_S8x4112_S8x4112x1_0_1 (sumOf (expOf x))

/-- The attention weights. -/
def weightOf (x : Vec Ideal S8x4112x4112 .f32) : Vec Ideal S8x4112x4112 .f32 :=
  Host.divf (F := Ideal) (φ := .f32) (expOf x) (broadcastInDim S8x4112x4112 ![0, 1, 2] bcast_S8x4112x1_S8x4112x4112_0_1_2 (sumCol x))

/-- The attention's output rows. -/
def outOf (a : Vec Ideal S4112x6528 .f32) (x : Vec Ideal S8x4112x4112 .f32) : Vec Ideal S4112x512 .f32 :=
  shapeCast S4112x512 (transpose S4112x8x64 [2, 0, 1] (Host.dotGeneral (F := Ideal) (φ₁ := .f32) (φ₂ := .f32) dot_S4112x8x64_S8x4112x4112_S8x64x4112_0_2_2_1_1_0 none
    (shapeCast S4112x8x64 (extractStridedSlice S4112x512 ![0, 4608] a slices_S4112x6528_S4112x512_0_4608) shapeCasts_S4112x512_S4112x8x64) (weightOf x))
    transposes_S8x64x4112_S4112x8x64_2_0_1) shapeCasts_S4112x8x64_S4112x512

/-- The logarithm of the weights' normaliser. -/
def lseOf (x : Vec Ideal S8x4112x4112 .f32) : Vec Ideal S8x4112x1 .f32 :=
  addf (F := Ideal) (φ := .f32) (topCol x) (Host.log (F := Ideal) (φ := .f32) (sumCol x))

theorem topOf_at (x : Vec Ideal S8x4112x4112 .f32) (h : Fin 8) (i : Fin 4112) :
    topOf x (ix2 h i) = Finset.fold max (Ideal.ofBits .f32 4286578688#32) (fun j : Fin 4112 => x (ix3 h i j)) Finset.univ := by
  unfold topOf
  pointwise

theorem topCol_at (x : Vec Ideal S8x4112x4112 .f32) (h : Fin 8) (i : Fin 4112) : topCol x (ix3 h i 0) = topOf x (ix2 h i) := by
  unfold topCol
  pointwise

theorem expOf_at (x : Vec Ideal S8x4112x4112 .f32) (h : Fin 8) (i j : Fin 4112) :
    expOf x (ix3 h i j) = Ideal.exp (x (ix3 h i j) - topOf x (ix2 h i)) := by
  unfold expOf
  pointwise
  rw [topCol_at]

theorem sumOf_at (x : Vec Ideal S8x4112x4112 .f32) (h : Fin 8) (i : Fin 4112) : sumOf x (ix2 h i) = ∑ j, x (ix3 h i j) := by
  unfold sumOf
  pointwise

theorem sumCol_at (x : Vec Ideal S8x4112x4112 .f32) (h : Fin 8) (i : Fin 4112) : sumCol x (ix3 h i 0) = ∑ j, expOf x (ix3 h i j) := by
  unfold sumCol
  pointwise
  rw [sumOf_at]

theorem weightOf_at (x : Vec Ideal S8x4112x4112 .f32) (h : Fin 8) (i j : Fin 4112) :
    weightOf x (ix3 h i j) = Ideal.div (expOf x (ix3 h i j)) (∑ j, expOf x (ix3 h i j)) := by
  unfold weightOf
  pointwise
  rw [sumCol_at]

theorem outOf_at (a : Vec Ideal S4112x6528 .f32) (x : Vec Ideal S8x4112x4112 .f32) (h : Fin 8) (i : Fin 4112) (d : Fin 64) :
    outOf a x (ix2 i ⟨h.val * 64 + d.val, by omega⟩)
      = ∑ j : Fin 4112, a (ix2 j ⟨4608 + (h.val * 64 + d.val), by omega⟩) * weightOf x (ix3 h i j) := by
  unfold outOf
  pointwise

theorem add_log (A B : Vec Ideal S8x4112x1 .f32) (k : S8x4112x1.Idx) :
    addf (F := Ideal) (φ := .f32) A (Host.log (F := Ideal) (φ := .f32) B) k = (A k + Ideal.log (B k) : EReal) := rfl

theorem lseOf_at (x : Vec Ideal S8x4112x4112 .f32) (h : Fin 8) (i : Fin 4112) :
    lseOf x (ix3 h i 0) = topOf x (ix2 h i) + Ideal.log (∑ j, expOf x (ix3 h i j)) := by
  rw [← topCol_at, ← sumCol_at]
  exact add_log _ _ _

theorem after_two (l₁ l₂ : List (HloOp τ sig (Elt Ideal))) (U : Valuation τ sig (Elt Ideal)) :
    StableHlo.after (l₁ ++ l₂) U = StableHlo.after l₂ (StableHlo.after l₁ U) := by
  induction l₁ generalizing U with
  | nil => rfl
  | cons op l ih => exact ih _

/-- The score of query `i` and key `j` as the host computes it. -/
def scoreE (a : Vec Ideal S4112x6528 .f32) (b : Vec Ideal S8x4112 .f32) (h : Fin 8) (i j : Fin 4112) : EReal :=
  if j.val ≤ i.val then (∑ d : Fin 64, a (ix2 i ⟨3584 + (h.val * 64 + d.val), by omega⟩) * a (ix2 j ⟨4096 + (h.val * 64 + d.val), by omega⟩)) * Ideal.ofBits .f32 1040187392#32
      + b (ix2 h i) - b (ix2 h j) else ⊥

theorem select_le (j i : Fin 4112) {α : Type} (A B : α) :
    Scalar.select (IntOp.cmpi .sle (BitVec.ofNat 32 j.val) (BitVec.ofNat 32 i.val)) A B = if j.val ≤ i.val then A else B := by
  unfold Scalar.select
  rw [WordCmp.cmpi_sle_ofNat (by have := j.isLt; omega) (by have := i.isLt; omega)]
  by_cases h : j.val ≤ i.val <;> simp [h]

theorem minus_inf : (constant (F := Ideal) S_ .f32 4286578688#32 ix0 : EReal) = ⊥ := by
  show Ideal.ofBits .f32 4286578688#32 = ⊥
  simp [Ideal.ofBits, Ideal.ieee]

theorem score_read (U : Valuation τ sig (Elt Ideal)) (h : Fin 8) (i j : Fin 4112) :
    (StableHlo.after (hostOps0_1 (F := Ideal)) (StableHlo.after (hostOps0 (F := Ideal)) U)) (Proc.tc.devRef main_v19) (ix3 h i j)
      = scoreE (U (Proc.tc.devRef main_arg0)) (U (Proc.tc.devRef main_arg1)) h i j := by
  after_reads_at
  unfold scoreE
  rw [select_le, ← minus_inf]
  rfl

theorem out_read (U : Valuation τ sig (Elt Ideal)) :
    (StableHlo.after (hostOps0_2 (F := Ideal)) U) (Proc.tc.devRef main_v33) = outOf (U (Proc.tc.devRef main_arg0)) (U (Proc.tc.devRef main_v19)) := by
  after_reads_simp
  rfl

theorem lse_read (U : Valuation τ sig (Elt Ideal)) :
    (StableHlo.after (hostOps0_2 (F := Ideal)) U) (Proc.tc.devRef main_v35) = lseOf (U (Proc.tc.devRef main_v19)) := by
  after_reads_simp
  rfl

end Cert.KernelIdeal.Gen
end
-- ==== Proof.DqPads.lean ====
module
public import proofs.«01_k».proof.Proof.Gen.KernelIdeal.Value
public import proofs.«01_k».proof.Proof.Fox
public import proofs.«01_k».proof.Proof.DqHost
public import Idealize.ShloMosaic.Lib.Pipeline.ValueKit
public import Idealize.ShloMosaic.Lib.Pointwise
public import Idealize.ShloMosaic.Lib.StableHlo.ReadAt
@[expose] public section
set_option maxRecDepth 16384
noncomputable section
namespace Cert.KernelIdeal.Gen
open Idealize.ShloMosaic Idealize.ShloMosaic.TcCoe Idealize.ShloMosaic.Tactic

open Cert.Fox
variable (m : (ℓ : Loc nD τ sig) → Buf (Elt Ideal) ℓ)

theorem zero_word : (FloatOps.sitofp (F := Ideal) .f32 (0#32 : BitVec 32) : EReal) = 0 := by
  show ((((0#32 : BitVec 32).toInt : ℝ)) : EReal) = 0
  simp

theorem plus_inf (k : S_.Idx) : (constant (F := Ideal) S_ .f32 2139095040#32 k : EReal) = ⊤ := by
  show Ideal.ofBits .f32 2139095040#32 = ⊤
  simp [Ideal.ofBits, Ideal.ieee]

/-- The projections, the running log gates and the output's gradient. -/
def projOf (c : Dev nD) : Vec Ideal S4112x6528 .f32 := m ((c : Thread nD τ).loc main_arg0)
def cumOf (c : Dev nD) : Vec Ideal S8x4112 .f32 := m ((c : Thread nD τ).loc main_arg1)
def gradOf (c : Dev nD) : Vec Ideal S4112x512 .f32 := m ((c : Thread nD τ).loc main_arg2)

/-- The buffers after the scores are computed, and after the forward pass. -/
def atScores (c : Dev nD) : Valuation τ sig (Elt Ideal) :=
  StableHlo.after (hostOps0_1 (F := Ideal)) (StableHlo.after (hostOps0 (F := Ideal)) (fun b => m (c, b)))
def atSaved (c : Dev nD) : Valuation τ sig (Elt Ideal) := StableHlo.after (hostOps0_2 (F := Ideal)) (atScores m c)

/-- The masked scores. -/
def scoresOf (c : Dev nD) : Vec Ideal S8x4112x4112 .f32 := atScores m c (Proc.tc.devRef main_v19)

theorem scoresOf_at (c : Dev nD) (h : Fin 8) (i j : Fin 4112) : scoresOf m c (ix3 h i j) = scoreE (projOf m c) (cumOf m c) h i j :=
  score_read _ h i j

theorem atScores_arg0 (c : Dev nD) : atScores m c (Proc.tc.devRef main_arg0) = projOf m c := by unfold atScores; after_reads_simp; rfl
theorem atScores_arg1 (c : Dev nD) : atScores m c (Proc.tc.devRef main_arg1) = cumOf m c := by unfold atScores; after_reads_simp; rfl
theorem atScores_arg2 (c : Dev nD) : atScores m c (Proc.tc.devRef main_arg2) = gradOf m c := by unfold atScores; after_reads_simp; rfl
theorem atSaved_arg0 (c : Dev nD) : atSaved m c (Proc.tc.devRef main_arg0) = projOf m c := by rw [← atScores_arg0]; unfold atSaved; generalize atScores m c = U; after_reads_simp
theorem atSaved_arg1 (c : Dev nD) : atSaved m c (Proc.tc.devRef main_arg1) = cumOf m c := by rw [← atScores_arg1]; unfold atSaved; generalize atScores m c = U; after_reads_simp
theorem atSaved_arg2 (c : Dev nD) : atSaved m c (Proc.tc.devRef main_arg2) = gradOf m c := by rw [← atScores_arg2]; unfold atSaved; generalize atScores m c = U; after_reads_simp
theorem atSaved_out (c : Dev nD) : atSaved m c (Proc.tc.devRef main_v33) = outOf (projOf m c) (scoresOf m c) := by
  unfold atSaved scoresOf; rw [out_read, atScores_arg0]
theorem atSaved_lse (c : Dev nD) : atSaved m c (Proc.tc.devRef main_v35) = lseOf (scoresOf m c) := by
  unfold atSaved scoresOf; rw [lse_read]

theorem atSaved_zero (c : Dev nD) : atSaved m c (Proc.tc.devRef main_c) = (constantI S_ 32 0#32 : Vec Ideal S_ .i32) := by unfold atSaved; generalize atScores m c = U; after_reads_simp

theorem V_rest (c : Dev nD) (b : Ref sig .tc) : V m c b = StableHlo.after (hostOps0_3 (F := Ideal) ++ hostOps0_4 (F := Ideal) ++ hostOps0_5 (F := Ideal) ++ hostOps0_6 (F := Ideal) ++ hostOps0_7 (F := Ideal) ++ hostOps0_8 (F := Ideal) ++ hostOps0_9 (F := Ideal) ++ hostOps0_10 (F := Ideal) ++ hostOps0_11 (F := Ideal) ++ hostOps0_12 (F := Ideal) ++ hostOps0_13 (F := Ideal)) (atSaved m c) (Proc.tc.devRef b) := by
  unfold atSaved atScores
  rw [← after_two, ← after_two, ← after_two]
  rfl

theorem V0 (c : Dev nD) (i : Fin 4224) (l : Fin 6528) :
    (V m c (Pipeline.arrRef spec0 0) (ix2 i l) : EReal) = padRow (fun n => projOf m c (ix2 n l)) 0 i := by
  rw [← atSaved_arg0 m c, V_rest m c]
  have hz := atSaved_zero m c
  generalize atSaved m c = U at hz ⊢
  after_reads_at
  rw [hz]
  pointwise
  simp only [minus_inf, plus_inf, zero_word, id_eq]
  exact padRow_eq (fun n => U (Proc.tc.devRef main_arg0) (ix2 n l)) 0 i

theorem V3 (c : Dev nD) (h : Fin 8) (i : Fin 4224) :
    (V m c (Pipeline.arrRef spec0 3) (ix3 h i 0) : EReal) = padRow (fun n => cumOf m c (ix2 h n)) 0 i := by
  rw [← atSaved_arg1 m c, V_rest m c]
  generalize atSaved m c = U
  after_reads_at
  simp only [minus_inf, plus_inf, zero_word, id_eq]
  exact padRow_eq (fun n => U (Proc.tc.devRef main_arg1) (ix2 h n)) 0 i

theorem V4 (c : Dev nD) (h : Fin 8) (n : Fin 3) (x : Fin 1408) :
    (V m c (Pipeline.arrRef spec0 4) (ix4 h n 0 x) : EReal) = padRow (fun n => cumOf m c (ix2 h n)) ⊤ ⟨n.val * 1408 + x.val, by omega⟩ := by
  rw [← atSaved_arg1 m c, V_rest m c]
  generalize atSaved m c = U
  after_reads_at
  simp only [minus_inf, plus_inf, zero_word, id_eq]
  exact padRow_eq (fun n => U (Proc.tc.devRef main_arg1) (ix2 h n)) ⊤ ⟨n.val * 1408 + x.val, by omega⟩

theorem V5 (c : Dev nD) (i : Fin 4224) (l : Fin 512) :
    (V m c (Pipeline.arrRef spec0 5) (ix2 i l) : EReal) = padRow (fun n => outOf (projOf m c) (scoresOf m c) (ix2 n l)) 0 i := by
  rw [← atSaved_out m c, V_rest m c]
  generalize atSaved m c = U
  after_reads_at
  simp only [minus_inf, plus_inf, zero_word, id_eq]
  exact padRow_eq (fun n => U (Proc.tc.devRef main_v33) (ix2 n l)) 0 i

theorem V6 (c : Dev nD) (h : Fin 8) (i : Fin 4224) :
    (V m c (Pipeline.arrRef spec0 6) (ix3 h i 0) : EReal) = padRow (fun n => lseOf (scoresOf m c) (ix3 h n 0)) 0 i := by
  rw [← atSaved_lse m c, V_rest m c]
  generalize atSaved m c = U
  after_reads_at
  simp only [minus_inf, plus_inf, zero_word, id_eq]
  exact padRow_eq (fun n => U (Proc.tc.devRef main_v35) (ix3 h n 0)) 0 i

theorem V7 (c : Dev nD) (i : Fin 4224) (l : Fin 512) :
    (V m c (Pipeline.arrRef spec0 7) (ix2 i l) : EReal) = padRow (fun n => gradOf m c (ix2 n l)) 0 i := by
  rw [← atSaved_arg2 m c, V_rest m c]
  generalize atSaved m c = U
  after_reads_at
  simp only [minus_inf, plus_inf, zero_word, id_eq]
  exact padRow_eq (fun n => U (Proc.tc.devRef main_arg2) (ix2 n l)) 0 i

end Cert.KernelIdeal.Gen
end
-- ==== Proof.DqFwd.lean ====
module
public import proofs.«01_k».proof.Proof.DqPads
@[expose] public section
set_option maxRecDepth 16384
noncomputable section
namespace Cert.KernelIdeal.Gen
open Idealize.ShloMosaic Idealize.ShloMosaic.TcCoe Idealize.ShloMosaic.Tactic
open Cert.Fox
variable (m : (ℓ : Loc nD τ sig) → Buf (Elt Ideal) ℓ) (c : Dev nD)
  (P : Fin 4112 → Fin 6528 → ℝ) (C : Fin 8 → Fin 4112 → ℝ) (D : Fin 4112 → Fin 512 → ℝ)

/-- The arguments are the real arrays `P`, `C` and `D`. -/
structure Reals : Prop where
  proj : ∀ n l, projOf m c (ix2 n l) = (P n l : EReal)
  cum : ∀ h n, cumOf m c (ix2 h n) = (C h n : EReal)
  grad : ∀ n l, gradOf m c (ix2 n l) = (D n l : EReal)

variable {m c P C D} (H : Reals m c P C D)
include H

theorem scores_eq (h : Fin 8) (i j : Fin 4112) : scoresOf m c (ix3 h i j) = msk (qOf P h) (kOf P h) (C h) i j := by
  rw [scoresOf_at]
  unfold scoreE msk sc
  simp only [H.proj, H.cum, eighth]
  by_cases hji : j.val ≤ i.val
  · rw [if_pos hji, if_pos hji]
    simp only [← EReal.coe_mul, ← coe_sum, ← EReal.coe_add, ← EReal.coe_sub]
    rfl
  · rw [if_neg hji, if_neg hji]

theorem top_eq (h : Fin 8) (i : Fin 4112) : topOf (scoresOf m c) (ix2 h i) = (top (qOf P h) (kOf P h) (C h) i : EReal) := by
  rw [topOf_at, ← fold_top, ofBits_bot]
  simp only [scores_eq H]

theorem exp_eq (h : Fin 8) (i j : Fin 4112) : expOf (scoresOf m c) (ix3 h i j) = (ex (qOf P h) (kOf P h) (C h) i j : EReal) := by
  rw [expOf_at, top_eq H, scores_eq H, exp_msk]

theorem sum_eq (h : Fin 8) (i : Fin 4112) : (∑ j, expOf (scoresOf m c) (ix3 h i j)) = (nrm (qOf P h) (kOf P h) (C h) i : EReal) := by
  unfold nrm
  rw [coe_sum]
  exact Finset.sum_congr rfl fun j _ => exp_eq H h i j

theorem weight_eq (h : Fin 8) (i j : Fin 4112) : weightOf (scoresOf m c) (ix3 h i j) = (wt (qOf P h) (kOf P h) (C h) i j : EReal) := by
  rw [weightOf_at, exp_eq H, sum_eq H, Ideal.div_coe (nrm_pos _ _ _ _).ne', ← EReal.coe_mul]
  unfold wt
  rw [mul_one_div]

theorem out_eq (h : Fin 8) (i : Fin 4112) (d : Fin 64) :
    outOf (projOf m c) (scoresOf m c) (ix2 i ⟨h.val * 64 + d.val, by omega⟩) = (out (qOf P h) (kOf P h) (vOf P h) (C h) i d : EReal) := by
  rw [outOf_at]
  unfold out
  rw [coe_sum]
  refine Finset.sum_congr rfl fun j _ => ?_
  rw [weight_eq H, H.proj, EReal.coe_mul]
  rfl

theorem lse_eq (h : Fin 8) (i : Fin 4112) : lseOf (scoresOf m c) (ix3 h i 0) = (lse (qOf P h) (kOf P h) (C h) i : EReal) := by
  rw [lseOf_at, top_eq H, sum_eq H, Ideal.log_coe, if_neg (not_le.mpr (nrm_pos _ _ _ _)), ← EReal.coe_add]
  rfl

end Cert.KernelIdeal.Gen
end
-- ==== Proof.DqBlock.lean ====
module
public import proofs.«01_k».proof.Proof.Gen.KernelIdeal.Value
public import Idealize.ShloMosaic.Lib.Pipeline.ValueKit
public import Idealize.ShloMosaic.Lib.Pointwise
public import Idealize.ShloMosaic.Lib.LoopRemainder
@[expose] public section
set_option maxRecDepth 16384
noncomputable section
namespace Cert.KernelIdeal.Gen
open Idealize.ShloMosaic Idealize.ShloMosaic.TcCoe Idealize.ShloMosaic.Tactic
open Idealize.ShloMosaic.Pipeline (Dat Cfg Window BodyObligation cellOf)

theorem trips1 : ∀ i : grid0.Coords, (k0_t1_loop i).trips = (i 1).val := by decide +kernel
theorem trips1_lt : ∀ (i : grid0.Coords) (k : Fin (k0_t1_loop i).trips), k.val < 3 := by decide +kernel
theorem offd : ∀ i : grid0.Coords, BitVec.toNat (Scalar.indexCast (Scalar.muli (BitVec.ofNat 32 ↑(i 1)) 1408#32)) = (i 1).val * 1408 := by decide +kernel
theorem offe : ∀ i : grid0.Coords, BitVec.toNat (Scalar.indexCast (BitVec.ofNat 32 ↑(i 1))) = (i 1).val := by decide +kernel
theorem qi_lt : ∀ i : grid0.Coords, (i 1).val < 3 := by decide +kernel
theorem trips2 : ∀ i : grid0.Coords, (k0_t2_loop i).trips = 0 := by decide +kernel
theorem off1 : ∀ (i : grid0.Coords) (k : Fin (k0_t1_loop i).trips), k0_off1 i k = ![k.val * 1408, 0] := by decide +kernel
theorem off2 : ∀ (i : grid0.Coords) (k : Fin (k0_t1_loop i).trips), k0_off2 i k = ![0, k.val, 0, 0] := by decide +kernel

/-- Row `n * 1408 + x` of a whole column array, zero past its end. -/
def rowOf (x1 : Vec Ideal S4224x128 .f32) (n : ℕ) (x : Fin 1408) (l : Fin 128) : EReal :=
  if h : n * 1408 + x.val < 4224 then x1 (ix2 ⟨n * 1408 + x.val, h⟩ l) else 0

/-- Entry `x` of key block `n` of head `e`'s decay row, zero past the last block. -/
def decayOf (x4 : Vec Ideal S2x3x1x1408 .f32) (e : Fin 2) (n : ℕ) (x : Fin 1408) : EReal :=
  if h : n < 3 then x4 (ix4 e ⟨n, h⟩ 0 x) else 0

/-- The score gradient of one query row against one key, the causal test being `ok`. -/
def cell (ok : Prop) [Decidable ok] (q d : Fin 128 → EReal) (cq lse dl : EReal) (ck : EReal) (k v : Fin 128 → EReal) : EReal :=
  Ideal.exp ((if ok then ∑ a, q a * k a + cq - ck else ⊥) - lse) * (∑ a, d a * v a - dl)

theorem trip1 (c : Dev nD) (i : grid0.Coords) (arg2 : Memref sig .tc .vmem S1408x128 .f32) (harg2 : arg2.IsWhole) (arg3 : Memref sig .tc .vmem S4224x128 .f32) (harg3 : arg3.IsWhole) (arg4 : Memref sig .tc .vmem S4224x128 .f32) (harg4 : arg4.IsWhole) (arg5 : Memref sig .tc .vmem S2x1408x1 .f32) (harg5 : arg5.IsWhole) (arg6 : Memref sig .tc .vmem S2x3x1x1408 .f32) (harg6 : arg6.IsWhole) (arg7 : Memref sig .tc .vmem S1408x128 .f32) (harg7 : arg7.IsWhole) (arg8 : Memref sig .tc .vmem S2x1408x1 .f32) (harg8 : arg8.IsWhole) (arg9 : Memref sig .tc .vmem S1408x128 .f32) (harg9 : arg9.IsWhole) (arg10 : Memref sig .tc .vmem S1408x128 .f32) (harg10 : arg10.IsWhole) (arg11 : Memref sig .tc .vmem S2x1408x1 .f32) (harg11 : arg11.IsWhole) (arg12 : Memref sig .tc .vmem S2x1408x1 .f32) (harg12 : arg12.IsWhole) (arg1 : BitVec 32) (v2 : Vec Ideal S1x128 .i1) (v11 v16 : Vec Ideal S1408x128 .bf16) (v18 : Vec Ideal S1408x128 .f32) (v27 v33 : Vec Ideal S1408x1 .f32) (v38 : Vec Ideal S1408x128 .bf16) (v40 : Vec Ideal S1408x128 .i1) (v41 : Vec Ideal S1408x128 .f32) (v44 v46 v48 v50 : Vec Ideal S1x1408x1 .f32) (x0 : Vec Ideal S1408x128 .f32) (x1 : Vec Ideal S4224x128 .f32) (x2 : Vec Ideal S4224x128 .f32) (x3 : Vec Ideal S2x1408x1 .f32) (x4 : Vec Ideal S2x3x1x1408 .f32) (x5 : Vec Ideal S1408x128 .f32) (x6 : Vec Ideal S2x1408x1 .f32) (x7 : Vec Ideal S1408x128 .f32) (k : Fin (k0_t1_loop i).trips) (acc : Vec Ideal S1408x128 .f32 × Vec Ideal S1408x1 .f32 × Vec Ideal S1408x1 .f32) (r : Fin 1408) (l : Fin 128) :
    (tripR_k0_t1 (F := Ideal) Variants.none c none i arg2 harg2 arg3 harg3 arg4 harg4 arg5 harg5 arg6 harg6 arg7 harg7 arg8 harg8 arg9 harg9 arg10 harg10 arg11 harg11 arg12 harg12 arg1 v2 v11 v16 v18 v27 v33 v38 v40 v41 v44 v46 v48 v50 (harg3.unread x1) (harg4.unread x2) (harg6.unread x4) k acc).1 (ix2 r l) = acc.1 (ix2 r l) + Scalar.select (v2 (ix2 0 l)) (∑ x, cell True (fun a => v11 (ix2 r a)) (fun a => v38 (ix2 r a)) (v44 (ix3 0 r 0)) (v48 (ix3 0 r 0)) (v27 (ix2 r 0)) (decayOf x4 0 k.val x) (rowOf x1 k.val x) (rowOf x2 k.val x) * rowOf x1 k.val x l) (∑ x, cell True (fun a => v16 (ix2 r a)) (fun a => Scalar.select (v40 (ix2 r a)) (v41 (ix2 r a)) (v18 (ix2 r a))) (v46 (ix3 0 r 0)) (v50 (ix3 0 r 0)) (v33 (ix2 r 0)) (decayOf x4 1 k.val x) (rowOf x1 k.val x) (rowOf x2 k.val x) * rowOf x1 k.val x l) := by
  have hk := trips1_lt i k
  have hx : ∀ x : Fin 1408, k.val * 1408 + x.val < 4224 := fun x => by have := x.isLt; omega
  have e1 := congrFun (off1 i k) 0
  have e2 := congrFun (off2 i k) 1
  dsimp [k0_off1] at e1
  dsimp [k0_off2] at e2
  unfold cell rowOf decayOf
  simp only [hk, hx, dif_pos, if_true]
  unfold tripR_k0_t1
  unfold trip_k0_t1
  dsimp only
  sl_unfold_words
  simp only [View.readAt_eq_ld, Memref.IsWhole.read_unread]
  unfold_payloads
  pointwise
  simp only [e1, e2]
theorem trip2 (c : Dev nD) (i : grid0.Coords) (arg2 : Memref sig .tc .vmem S1408x128 .f32) (harg2 : arg2.IsWhole) (arg3 : Memref sig .tc .vmem S4224x128 .f32) (harg3 : arg3.IsWhole) (arg4 : Memref sig .tc .vmem S4224x128 .f32) (harg4 : arg4.IsWhole) (arg5 : Memref sig .tc .vmem S2x1408x1 .f32) (harg5 : arg5.IsWhole) (arg6 : Memref sig .tc .vmem S2x3x1x1408 .f32) (harg6 : arg6.IsWhole) (arg7 : Memref sig .tc .vmem S1408x128 .f32) (harg7 : arg7.IsWhole) (arg8 : Memref sig .tc .vmem S2x1408x1 .f32) (harg8 : arg8.IsWhole) (arg9 : Memref sig .tc .vmem S1408x128 .f32) (harg9 : arg9.IsWhole) (arg10 : Memref sig .tc .vmem S1408x128 .f32) (harg10 : arg10.IsWhole) (arg11 : Memref sig .tc .vmem S2x1408x1 .f32) (harg11 : arg11.IsWhole) (arg12 : Memref sig .tc .vmem S2x1408x1 .f32) (harg12 : arg12.IsWhole) (arg1 : BitVec 32) (v2 : Vec Ideal S1x128 .i1) (v11 v16 : Vec Ideal S1408x128 .bf16) (v18 : Vec Ideal S1408x128 .f32) (v27 v33 : Vec Ideal S1408x1 .f32) (v38 : Vec Ideal S1408x128 .bf16) (v40 : Vec Ideal S1408x128 .i1) (v41 : Vec Ideal S1408x128 .f32) (v44 v46 v48 v50 : Vec Ideal S1x1408x1 .f32) (x0 : Vec Ideal S1408x128 .f32) (x1 : Vec Ideal S4224x128 .f32) (x2 : Vec Ideal S4224x128 .f32) (x3 : Vec Ideal S2x1408x1 .f32) (x4 : Vec Ideal S2x3x1x1408 .f32) (x5 : Vec Ideal S1408x128 .f32) (x6 : Vec Ideal S2x1408x1 .f32) (x7 : Vec Ideal S1408x128 .f32) (k : Fin (k0_t1_loop i).trips) (acc : Vec Ideal S1408x128 .f32 × Vec Ideal S1408x1 .f32 × Vec Ideal S1408x1 .f32) (r : Fin 1408) (l : Fin 128) :
    (tripR_k0_t1 (F := Ideal) Variants.none c none i arg2 harg2 arg3 harg3 arg4 harg4 arg5 harg5 arg6 harg6 arg7 harg7 arg8 harg8 arg9 harg9 arg10 harg10 arg11 harg11 arg12 harg12 arg1 v2 v11 v16 v18 v27 v33 v38 v40 v41 v44 v46 v48 v50 (harg3.unread x1) (harg4.unread x2) (harg6.unread x4) k acc).2.1 (ix2 r 0) = acc.2.1 (ix2 r 0) + ∑ x, cell True (fun a => v11 (ix2 r a)) (fun a => v38 (ix2 r a)) (v44 (ix3 0 r 0)) (v48 (ix3 0 r 0)) (v27 (ix2 r 0)) (decayOf x4 0 k.val x) (rowOf x1 k.val x) (rowOf x2 k.val x) := by
  have hk := trips1_lt i k
  have hx : ∀ x : Fin 1408, k.val * 1408 + x.val < 4224 := fun x => by have := x.isLt; omega
  have e1 := congrFun (off1 i k) 0
  have e2 := congrFun (off2 i k) 1
  dsimp [k0_off1] at e1
  dsimp [k0_off2] at e2
  unfold cell rowOf decayOf
  simp only [hk, hx, dif_pos, if_true]
  unfold tripR_k0_t1
  unfold trip_k0_t1
  dsimp only
  sl_unfold_words
  simp only [View.readAt_eq_ld, Memref.IsWhole.read_unread]
  unfold_payloads
  pointwise
  simp only [e1, e2]
theorem trip3 (c : Dev nD) (i : grid0.Coords) (arg2 : Memref sig .tc .vmem S1408x128 .f32) (harg2 : arg2.IsWhole) (arg3 : Memref sig .tc .vmem S4224x128 .f32) (harg3 : arg3.IsWhole) (arg4 : Memref sig .tc .vmem S4224x128 .f32) (harg4 : arg4.IsWhole) (arg5 : Memref sig .tc .vmem S2x1408x1 .f32) (harg5 : arg5.IsWhole) (arg6 : Memref sig .tc .vmem S2x3x1x1408 .f32) (harg6 : arg6.IsWhole) (arg7 : Memref sig .tc .vmem S1408x128 .f32) (harg7 : arg7.IsWhole) (arg8 : Memref sig .tc .vmem S2x1408x1 .f32) (harg8 : arg8.IsWhole) (arg9 : Memref sig .tc .vmem S1408x128 .f32) (harg9 : arg9.IsWhole) (arg10 : Memref sig .tc .vmem S1408x128 .f32) (harg10 : arg10.IsWhole) (arg11 : Memref sig .tc .vmem S2x1408x1 .f32) (harg11 : arg11.IsWhole) (arg12 : Memref sig .tc .vmem S2x1408x1 .f32) (harg12 : arg12.IsWhole) (arg1 : BitVec 32) (v2 : Vec Ideal S1x128 .i1) (v11 v16 : Vec Ideal S1408x128 .bf16) (v18 : Vec Ideal S1408x128 .f32) (v27 v33 : Vec Ideal S1408x1 .f32) (v38 : Vec Ideal S1408x128 .bf16) (v40 : Vec Ideal S1408x128 .i1) (v41 : Vec Ideal S1408x128 .f32) (v44 v46 v48 v50 : Vec Ideal S1x1408x1 .f32) (x0 : Vec Ideal S1408x128 .f32) (x1 : Vec Ideal S4224x128 .f32) (x2 : Vec Ideal S4224x128 .f32) (x3 : Vec Ideal S2x1408x1 .f32) (x4 : Vec Ideal S2x3x1x1408 .f32) (x5 : Vec Ideal S1408x128 .f32) (x6 : Vec Ideal S2x1408x1 .f32) (x7 : Vec Ideal S1408x128 .f32) (k : Fin (k0_t1_loop i).trips) (acc : Vec Ideal S1408x128 .f32 × Vec Ideal S1408x1 .f32 × Vec Ideal S1408x1 .f32) (r : Fin 1408) (l : Fin 128) :
    (tripR_k0_t1 (F := Ideal) Variants.none c none i arg2 harg2 arg3 harg3 arg4 harg4 arg5 harg5 arg6 harg6 arg7 harg7 arg8 harg8 arg9 harg9 arg10 harg10 arg11 harg11 arg12 harg12 arg1 v2 v11 v16 v18 v27 v33 v38 v40 v41 v44 v46 v48 v50 (harg3.unread x1) (harg4.unread x2) (harg6.unread x4) k acc).2.2 (ix2 r 0) = acc.2.2 (ix2 r 0) + ∑ x, cell True (fun a => v16 (ix2 r a)) (fun a => Scalar.select (v40 (ix2 r a)) (v41 (ix2 r a)) (v18 (ix2 r a))) (v46 (ix3 0 r 0)) (v50 (ix3 0 r 0)) (v33 (ix2 r 0)) (decayOf x4 1 k.val x) (rowOf x1 k.val x) (rowOf x2 k.val x) := by
  have hk := trips1_lt i k
  have hx : ∀ x : Fin 1408, k.val * 1408 + x.val < 4224 := fun x => by have := x.isLt; omega
  have e1 := congrFun (off1 i k) 0
  have e2 := congrFun (off2 i k) 1
  dsimp [k0_off1] at e1
  dsimp [k0_off2] at e2
  unfold cell rowOf decayOf
  simp only [hk, hx, dif_pos, if_true]
  unfold tripR_k0_t1
  unfold trip_k0_t1
  dsimp only
  sl_unfold_words
  simp only [View.readAt_eq_ld, Memref.IsWhole.read_unread]
  unfold_payloads
  pointwise
  simp only [e1, e2]

theorem state1 (c : Dev nD) (i : grid0.Coords) (arg2 : Memref sig .tc .vmem S1408x128 .f32) (harg2 : arg2.IsWhole) (arg3 : Memref sig .tc .vmem S4224x128 .f32) (harg3 : arg3.IsWhole) (arg4 : Memref sig .tc .vmem S4224x128 .f32) (harg4 : arg4.IsWhole) (arg5 : Memref sig .tc .vmem S2x1408x1 .f32) (harg5 : arg5.IsWhole) (arg6 : Memref sig .tc .vmem S2x3x1x1408 .f32) (harg6 : arg6.IsWhole) (arg7 : Memref sig .tc .vmem S1408x128 .f32) (harg7 : arg7.IsWhole) (arg8 : Memref sig .tc .vmem S2x1408x1 .f32) (harg8 : arg8.IsWhole) (arg9 : Memref sig .tc .vmem S1408x128 .f32) (harg9 : arg9.IsWhole) (arg10 : Memref sig .tc .vmem S1408x128 .f32) (harg10 : arg10.IsWhole) (arg11 : Memref sig .tc .vmem S2x1408x1 .f32) (harg11 : arg11.IsWhole) (arg12 : Memref sig .tc .vmem S2x1408x1 .f32) (harg12 : arg12.IsWhole) (arg1 : BitVec 32) (v2 : Vec Ideal S1x128 .i1) (v11 v16 : Vec Ideal S1408x128 .bf16) (v18 : Vec Ideal S1408x128 .f32) (v27 v33 : Vec Ideal S1408x1 .f32) (v38 : Vec Ideal S1408x128 .bf16) (v40 : Vec Ideal S1408x128 .i1) (v41 : Vec Ideal S1408x128 .f32) (v44 v46 v48 v50 : Vec Ideal S1x1408x1 .f32) (x0 : Vec Ideal S1408x128 .f32) (x1 : Vec Ideal S4224x128 .f32) (x2 : Vec Ideal S4224x128 .f32) (x3 : Vec Ideal S2x1408x1 .f32) (x4 : Vec Ideal S2x3x1x1408 .f32) (x5 : Vec Ideal S1408x128 .f32) (x6 : Vec Ideal S2x1408x1 .f32) (x7 : Vec Ideal S1408x128 .f32) (init : Vec Ideal S1408x128 .f32 × Vec Ideal S1408x1 .f32 × Vec Ideal S1408x1 .f32) (r : Fin 1408) (l : Fin 128) (n : ℕ) (hn : n ≤ (k0_t1_loop i).trips) :
    (st_k0_t1 (F := Ideal) Variants.none c none i arg2 harg2 arg3 harg3 arg4 harg4 arg5 harg5 arg6 harg6 arg7 harg7 arg8 harg8 arg9 harg9 arg10 harg10 arg11 harg11 arg12 harg12 arg1 v2 v11 v16 v18 v27 v33 v38 v40 v41 v44 v46 v48 v50 (harg3.unread x1) (harg4.unread x2) (harg6.unread x4) init n).1 (ix2 r l) = init.1 (ix2 r l) + ∑ n ∈ Finset.range n, Scalar.select (v2 (ix2 0 l)) (∑ x, cell True (fun a => v11 (ix2 r a)) (fun a => v38 (ix2 r a)) (v44 (ix3 0 r 0)) (v48 (ix3 0 r 0)) (v27 (ix2 r 0)) (decayOf x4 0 n x) (rowOf x1 n x) (rowOf x2 n x) * rowOf x1 n x l) (∑ x, cell True (fun a => v16 (ix2 r a)) (fun a => Scalar.select (v40 (ix2 r a)) (v41 (ix2 r a)) (v18 (ix2 r a))) (v46 (ix3 0 r 0)) (v50 (ix3 0 r 0)) (v33 (ix2 r 0)) (decayOf x4 1 n x) (rowOf x1 n x) (rowOf x2 n x) * rowOf x1 n x l) := by
  induction n with
  | zero => rw [st_k0_t1_zero, Finset.sum_range_zero, add_zero]
  | succ n ih =>
    rw [st_k0_t1_succ Variants.none c none i arg2 harg2 arg3 harg3 arg4 harg4 arg5 harg5 arg6 harg6 arg7 harg7 arg8 harg8 arg9 harg9 arg10 harg10 arg11 harg11 arg12 harg12 arg1 v2 v11 v16 v18 v27 v33 v38 v40 v41 v44 v46 v48 v50 (harg3.unread x1) (harg4.unread x2) (harg6.unread x4) init ⟨n, hn⟩,
      trip1 c i arg2 harg2 arg3 harg3 arg4 harg4 arg5 harg5 arg6 harg6 arg7 harg7 arg8 harg8 arg9 harg9 arg10 harg10 arg11 harg11 arg12 harg12 arg1 v2 v11 v16 v18 v27 v33 v38 v40 v41 v44 v46 v48 v50 x0 x1 x2 x3 x4 x5 x6 x7 ⟨n, hn⟩ _ r l, ih (Nat.le_of_succ_le hn), Finset.sum_range_succ, add_assoc]

theorem state2 (c : Dev nD) (i : grid0.Coords) (arg2 : Memref sig .tc .vmem S1408x128 .f32) (harg2 : arg2.IsWhole) (arg3 : Memref sig .tc .vmem S4224x128 .f32) (harg3 : arg3.IsWhole) (arg4 : Memref sig .tc .vmem S4224x128 .f32) (harg4 : arg4.IsWhole) (arg5 : Memref sig .tc .vmem S2x1408x1 .f32) (harg5 : arg5.IsWhole) (arg6 : Memref sig .tc .vmem S2x3x1x1408 .f32) (harg6 : arg6.IsWhole) (arg7 : Memref sig .tc .vmem S1408x128 .f32) (harg7 : arg7.IsWhole) (arg8 : Memref sig .tc .vmem S2x1408x1 .f32) (harg8 : arg8.IsWhole) (arg9 : Memref sig .tc .vmem S1408x128 .f32) (harg9 : arg9.IsWhole) (arg10 : Memref sig .tc .vmem S1408x128 .f32) (harg10 : arg10.IsWhole) (arg11 : Memref sig .tc .vmem S2x1408x1 .f32) (harg11 : arg11.IsWhole) (arg12 : Memref sig .tc .vmem S2x1408x1 .f32) (harg12 : arg12.IsWhole) (arg1 : BitVec 32) (v2 : Vec Ideal S1x128 .i1) (v11 v16 : Vec Ideal S1408x128 .bf16) (v18 : Vec Ideal S1408x128 .f32) (v27 v33 : Vec Ideal S1408x1 .f32) (v38 : Vec Ideal S1408x128 .bf16) (v40 : Vec Ideal S1408x128 .i1) (v41 : Vec Ideal S1408x128 .f32) (v44 v46 v48 v50 : Vec Ideal S1x1408x1 .f32) (x0 : Vec Ideal S1408x128 .f32) (x1 : Vec Ideal S4224x128 .f32) (x2 : Vec Ideal S4224x128 .f32) (x3 : Vec Ideal S2x1408x1 .f32) (x4 : Vec Ideal S2x3x1x1408 .f32) (x5 : Vec Ideal S1408x128 .f32) (x6 : Vec Ideal S2x1408x1 .f32) (x7 : Vec Ideal S1408x128 .f32) (init : Vec Ideal S1408x128 .f32 × Vec Ideal S1408x1 .f32 × Vec Ideal S1408x1 .f32) (r : Fin 1408) (l : Fin 128) (n : ℕ) (hn : n ≤ (k0_t1_loop i).trips) :
    (st_k0_t1 (F := Ideal) Variants.none c none i arg2 harg2 arg3 harg3 arg4 harg4 arg5 harg5 arg6 harg6 arg7 harg7 arg8 harg8 arg9 harg9 arg10 harg10 arg11 harg11 arg12 harg12 arg1 v2 v11 v16 v18 v27 v33 v38 v40 v41 v44 v46 v48 v50 (harg3.unread x1) (harg4.unread x2) (harg6.unread x4) init n).2.1 (ix2 r 0) = init.2.1 (ix2 r 0) + ∑ n ∈ Finset.range n, ∑ x, cell True (fun a => v11 (ix2 r a)) (fun a => v38 (ix2 r a)) (v44 (ix3 0 r 0)) (v48 (ix3 0 r 0)) (v27 (ix2 r 0)) (decayOf x4 0 n x) (rowOf x1 n x) (rowOf x2 n x) := by
  induction n with
  | zero => rw [st_k0_t1_zero, Finset.sum_range_zero, add_zero]
  | succ n ih =>
    rw [st_k0_t1_succ Variants.none c none i arg2 harg2 arg3 harg3 arg4 harg4 arg5 harg5 arg6 harg6 arg7 harg7 arg8 harg8 arg9 harg9 arg10 harg10 arg11 harg11 arg12 harg12 arg1 v2 v11 v16 v18 v27 v33 v38 v40 v41 v44 v46 v48 v50 (harg3.unread x1) (harg4.unread x2) (harg6.unread x4) init ⟨n, hn⟩,
      trip2 c i arg2 harg2 arg3 harg3 arg4 harg4 arg5 harg5 arg6 harg6 arg7 harg7 arg8 harg8 arg9 harg9 arg10 harg10 arg11 harg11 arg12 harg12 arg1 v2 v11 v16 v18 v27 v33 v38 v40 v41 v44 v46 v48 v50 x0 x1 x2 x3 x4 x5 x6 x7 ⟨n, hn⟩ _ r l, ih (Nat.le_of_succ_le hn), Finset.sum_range_succ, add_assoc]

theorem state3 (c : Dev nD) (i : grid0.Coords) (arg2 : Memref sig .tc .vmem S1408x128 .f32) (harg2 : arg2.IsWhole) (arg3 : Memref sig .tc .vmem S4224x128 .f32) (harg3 : arg3.IsWhole) (arg4 : Memref sig .tc .vmem S4224x128 .f32) (harg4 : arg4.IsWhole) (arg5 : Memref sig .tc .vmem S2x1408x1 .f32) (harg5 : arg5.IsWhole) (arg6 : Memref sig .tc .vmem S2x3x1x1408 .f32) (harg6 : arg6.IsWhole) (arg7 : Memref sig .tc .vmem S1408x128 .f32) (harg7 : arg7.IsWhole) (arg8 : Memref sig .tc .vmem S2x1408x1 .f32) (harg8 : arg8.IsWhole) (arg9 : Memref sig .tc .vmem S1408x128 .f32) (harg9 : arg9.IsWhole) (arg10 : Memref sig .tc .vmem S1408x128 .f32) (harg10 : arg10.IsWhole) (arg11 : Memref sig .tc .vmem S2x1408x1 .f32) (harg11 : arg11.IsWhole) (arg12 : Memref sig .tc .vmem S2x1408x1 .f32) (harg12 : arg12.IsWhole) (arg1 : BitVec 32) (v2 : Vec Ideal S1x128 .i1) (v11 v16 : Vec Ideal S1408x128 .bf16) (v18 : Vec Ideal S1408x128 .f32) (v27 v33 : Vec Ideal S1408x1 .f32) (v38 : Vec Ideal S1408x128 .bf16) (v40 : Vec Ideal S1408x128 .i1) (v41 : Vec Ideal S1408x128 .f32) (v44 v46 v48 v50 : Vec Ideal S1x1408x1 .f32) (x0 : Vec Ideal S1408x128 .f32) (x1 : Vec Ideal S4224x128 .f32) (x2 : Vec Ideal S4224x128 .f32) (x3 : Vec Ideal S2x1408x1 .f32) (x4 : Vec Ideal S2x3x1x1408 .f32) (x5 : Vec Ideal S1408x128 .f32) (x6 : Vec Ideal S2x1408x1 .f32) (x7 : Vec Ideal S1408x128 .f32) (init : Vec Ideal S1408x128 .f32 × Vec Ideal S1408x1 .f32 × Vec Ideal S1408x1 .f32) (r : Fin 1408) (l : Fin 128) (n : ℕ) (hn : n ≤ (k0_t1_loop i).trips) :
    (st_k0_t1 (F := Ideal) Variants.none c none i arg2 harg2 arg3 harg3 arg4 harg4 arg5 harg5 arg6 harg6 arg7 harg7 arg8 harg8 arg9 harg9 arg10 harg10 arg11 harg11 arg12 harg12 arg1 v2 v11 v16 v18 v27 v33 v38 v40 v41 v44 v46 v48 v50 (harg3.unread x1) (harg4.unread x2) (harg6.unread x4) init n).2.2 (ix2 r 0) = init.2.2 (ix2 r 0) + ∑ n ∈ Finset.range n, ∑ x, cell True (fun a => v16 (ix2 r a)) (fun a => Scalar.select (v40 (ix2 r a)) (v41 (ix2 r a)) (v18 (ix2 r a))) (v46 (ix3 0 r 0)) (v50 (ix3 0 r 0)) (v33 (ix2 r 0)) (decayOf x4 1 n x) (rowOf x1 n x) (rowOf x2 n x) := by
  induction n with
  | zero => rw [st_k0_t1_zero, Finset.sum_range_zero, add_zero]
  | succ n ih =>
    rw [st_k0_t1_succ Variants.none c none i arg2 harg2 arg3 harg3 arg4 harg4 arg5 harg5 arg6 harg6 arg7 harg7 arg8 harg8 arg9 harg9 arg10 harg10 arg11 harg11 arg12 harg12 arg1 v2 v11 v16 v18 v27 v33 v38 v40 v41 v44 v46 v48 v50 (harg3.unread x1) (harg4.unread x2) (harg6.unread x4) init ⟨n, hn⟩,
      trip3 c i arg2 harg2 arg3 harg3 arg4 harg4 arg5 harg5 arg6 harg6 arg7 harg7 arg8 harg8 arg9 harg9 arg10 harg10 arg11 harg11 arg12 harg12 arg1 v2 v11 v16 v18 v27 v33 v38 v40 v41 v44 v46 v48 v50 x0 x1 x2 x3 x4 x5 x6 x7 ⟨n, hn⟩ _ r l, ih (Nat.le_of_succ_le hn), Finset.sum_range_succ, add_assoc]

end Cert.KernelIdeal.Gen
end
-- ==== Proof.DqOut.lean ====
module
public import proofs.«01_k».proof.Proof.DqBlock
public import Idealize.ShloMosaic.Lib.Pipeline.ValueKit
public import Idealize.ShloMosaic.Lib.Pointwise
public import Idealize.ShloMosaic.Lib.LoopRemainder
@[expose] public section
set_option maxRecDepth 16384
noncomputable section
namespace Cert.KernelIdeal.Gen
open Idealize.ShloMosaic Idealize.ShloMosaic.TcCoe Idealize.ShloMosaic.Tactic
open Idealize.ShloMosaic.Pipeline (Dat Cfg Window BodyObligation cellOf)

/-- Lane `d` of head `e` of a pair. -/
def lane (e : Fin 2) (d : Fin 64) : Fin 128 := ⟨e.val * 64 + d.val, by have := e.isLt; have := d.isLt; omega⟩

theorem select_low (l : Fin 128) {α : Type} (A B : α) :
    Scalar.select (IntOp.cmpi .slt (BitVec.ofNat 32 l.val) 64#32) A B = if l.val < 64 then A else B := by
  unfold Scalar.select
  rw [show (64#32 : BitVec 32) = BitVec.ofNat 32 64 from rfl, WordCmp.cmpi_slt_ofNat (by have := l.isLt; omega) (by decide)]
  by_cases h : l.val < 64 <;> simp [h]

theorem select_causal (x r : Fin 1408) {α : Type} (A B : α) :
    Scalar.select (IntOp.cmpi .sle (BitVec.ofNat 32 x.val) (BitVec.ofNat 32 r.val)) A B = if x.val ≤ r.val then A else B := by
  unfold Scalar.select
  rw [WordCmp.cmpi_sle_ofNat (by have := x.isLt; omega) (by have := r.isLt; omega)]
  by_cases h : x.val ≤ r.val <;> simp [h]

theorem sum_low (f : Fin 128 → EReal) : ∑ x, (if x.val < 64 then f x else 0) = ∑ d : Fin 64, f (lane 0 d) := by
  rw [Fin.sum_univ_add (a := 64) (b := 64) (fun x : Fin 128 => if x.val < 64 then f x else 0)]
  rw [Finset.sum_congr rfl (g := fun d : Fin 64 => f (lane 0 d)) (fun d _ => by
    rw [if_pos (by exact d.isLt)]; congr 1; apply Fin.ext; simp [lane])]
  rw [Finset.sum_eq_zero (s := Finset.univ) (f := fun d : Fin 64 => if (Fin.natAdd 64 d).val < 64 then f (Fin.natAdd 64 d) else 0) (fun d _ => by
    rw [if_neg (by simp)]), add_zero]

theorem sum_high (f : Fin 128 → EReal) : ∑ x, (if x.val < 64 then 0 else f x) = ∑ d : Fin 64, f (lane 1 d) := by
  rw [Fin.sum_univ_add (a := 64) (b := 64) (fun x : Fin 128 => if x.val < 64 then 0 else f x)]
  rw [Finset.sum_eq_zero (s := Finset.univ) (f := fun d : Fin 64 => if (Fin.castAdd 64 d).val < 64 then 0 else f (Fin.castAdd 64 d)) (fun d _ => by
    rw [if_pos (by exact d.isLt)]), zero_add]
  refine Finset.sum_congr rfl (fun d _ => ?_)
  rw [if_neg (by simp)]; congr 1

theorem lane_low (d : Fin 64) : (lane 0 d).val < 64 := by simp [lane]
theorem lane_high (d : Fin 64) : ¬ (lane 1 d).val < 64 := by simp [lane]

/-- The score gradient of query row `r` of a block against key `x` of key block `n`, for head `e` of the pair. -/
def cellOfBlock (x0 : Vec Ideal S1408x128 .f32) (x1 : Vec Ideal S4224x128 .f32) (x2 : Vec Ideal S4224x128 .f32) (x3 : Vec Ideal S2x1408x1 .f32) (x4 : Vec Ideal S2x3x1x1408 .f32) (x5 : Vec Ideal S1408x128 .f32) (x6 : Vec Ideal S2x1408x1 .f32) (x7 : Vec Ideal S1408x128 .f32) (e : Fin 2) (r : Fin 1408) (ok : Prop) [Decidable ok] (n : ℕ) (x : Fin 1408) : EReal :=
  Ideal.exp ((if ok then ∑ d, x0 (ix2 r (lane e d)) * Ideal.ofBits .f32 1040187392#32 * rowOf x1 n x (lane e d) + x3 (ix3 e r 0) - decayOf x4 e n x else ⊥) - x6 (ix3 e r 0))
    * (∑ d, x7 (ix2 r (lane e d)) * rowOf x2 n x (lane e d) - ∑ d, x7 (ix2 r (lane e d)) * x5 (ix2 r (lane e d)))

theorem row_diag (i : grid0.Coords) (x1 : Vec Ideal S4224x128 .f32) (x : Fin 1408) (l : Fin 128) (h : (i 1).val * 1408 + x.val < 4224) :
    x1 (ix2 ⟨(i 1).val * 1408 + x.val, h⟩ l) = rowOf x1 (i 1).val x l := by
  unfold rowOf; rw [dif_pos h]

theorem decay_diag (i : grid0.Coords) (x4 : Vec Ideal S2x3x1x1408 .f32) (e : Fin 2) (x : Fin 1408) (h : (i 1).val < 3) :
    x4 (ix4 e ⟨(i 1).val, h⟩ 0 x) = decayOf x4 e (i 1).val x := by
  unfold decayOf; rw [dif_pos h]

theorem mask_bot : (Named.named (F := Ideal) κ "mask" (0xF149F2CA#32 : BitVec 32) : Ideal .f32) = (⊥ : EReal) := rfl

theorem out8 (c : Dev nD) (i : grid0.Coords) (arg2 : Memref sig .tc .vmem S1408x128 .f32) (harg2 : arg2.IsWhole) (arg3 : Memref sig .tc .vmem S4224x128 .f32) (harg3 : arg3.IsWhole) (arg4 : Memref sig .tc .vmem S4224x128 .f32) (harg4 : arg4.IsWhole) (arg5 : Memref sig .tc .vmem S2x1408x1 .f32) (harg5 : arg5.IsWhole) (arg6 : Memref sig .tc .vmem S2x3x1x1408 .f32) (harg6 : arg6.IsWhole) (arg7 : Memref sig .tc .vmem S1408x128 .f32) (harg7 : arg7.IsWhole) (arg8 : Memref sig .tc .vmem S2x1408x1 .f32) (harg8 : arg8.IsWhole) (arg9 : Memref sig .tc .vmem S1408x128 .f32) (harg9 : arg9.IsWhole) (arg10 : Memref sig .tc .vmem S1408x128 .f32) (harg10 : arg10.IsWhole) (arg11 : Memref sig .tc .vmem S2x1408x1 .f32) (harg11 : arg11.IsWhole) (arg12 : Memref sig .tc .vmem S2x1408x1 .f32) (harg12 : arg12.IsWhole) (x0 : Vec Ideal S1408x128 .f32) (x1 : Vec Ideal S4224x128 .f32) (x2 : Vec Ideal S4224x128 .f32) (x3 : Vec Ideal S2x1408x1 .f32) (x4 : Vec Ideal S2x3x1x1408 .f32) (x5 : Vec Ideal S1408x128 .f32) (x6 : Vec Ideal S2x1408x1 .f32) (x7 : Vec Ideal S1408x128 .f32) (r : Fin 1408) (e : Fin 2) (d : Fin 64) :
    out0_A_8 c i arg2 harg2 arg3 harg3 arg4 harg4 arg5 harg5 arg6 harg6 arg7 harg7 arg8 harg8 arg9 harg9 arg10 harg10 arg11 harg11 arg12 harg12 x0 x1 x2 x3 x4 x5 x6 x7 (ix2 r (lane e d))
      = (∑ n ∈ Finset.range (i 1).val, ∑ x, cellOfBlock x0 x1 x2 x3 x4 x5 x6 x7 e r True n x * rowOf x1 n x (lane e d)
          + ∑ x, cellOfBlock x0 x1 x2 x3 x4 x5 x6 x7 e r (x.val ≤ r.val) (i 1).val x * rowOf x1 (i 1).val x (lane e d)) * Ideal.ofBits .f32 1040187392#32 := by
  have ht : Scf.trips (0#32) (Scalar.addi (0#32) (Scalar.muli (Scalar.divsi (Scalar.subi (BitVec.ofNat 32 ↑(i 1)) 0#32) 1#32) 1#32)) 1#32 = (i 1).val := trips1 i
  have hs := state1 c i arg2 harg2 arg3 harg3 arg4 harg4 arg5 harg5 arg6 harg6 arg7 harg7 arg8 harg8 arg9 harg9 arg10 harg10 arg11 harg11 arg12 harg12 (BitVec.ofNat 32 ↑(i 1)) k0_pay20 (k0_pay22 x0) (k0_pay23 x0) (k0_pay24 x7) (k0_pay26 x7 x5) (k0_pay27 x7 x5) (k0_pay28 x7) k0_pay29 (k0_pay30 (F := Ideal)) (View.ld x3 (Rect.unit ![0, 0, 0] ![1, 1408, 1] inb_S2x1408x1_S1x1408x1_0_0_0)) (View.ld x3 (Rect.unit ![1, 0, 0] ![1, 1408, 1] inb_S2x1408x1_S1x1408x1_1_0_0)) (View.ld x6 (Rect.unit ![0, 0, 0] ![1, 1408, 1] inb_S2x1408x1_S1x1408x1_0_0_0)) (View.ld x6 (Rect.unit ![1, 0, 0] ![1, 1408, 1] inb_S2x1408x1_S1x1408x1_1_0_0)) x0 x1 x2 x3 x4 x5 x6 x7 (k0_pay36 (F := Ideal), k0_pay37 (F := Ideal), k0_pay38 (F := Ideal)) r (lane e d) (i 1).val (le_of_eq (trips1 i).symm)
  frame_out
  sl_unfold_words
  simp only [View.readAt_eq_ld, Memref.IsWhole.read_unread, Scf.rem_trips, st_k0_t2_zero, ht]
  generalize st_k0_t1 (F := Ideal) Variants.none c none i arg2 harg2 arg3 harg3 arg4 harg4 arg5 harg5 arg6 harg6 arg7 harg7 arg8 harg8 arg9 harg9 arg10 harg10 arg11 harg11 arg12 harg12 (BitVec.ofNat 32 ↑(i 1)) k0_pay20 (k0_pay22 x0) (k0_pay23 x0) (k0_pay24 x7) (k0_pay26 x7 x5) (k0_pay27 x7 x5) (k0_pay28 x7) k0_pay29 (k0_pay30 (F := Ideal)) (View.ld x3 (Rect.unit ![0, 0, 0] ![1, 1408, 1] inb_S2x1408x1_S1x1408x1_0_0_0)) (View.ld x3 (Rect.unit ![1, 0, 0] ![1, 1408, 1] inb_S2x1408x1_S1x1408x1_1_0_0)) (View.ld x6 (Rect.unit ![0, 0, 0] ![1, 1408, 1] inb_S2x1408x1_S1x1408x1_0_0_0)) (View.ld x6 (Rect.unit ![1, 0, 0] ![1, 1408, 1] inb_S2x1408x1_S1x1408x1_1_0_0)) (harg3.unread x1) (harg4.unread x2) (harg6.unread x4) (k0_pay36 (F := Ideal), k0_pay37 (F := Ideal), k0_pay38 (F := Ideal)) (i 1).val = S at hs ⊢
  unfold_payloads
  pointwise
  rw [hs]
  clear hs
  unfold cell
  unfold_payloads
  pointwise
  simp only [offd, offe, select_low, select_causal, sum_low, sum_high, row_diag, decay_diag, mask_bot, lane_low, lane_high, if_true, if_false]
  obtain rfl | rfl : e = 0 ∨ e = 1 := by omega
  · simp only [lane_low, cellOfBlock, if_true]
  · simp only [lane_high, cellOfBlock, if_true, if_false]

theorem out10 (c : Dev nD) (i : grid0.Coords) (arg2 : Memref sig .tc .vmem S1408x128 .f32) (harg2 : arg2.IsWhole) (arg3 : Memref sig .tc .vmem S4224x128 .f32) (harg3 : arg3.IsWhole) (arg4 : Memref sig .tc .vmem S4224x128 .f32) (harg4 : arg4.IsWhole) (arg5 : Memref sig .tc .vmem S2x1408x1 .f32) (harg5 : arg5.IsWhole) (arg6 : Memref sig .tc .vmem S2x3x1x1408 .f32) (harg6 : arg6.IsWhole) (arg7 : Memref sig .tc .vmem S1408x128 .f32) (harg7 : arg7.IsWhole) (arg8 : Memref sig .tc .vmem S2x1408x1 .f32) (harg8 : arg8.IsWhole) (arg9 : Memref sig .tc .vmem S1408x128 .f32) (harg9 : arg9.IsWhole) (arg10 : Memref sig .tc .vmem S1408x128 .f32) (harg10 : arg10.IsWhole) (arg11 : Memref sig .tc .vmem S2x1408x1 .f32) (harg11 : arg11.IsWhole) (arg12 : Memref sig .tc .vmem S2x1408x1 .f32) (harg12 : arg12.IsWhole) (x0 : Vec Ideal S1408x128 .f32) (x1 : Vec Ideal S4224x128 .f32) (x2 : Vec Ideal S4224x128 .f32) (x3 : Vec Ideal S2x1408x1 .f32) (x4 : Vec Ideal S2x3x1x1408 .f32) (x5 : Vec Ideal S1408x128 .f32) (x6 : Vec Ideal S2x1408x1 .f32) (x7 : Vec Ideal S1408x128 .f32) (e : Fin 2) (r : Fin 1408) :
    out0_A_10 c i arg2 harg2 arg3 harg3 arg4 harg4 arg5 harg5 arg6 harg6 arg7 harg7 arg8 harg8 arg9 harg9 arg10 harg10 arg11 harg11 arg12 harg12 x0 x1 x2 x3 x4 x5 x6 x7 (ix3 e r 0)
      = ∑ n ∈ Finset.range (i 1).val, ∑ x, cellOfBlock x0 x1 x2 x3 x4 x5 x6 x7 e r True n x + ∑ x, cellOfBlock x0 x1 x2 x3 x4 x5 x6 x7 e r (x.val ≤ r.val) (i 1).val x := by
  have ht : Scf.trips (0#32) (Scalar.addi (0#32) (Scalar.muli (Scalar.divsi (Scalar.subi (BitVec.ofNat 32 ↑(i 1)) 0#32) 1#32) 1#32)) 1#32 = (i 1).val := trips1 i
  have g2 := state2 c i arg2 harg2 arg3 harg3 arg4 harg4 arg5 harg5 arg6 harg6 arg7 harg7 arg8 harg8 arg9 harg9 arg10 harg10 arg11 harg11 arg12 harg12 (BitVec.ofNat 32 ↑(i 1)) k0_pay20 (k0_pay22 x0) (k0_pay23 x0) (k0_pay24 x7) (k0_pay26 x7 x5) (k0_pay27 x7 x5) (k0_pay28 x7) k0_pay29 (k0_pay30 (F := Ideal)) (View.ld x3 (Rect.unit ![0, 0, 0] ![1, 1408, 1] inb_S2x1408x1_S1x1408x1_0_0_0)) (View.ld x3 (Rect.unit ![1, 0, 0] ![1, 1408, 1] inb_S2x1408x1_S1x1408x1_1_0_0)) (View.ld x6 (Rect.unit ![0, 0, 0] ![1, 1408, 1] inb_S2x1408x1_S1x1408x1_0_0_0)) (View.ld x6 (Rect.unit ![1, 0, 0] ![1, 1408, 1] inb_S2x1408x1_S1x1408x1_1_0_0)) x0 x1 x2 x3 x4 x5 x6 x7 (k0_pay36 (F := Ideal), k0_pay37 (F := Ideal), k0_pay38 (F := Ideal)) r 0 (i 1).val (le_of_eq (trips1 i).symm)
  have g3 := state3 c i arg2 harg2 arg3 harg3 arg4 harg4 arg5 harg5 arg6 harg6 arg7 harg7 arg8 harg8 arg9 harg9 arg10 harg10 arg11 harg11 arg12 harg12 (BitVec.ofNat 32 ↑(i 1)) k0_pay20 (k0_pay22 x0) (k0_pay23 x0) (k0_pay24 x7) (k0_pay26 x7 x5) (k0_pay27 x7 x5) (k0_pay28 x7) k0_pay29 (k0_pay30 (F := Ideal)) (View.ld x3 (Rect.unit ![0, 0, 0] ![1, 1408, 1] inb_S2x1408x1_S1x1408x1_0_0_0)) (View.ld x3 (Rect.unit ![1, 0, 0] ![1, 1408, 1] inb_S2x1408x1_S1x1408x1_1_0_0)) (View.ld x6 (Rect.unit ![0, 0, 0] ![1, 1408, 1] inb_S2x1408x1_S1x1408x1_0_0_0)) (View.ld x6 (Rect.unit ![1, 0, 0] ![1, 1408, 1] inb_S2x1408x1_S1x1408x1_1_0_0)) x0 x1 x2 x3 x4 x5 x6 x7 (k0_pay36 (F := Ideal), k0_pay37 (F := Ideal), k0_pay38 (F := Ideal)) r 0 (i 1).val (le_of_eq (trips1 i).symm)
  frame_out
  sl_unfold_words
  simp only [View.readAt_eq_ld, Memref.IsWhole.read_unread, Scf.rem_trips, st_k0_t2_zero, ht]
  generalize st_k0_t1 (F := Ideal) Variants.none c none i arg2 harg2 arg3 harg3 arg4 harg4 arg5 harg5 arg6 harg6 arg7 harg7 arg8 harg8 arg9 harg9 arg10 harg10 arg11 harg11 arg12 harg12 (BitVec.ofNat 32 ↑(i 1)) k0_pay20 (k0_pay22 x0) (k0_pay23 x0) (k0_pay24 x7) (k0_pay26 x7 x5) (k0_pay27 x7 x5) (k0_pay28 x7) k0_pay29 (k0_pay30 (F := Ideal)) (View.ld x3 (Rect.unit ![0, 0, 0] ![1, 1408, 1] inb_S2x1408x1_S1x1408x1_0_0_0)) (View.ld x3 (Rect.unit ![1, 0, 0] ![1, 1408, 1] inb_S2x1408x1_S1x1408x1_1_0_0)) (View.ld x6 (Rect.unit ![0, 0, 0] ![1, 1408, 1] inb_S2x1408x1_S1x1408x1_0_0_0)) (View.ld x6 (Rect.unit ![1, 0, 0] ![1, 1408, 1] inb_S2x1408x1_S1x1408x1_1_0_0)) (harg3.unread x1) (harg4.unread x2) (harg6.unread x4) (k0_pay36 (F := Ideal), k0_pay37 (F := Ideal), k0_pay38 (F := Ideal)) (i 1).val = S at g2 g3 ⊢
  unfold_payloads
  canon_tiles z h
  · obtain rfl : e = 1 := by clear g2 g3; have := h0; simp at this; omega
    idx_vars z
    obtain rfl : z1 = r := Fin.ext h1.symm
    pointwise
    rw [g3]
    clear g2 g3
    unfold cell
    unfold_payloads
    pointwise
    simp only [offd, offe, select_low, select_causal, sum_low, sum_high, row_diag, decay_diag, mask_bot, lane_low, lane_high, cellOfBlock, if_true, if_false]
  · obtain rfl : e = 0 := by clear g2 g3; have := h0; simp at this; omega
    idx_vars z
    obtain rfl : z1 = r := Fin.ext h1.symm
    pointwise
    rw [g2]
    clear g2 g3
    unfold cell
    unfold_payloads
    pointwise
    simp only [offd, offe, select_low, select_causal, sum_low, sum_high, row_diag, decay_diag, mask_bot, lane_low, lane_high, cellOfBlock, if_true, if_false]

end Cert.KernelIdeal.Gen
end
-- ==== Proof.DqArray.lean ====
module
public import proofs.«01_k».proof.Proof.DqFwd
public import proofs.«01_k».proof.Proof.DqOut
@[expose] public section
set_option maxRecDepth 16384
noncomputable section
namespace Cert.KernelIdeal.Gen
open Idealize.ShloMosaic Idealize.ShloMosaic.TcCoe Idealize.ShloMosaic.Tactic
open Idealize.ShloMosaic.Pipeline (Dat Cfg Window BodyObligation cellOf)
open Cert.Fox
variable (m : (ℓ : Loc nD τ sig) → Buf (Elt Ideal) ℓ)

/-- Head pair and query block of a grid point. -/
def pairOf (t : Fin cfg0.N) : ℕ := (grid0.coords t 0).val
def blockOf (t : Fin cfg0.N) : ℕ := (grid0.coords t 1).val

theorem pairOf_lt (t : Fin cfg0.N) : pairOf t < 4 := (grid0.coords t 0).isLt
theorem blockOf_lt (t : Fin cfg0.N) : blockOf t < 3 := (grid0.coords t 1).isLt

theorem index_at : ∀ t : Fin cfg0.N,
    win0_0.index t = ![blockOf t, 28 + pairOf t] ∧ win0_1.index t = ![0, 32 + pairOf t] ∧ win0_2.index t = ![0, 36 + pairOf t]
    ∧ win0_3.index t = ![pairOf t, blockOf t, 0] ∧ win0_4.index t = ![pairOf t, 0, 0, 0] ∧ win0_5.index t = ![blockOf t, pairOf t]
    ∧ win0_6.index t = ![pairOf t, blockOf t, 0] ∧ win0_7.index t = ![blockOf t, pairOf t] ∧ win0_8.index t = ![blockOf t, pairOf t]
    ∧ win0_10.index t = ![pairOf t, blockOf t, 0] :=
  (by decide +kernel : ∀ t : Fin grid0.N,
    win0_0.index t = ![(grid0.coords t 1).val, 28 + (grid0.coords t 0).val] ∧ win0_1.index t = ![0, 32 + (grid0.coords t 0).val] ∧ win0_2.index t = ![0, 36 + (grid0.coords t 0).val]
    ∧ win0_3.index t = ![(grid0.coords t 0).val, (grid0.coords t 1).val, 0] ∧ win0_4.index t = ![(grid0.coords t 0).val, 0, 0, 0] ∧ win0_5.index t = ![(grid0.coords t 1).val, (grid0.coords t 0).val]
    ∧ win0_6.index t = ![(grid0.coords t 0).val, (grid0.coords t 1).val, 0] ∧ win0_7.index t = ![(grid0.coords t 1).val, (grid0.coords t 0).val] ∧ win0_8.index t = ![(grid0.coords t 1).val, (grid0.coords t 0).val]
    ∧ win0_10.index t = ![(grid0.coords t 0).val, (grid0.coords t 1).val, 0])

/-- The head and the padded row a block's lane and row stand for. -/
def headAt (t : Fin cfg0.N) (e : Fin 2) : Fin 8 := ⟨pairOf t * 2 + e.val, by have := pairOf_lt t; omega⟩
def rowAt (t : Fin cfg0.N) (r : Fin 1408) : Fin 4224 := ⟨blockOf t * 1408 + r.val, by have := blockOf_lt t; omega⟩

theorem blk0 (c : Dev nD) (t : Fin cfg0.N) (r : Fin 1408) (e : Fin 2) (d : Fin 64) :
    iblk m c 0 t (ix2 r (lane e d)) = V m c (Pipeline.arrRef spec0 0) (ix2 (rowAt t r) (⟨3584 + ((headAt t e).val * 64 + d.val), by omega⟩ : Fin 6528)) := by
  have hp := pairOf_lt t
  have hb := blockOf_lt t
  unfold lane headAt rowAt
  blk_ext [iblk, (index_at t).1]

theorem blk1 (c : Dev nD) (t : Fin cfg0.N) (i : Fin 4224) (e : Fin 2) (d : Fin 64) :
    iblk m c 1 t (ix2 i (lane e d)) = V m c (Pipeline.arrRef spec0 1) (ix2 (i) (⟨4096 + ((headAt t e).val * 64 + d.val), by omega⟩ : Fin 6528)) := by
  have hp := pairOf_lt t
  have hb := blockOf_lt t
  unfold lane headAt
  blk_ext [iblk, (index_at t).2.1]

theorem blk2 (c : Dev nD) (t : Fin cfg0.N) (i : Fin 4224) (e : Fin 2) (d : Fin 64) :
    iblk m c 2 t (ix2 i (lane e d)) = V m c (Pipeline.arrRef spec0 2) (ix2 (i) (⟨4608 + ((headAt t e).val * 64 + d.val), by omega⟩ : Fin 6528)) := by
  have hp := pairOf_lt t
  have hb := blockOf_lt t
  unfold lane headAt
  blk_ext [iblk, (index_at t).2.2.1]

theorem blk5 (c : Dev nD) (t : Fin cfg0.N) (r : Fin 1408) (e : Fin 2) (d : Fin 64) :
    iblk m c 5 t (ix2 r (lane e d)) = V m c (Pipeline.arrRef spec0 5) (ix2 (rowAt t r) (⟨(headAt t e).val * 64 + d.val, by omega⟩ : Fin 512)) := by
  have hp := pairOf_lt t
  have hb := blockOf_lt t
  unfold lane headAt rowAt
  blk_ext [iblk, (index_at t).2.2.2.2.2.1]

theorem blk7 (c : Dev nD) (t : Fin cfg0.N) (r : Fin 1408) (e : Fin 2) (d : Fin 64) :
    iblk m c 7 t (ix2 r (lane e d)) = V m c (Pipeline.arrRef spec0 7) (ix2 (rowAt t r) (⟨(headAt t e).val * 64 + d.val, by omega⟩ : Fin 512)) := by
  have hp := pairOf_lt t
  have hb := blockOf_lt t
  unfold lane headAt rowAt
  blk_ext [iblk, (index_at t).2.2.2.2.2.2.2.1]

theorem blk3 (c : Dev nD) (t : Fin cfg0.N) (e : Fin 2) (r : Fin 1408) :
    iblk m c 3 t (ix3 e r 0) = V m c (Pipeline.arrRef spec0 3) (ix3 (headAt t e) (rowAt t r) 0) := by
  have hp := pairOf_lt t
  have hb := blockOf_lt t
  unfold headAt rowAt
  blk_ext [iblk, (index_at t).2.2.2.1]

theorem blk6 (c : Dev nD) (t : Fin cfg0.N) (e : Fin 2) (r : Fin 1408) :
    iblk m c 6 t (ix3 e r 0) = V m c (Pipeline.arrRef spec0 6) (ix3 (headAt t e) (rowAt t r) 0) := by
  have hp := pairOf_lt t
  have hb := blockOf_lt t
  unfold headAt rowAt
  blk_ext [iblk, (index_at t).2.2.2.2.2.2.1]

theorem blk4 (c : Dev nD) (t : Fin cfg0.N) (e : Fin 2) (n : Fin 3) (x : Fin 1408) :
    iblk m c 4 t (ix4 e n 0 x) = V m c (Pipeline.arrRef spec0 4) (ix4 (headAt t e) n 0 x) := by
  have hp := pairOf_lt t
  unfold headAt
  blk_ext [iblk, (index_at t).2.2.2.2.1]

variable {m} {c : Dev nD} {P : Fin 4112 → Fin 6528 → ℝ} {C : Fin 8 → Fin 4112 → ℝ} {D : Fin 4112 → Fin 512 → ℝ} (H : Reals m c P C D)
include H

theorem rd0 (t : Fin cfg0.N) (r : Fin 1408) (e : Fin 2) (d : Fin 64) :
    iblk m c 0 t (ix2 r (lane e d)) = padRow (fun n => (qOf P (headAt t e) n d : EReal)) 0 (rowAt t r) := by
  rw [blk0, V0]; simp only [H.proj]; rfl

theorem rd1 (t : Fin cfg0.N) (i : Fin 4224) (e : Fin 2) (d : Fin 64) :
    iblk m c 1 t (ix2 i (lane e d)) = padRow (fun n => (kOf P (headAt t e) n d : EReal)) 0 i := by
  rw [blk1]; refine (V0 m c i _).trans ?_; simp only [H.proj]; rfl

theorem rd2 (t : Fin cfg0.N) (i : Fin 4224) (e : Fin 2) (d : Fin 64) :
    iblk m c 2 t (ix2 i (lane e d)) = padRow (fun n => (vOf P (headAt t e) n d : EReal)) 0 i := by
  rw [blk2]; refine (V0 m c i _).trans ?_; simp only [H.proj]; rfl

theorem rd3 (t : Fin cfg0.N) (e : Fin 2) (r : Fin 1408) :
    iblk m c 3 t (ix3 e r 0) = padRow (fun n => (C (headAt t e) n : EReal)) 0 (rowAt t r) := by
  rw [blk3, V3]; simp only [H.cum]

theorem rd4 (t : Fin cfg0.N) (e : Fin 2) (n : Fin 3) (x : Fin 1408) :
    iblk m c 4 t (ix4 e n 0 x) = padRow (fun n => (C (headAt t e) n : EReal)) ⊤ ⟨n.val * 1408 + x.val, by omega⟩ := by
  rw [blk4, V4]; simp only [H.cum]

theorem rd5 (t : Fin cfg0.N) (r : Fin 1408) (e : Fin 2) (d : Fin 64) :
    iblk m c 5 t (ix2 r (lane e d)) = padRow (fun n => (out (qOf P (headAt t e)) (kOf P (headAt t e)) (vOf P (headAt t e)) (C (headAt t e)) n d : EReal)) 0 (rowAt t r) := by
  rw [blk5, V5]; simp only [out_eq H]

theorem rd6 (t : Fin cfg0.N) (e : Fin 2) (r : Fin 1408) :
    iblk m c 6 t (ix3 e r 0) = padRow (fun n => (lse (qOf P (headAt t e)) (kOf P (headAt t e)) (C (headAt t e)) n : EReal)) 0 (rowAt t r) := by
  rw [blk6, V6]; simp only [lse_eq H]

theorem rd7 (t : Fin cfg0.N) (r : Fin 1408) (e : Fin 2) (d : Fin 64) :
    iblk m c 7 t (ix2 r (lane e d)) = padRow (fun n => (gOf D (headAt t e) n d : EReal)) 0 (rowAt t r) := by
  rw [blk7, V7]; simp only [H.grad]; rfl

theorem rowOf1 (t : Fin cfg0.N) (n : ℕ) (hn : n < 3) (x : Fin 1408) (e : Fin 2) (d : Fin 64) :
    rowOf (iblk m c 1 t) n x (lane e d) = padRow (fun n => (kOf P (headAt t e) n d : EReal)) 0 ⟨n * 1408 + x.val, by omega⟩ := by
  unfold rowOf; rw [dif_pos (by omega), rd1 H]

theorem rowOf2 (t : Fin cfg0.N) (n : ℕ) (hn : n < 3) (x : Fin 1408) (e : Fin 2) (d : Fin 64) :
    rowOf (iblk m c 2 t) n x (lane e d) = padRow (fun n => (vOf P (headAt t e) n d : EReal)) 0 ⟨n * 1408 + x.val, by omega⟩ := by
  unfold rowOf; rw [dif_pos (by omega), rd2 H]

theorem decayOf4 (t : Fin cfg0.N) (n : ℕ) (hn : n < 3) (x : Fin 1408) (e : Fin 2) :
    decayOf (iblk m c 4 t) e n x = padRow (fun n => (C (headAt t e) n : EReal)) ⊤ ⟨n * 1408 + x.val, by omega⟩ := by
  unfold decayOf; rw [dif_pos hn, rd4 H]

/-- A block's score gradient is the padded arrays' one. -/
theorem cell_at (t : Fin cfg0.N) (e : Fin 2) (r : Fin 1408) (ok : Prop) [Decidable ok] (n : ℕ) (hn : n < 3) (x : Fin 1408) (hok : ok ↔ n * 1408 + x.val ≤ (rowAt t r).val) :
    cellOfBlock (iblk m c 0 t) (iblk m c 1 t) (iblk m c 2 t) (iblk m c 3 t) (iblk m c 4 t) (iblk m c 5 t) (iblk m c 6 t) (iblk m c 7 t) e r ok n x
      = cellPad (qOf P (headAt t e)) (kOf P (headAt t e)) (vOf P (headAt t e)) (gOf D (headAt t e)) (C (headAt t e)) (rowAt t r) ⟨n * 1408 + x.val, by omega⟩ := by
  unfold cellOfBlock cellPad
  simp only [rd0 H, rd3 H, rd5 H, rd6 H, rd7 H, rowOf1 H t n hn, rowOf2 H t n hn, decayOf4 H t n hn]
  congr 3
  by_cases h : ok
  · rw [if_pos h, if_pos (hok.mp h)]
  · rw [if_neg h, if_neg (fun h' => h (hok.mpr h'))]

/-- The causal sum over a query block's keys is the sum over all keys. -/
theorem sum_at (t : Fin cfg0.N) (e : Fin 2) (r : Fin 1408) (w : Fin 4224 → EReal) (y : ℕ → Fin 1408 → EReal)
    (hy : ∀ n (h : n < 3) (x : Fin 1408), y n x = w ⟨n * 1408 + x.val, by omega⟩) :
    ∑ n ∈ Finset.range (blockOf t), ∑ x, cellOfBlock (iblk m c 0 t) (iblk m c 1 t) (iblk m c 2 t) (iblk m c 3 t) (iblk m c 4 t) (iblk m c 5 t) (iblk m c 6 t) (iblk m c 7 t) e r True n x * y n x
      + ∑ x : Fin 1408, cellOfBlock (iblk m c 0 t) (iblk m c 1 t) (iblk m c 2 t) (iblk m c 3 t) (iblk m c 4 t) (iblk m c 5 t) (iblk m c 6 t) (iblk m c 7 t) e r (x.val ≤ r.val) (blockOf t) x * y (blockOf t) x
      = ∑ j, cellPad (qOf P (headAt t e)) (kOf P (headAt t e)) (vOf P (headAt t e)) (gOf D (headAt t e)) (C (headAt t e)) (rowAt t r) j * w j := by
  have hb := blockOf_lt t
  refine sum_causal (fun j => cellPad (qOf P (headAt t e)) (kOf P (headAt t e)) (vOf P (headAt t e)) (gOf D (headAt t e)) (C (headAt t e)) (rowAt t r) j * w j) (blockOf t) hb _ _ ?_ ?_ ?_
  · intro n hn x
    rw [cell_at H t e r True n (by omega) x ⟨fun _ => by unfold rowAt; have := Nat.mul_le_mul_right 1408 (Nat.succ_le_of_lt hn); simp only [Nat.succ_eq_add_one] at this; have := x.isLt; show n * 1408 + x.val ≤ blockOf t * 1408 + r.val; omega, fun _ => trivial⟩,
      hy n (by omega) x]
  · intro x
    rw [cell_at H t e r (x.val ≤ r.val) (blockOf t) hb x (by unfold rowAt; show _ ↔ blockOf t * 1408 + x.val ≤ blockOf t * 1408 + r.val; omega), hy _ hb x]
  · intro j hj
    rw [cellPad_zero _ _ _ _ _ _ _ (Or.inr (Or.inr (by unfold rowAt; show ¬ j.val ≤ blockOf t * 1408 + r.val; have := r.isLt; omega))), zero_mul]

/-- The sum over padded keys is the sum over tokens. -/
theorem sum_tokens (h : Fin 8) (i : Fin 4224) (w : Fin 4112 → ℝ) :
    ∑ j, cellPad (qOf P h) (kOf P h) (vOf P h) (gOf D h) (C h) i j * padRow (fun n => (w n : EReal)) 0 j
      = padRow (fun n => ((∑ j, ds (qOf P h) (kOf P h) (vOf P h) (gOf D h) (C h) n j * w j : ℝ) : EReal)) 0 i := by
  rw [sum_pad _ (fun j hj => by rw [cellPad_zero _ _ _ _ _ _ _ (Or.inr (Or.inl hj)), zero_mul])]
  rcases place_cases i with hi | ⟨n, rfl⟩
  · rw [padRow_low _ _ _ hi]
    exact Finset.sum_eq_zero fun j _ => by rw [cellPad_zero _ _ _ _ _ _ _ (Or.inl hi), zero_mul]
  · rw [padRow_place, coe_sum]
    refine Finset.sum_congr rfl fun j _ => ?_
    rw [cellPad_place, padRow_place, EReal.coe_mul]

end Cert.KernelIdeal.Gen
end
-- ==== Proof.DqFinal.lean ====
module
public import proofs.«01_k».proof.Proof.DqArray
@[expose] public section
set_option maxRecDepth 16384
noncomputable section
namespace Cert.KernelIdeal.Gen
open Idealize.ShloMosaic Idealize.ShloMosaic.TcCoe Idealize.ShloMosaic.Tactic
open Idealize.ShloMosaic.Pipeline (Dat Cfg Window BodyObligation cellOf)
open Cert.Fox
variable (m : (ℓ : Loc nD τ sig) → Buf (Elt Ideal) ℓ)

theorem lane_split (l : Fin 128) : ∃ (e : Fin 2) (d : Fin 64), l = lane e d :=
  ⟨⟨l.val / 64, by omega⟩, ⟨l.val % 64, by omega⟩, Fin.ext (by simp only [lane]; omega)⟩

variable {m} {c : Dev nD} {P : Fin 4112 → Fin 6528 → ℝ} {C : Fin 8 → Fin 4112 → ℝ} {D : Fin 4112 → Fin 512 → ℝ} (H : Reals m c P C D)
include H

theorem dq_at (t : Fin cfg0.N) (r : Fin 1408) (e : Fin 2) (d : Fin 64) :
    (outsAt0 m c t).1 (ix2 r (lane e d))
      = padRow (fun n => (dq (qOf P (headAt t e)) (kOf P (headAt t e)) (vOf P (headAt t e)) (gOf D (headAt t e)) (C (headAt t e)) n d : EReal)) 0 (rowAt t r) := by
  have h0 := out8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (iblk m c 0 t) (iblk m c 1 t) (iblk m c 2 t) (iblk m c 3 t) (iblk m c 4 t) (iblk m c 5 t) (iblk m c 6 t) (iblk m c 7 t) r e d
  refine Eq.trans (b := out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (iblk m c 0 t) (iblk m c 1 t) (iblk m c 2 t) (iblk m c 3 t) (iblk m c 4 t) (iblk m c 5 t) (iblk m c 6 t) (iblk m c 7 t) (ix2 r (lane e d))) (by rw [outsAt0]) (h0.trans ?_)
  clear h0
  have h := sum_at H t e r (padRow (fun n => (kOf P (headAt t e) n d : EReal)) 0) (fun n x => rowOf (iblk m c 1 t) n x (lane e d)) (fun n hn x => rowOf1 H t n hn x e d)
  unfold blockOf at h
  rw [h, sum_tokens H, eighth]
  rcases place_cases (rowAt t r) with hi | ⟨n, hn⟩
  · rw [padRow_low _ _ _ hi, padRow_low _ _ _ hi, zero_mul]
  · rw [hn, padRow_place, padRow_place, ← EReal.coe_mul]
    rfl

theorem dc_at (t : Fin cfg0.N) (e : Fin 2) (r : Fin 1408) :
    (outsAt0 m c t).2.2 (ix3 e r 0)
      = padRow (fun n => (dcq (qOf P (headAt t e)) (kOf P (headAt t e)) (vOf P (headAt t e)) (gOf D (headAt t e)) (C (headAt t e)) n : EReal)) 0 (rowAt t r) := by
  have h0 := out10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (iblk m c 0 t) (iblk m c 1 t) (iblk m c 2 t) (iblk m c 3 t) (iblk m c 4 t) (iblk m c 5 t) (iblk m c 6 t) (iblk m c 7 t) e r
  refine Eq.trans (b := out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (iblk m c 0 t) (iblk m c 1 t) (iblk m c 2 t) (iblk m c 3 t) (iblk m c 4 t) (iblk m c 5 t) (iblk m c 6 t) (iblk m c 7 t) (ix3 e r 0)) (by rw [outsAt0]) (h0.trans ?_)
  clear h0
  have h := sum_at H t e r (fun _ => 1) (fun _ _ => 1) (fun _ _ _ => rfl)
  unfold blockOf at h
  simp only [mul_one] at h
  rw [h, sum_pad _ (fun j hj => cellPad_zero _ _ _ _ _ _ _ (Or.inr (Or.inl hj)))]
  rcases place_cases (rowAt t r) with hi | ⟨n, hn⟩
  · rw [padRow_low _ _ _ hi]
    exact Finset.sum_eq_zero fun j _ => cellPad_zero _ _ _ _ _ _ _ (Or.inl hi)
  · rw [hn, padRow_place]
    unfold dcq
    rw [coe_sum]
    exact Finset.sum_congr rfl fun j _ => cellPad_place _ _ _ _ _ _ _

/-- The query gradients the kernel leaves. -/
theorem final8 : (dats m 0 c).arrAt 8 cfg0.N = fun i : S4224x512.Idx => dqPad P C D (i 0) (i 1) := by
  refine (dats m 0 c).arrAt_eq_of_covers 8 _ (by decide +kernel) fun t hf y => ?_
  blk_simp
  rw [after0_8]
  idx_vars y
  obtain ⟨e, d, rfl⟩ := lane_split y1
  rw [dq_at H]
  have h0 : (((View.whole main_v46_0).slice (win0_8.rect t)).emb (ix2 y0 (lane e d)) 0 : Fin 4224) = rowAt t y0 := by
    refine Fin.ext ?_
    blk_simp [(index_at t).2.2.2.2.2.2.2.2.1]
    unfold rowAt
    simp
  have h1 : (((View.whole main_v46_0).slice (win0_8.rect t)).emb (ix2 y0 (lane e d)) 1 : Fin 512) = (⟨(headAt t e).val * 64 + d.val, by omega⟩ : Fin 512) := by
    refine Fin.ext ?_
    blk_simp [(index_at t).2.2.2.2.2.2.2.2.1]
    unfold lane headAt
    simp
    omega
  have h2 : headOf ⟨(headAt t e).val * 64 + d.val, by omega⟩ = headAt t e := Fin.ext (by simp only [headOf]; omega)
  have h3 : dimOf ⟨(headAt t e).val * 64 + d.val, by omega⟩ = d := Fin.ext (by simp only [dimOf]; omega)
  refine Eq.trans ?_ (congrArg₂ (dqPad P C D) h0 h1).symm
  unfold dqPad
  rw [h2, h3]

/-- The gate gradients the kernel leaves. -/
theorem final10 : (dats m 0 c).arrAt 10 cfg0.N = fun i : S8x4224x1.Idx => dcqPad P C D (i 0) (i 1) := by
  refine (dats m 0 c).arrAt_eq_of_covers 10 _ (by decide +kernel) fun t hf y => ?_
  blk_simp
  rw [after0_10]
  idx_vars y
  obtain rfl : y2 = 0 := by omega
  rw [dc_at H]
  have h0 : (((View.whole main_v46_2).slice (win0_10.rect t)).emb (ix3 y0 y1 0) 0 : Fin 8) = headAt t y0 := by
    refine Fin.ext ?_
    blk_simp [(index_at t).2.2.2.2.2.2.2.2.2]
    unfold headAt
    simp
  have h1 : (((View.whole main_v46_2).slice (win0_10.rect t)).emb (ix3 y0 y1 0) 1 : Fin 4224) = rowAt t y1 := by
    refine Fin.ext ?_
    blk_simp [(index_at t).2.2.2.2.2.2.2.2.2]
    unfold rowAt
    simp
  exact (congrArg₂ (dcqPad P C D) h0 h1).symm

end Cert.KernelIdeal.Gen
end
-- ==== Proof.DqRef.lean ====
module
public import proofs.«01_k».proof.Proof.Fox
public import proofs.«01_k».proof.Proof.Gen.ReferenceIdeal.Read
public import Idealize.ShloMosaic.Lib.Pipeline.ValueKit
public import Idealize.ShloMosaic.Lib.Pointwise
public import Idealize.ShloMosaic.Lib.WordCmp
@[expose] public section
set_option maxRecDepth 16384
noncomputable section
namespace Cert.ReferenceIdeal.Read
open Cert.ReferenceIdeal Cert.ReferenceIdeal.Gen Idealize.ShloMosaic Idealize.ShloMosaic.TcCoe Idealize.ShloMosaic.Tactic
open Cert.Fox

theorem select_le (j i : Fin 4112) {α : Type} (A B : α) :
    Scalar.select (IntOp.cmpi .sle (BitVec.ofNat 32 j.val) (BitVec.ofNat 32 i.val)) A B = if j.val ≤ i.val then A else B := by
  unfold Scalar.select
  rw [WordCmp.cmpi_sle_ofNat (by have := j.isLt; omega) (by have := i.isLt; omega)]
  by_cases h : j.val ≤ i.val <;> simp [h]

theorem minus_inf (k : S_.Idx) : (constant (F := Ideal) S_ .f32 4286578688#32 k : EReal) = ⊥ := by
  show Ideal.ofBits .f32 4286578688#32 = ⊥
  exact ofBits_bot

theorem one_word : (Ideal.ofBits .f32 1065353216#32 : EReal) = ((1 : ℝ) : EReal) := by
  simp [Ideal.ofBits, Ideal.ieee]
  rw [← EReal.coe_mul]
  norm_num

theorem zero_int : (FloatOps.sitofp (F := Ideal) .f32 (0#32 : BitVec 32) : EReal) = 0 := by
  show ((((0#32 : BitVec 32).toInt : ℝ)) : EReal) = 0
  simp

variable (x0 : Vec Ideal S4112x6528 .f32) (x1 : Vec Ideal S8x4112 .f32) (x2 : Vec Ideal S4112x512 .f32)
  (P : Fin 4112 → Fin 6528 → ℝ) (C : Fin 8 → Fin 4112 → ℝ) (D : Fin 4112 → Fin 512 → ℝ)

/-- The arguments are the real arrays `P`, `C` and `D`. -/
structure Reals : Prop where
  proj : ∀ n l, x0 (ix2 n l) = (P n l : EReal)
  cum : ∀ h n, x1 (ix2 h n) = (C h n : EReal)
  grad : ∀ n l, x2 (ix2 n l) = (D n l : EReal)

variable {x0 x1 x2 P C D} (H : Reals x0 x1 x2 P C D)
include H

theorem s1 (h : Fin 8) (i : Fin 4112) (d : Fin 64):
    (val_main_v1 (F := Ideal) x0 (ix3 i h d) : EReal) = (qOf P h i d : EReal) := by
  unfold val_main_v1 val_main_v0
  pointwise
  rw [H.proj]; rfl
theorem s3 (h : Fin 8) (i : Fin 4112) (d : Fin 64):
    (val_main_v3 (F := Ideal) x0 (ix3 i h d) : EReal) = (kOf P h i d : EReal) := by
  unfold val_main_v3 val_main_v2
  pointwise
  rw [H.proj]; rfl
theorem s5 (h : Fin 8) (i : Fin 4112) (d : Fin 64):
    (val_main_v5 (F := Ideal) x0 (ix3 i h d) : EReal) = (vOf P h i d : EReal) := by
  unfold val_main_v5 val_main_v4
  pointwise
  rw [H.proj]; rfl
theorem s21 (h : Fin 8) (i j : Fin 4112):
    (val_main_v21_0 (F := Ideal) x0 x1 (ix3 h i j) : EReal) = msk (qOf P h) (kOf P h) (C h) i j := by
  unfold val_main_v21_0 val_main_v21_1 val_main_v14 val_main_call0_v2 val_main_call0_v0 val_main_cst_0 val_main_v20 val_main_v19 val_main_v18 val_main_v17 val_main_v16 val_main_v15 val_main_v13 val_main_v12 val_main_v11 val_main_v10 val_main_v9 val_main_v8 val_main_v7 val_main_cst val_main_v6
  generalize hy_q : val_main_v1 x0 = q
  generalize hy_k : val_main_v3 x0 = k
  pointwise
  subst hy_q
  subst hy_k
  unfold msk sc
  rw [select_le]
  simp only [s1 H, s3 H, H.cum, eighth, minus_inf, id_eq]
  by_cases hji : j.val ≤ i.val
  · rw [if_pos hji, if_pos hji]
    simp only [← EReal.coe_mul, ← coe_sum, ← EReal.coe_add, ← EReal.coe_sub]
  · rw [if_neg hji, if_neg hji]
theorem s22 (h : Fin 8) (i : Fin 4112):
    (val_main_v22 (F := Ideal) x0 x1 (ix2 h i) : EReal) = (top (qOf P h) (kOf P h) (C h) i : EReal) := by
  unfold val_main_v22 val_main_cst_1
  generalize hy_s : val_main_v21_0 x0 x1 = s
  pointwise
  subst hy_s
  rw [← fold_top, ofBits_bot]
  simp only [s21 H]
theorem s28 (h : Fin 8) (i : Fin 4112) : (val_main_v28 (F := Ideal) (ix2 h i) : EReal) = ⊥ := by
  unfold val_main_v28 val_main_cst_3
  pointwise
  exact ofBits_bot

theorem s29 (h : Fin 8) (i : Fin 4112) : (val_main_v29 (F := Ideal) x0 x1 (ix2 h i) : EReal) = (top (qOf P h) (kOf P h) (C h) i : EReal) := by
  rw [val_main_v29_apply, s22 H, s28 H]
  exact max_eq_right bot_le

theorem s42 (h : Fin 8) (i j : Fin 4112):
    (val_main_v42 (F := Ideal) x0 x1 (ix3 h i j) : EReal) = (ex (qOf P h) (kOf P h) (C h) i j : EReal) := by
  unfold val_main_v42 val_main_v41 val_main_v40 val_main_v39
  generalize hy_s : val_main_v21_0 x0 x1 = s
  generalize hy_t : val_main_v29 x0 x1 = t
  pointwise
  subst hy_s
  subst hy_t
  rw [s21 H, s29 H, exp_msk]
theorem s43 (h : Fin 8) (i : Fin 4112):
    (val_main_v43 (F := Ideal) x0 x1 (ix2 h i) : EReal) = (nrm (qOf P h) (kOf P h) (C h) i : EReal) := by
  unfold val_main_v43 val_main_cst_9
  generalize hy_s : val_main_v42 x0 x1 = s
  pointwise
  subst hy_s
  simp only [s42 H]
  unfold nrm
  rw [coe_sum]
theorem s44 (h : Fin 8) (i : Fin 4112):
    (val_main_v44 (F := Ideal) x0 x1 (ix3 h i 0) : EReal) = (nrm (qOf P h) (kOf P h) (C h) i : EReal) := by
  unfold val_main_v44
  generalize hy_s : val_main_v43 x0 x1 = s
  pointwise
  subst hy_s
  rw [s43 H]
theorem s49 (h : Fin 8) (i : Fin 4112):
    (val_main_v49 (F := Ideal) x0 x1 (ix3 h i 0) : EReal) = ((1 / (nrm (qOf P h) (kOf P h) (C h) i * nrm (qOf P h) (kOf P h) (C h) i) : ℝ) : EReal) := by
  unfold val_main_v49 val_main_v48 val_main_v47 val_main_cst_10
  generalize hy_s : val_main_v44 x0 x1 = s
  pointwise
  subst hy_s
  rw [s44 H, ← EReal.coe_one, ← EReal.coe_mul, Ideal.div_coe (mul_pos (nrm_pos (qOf P h) (kOf P h) (C h) i) (nrm_pos (qOf P h) (kOf P h) (C h) i)).ne', ← EReal.coe_mul, one_mul]
theorem s55 (h : Fin 8) (i j : Fin 4112):
    (val_main_v55 (F := Ideal) x0 x2 (ix3 h i j) : EReal) = (dp (vOf P h) (gOf D h) i j : EReal) := by
  unfold val_main_v55 val_main_v54 val_main_v53
  generalize hy_s : val_main_v5 x0 = s
  pointwise
  subst hy_s
  simp only [s5 H, H.grad]
  unfold dp gOf
  simp only [coe_sum, EReal.coe_mul]
theorem s58 (h : Fin 8) (i j : Fin 4112):
    (val_main_v58 (F := Ideal) x0 x1 x2 (ix3 h i j) : EReal) = ((dp (vOf P h) (gOf D h) i j * (1 / (nrm (qOf P h) (kOf P h) (C h) i * nrm (qOf P h) (kOf P h) (C h) i)) * ex (qOf P h) (kOf P h) (C h) i j : ℝ) : EReal) := by
  unfold val_main_v58 val_main_v57 val_main_v56
  generalize hy_s : val_main_v55 x0 x2 = s
  generalize hy_t : val_main_v49 x0 x1 = t
  generalize hy_u : val_main_v42 x0 x1 = u
  pointwise
  subst hy_s
  subst hy_t
  subst hy_u
  rw [s55 H, s49 H, s42 H, EReal.coe_mul, EReal.coe_mul]
theorem s59 (h : Fin 8) (i : Fin 4112):
    (val_main_v59 (F := Ideal) x0 x1 x2 (ix2 h i) : EReal) = ((del (qOf P h) (kOf P h) (vOf P h) (gOf D h) (C h) i / nrm (qOf P h) (kOf P h) (C h) i : ℝ) : EReal) := by
  unfold val_main_v59 val_main_cst_11
  generalize hy_s : val_main_v58 x0 x1 x2 = s
  pointwise
  subst hy_s
  simp only [s58 H]
  rw [← coe_sum, del_eq, Finset.sum_div]
  refine congrArg _ (Finset.sum_congr rfl fun j _ => ?_)
  have hn := (nrm_pos (qOf P h) (kOf P h) (C h) i).ne'
  unfold wt
  field_simp
theorem s61 (h : Fin 8) (i : Fin 4112):
    (val_main_v61 (F := Ideal) x0 x1 x2 (ix3 h i 0) : EReal) = ((-(del (qOf P h) (kOf P h) (vOf P h) (gOf D h) (C h) i / nrm (qOf P h) (kOf P h) (C h) i) : ℝ) : EReal) := by
  unfold val_main_v61 val_main_v60
  generalize hy_s : val_main_v59 x0 x1 x2 = s
  pointwise
  subst hy_s
  rw [s59 H, EReal.coe_neg]
theorem s64 (h : Fin 8) (i : Fin 4112):
    (val_main_v64 (F := Ideal) x0 x1 x2 (ix2 h i) : EReal) = ((-(del (qOf P h) (kOf P h) (vOf P h) (gOf D h) (C h) i / nrm (qOf P h) (kOf P h) (C h) i) : ℝ) : EReal) := by
  unfold val_main_v64 val_main_cst_12
  generalize hy_s : val_main_v61 x0 x1 x2 = s
  pointwise
  subst hy_s
  rw [Fin.sum_univ_one]
  exact s61 H h i
theorem s67 (h : Fin 8) (i j : Fin 4112):
    (val_main_v67 (F := Ideal) x0 x1 x2 (ix3 h i j) : EReal) = (ds (qOf P h) (kOf P h) (vOf P h) (gOf D h) (C h) i j : EReal) := by
  unfold val_main_v67 val_main_v66 val_main_v65 val_main_v63 val_main_v62
  generalize hy_s : val_main_v55 x0 x2 = s
  generalize hy_t : val_main_v44 x0 x1 = t
  generalize hy_u : val_main_v64 x0 x1 x2 = u
  generalize hy_w : val_main_v42 x0 x1 = w
  pointwise
  subst hy_s
  subst hy_t
  subst hy_u
  subst hy_w
  have hn := (nrm_pos (qOf P h) (kOf P h) (C h) i).ne'
  rw [s55 H, s44 H, s64 H, s42 H, Ideal.div_coe hn, ← EReal.coe_mul, ← EReal.coe_add, ← EReal.coe_mul]
  refine congrArg _ ?_
  unfold ds wt
  field_simp
  ring
theorem s68 (h : Fin 8) (i j : Fin 4112):
    (val_main_v68 (F := Ideal) x0 x1 x2 (ix3 h i j) : EReal) = (ds (qOf P h) (kOf P h) (vOf P h) (gOf D h) (C h) i j : EReal) := by
  unfold val_main_v68 val_main_v21_1 val_main_v20 val_main_v19 val_main_v18 val_main_v17 val_main_v16 val_main_v15 val_main_call1_v0 val_main_call1_cst
  generalize hy_s : val_main_v67 x0 x1 x2 = s
  pointwise
  subst hy_s
  rw [select_le]
  by_cases hji : j.val ≤ i.val
  · rw [if_pos hji, s67 H]
  · rw [if_neg hji, ds_above _ _ _ _ _ _ _ hji]
    simp
theorem s69 (h : Fin 8) (i : Fin 4112):
    (val_main_v69 (F := Ideal) x0 x1 x2 (ix2 h i) : EReal) = (dcq (qOf P h) (kOf P h) (vOf P h) (gOf D h) (C h) i : EReal) := by
  unfold val_main_v69 val_main_cst_13
  generalize hy_s : val_main_v68 x0 x1 x2 = s
  pointwise
  subst hy_s
  simp only [s68 H]
  unfold dcq
  rw [coe_sum]
theorem s71 (h : Fin 8) (i : Fin 4112):
    (val_main_v71 (F := Ideal) x0 x1 x2 (ix2 h i) : EReal) = (dcq (qOf P h) (kOf P h) (vOf P h) (gOf D h) (C h) i : EReal) := by
  unfold val_main_v71 val_main_cst_14 val_main_v70
  generalize hy_s : val_main_v69 x0 x1 x2 = s
  pointwise
  subst hy_s
  rw [Fin.sum_univ_one]
  exact s69 H h i
theorem s74 (h : Fin 8) (i : Fin 4112) (d : Fin 64):
    (val_main_v74 (F := Ideal) x0 x1 x2 (ix3 h i d) : EReal) = (dq (qOf P h) (kOf P h) (vOf P h) (gOf D h) (C h) i d : EReal) := by
  unfold val_main_v74 val_main_v73 val_main_v72 val_main_cst_15
  generalize hy_s : val_main_v68 x0 x1 x2 = s
  generalize hy_k : val_main_v3 x0 = k
  pointwise
  subst hy_s
  subst hy_k
  simp only [s68 H, s3 H, eighth, ← EReal.coe_mul, ← coe_sum]
  unfold dq
  rw [Finset.sum_mul]
  refine congrArg _ (Finset.sum_congr rfl fun j _ => by ring)
theorem s77 (i : Fin 4224) (l : Fin 512):
    (val_main_v77 (F := Ideal) x0 x1 x2 (ix2 i l) : EReal) = dqPad P C D i l := by
  unfold val_main_v77 val_main_call2_v0 val_main_c val_main_v76 val_main_v75
  generalize hy_s : val_main_v74 x0 x1 x2 = s
  pointwise
  subst hy_s
  simp only [s74 H, zero_int]
  exact padRow_eq (fun n => (dq (qOf P (headOf l)) (kOf P (headOf l)) (vOf P (headOf l)) (gOf D (headOf l)) (C (headOf l)) n (dimOf l) : EReal)) 0 i
theorem s79 (h : Fin 8) (i : Fin 4224):
    (val_main_v79 (F := Ideal) x0 x1 x2 (ix3 h i 0) : EReal) = dcqPad P C D h i := by
  unfold val_main_v79 val_main_v78 val_main_call3_v0 val_main_c_16
  generalize hy_s : val_main_v71 x0 x1 x2 = s
  pointwise
  subst hy_s
  simp only [s71 H, zero_int]
  exact padRow_eq (fun n => (dcq (qOf P h) (kOf P h) (vOf P h) (gOf D h) (C h) n : EReal)) 0 i

end Cert.ReferenceIdeal.Read
end
-- ==== Proof.DqEq.lean ====
module
public import proofs.«01_k».proof.Defs
public import proofs.«01_k».proof.Proof.Finite
public import proofs.«01_k».proof.Proof.DqFinal
public import proofs.«01_k».proof.Proof.DqRef
public import proofs.«01_k».proof.Proof.Gen.ReferenceIdeal.Run
public import proofs.«01_k».proof.Proof.Gen.Pre_finite
@[expose] public section
set_option maxRecDepth 16384
noncomputable section
/-! The gradients of the queries and of the query decays: the kernel's arrays are the reference's. -/
namespace Cert.DqEq
open Idealize.ShloMosaic Idealize.ShloMosaic.TcCoe Idealize.SL.Sem
open Cert.Fox

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- The three arguments as real arrays. -/
def realP (c : Dev Cert.KernelIdeal.nD) (n : Fin 4112) (l : Fin 6528) : ℝ := (Cert.KernelIdeal.Gen.projOf m c (ix2 n l)).toReal
def realC (c : Dev Cert.KernelIdeal.nD) (h : Fin 8) (n : Fin 4112) : ℝ := (Cert.KernelIdeal.Gen.cumOf m c (ix2 h n)).toReal
def realD (c : Dev Cert.KernelIdeal.nD) (n : Fin 4112) (l : Fin 512) : ℝ := (Cert.KernelIdeal.Gen.gradOf m c (ix2 n l)).toReal

theorem reals_kernel (hm : Cert.Pre_KernelIdeal_finite (hPre_finite := Cert.Pre_finite.Gen.facts) m) (c : Dev Cert.KernelIdeal.nD) :
    Cert.KernelIdeal.Gen.Reals m c (realP m c) (realC m c) (realD m c) := by
  obtain ⟨h0, h1, h2⟩ := @Cert.Pre_finite.real_of_fn Cert.Pre_finite.Gen.facts _ _ _ (hm c)
  exact ⟨fun n l => h0 _, fun h n => h1 _, fun n l => h2 _⟩

abbrev Agree : Prop := ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)

theorem reals_reference (hm : Cert.Pre_KernelIdeal_finite (hPre_finite := Cert.Pre_finite.Gen.facts) m) (ha : Agree m m') (c : Dev Cert.KernelIdeal.nD) :
    Cert.ReferenceIdeal.Read.Reals (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (realP m c) (realC m c) (realD m c) := by
  obtain ⟨h0, h1, h2⟩ := @Cert.Pre_finite.real_of_fn Cert.Pre_finite.Gen.facts _ _ _ (hm c)
  obtain ⟨a0, a1, a2⟩ := ha c
  rw [a0, a1, a2]
  exact ⟨fun n l => h0 _, fun h n => h1 _, fun n l => h2 _⟩

theorem first_eq (hm : Cert.Pre_KernelIdeal_finite (hPre_finite := Cert.Pre_finite.Gen.facts) m) (ha : Agree m m') (c : Dev Cert.KernelIdeal.nD) :
    Cert.ReferenceIdeal.Value.res_main_v77 m' c = (Cert.KernelIdeal.Gen.dats m 0 c).arrAt 8 Cert.KernelIdeal.cfg0.N := by
  rw [Cert.ReferenceIdeal.Read.val_main_v77_eq, Cert.KernelIdeal.Gen.final8 (reals_kernel m hm c)]
  funext i
  obtain ⟨a, b, rfl⟩ : ∃ a b, i = ix2 a b := ⟨i 0, i 1, by funext d; fin_cases d <;> rfl⟩
  exact Cert.ReferenceIdeal.Read.s77 (reals_reference m m' hm ha c) a b

theorem second_eq (hm : Cert.Pre_KernelIdeal_finite (hPre_finite := Cert.Pre_finite.Gen.facts) m) (ha : Agree m m') (c : Dev Cert.KernelIdeal.nD) :
    Cert.ReferenceIdeal.Value.res_main_v79 m' c = (Cert.KernelIdeal.Gen.dats m 0 c).arrAt 10 Cert.KernelIdeal.cfg0.N := by
  rw [Cert.ReferenceIdeal.Read.val_main_v79_eq, Cert.KernelIdeal.Gen.final10 (reals_kernel m hm c)]
  funext i
  obtain ⟨a, b, e, rfl⟩ : ∃ a b e, i = ix3 a b e := ⟨i 0, i 1, i 2, by funext d; fin_cases d <;> rfl⟩
  obtain rfl : e = 0 := Subsingleton.elim _ _
  exact Cert.ReferenceIdeal.Read.s79 (reals_reference m m' hm ha c) a b

theorem claim : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hm ha
  refine ⟨fun c => (Cert.KernelIdeal.Gen.dats m 0 c).arrAt 8 Cert.KernelIdeal.cfg0.N,
    fun c => (Cert.KernelIdeal.Gen.dats m 0 c).arrAt 10 Cert.KernelIdeal.cfg0.N, ?_, ?_⟩
  · exact (θ_run Cert.KernelIdeal.defs _ _).mono (fun r h c => ⟨(h c).1, (h c).2.2.1, (h c).2.2.2⟩) (Cert.KernelIdeal.Value.run_blocks m g)
  · exact (θ_run Cert.ReferenceIdeal.defs _ _).mono
      (fun r h c => ⟨(h c).1.trans (first_eq m m' hm ha c), (h c).2.1.trans (second_eq m m' hm ha c), (h c).2.2⟩)
      (Cert.ReferenceIdeal.Value.run m' g')

end Cert.DqEq
-- ==== Proof.DkvHost.lean ====
module
public import proofs.«01_k».proof.Proof.Gen.Kernel2Ideal.Value
public import Idealize.ShloMosaic.Lib.Pipeline.ValueKit
public import Idealize.ShloMosaic.Lib.Pointwise
public import Idealize.ShloMosaic.Lib.StableHlo.ReadAt
@[expose] public section
set_option maxRecDepth 16384
noncomputable section
namespace Cert.Kernel2Ideal.Gen
open Idealize.ShloMosaic Idealize.ShloMosaic.TcCoe Idealize.ShloMosaic.Tactic

/-- The row maxima of the scores. -/
def topOf (x : Vec Ideal S8x4112x4112 .f32) : Vec Ideal S8x4112 .f32 :=
  Host.reduce (FloatOps.maximumf (F := Ideal) (φ := .f32)) x (constant (F := Ideal) S_ .f32 0xFF800000#32) reducesTo_S8x4112x4112_S8x4112_d2 h_S_

/-- The row maxima as a column. -/
def topCol (x : Vec Ideal S8x4112x4112 .f32) : Vec Ideal S8x4112x1 .f32 :=
  broadcastInDim S8x4112x1 ![0, 1] bcast_S8x4112_S8x4112x1_0_1 (topOf x)

/-- The exponentials of the scores under their maxima. -/
def expOf (x : Vec Ideal S8x4112x4112 .f32) : Vec Ideal S8x4112x4112 .f32 :=
  Host.exp (F := Ideal) (φ := .f32) (subf (F := Ideal) (φ := .f32) x (broadcastInDim S8x4112x4112 ![0, 1, 2] bcast_S8x4112x1_S8x4112x4112_0_1_2 (topCol x)))

/-- Their row sums. -/
def sumOf (x : Vec Ideal S8x4112x4112 .f32) : Vec Ideal S8x4112 .f32 :=
  Host.reduceAdd (F := Ideal) (φ := .f32) x (constant S_ .f32 0x00000000#32) reducesTo_S8x4112x4112_S8x4112_d2 h_S_

/-- The row sums as a column. -/
def sumCol (x : Vec Ideal S8x4112x4112 .f32) : Vec Ideal S8x4112x1 .f32 :=
  broadcastInDim S8x4112x1 ![0, 1] bcast_S8x4112_S8x4112x1_0_1 (sumOf (expOf x))

/-- The attention weights. -/
def weightOf (x : Vec Ideal S8x4112x4112 .f32) : Vec Ideal S8x4112x4112 .f32 :=
  Host.divf (F := Ideal) (φ := .f32) (expOf x) (broadcastInDim S8x4112x4112 ![0, 1, 2] bcast_S8x4112x1_S8x4112x4112_0_1_2 (sumCol x))

/-- The attention's output rows. -/
def outOf (a : Vec Ideal S4112x6528 .f32) (x : Vec Ideal S8x4112x4112 .f32) : Vec Ideal S4112x512 .f32 :=
  shapeCast S4112x512 (transpose S4112x8x64 [2, 0, 1] (Host.dotGeneral (F := Ideal) (φ₁ := .f32) (φ₂ := .f32) dot_S4112x8x64_S8x4112x4112_S8x64x4112_0_2_2_1_1_0 none
    (shapeCast S4112x8x64 (extractStridedSlice S4112x512 ![0, 4608] a slices_S4112x6528_S4112x512_0_4608) shapeCasts_S4112x512_S4112x8x64) (weightOf x))
    transposes_S8x64x4112_S4112x8x64_2_0_1) shapeCasts_S4112x8x64_S4112x512

/-- The logarithm of the weights' normaliser. -/
def lseOf (x : Vec Ideal S8x4112x4112 .f32) : Vec Ideal S8x4112x1 .f32 :=
  addf (F := Ideal) (φ := .f32) (topCol x) (Host.log (F := Ideal) (φ := .f32) (sumCol x))

theorem topOf_at (x : Vec Ideal S8x4112x4112 .f32) (h : Fin 8) (i : Fin 4112) :
    topOf x (ix2 h i) = Finset.fold max (Ideal.ofBits .f32 4286578688#32) (fun j : Fin 4112 => x (ix3 h i j)) Finset.univ := by
  unfold topOf
  pointwise

theorem topCol_at (x : Vec Ideal S8x4112x4112 .f32) (h : Fin 8) (i : Fin 4112) : topCol x (ix3 h i 0) = topOf x (ix2 h i) := by
  unfold topCol
  pointwise

theorem expOf_at (x : Vec Ideal S8x4112x4112 .f32) (h : Fin 8) (i j : Fin 4112) :
    expOf x (ix3 h i j) = Ideal.exp (x (ix3 h i j) - topOf x (ix2 h i)) := by
  unfold expOf
  pointwise
  rw [topCol_at]

theorem sumOf_at (x : Vec Ideal S8x4112x4112 .f32) (h : Fin 8) (i : Fin 4112) : sumOf x (ix2 h i) = ∑ j, x (ix3 h i j) := by
  unfold sumOf
  pointwise

theorem sumCol_at (x : Vec Ideal S8x4112x4112 .f32) (h : Fin 8) (i : Fin 4112) : sumCol x (ix3 h i 0) = ∑ j, expOf x (ix3 h i j) := by
  unfold sumCol
  pointwise
  rw [sumOf_at]

theorem weightOf_at (x : Vec Ideal S8x4112x4112 .f32) (h : Fin 8) (i j : Fin 4112) :
    weightOf x (ix3 h i j) = Ideal.div (expOf x (ix3 h i j)) (∑ j, expOf x (ix3 h i j)) := by
  unfold weightOf
  pointwise
  rw [sumCol_at]

theorem outOf_at (a : Vec Ideal S4112x6528 .f32) (x : Vec Ideal S8x4112x4112 .f32) (h : Fin 8) (i : Fin 4112) (d : Fin 64) :
    outOf a x (ix2 i ⟨h.val * 64 + d.val, by omega⟩)
      = ∑ j : Fin 4112, a (ix2 j ⟨4608 + (h.val * 64 + d.val), by omega⟩) * weightOf x (ix3 h i j) := by
  unfold outOf
  pointwise

theorem add_log (A B : Vec Ideal S8x4112x1 .f32) (k : S8x4112x1.Idx) :
    addf (F := Ideal) (φ := .f32) A (Host.log (F := Ideal) (φ := .f32) B) k = (A k + Ideal.log (B k) : EReal) := rfl

theorem lseOf_at (x : Vec Ideal S8x4112x4112 .f32) (h : Fin 8) (i : Fin 4112) :
    lseOf x (ix3 h i 0) = topOf x (ix2 h i) + Ideal.log (∑ j, expOf x (ix3 h i j)) := by
  rw [← topCol_at, ← sumCol_at]
  exact add_log _ _ _

theorem after_two (l₁ l₂ : List (HloOp τ sig (Elt Ideal))) (U : Valuation τ sig (Elt Ideal)) :
    StableHlo.after (l₁ ++ l₂) U = StableHlo.after l₂ (StableHlo.after l₁ U) := by
  induction l₁ generalizing U with
  | nil => rfl
  | cons op l ih => exact ih _

/-- The score of query `i` and key `j` as the host computes it. -/
def scoreE (a : Vec Ideal S4112x6528 .f32) (b : Vec Ideal S8x4112 .f32) (h : Fin 8) (i j : Fin 4112) : EReal :=
  if j.val ≤ i.val then (∑ d : Fin 64, a (ix2 i ⟨3584 + (h.val * 64 + d.val), by omega⟩) * a (ix2 j ⟨4096 + (h.val * 64 + d.val), by omega⟩)) * Ideal.ofBits .f32 1040187392#32
      + b (ix2 h i) - b (ix2 h j) else ⊥

theorem select_le (j i : Fin 4112) {α : Type} (A B : α) :
    Scalar.select (IntOp.cmpi .sle (BitVec.ofNat 32 j.val) (BitVec.ofNat 32 i.val)) A B = if j.val ≤ i.val then A else B := by
  unfold Scalar.select
  rw [WordCmp.cmpi_sle_ofNat (by have := j.isLt; omega) (by have := i.isLt; omega)]
  by_cases h : j.val ≤ i.val <;> simp [h]

theorem minus_inf : (constant (F := Ideal) S_ .f32 4286578688#32 ix0 : EReal) = ⊥ := by
  show Ideal.ofBits .f32 4286578688#32 = ⊥
  simp [Ideal.ofBits, Ideal.ieee]

theorem score_read (U : Valuation τ sig (Elt Ideal)) (h : Fin 8) (i j : Fin 4112) :
    (StableHlo.after (hostOps0_1 (F := Ideal)) (StableHlo.after (hostOps0 (F := Ideal)) U)) (Proc.tc.devRef main_v19) (ix3 h i j)
      = scoreE (U (Proc.tc.devRef main_arg0)) (U (Proc.tc.devRef main_arg1)) h i j := by
  after_reads_at
  unfold scoreE
  rw [select_le, ← minus_inf]
  rfl

theorem out_read (U : Valuation τ sig (Elt Ideal)) :
    (StableHlo.after (hostOps0_2 (F := Ideal)) U) (Proc.tc.devRef main_v33) = outOf (U (Proc.tc.devRef main_arg0)) (U (Proc.tc.devRef main_v19)) := by
  after_reads_simp
  rfl

theorem lse_read (U : Valuation τ sig (Elt Ideal)) :
    (StableHlo.after (hostOps0_2 (F := Ideal)) U) (Proc.tc.devRef main_v35) = lseOf (U (Proc.tc.devRef main_v19)) := by
  after_reads_simp
  rfl

end Cert.Kernel2Ideal.Gen
end
-- ==== Proof.DkvBlock.lean ====
module
public import proofs.«01_k».proof.Proof.Gen.Kernel2Ideal.Value
public import Idealize.ShloMosaic.Lib.Pipeline.ValueKit
public import Idealize.ShloMosaic.Lib.Pointwise
public import Idealize.ShloMosaic.Lib.LoopRemainder
@[expose] public section
set_option maxRecDepth 16384
noncomputable section
namespace Cert.Kernel2Ideal.Gen
open Idealize.ShloMosaic Idealize.ShloMosaic.TcCoe Idealize.ShloMosaic.Tactic
open Idealize.ShloMosaic.Pipeline (Dat Cfg Window BodyObligation cellOf)

theorem trips1 : ∀ i : grid0.Coords, (k0_t1_loop i).trips = 2 - (i 1).val := by decide +kernel
theorem trips1_lt : ∀ (i : grid0.Coords) (k : Fin (k0_t1_loop i).trips), (i 1).val + 1 + k.val < 3 := by decide +kernel
theorem offd : ∀ i : grid0.Coords, BitVec.toNat (Scalar.indexCast (Scalar.muli (BitVec.ofNat 32 ↑(i 1)) 1408#32)) = (i 1).val * 1408 := by decide +kernel
theorem offe : ∀ i : grid0.Coords, BitVec.toNat (Scalar.indexCast (BitVec.ofNat 32 ↑(i 1))) = (i 1).val := by decide +kernel
theorem ki_lt : ∀ i : grid0.Coords, (i 1).val < 3 := by decide +kernel
theorem trips2 : ∀ i : grid0.Coords, (k0_t2_loop i).trips = 0 := by decide +kernel
theorem off3 : ∀ (i : grid0.Coords) (k : Fin (k0_t1_loop i).trips), k0_off3 i k = ![((i 1).val + 1 + k.val) * 1408, 0] := by decide +kernel
theorem off4 : ∀ (i : grid0.Coords) (k : Fin (k0_t1_loop i).trips), k0_off4 i k = ![0, (i 1).val + 1 + k.val, 0, 0] := by decide +kernel

/-- Row `n * 1408 + x` of a whole column array, zero past its end. -/
def rowOf (x1 : Vec Ideal S4224x128 .f32) (n : ℕ) (x : Fin 1408) (l : Fin 128) : EReal :=
  if h : n * 1408 + x.val < 4224 then x1 (ix2 ⟨n * 1408 + x.val, h⟩ l) else 0

/-- Column `e` of row `x` of query block `n` of the packed columns, zero past the last block. -/
def statOf (x2 : Vec Ideal S1x3x1408x6 .f32) (e : Fin 6) (n : ℕ) (x : Fin 1408) : EReal :=
  if h : n < 3 then x2 (ix4 0 ⟨n, h⟩ x e) else 0

/-- The weight of one query row on one key, the causal test being `ok`. -/
def wgt (ok : Prop) [Decidable ok] (q : Fin 128 → EReal) (cq lse ck : EReal) (k : Fin 128 → EReal) : EReal :=
  Ideal.exp ((if ok then ∑ a, q a * k a + cq - ck else ⊥) - lse)

/-- The score gradient of one query row against one key. -/
def cell (ok : Prop) [Decidable ok] (q d : Fin 128 → EReal) (cq lse dl : EReal) (ck : EReal) (k v : Fin 128 → EReal) : EReal :=
  wgt ok q cq lse ck k * (∑ a, d a * v a - dl)

/-- A row's lanes of the low head (`e = 0`) or of the high head of a pair. -/
def half (e : Fin 2) (v2 : Vec Ideal S1x128 .i1) (f : Fin 128 → EReal) (a : Fin 128) : EReal :=
  if e = 0 then Scalar.select (v2 (ix2 0 a)) (f a) 0 else Scalar.select (v2 (ix2 0 a)) 0 (f a)

theorem trip1 (c : Dev nD) (i : grid0.Coords) (arg2 : Memref sig .tc .vmem S4224x128 .f32) (harg2 : arg2.IsWhole) (arg3 : Memref sig .tc .vmem S4224x128 .f32) (harg3 : arg3.IsWhole) (arg4 : Memref sig .tc .vmem S1x3x1408x6 .f32) (harg4 : arg4.IsWhole) (arg5 : Memref sig .tc .vmem S1408x128 .f32) (harg5 : arg5.IsWhole) (arg6 : Memref sig .tc .vmem S1408x128 .f32) (harg6 : arg6.IsWhole) (arg7 : Memref sig .tc .vmem S2x1x1x1408 .f32) (harg7 : arg7.IsWhole) (arg8 : Memref sig .tc .vmem S1408x128 .f32) (harg8 : arg8.IsWhole) (arg9 : Memref sig .tc .vmem S1408x128 .f32) (harg9 : arg9.IsWhole) (arg10 : Memref sig .tc .vmem S2x1x1x1408 .f32) (harg10 : arg10.IsWhole) (v2 : Vec Ideal S1x128 .i1) (v5 v8 : Vec Ideal S1408x128 .bf16) (v12 : Vec Ideal S1x1408 .f32) (v13 : BitVec 32) (v30 v43 : Vec Ideal S1408x128 .bf16) (v46 : Vec Ideal S1408x6 .f32) (v72 v76 : Vec Ideal S1408x128 .f32) (v79 : Vec Ideal S1x1408 .f32) (v80 : Vec Ideal S1408x1 .f32) (v82 : Vec Ideal S1x1408 .f32) (x0 x1 : Vec Ideal S4224x128 .f32) (x2 : Vec Ideal S1x3x1408x6 .f32) (x3 x4 : Vec Ideal S1408x128 .f32) (x5 : Vec Ideal S2x1x1x1408 .f32) (k : Fin (k0_t1_loop i).trips) (acc : (Vec Ideal S1408x128 .f32 × Vec Ideal S1408x128 .f32 × Vec Ideal S1x1408 .f32 × Vec Ideal S1x1408 .f32)) (y : Fin 1408) (l : Fin 128) :
    (tripR_k0_t1 (F := Ideal) Variants.none c none i arg2 harg2 arg3 harg3 arg4 harg4 arg5 harg5 arg6 harg6 arg7 harg7 arg8 harg8 arg9 harg9 arg10 harg10 v2 v5 v8 v12 v13 v30 v43 v46 v72 v76 v79 v80 v82 (harg2.unread x0) (harg3.unread x1) (harg4.unread x2) (harg7.unread x5) k acc).1 (ix2 y l) = acc.1 (ix2 y l) + ∑ x, cell True (half 0 v2 fun a => rowOf x0 ((i 1).val + 1 + k.val) x a * Ideal.ofBits .f32 1040187392#32) (half 0 v2 (rowOf x1 ((i 1).val + 1 + k.val) x)) (statOf x2 0 ((i 1).val + 1 + k.val) x) (statOf x2 2 ((i 1).val + 1 + k.val) x) (statOf x2 4 ((i 1).val + 1 + k.val) x) (x5 (ix4 0 0 0 y)) (fun a => v5 (ix2 y a)) (fun a => v8 (ix2 y a)) * (half 0 v2 fun a => rowOf x0 ((i 1).val + 1 + k.val) x a * Ideal.ofBits .f32 1040187392#32) l + ∑ x, cell True (half 1 v2 fun a => rowOf x0 ((i 1).val + 1 + k.val) x a * Ideal.ofBits .f32 1040187392#32) (half 1 v2 (rowOf x1 ((i 1).val + 1 + k.val) x)) (statOf x2 1 ((i 1).val + 1 + k.val) x) (statOf x2 3 ((i 1).val + 1 + k.val) x) (statOf x2 5 ((i 1).val + 1 + k.val) x) (x5 (ix4 1 0 0 y)) (fun a => v5 (ix2 y a)) (fun a => v8 (ix2 y a)) * (half 1 v2 fun a => rowOf x0 ((i 1).val + 1 + k.val) x a * Ideal.ofBits .f32 1040187392#32) l := by
  have hk := trips1_lt i k
  have hx : ∀ x : Fin 1408, ((i 1).val + 1 + k.val) * 1408 + x.val < 4224 := fun x => by have := x.isLt; omega
  have e1 := congrFun (off3 i k) 0
  have e2 := congrFun (off4 i k) 1
  dsimp [k0_off3] at e1
  dsimp [k0_off4] at e2
  unfold cell wgt half rowOf statOf
  simp only [hk, hx, dif_pos, if_true, one_ne_zero, if_false]
  unfold tripR_k0_t1
  unfold trip_k0_t1
  dsimp only
  sl_unfold_words
  simp only [View.readAt_eq_ld, Memref.IsWhole.read_unread]
  unfold_payloads
  pointwise
  simp only [e1, e2]

theorem trip2 (c : Dev nD) (i : grid0.Coords) (arg2 : Memref sig .tc .vmem S4224x128 .f32) (harg2 : arg2.IsWhole) (arg3 : Memref sig .tc .vmem S4224x128 .f32) (harg3 : arg3.IsWhole) (arg4 : Memref sig .tc .vmem S1x3x1408x6 .f32) (harg4 : arg4.IsWhole) (arg5 : Memref sig .tc .vmem S1408x128 .f32) (harg5 : arg5.IsWhole) (arg6 : Memref sig .tc .vmem S1408x128 .f32) (harg6 : arg6.IsWhole) (arg7 : Memref sig .tc .vmem S2x1x1x1408 .f32) (harg7 : arg7.IsWhole) (arg8 : Memref sig .tc .vmem S1408x128 .f32) (harg8 : arg8.IsWhole) (arg9 : Memref sig .tc .vmem S1408x128 .f32) (harg9 : arg9.IsWhole) (arg10 : Memref sig .tc .vmem S2x1x1x1408 .f32) (harg10 : arg10.IsWhole) (v2 : Vec Ideal S1x128 .i1) (v5 v8 : Vec Ideal S1408x128 .bf16) (v12 : Vec Ideal S1x1408 .f32) (v13 : BitVec 32) (v30 v43 : Vec Ideal S1408x128 .bf16) (v46 : Vec Ideal S1408x6 .f32) (v72 v76 : Vec Ideal S1408x128 .f32) (v79 : Vec Ideal S1x1408 .f32) (v80 : Vec Ideal S1408x1 .f32) (v82 : Vec Ideal S1x1408 .f32) (x0 x1 : Vec Ideal S4224x128 .f32) (x2 : Vec Ideal S1x3x1408x6 .f32) (x3 x4 : Vec Ideal S1408x128 .f32) (x5 : Vec Ideal S2x1x1x1408 .f32) (k : Fin (k0_t1_loop i).trips) (acc : (Vec Ideal S1408x128 .f32 × Vec Ideal S1408x128 .f32 × Vec Ideal S1x1408 .f32 × Vec Ideal S1x1408 .f32)) (y : Fin 1408) (l : Fin 128) :
    (tripR_k0_t1 (F := Ideal) Variants.none c none i arg2 harg2 arg3 harg3 arg4 harg4 arg5 harg5 arg6 harg6 arg7 harg7 arg8 harg8 arg9 harg9 arg10 harg10 v2 v5 v8 v12 v13 v30 v43 v46 v72 v76 v79 v80 v82 (harg2.unread x0) (harg3.unread x1) (harg4.unread x2) (harg7.unread x5) k acc).2.1 (ix2 y l) = acc.2.1 (ix2 y l) + ∑ x, wgt True (half 0 v2 fun a => rowOf x0 ((i 1).val + 1 + k.val) x a * Ideal.ofBits .f32 1040187392#32) (statOf x2 0 ((i 1).val + 1 + k.val) x) (statOf x2 2 ((i 1).val + 1 + k.val) x) (x5 (ix4 0 0 0 y)) (fun a => v5 (ix2 y a)) * (half 0 v2 (rowOf x1 ((i 1).val + 1 + k.val) x)) l + ∑ x, wgt True (half 1 v2 fun a => rowOf x0 ((i 1).val + 1 + k.val) x a * Ideal.ofBits .f32 1040187392#32) (statOf x2 1 ((i 1).val + 1 + k.val) x) (statOf x2 3 ((i 1).val + 1 + k.val) x) (x5 (ix4 1 0 0 y)) (fun a => v5 (ix2 y a)) * (half 1 v2 (rowOf x1 ((i 1).val + 1 + k.val) x)) l := by
  have hk := trips1_lt i k
  have hx : ∀ x : Fin 1408, ((i 1).val + 1 + k.val) * 1408 + x.val < 4224 := fun x => by have := x.isLt; omega
  have e1 := congrFun (off3 i k) 0
  have e2 := congrFun (off4 i k) 1
  dsimp [k0_off3] at e1
  dsimp [k0_off4] at e2
  unfold wgt half rowOf statOf
  simp only [hk, hx, dif_pos, if_true, one_ne_zero, if_false]
  unfold tripR_k0_t1
  unfold trip_k0_t1
  dsimp only
  sl_unfold_words
  simp only [View.readAt_eq_ld, Memref.IsWhole.read_unread]
  unfold_payloads
  pointwise
  simp only [e1, e2]

theorem trip3 (c : Dev nD) (i : grid0.Coords) (arg2 : Memref sig .tc .vmem S4224x128 .f32) (harg2 : arg2.IsWhole) (arg3 : Memref sig .tc .vmem S4224x128 .f32) (harg3 : arg3.IsWhole) (arg4 : Memref sig .tc .vmem S1x3x1408x6 .f32) (harg4 : arg4.IsWhole) (arg5 : Memref sig .tc .vmem S1408x128 .f32) (harg5 : arg5.IsWhole) (arg6 : Memref sig .tc .vmem S1408x128 .f32) (harg6 : arg6.IsWhole) (arg7 : Memref sig .tc .vmem S2x1x1x1408 .f32) (harg7 : arg7.IsWhole) (arg8 : Memref sig .tc .vmem S1408x128 .f32) (harg8 : arg8.IsWhole) (arg9 : Memref sig .tc .vmem S1408x128 .f32) (harg9 : arg9.IsWhole) (arg10 : Memref sig .tc .vmem S2x1x1x1408 .f32) (harg10 : arg10.IsWhole) (v2 : Vec Ideal S1x128 .i1) (v5 v8 : Vec Ideal S1408x128 .bf16) (v12 : Vec Ideal S1x1408 .f32) (v13 : BitVec 32) (v30 v43 : Vec Ideal S1408x128 .bf16) (v46 : Vec Ideal S1408x6 .f32) (v72 v76 : Vec Ideal S1408x128 .f32) (v79 : Vec Ideal S1x1408 .f32) (v80 : Vec Ideal S1408x1 .f32) (v82 : Vec Ideal S1x1408 .f32) (x0 x1 : Vec Ideal S4224x128 .f32) (x2 : Vec Ideal S1x3x1408x6 .f32) (x3 x4 : Vec Ideal S1408x128 .f32) (x5 : Vec Ideal S2x1x1x1408 .f32) (k : Fin (k0_t1_loop i).trips) (acc : (Vec Ideal S1408x128 .f32 × Vec Ideal S1408x128 .f32 × Vec Ideal S1x1408 .f32 × Vec Ideal S1x1408 .f32)) (y : Fin 1408) :
    (tripR_k0_t1 (F := Ideal) Variants.none c none i arg2 harg2 arg3 harg3 arg4 harg4 arg5 harg5 arg6 harg6 arg7 harg7 arg8 harg8 arg9 harg9 arg10 harg10 v2 v5 v8 v12 v13 v30 v43 v46 v72 v76 v79 v80 v82 (harg2.unread x0) (harg3.unread x1) (harg4.unread x2) (harg7.unread x5) k acc).2.2.1 (ix2 0 y) = acc.2.2.1 (ix2 0 y) - ∑ x, cell True (half 0 v2 fun a => rowOf x0 ((i 1).val + 1 + k.val) x a * Ideal.ofBits .f32 1040187392#32) (half 0 v2 (rowOf x1 ((i 1).val + 1 + k.val) x)) (statOf x2 0 ((i 1).val + 1 + k.val) x) (statOf x2 2 ((i 1).val + 1 + k.val) x) (statOf x2 4 ((i 1).val + 1 + k.val) x) (x5 (ix4 0 0 0 y)) (fun a => v5 (ix2 y a)) (fun a => v8 (ix2 y a)) := by
  have hk := trips1_lt i k
  have hx : ∀ x : Fin 1408, ((i 1).val + 1 + k.val) * 1408 + x.val < 4224 := fun x => by have := x.isLt; omega
  have e1 := congrFun (off3 i k) 0
  have e2 := congrFun (off4 i k) 1
  dsimp [k0_off3] at e1
  dsimp [k0_off4] at e2
  unfold cell wgt half rowOf statOf
  simp only [hk, hx, dif_pos, if_true, one_ne_zero, if_false]
  unfold tripR_k0_t1
  unfold trip_k0_t1
  dsimp only
  sl_unfold_words
  simp only [View.readAt_eq_ld, Memref.IsWhole.read_unread]
  unfold_payloads
  pointwise
  simp only [e1, e2]

theorem trip4 (c : Dev nD) (i : grid0.Coords) (arg2 : Memref sig .tc .vmem S4224x128 .f32) (harg2 : arg2.IsWhole) (arg3 : Memref sig .tc .vmem S4224x128 .f32) (harg3 : arg3.IsWhole) (arg4 : Memref sig .tc .vmem S1x3x1408x6 .f32) (harg4 : arg4.IsWhole) (arg5 : Memref sig .tc .vmem S1408x128 .f32) (harg5 : arg5.IsWhole) (arg6 : Memref sig .tc .vmem S1408x128 .f32) (harg6 : arg6.IsWhole) (arg7 : Memref sig .tc .vmem S2x1x1x1408 .f32) (harg7 : arg7.IsWhole) (arg8 : Memref sig .tc .vmem S1408x128 .f32) (harg8 : arg8.IsWhole) (arg9 : Memref sig .tc .vmem S1408x128 .f32) (harg9 : arg9.IsWhole) (arg10 : Memref sig .tc .vmem S2x1x1x1408 .f32) (harg10 : arg10.IsWhole) (v2 : Vec Ideal S1x128 .i1) (v5 v8 : Vec Ideal S1408x128 .bf16) (v12 : Vec Ideal S1x1408 .f32) (v13 : BitVec 32) (v30 v43 : Vec Ideal S1408x128 .bf16) (v46 : Vec Ideal S1408x6 .f32) (v72 v76 : Vec Ideal S1408x128 .f32) (v79 : Vec Ideal S1x1408 .f32) (v80 : Vec Ideal S1408x1 .f32) (v82 : Vec Ideal S1x1408 .f32) (x0 x1 : Vec Ideal S4224x128 .f32) (x2 : Vec Ideal S1x3x1408x6 .f32) (x3 x4 : Vec Ideal S1408x128 .f32) (x5 : Vec Ideal S2x1x1x1408 .f32) (k : Fin (k0_t1_loop i).trips) (acc : (Vec Ideal S1408x128 .f32 × Vec Ideal S1408x128 .f32 × Vec Ideal S1x1408 .f32 × Vec Ideal S1x1408 .f32)) (y : Fin 1408) :
    (tripR_k0_t1 (F := Ideal) Variants.none c none i arg2 harg2 arg3 harg3 arg4 harg4 arg5 harg5 arg6 harg6 arg7 harg7 arg8 harg8 arg9 harg9 arg10 harg10 v2 v5 v8 v12 v13 v30 v43 v46 v72 v76 v79 v80 v82 (harg2.unread x0) (harg3.unread x1) (harg4.unread x2) (harg7.unread x5) k acc).2.2.2 (ix2 0 y) = acc.2.2.2 (ix2 0 y) - ∑ x, cell True (half 1 v2 fun a => rowOf x0 ((i 1).val + 1 + k.val) x a * Ideal.ofBits .f32 1040187392#32) (half 1 v2 (rowOf x1 ((i 1).val + 1 + k.val) x)) (statOf x2 1 ((i 1).val + 1 + k.val) x) (statOf x2 3 ((i 1).val + 1 + k.val) x) (statOf x2 5 ((i 1).val + 1 + k.val) x) (x5 (ix4 1 0 0 y)) (fun a => v5 (ix2 y a)) (fun a => v8 (ix2 y a)) := by
  have hk := trips1_lt i k
  have hx : ∀ x : Fin 1408, ((i 1).val + 1 + k.val) * 1408 + x.val < 4224 := fun x => by have := x.isLt; omega
  have e1 := congrFun (off3 i k) 0
  have e2 := congrFun (off4 i k) 1
  dsimp [k0_off3] at e1
  dsimp [k0_off4] at e2
  unfold cell wgt half rowOf statOf
  simp only [hk, hx, dif_pos, if_true, one_ne_zero, if_false]
  unfold tripR_k0_t1
  unfold trip_k0_t1
  dsimp only
  sl_unfold_words
  simp only [View.readAt_eq_ld, Memref.IsWhole.read_unread]
  unfold_payloads
  pointwise
  simp only [e1, e2]

theorem state1 (c : Dev nD) (i : grid0.Coords) (arg2 : Memref sig .tc .vmem S4224x128 .f32) (harg2 : arg2.IsWhole) (arg3 : Memref sig .tc .vmem S4224x128 .f32) (harg3 : arg3.IsWhole) (arg4 : Memref sig .tc .vmem S1x3x1408x6 .f32) (harg4 : arg4.IsWhole) (arg5 : Memref sig .tc .vmem S1408x128 .f32) (harg5 : arg5.IsWhole) (arg6 : Memref sig .tc .vmem S1408x128 .f32) (harg6 : arg6.IsWhole) (arg7 : Memref sig .tc .vmem S2x1x1x1408 .f32) (harg7 : arg7.IsWhole) (arg8 : Memref sig .tc .vmem S1408x128 .f32) (harg8 : arg8.IsWhole) (arg9 : Memref sig .tc .vmem S1408x128 .f32) (harg9 : arg9.IsWhole) (arg10 : Memref sig .tc .vmem S2x1x1x1408 .f32) (harg10 : arg10.IsWhole) (v2 : Vec Ideal S1x128 .i1) (v5 v8 : Vec Ideal S1408x128 .bf16) (v12 : Vec Ideal S1x1408 .f32) (v13 : BitVec 32) (v30 v43 : Vec Ideal S1408x128 .bf16) (v46 : Vec Ideal S1408x6 .f32) (v72 v76 : Vec Ideal S1408x128 .f32) (v79 : Vec Ideal S1x1408 .f32) (v80 : Vec Ideal S1408x1 .f32) (v82 : Vec Ideal S1x1408 .f32) (x0 x1 : Vec Ideal S4224x128 .f32) (x2 : Vec Ideal S1x3x1408x6 .f32) (x3 x4 : Vec Ideal S1408x128 .f32) (x5 : Vec Ideal S2x1x1x1408 .f32) (init : (Vec Ideal S1408x128 .f32 × Vec Ideal S1408x128 .f32 × Vec Ideal S1x1408 .f32 × Vec Ideal S1x1408 .f32)) (y : Fin 1408) (l : Fin 128) (n : ℕ) (hn : n ≤ (k0_t1_loop i).trips) :
    (st_k0_t1 (F := Ideal) Variants.none c none i arg2 harg2 arg3 harg3 arg4 harg4 arg5 harg5 arg6 harg6 arg7 harg7 arg8 harg8 arg9 harg9 arg10 harg10 v2 v5 v8 v12 v13 v30 v43 v46 v72 v76 v79 v80 v82 (harg2.unread x0) (harg3.unread x1) (harg4.unread x2) (harg7.unread x5) init n).1 (ix2 y l) = init.1 (ix2 y l) + ∑ t ∈ Finset.range n, ((∑ x, cell True (half 0 v2 fun a => rowOf x0 ((i 1).val + 1 + t) x a * Ideal.ofBits .f32 1040187392#32) (half 0 v2 (rowOf x1 ((i 1).val + 1 + t) x)) (statOf x2 0 ((i 1).val + 1 + t) x) (statOf x2 2 ((i 1).val + 1 + t) x) (statOf x2 4 ((i 1).val + 1 + t) x) (x5 (ix4 0 0 0 y)) (fun a => v5 (ix2 y a)) (fun a => v8 (ix2 y a)) * (half 0 v2 fun a => rowOf x0 ((i 1).val + 1 + t) x a * Ideal.ofBits .f32 1040187392#32) l) + ∑ x, cell True (half 1 v2 fun a => rowOf x0 ((i 1).val + 1 + t) x a * Ideal.ofBits .f32 1040187392#32) (half 1 v2 (rowOf x1 ((i 1).val + 1 + t) x)) (statOf x2 1 ((i 1).val + 1 + t) x) (statOf x2 3 ((i 1).val + 1 + t) x) (statOf x2 5 ((i 1).val + 1 + t) x) (x5 (ix4 1 0 0 y)) (fun a => v5 (ix2 y a)) (fun a => v8 (ix2 y a)) * (half 1 v2 fun a => rowOf x0 ((i 1).val + 1 + t) x a * Ideal.ofBits .f32 1040187392#32) l) := by
  induction n with
  | zero => rw [st_k0_t1_zero, Finset.sum_range_zero, add_zero]
  | succ n ih =>
    rw [st_k0_t1_succ Variants.none c none i arg2 harg2 arg3 harg3 arg4 harg4 arg5 harg5 arg6 harg6 arg7 harg7 arg8 harg8 arg9 harg9 arg10 harg10 v2 v5 v8 v12 v13 v30 v43 v46 v72 v76 v79 v80 v82 (harg2.unread x0) (harg3.unread x1) (harg4.unread x2) (harg7.unread x5) init ⟨n, hn⟩,
      trip1 c i arg2 harg2 arg3 harg3 arg4 harg4 arg5 harg5 arg6 harg6 arg7 harg7 arg8 harg8 arg9 harg9 arg10 harg10 v2 v5 v8 v12 v13 v30 v43 v46 v72 v76 v79 v80 v82 x0 x1 x2 x3 x4 x5 ⟨n, hn⟩ _ y l, ih (Nat.le_of_succ_le hn), Finset.sum_range_succ, add_assoc, add_assoc]

theorem state2 (c : Dev nD) (i : grid0.Coords) (arg2 : Memref sig .tc .vmem S4224x128 .f32) (harg2 : arg2.IsWhole) (arg3 : Memref sig .tc .vmem S4224x128 .f32) (harg3 : arg3.IsWhole) (arg4 : Memref sig .tc .vmem S1x3x1408x6 .f32) (harg4 : arg4.IsWhole) (arg5 : Memref sig .tc .vmem S1408x128 .f32) (harg5 : arg5.IsWhole) (arg6 : Memref sig .tc .vmem S1408x128 .f32) (harg6 : arg6.IsWhole) (arg7 : Memref sig .tc .vmem S2x1x1x1408 .f32) (harg7 : arg7.IsWhole) (arg8 : Memref sig .tc .vmem S1408x128 .f32) (harg8 : arg8.IsWhole) (arg9 : Memref sig .tc .vmem S1408x128 .f32) (harg9 : arg9.IsWhole) (arg10 : Memref sig .tc .vmem S2x1x1x1408 .f32) (harg10 : arg10.IsWhole) (v2 : Vec Ideal S1x128 .i1) (v5 v8 : Vec Ideal S1408x128 .bf16) (v12 : Vec Ideal S1x1408 .f32) (v13 : BitVec 32) (v30 v43 : Vec Ideal S1408x128 .bf16) (v46 : Vec Ideal S1408x6 .f32) (v72 v76 : Vec Ideal S1408x128 .f32) (v79 : Vec Ideal S1x1408 .f32) (v80 : Vec Ideal S1408x1 .f32) (v82 : Vec Ideal S1x1408 .f32) (x0 x1 : Vec Ideal S4224x128 .f32) (x2 : Vec Ideal S1x3x1408x6 .f32) (x3 x4 : Vec Ideal S1408x128 .f32) (x5 : Vec Ideal S2x1x1x1408 .f32) (init : (Vec Ideal S1408x128 .f32 × Vec Ideal S1408x128 .f32 × Vec Ideal S1x1408 .f32 × Vec Ideal S1x1408 .f32)) (y : Fin 1408) (l : Fin 128) (n : ℕ) (hn : n ≤ (k0_t1_loop i).trips) :
    (st_k0_t1 (F := Ideal) Variants.none c none i arg2 harg2 arg3 harg3 arg4 harg4 arg5 harg5 arg6 harg6 arg7 harg7 arg8 harg8 arg9 harg9 arg10 harg10 v2 v5 v8 v12 v13 v30 v43 v46 v72 v76 v79 v80 v82 (harg2.unread x0) (harg3.unread x1) (harg4.unread x2) (harg7.unread x5) init n).2.1 (ix2 y l) = init.2.1 (ix2 y l) + ∑ t ∈ Finset.range n, ((∑ x, wgt True (half 0 v2 fun a => rowOf x0 ((i 1).val + 1 + t) x a * Ideal.ofBits .f32 1040187392#32) (statOf x2 0 ((i 1).val + 1 + t) x) (statOf x2 2 ((i 1).val + 1 + t) x) (x5 (ix4 0 0 0 y)) (fun a => v5 (ix2 y a)) * (half 0 v2 (rowOf x1 ((i 1).val + 1 + t) x)) l) + ∑ x, wgt True (half 1 v2 fun a => rowOf x0 ((i 1).val + 1 + t) x a * Ideal.ofBits .f32 1040187392#32) (statOf x2 1 ((i 1).val + 1 + t) x) (statOf x2 3 ((i 1).val + 1 + t) x) (x5 (ix4 1 0 0 y)) (fun a => v5 (ix2 y a)) * (half 1 v2 (rowOf x1 ((i 1).val + 1 + t) x)) l) := by
  induction n with
  | zero => rw [st_k0_t1_zero, Finset.sum_range_zero, add_zero]
  | succ n ih =>
    rw [st_k0_t1_succ Variants.none c none i arg2 harg2 arg3 harg3 arg4 harg4 arg5 harg5 arg6 harg6 arg7 harg7 arg8 harg8 arg9 harg9 arg10 harg10 v2 v5 v8 v12 v13 v30 v43 v46 v72 v76 v79 v80 v82 (harg2.unread x0) (harg3.unread x1) (harg4.unread x2) (harg7.unread x5) init ⟨n, hn⟩,
      trip2 c i arg2 harg2 arg3 harg3 arg4 harg4 arg5 harg5 arg6 harg6 arg7 harg7 arg8 harg8 arg9 harg9 arg10 harg10 v2 v5 v8 v12 v13 v30 v43 v46 v72 v76 v79 v80 v82 x0 x1 x2 x3 x4 x5 ⟨n, hn⟩ _ y l, ih (Nat.le_of_succ_le hn), Finset.sum_range_succ, add_assoc, add_assoc]

theorem state3 (c : Dev nD) (i : grid0.Coords) (arg2 : Memref sig .tc .vmem S4224x128 .f32) (harg2 : arg2.IsWhole) (arg3 : Memref sig .tc .vmem S4224x128 .f32) (harg3 : arg3.IsWhole) (arg4 : Memref sig .tc .vmem S1x3x1408x6 .f32) (harg4 : arg4.IsWhole) (arg5 : Memref sig .tc .vmem S1408x128 .f32) (harg5 : arg5.IsWhole) (arg6 : Memref sig .tc .vmem S1408x128 .f32) (harg6 : arg6.IsWhole) (arg7 : Memref sig .tc .vmem S2x1x1x1408 .f32) (harg7 : arg7.IsWhole) (arg8 : Memref sig .tc .vmem S1408x128 .f32) (harg8 : arg8.IsWhole) (arg9 : Memref sig .tc .vmem S1408x128 .f32) (harg9 : arg9.IsWhole) (arg10 : Memref sig .tc .vmem S2x1x1x1408 .f32) (harg10 : arg10.IsWhole) (v2 : Vec Ideal S1x128 .i1) (v5 v8 : Vec Ideal S1408x128 .bf16) (v12 : Vec Ideal S1x1408 .f32) (v13 : BitVec 32) (v30 v43 : Vec Ideal S1408x128 .bf16) (v46 : Vec Ideal S1408x6 .f32) (v72 v76 : Vec Ideal S1408x128 .f32) (v79 : Vec Ideal S1x1408 .f32) (v80 : Vec Ideal S1408x1 .f32) (v82 : Vec Ideal S1x1408 .f32) (x0 x1 : Vec Ideal S4224x128 .f32) (x2 : Vec Ideal S1x3x1408x6 .f32) (x3 x4 : Vec Ideal S1408x128 .f32) (x5 : Vec Ideal S2x1x1x1408 .f32) (init : (Vec Ideal S1408x128 .f32 × Vec Ideal S1408x128 .f32 × Vec Ideal S1x1408 .f32 × Vec Ideal S1x1408 .f32)) (y : Fin 1408) (n : ℕ) (hn : n ≤ (k0_t1_loop i).trips) :
    (st_k0_t1 (F := Ideal) Variants.none c none i arg2 harg2 arg3 harg3 arg4 harg4 arg5 harg5 arg6 harg6 arg7 harg7 arg8 harg8 arg9 harg9 arg10 harg10 v2 v5 v8 v12 v13 v30 v43 v46 v72 v76 v79 v80 v82 (harg2.unread x0) (harg3.unread x1) (harg4.unread x2) (harg7.unread x5) init n).2.2.1 (ix2 0 y) = init.2.2.1 (ix2 0 y) + ∑ t ∈ Finset.range n, -(∑ x, cell True (half 0 v2 fun a => rowOf x0 ((i 1).val + 1 + t) x a * Ideal.ofBits .f32 1040187392#32) (half 0 v2 (rowOf x1 ((i 1).val + 1 + t) x)) (statOf x2 0 ((i 1).val + 1 + t) x) (statOf x2 2 ((i 1).val + 1 + t) x) (statOf x2 4 ((i 1).val + 1 + t) x) (x5 (ix4 0 0 0 y)) (fun a => v5 (ix2 y a)) (fun a => v8 (ix2 y a))) := by
  induction n with
  | zero => rw [st_k0_t1_zero, Finset.sum_range_zero, add_zero]
  | succ n ih =>
    rw [st_k0_t1_succ Variants.none c none i arg2 harg2 arg3 harg3 arg4 harg4 arg5 harg5 arg6 harg6 arg7 harg7 arg8 harg8 arg9 harg9 arg10 harg10 v2 v5 v8 v12 v13 v30 v43 v46 v72 v76 v79 v80 v82 (harg2.unread x0) (harg3.unread x1) (harg4.unread x2) (harg7.unread x5) init ⟨n, hn⟩,
      trip3 c i arg2 harg2 arg3 harg3 arg4 harg4 arg5 harg5 arg6 harg6 arg7 harg7 arg8 harg8 arg9 harg9 arg10 harg10 v2 v5 v8 v12 v13 v30 v43 v46 v72 v76 v79 v80 v82 x0 x1 x2 x3 x4 x5 ⟨n, hn⟩ _ y, ih (Nat.le_of_succ_le hn), Finset.sum_range_succ, sub_eq_add_neg, add_assoc]

theorem state4 (c : Dev nD) (i : grid0.Coords) (arg2 : Memref sig .tc .vmem S4224x128 .f32) (harg2 : arg2.IsWhole) (arg3 : Memref sig .tc .vmem S4224x128 .f32) (harg3 : arg3.IsWhole) (arg4 : Memref sig .tc .vmem S1x3x1408x6 .f32) (harg4 : arg4.IsWhole) (arg5 : Memref sig .tc .vmem S1408x128 .f32) (harg5 : arg5.IsWhole) (arg6 : Memref sig .tc .vmem S1408x128 .f32) (harg6 : arg6.IsWhole) (arg7 : Memref sig .tc .vmem S2x1x1x1408 .f32) (harg7 : arg7.IsWhole) (arg8 : Memref sig .tc .vmem S1408x128 .f32) (harg8 : arg8.IsWhole) (arg9 : Memref sig .tc .vmem S1408x128 .f32) (harg9 : arg9.IsWhole) (arg10 : Memref sig .tc .vmem S2x1x1x1408 .f32) (harg10 : arg10.IsWhole) (v2 : Vec Ideal S1x128 .i1) (v5 v8 : Vec Ideal S1408x128 .bf16) (v12 : Vec Ideal S1x1408 .f32) (v13 : BitVec 32) (v30 v43 : Vec Ideal S1408x128 .bf16) (v46 : Vec Ideal S1408x6 .f32) (v72 v76 : Vec Ideal S1408x128 .f32) (v79 : Vec Ideal S1x1408 .f32) (v80 : Vec Ideal S1408x1 .f32) (v82 : Vec Ideal S1x1408 .f32) (x0 x1 : Vec Ideal S4224x128 .f32) (x2 : Vec Ideal S1x3x1408x6 .f32) (x3 x4 : Vec Ideal S1408x128 .f32) (x5 : Vec Ideal S2x1x1x1408 .f32) (init : (Vec Ideal S1408x128 .f32 × Vec Ideal S1408x128 .f32 × Vec Ideal S1x1408 .f32 × Vec Ideal S1x1408 .f32)) (y : Fin 1408) (n : ℕ) (hn : n ≤ (k0_t1_loop i).trips) :
    (st_k0_t1 (F := Ideal) Variants.none c none i arg2 harg2 arg3 harg3 arg4 harg4 arg5 harg5 arg6 harg6 arg7 harg7 arg8 harg8 arg9 harg9 arg10 harg10 v2 v5 v8 v12 v13 v30 v43 v46 v72 v76 v79 v80 v82 (harg2.unread x0) (harg3.unread x1) (harg4.unread x2) (harg7.unread x5) init n).2.2.2 (ix2 0 y) = init.2.2.2 (ix2 0 y) + ∑ t ∈ Finset.range n, -(∑ x, cell True (half 1 v2 fun a => rowOf x0 ((i 1).val + 1 + t) x a * Ideal.ofBits .f32 1040187392#32) (half 1 v2 (rowOf x1 ((i 1).val + 1 + t) x)) (statOf x2 1 ((i 1).val + 1 + t) x) (statOf x2 3 ((i 1).val + 1 + t) x) (statOf x2 5 ((i 1).val + 1 + t) x) (x5 (ix4 1 0 0 y)) (fun a => v5 (ix2 y a)) (fun a => v8 (ix2 y a))) := by
  induction n with
  | zero => rw [st_k0_t1_zero, Finset.sum_range_zero, add_zero]
  | succ n ih =>
    rw [st_k0_t1_succ Variants.none c none i arg2 harg2 arg3 harg3 arg4 harg4 arg5 harg5 arg6 harg6 arg7 harg7 arg8 harg8 arg9 harg9 arg10 harg10 v2 v5 v8 v12 v13 v30 v43 v46 v72 v76 v79 v80 v82 (harg2.unread x0) (harg3.unread x1) (harg4.unread x2) (harg7.unread x5) init ⟨n, hn⟩,
      trip4 c i arg2 harg2 arg3 harg3 arg4 harg4 arg5 harg5 arg6 harg6 arg7 harg7 arg8 harg8 arg9 harg9 arg10 harg10 v2 v5 v8 v12 v13 v30 v43 v46 v72 v76 v79 v80 v82 x0 x1 x2 x3 x4 x5 ⟨n, hn⟩ _ y, ih (Nat.le_of_succ_le hn), Finset.sum_range_succ, sub_eq_add_neg, add_assoc]

end Cert.Kernel2Ideal.Gen
end
-- ==== Proof.DkvOut.lean ====
module
public import proofs.«01_k».proof.Proof.DkvBlock
public import Idealize.ShloMosaic.Lib.Pipeline.ValueKit
public import Idealize.ShloMosaic.Lib.Pointwise
public import Idealize.ShloMosaic.Lib.LoopRemainder
@[expose] public section
set_option maxRecDepth 16384
noncomputable section
namespace Cert.Kernel2Ideal.Gen
open Idealize.ShloMosaic Idealize.ShloMosaic.TcCoe Idealize.ShloMosaic.Tactic
open Idealize.ShloMosaic.Pipeline (Dat Cfg Window BodyObligation cellOf)

/-- Lane `d` of head `e` of a pair. -/
def lane (e : Fin 2) (d : Fin 64) : Fin 128 := ⟨e.val * 64 + d.val, by have := e.isLt; have := d.isLt; omega⟩

theorem select_low (l : Fin 128) {α : Type} (A B : α) :
    Scalar.select (IntOp.cmpi .slt (BitVec.ofNat 32 l.val) 64#32) A B = if l.val < 64 then A else B := by
  unfold Scalar.select
  rw [show (64#32 : BitVec 32) = BitVec.ofNat 32 64 from rfl, WordCmp.cmpi_slt_ofNat (by have := l.isLt; omega) (by decide)]
  by_cases h : l.val < 64 <;> simp [h]

theorem select_causal (x r : Fin 1408) {α : Type} (A B : α) :
    Scalar.select (IntOp.cmpi .sle (BitVec.ofNat 32 x.val) (BitVec.ofNat 32 r.val)) A B = if x.val ≤ r.val then A else B := by
  unfold Scalar.select
  rw [WordCmp.cmpi_sle_ofNat (by have := x.isLt; omega) (by have := r.isLt; omega)]
  by_cases h : x.val ≤ r.val <;> simp [h]

theorem sum_low (f : Fin 128 → EReal) : ∑ x, (if x.val < 64 then f x else 0) = ∑ d : Fin 64, f (lane 0 d) := by
  rw [Fin.sum_univ_add (a := 64) (b := 64) (fun x : Fin 128 => if x.val < 64 then f x else 0)]
  rw [Finset.sum_congr rfl (g := fun d : Fin 64 => f (lane 0 d)) (fun d _ => by
    rw [if_pos (by exact d.isLt)]; congr 1; apply Fin.ext; simp [lane])]
  rw [Finset.sum_eq_zero (s := Finset.univ) (f := fun d : Fin 64 => if (Fin.natAdd 64 d).val < 64 then f (Fin.natAdd 64 d) else 0) (fun d _ => by
    rw [if_neg (by simp)]), add_zero]

theorem sum_high (f : Fin 128 → EReal) : ∑ x, (if x.val < 64 then 0 else f x) = ∑ d : Fin 64, f (lane 1 d) := by
  rw [Fin.sum_univ_add (a := 64) (b := 64) (fun x : Fin 128 => if x.val < 64 then 0 else f x)]
  rw [Finset.sum_eq_zero (s := Finset.univ) (f := fun d : Fin 64 => if (Fin.castAdd 64 d).val < 64 then 0 else f (Fin.castAdd 64 d)) (fun d _ => by
    rw [if_pos (by exact d.isLt)]), zero_add]
  refine Finset.sum_congr rfl (fun d _ => ?_)
  rw [if_neg (by simp)]; congr 1

theorem lane_low (d : Fin 64) : (lane 0 d).val < 64 := by simp [lane]
theorem lane_high (d : Fin 64) : ¬ (lane 1 d).val < 64 := by simp [lane]

/-- The packed column `k` (decay, log-normaliser, product with the output) of head `e` of the pair. -/
def packed (k : Fin 3) (e : Fin 2) : Fin 6 := ⟨k.val * 2 + e.val, by have := k.isLt; have := e.isLt; omega⟩

/-- The weight of query `x` of query block `n` on key row `y` of the block, for head `e` of the pair. -/
def wgtOfBlock (x0 x1 : Vec Ideal S4224x128 .f32) (x2 : Vec Ideal S1x3x1408x6 .f32) (x3 x4 : Vec Ideal S1408x128 .f32) (x5 : Vec Ideal S2x1x1x1408 .f32) (e : Fin 2) (y : Fin 1408) (ok : Prop) [Decidable ok] (n : ℕ) (x : Fin 1408) : EReal :=
  Ideal.exp ((if ok then ∑ d, rowOf x0 n x (lane e d) * Ideal.ofBits .f32 1040187392#32 * x3 (ix2 y (lane e d)) + statOf x2 (packed 0 e) n x - x5 (ix4 e 0 0 y) else ⊥) - statOf x2 (packed 1 e) n x)

/-- The score gradient of query `x` of query block `n` against key row `y` of the block, for head `e` of the pair. -/
def cellOfBlock (x0 x1 : Vec Ideal S4224x128 .f32) (x2 : Vec Ideal S1x3x1408x6 .f32) (x3 x4 : Vec Ideal S1408x128 .f32) (x5 : Vec Ideal S2x1x1x1408 .f32) (e : Fin 2) (y : Fin 1408) (ok : Prop) [Decidable ok] (n : ℕ) (x : Fin 1408) : EReal :=
  wgtOfBlock x0 x1 x2 x3 x4 x5 e y ok n x * (∑ d, rowOf x1 n x (lane e d) * x4 (ix2 y (lane e d)) - statOf x2 (packed 2 e) n x)

theorem row_diag (i : grid0.Coords) (x1 : Vec Ideal S4224x128 .f32) (x : Fin 1408) (l : Fin 128) (h : (i 1).val * 1408 + x.val < 4224) :
    x1 (ix2 ⟨(i 1).val * 1408 + x.val, h⟩ l) = rowOf x1 (i 1).val x l := by
  unfold rowOf; rw [dif_pos h]

theorem stat_diag (i : grid0.Coords) (x2 : Vec Ideal S1x3x1408x6 .f32) (e : Fin 6) (x : Fin 1408) (h : (i 1).val < 3) :
    x2 (ix4 0 ⟨(i 1).val, h⟩ x e) = statOf x2 e (i 1).val x := by
  unfold statOf; rw [dif_pos h]

theorem mask_bot : (Named.named (F := Ideal) κ "mask" (0xF149F2CA#32 : BitVec 32) : Ideal .f32) = (⊥ : EReal) := rfl

theorem packed00 : packed 0 0 = 0 := rfl
theorem packed01 : packed 0 1 = 1 := rfl
theorem packed10 : packed 1 0 = 2 := rfl
theorem packed11 : packed 1 1 = 3 := rfl
theorem packed20 : packed 2 0 = 4 := rfl
theorem packed21 : packed 2 1 = 5 := rfl

theorem out6 (c : Dev nD) (i : grid0.Coords) (arg2 : Memref sig .tc .vmem S4224x128 .f32) (harg2 : arg2.IsWhole) (arg3 : Memref sig .tc .vmem S4224x128 .f32) (harg3 : arg3.IsWhole) (arg4 : Memref sig .tc .vmem S1x3x1408x6 .f32) (harg4 : arg4.IsWhole) (arg5 : Memref sig .tc .vmem S1408x128 .f32) (harg5 : arg5.IsWhole) (arg6 : Memref sig .tc .vmem S1408x128 .f32) (harg6 : arg6.IsWhole) (arg7 : Memref sig .tc .vmem S2x1x1x1408 .f32) (harg7 : arg7.IsWhole) (arg8 : Memref sig .tc .vmem S1408x128 .f32) (harg8 : arg8.IsWhole) (arg9 : Memref sig .tc .vmem S1408x128 .f32) (harg9 : arg9.IsWhole) (arg10 : Memref sig .tc .vmem S2x1x1x1408 .f32) (harg10 : arg10.IsWhole) (x0 x1 : Vec Ideal S4224x128 .f32) (x2 : Vec Ideal S1x3x1408x6 .f32) (x3 x4 : Vec Ideal S1408x128 .f32) (x5 : Vec Ideal S2x1x1x1408 .f32) (y : Fin 1408) (e : Fin 2) (d : Fin 64) :
    out0_A_6 c i arg2 harg2 arg3 harg3 arg4 harg4 arg5 harg5 arg6 harg6 arg7 harg7 arg8 harg8 arg9 harg9 arg10 harg10 x0 x1 x2 x3 x4 x5 (ix2 y (lane e d)) = ∑ x, cellOfBlock x0 x1 x2 x3 x4 x5 e y (y.val ≤ x.val) (i 1).val x * (rowOf x0 (i 1).val x (lane e d) * Ideal.ofBits .f32 1040187392#32) + ∑ t ∈ Finset.range (2 - (i 1).val), ∑ x, cellOfBlock x0 x1 x2 x3 x4 x5 e y True ((i 1).val + 1 + t) x * (rowOf x0 ((i 1).val + 1 + t) x (lane e d) * Ideal.ofBits .f32 1040187392#32) := by
  have ht : Scf.trips (Scalar.addi (BitVec.ofNat 32 ↑(i 1)) 1#32) (Scalar.addi (Scalar.addi (BitVec.ofNat 32 ↑(i 1)) 1#32) (Scalar.muli (Scalar.divsi (Scalar.subi 3#32 (Scalar.addi (BitVec.ofNat 32 ↑(i 1)) 1#32)) 1#32) 1#32)) 1#32 = 2 - (i 1).val := trips1 i
  frame_out
  sl_unfold_words
  simp only [View.readAt_eq_ld, Memref.IsWhole.read_unread, Scf.rem_trips, st_k0_t2_zero, ht]
  generalize hS : st_k0_t1 (F := Ideal) Variants.none c none i arg2 harg2 arg3 harg3 arg4 harg4 arg5 harg5 arg6 harg6 arg7 harg7 arg8 harg8 arg9 harg9 arg10 harg10 _ _ _ _ _ _ _ _ _ _ _ _ _ (harg2.unread x0) (harg3.unread x1) (harg4.unread x2) (harg7.unread x5) _ _ = S
  have hs := (congrArg (fun z => z.1 (ix2 y (lane e d))) hS).symm.trans (state1 c i arg2 harg2 arg3 harg3 arg4 harg4 arg5 harg5 arg6 harg6 arg7 harg7 arg8 harg8 arg9 harg9 arg10 harg10 _ _ _ _ _ _ _ _ _ _ _ _ _ x0 x1 x2 x3 x4 x5 _ y (lane e d) _ (le_of_eq (trips1 i).symm))
  clear hS
  dsimp only at hs
  unfold_payloads
  pointwise
  rw [hs]
  clear hs
  unfold cell wgt half
  unfold_payloads
  pointwise
  simp only [offd, offe, select_low, select_causal, ite_mul, zero_mul, mul_ite, mul_zero, sum_low, sum_high, row_diag, stat_diag, mask_bot, lane_low, lane_high, if_true, if_false]
  obtain rfl | rfl : e = 0 ∨ e = 1 := by omega
  · simp only [lane_low, cellOfBlock, wgtOfBlock, if_true, packed00, packed01, packed10, packed11, packed20, packed21, Finset.sum_const_zero, add_zero, zero_add]
  · simp only [lane_high, cellOfBlock, wgtOfBlock, if_true, if_false, packed00, packed01, packed10, packed11, packed20, packed21, Finset.sum_const_zero, add_zero, zero_add]

theorem out7 (c : Dev nD) (i : grid0.Coords) (arg2 : Memref sig .tc .vmem S4224x128 .f32) (harg2 : arg2.IsWhole) (arg3 : Memref sig .tc .vmem S4224x128 .f32) (harg3 : arg3.IsWhole) (arg4 : Memref sig .tc .vmem S1x3x1408x6 .f32) (harg4 : arg4.IsWhole) (arg5 : Memref sig .tc .vmem S1408x128 .f32) (harg5 : arg5.IsWhole) (arg6 : Memref sig .tc .vmem S1408x128 .f32) (harg6 : arg6.IsWhole) (arg7 : Memref sig .tc .vmem S2x1x1x1408 .f32) (harg7 : arg7.IsWhole) (arg8 : Memref sig .tc .vmem S1408x128 .f32) (harg8 : arg8.IsWhole) (arg9 : Memref sig .tc .vmem S1408x128 .f32) (harg9 : arg9.IsWhole) (arg10 : Memref sig .tc .vmem S2x1x1x1408 .f32) (harg10 : arg10.IsWhole) (x0 x1 : Vec Ideal S4224x128 .f32) (x2 : Vec Ideal S1x3x1408x6 .f32) (x3 x4 : Vec Ideal S1408x128 .f32) (x5 : Vec Ideal S2x1x1x1408 .f32) (y : Fin 1408) (e : Fin 2) (d : Fin 64) :
    out0_A_7 c i arg2 harg2 arg3 harg3 arg4 harg4 arg5 harg5 arg6 harg6 arg7 harg7 arg8 harg8 arg9 harg9 arg10 harg10 x0 x1 x2 x3 x4 x5 (ix2 y (lane e d)) = ∑ x, wgtOfBlock x0 x1 x2 x3 x4 x5 e y (y.val ≤ x.val) (i 1).val x * rowOf x1 (i 1).val x (lane e d) + ∑ t ∈ Finset.range (2 - (i 1).val), ∑ x, wgtOfBlock x0 x1 x2 x3 x4 x5 e y True ((i 1).val + 1 + t) x * rowOf x1 ((i 1).val + 1 + t) x (lane e d) := by
  have ht : Scf.trips (Scalar.addi (BitVec.ofNat 32 ↑(i 1)) 1#32) (Scalar.addi (Scalar.addi (BitVec.ofNat 32 ↑(i 1)) 1#32) (Scalar.muli (Scalar.divsi (Scalar.subi 3#32 (Scalar.addi (BitVec.ofNat 32 ↑(i 1)) 1#32)) 1#32) 1#32)) 1#32 = 2 - (i 1).val := trips1 i
  frame_out
  sl_unfold_words
  simp only [View.readAt_eq_ld, Memref.IsWhole.read_unread, Scf.rem_trips, st_k0_t2_zero, ht]
  generalize hS : st_k0_t1 (F := Ideal) Variants.none c none i arg2 harg2 arg3 harg3 arg4 harg4 arg5 harg5 arg6 harg6 arg7 harg7 arg8 harg8 arg9 harg9 arg10 harg10 _ _ _ _ _ _ _ _ _ _ _ _ _ (harg2.unread x0) (harg3.unread x1) (harg4.unread x2) (harg7.unread x5) _ _ = S
  have hs := (congrArg (fun z => z.2.1 (ix2 y (lane e d))) hS).symm.trans (state2 c i arg2 harg2 arg3 harg3 arg4 harg4 arg5 harg5 arg6 harg6 arg7 harg7 arg8 harg8 arg9 harg9 arg10 harg10 _ _ _ _ _ _ _ _ _ _ _ _ _ x0 x1 x2 x3 x4 x5 _ y (lane e d) _ (le_of_eq (trips1 i).symm))
  clear hS
  dsimp only at hs
  unfold_payloads
  pointwise
  rw [hs]
  clear hs
  unfold wgt half
  unfold_payloads
  pointwise
  simp only [offd, offe, select_low, select_causal, ite_mul, zero_mul, mul_ite, mul_zero, sum_low, sum_high, row_diag, stat_diag, mask_bot, lane_low, lane_high, if_true, if_false]
  obtain rfl | rfl : e = 0 ∨ e = 1 := by omega
  · simp only [lane_low, wgtOfBlock, if_true, packed00, packed01, packed10, packed11, packed20, packed21, Finset.sum_const_zero, add_zero, zero_add]
  · simp only [lane_high, wgtOfBlock, if_true, if_false, packed00, packed01, packed10, packed11, packed20, packed21, Finset.sum_const_zero, add_zero, zero_add]

theorem out8 (c : Dev nD) (i : grid0.Coords) (arg2 : Memref sig .tc .vmem S4224x128 .f32) (harg2 : arg2.IsWhole) (arg3 : Memref sig .tc .vmem S4224x128 .f32) (harg3 : arg3.IsWhole) (arg4 : Memref sig .tc .vmem S1x3x1408x6 .f32) (harg4 : arg4.IsWhole) (arg5 : Memref sig .tc .vmem S1408x128 .f32) (harg5 : arg5.IsWhole) (arg6 : Memref sig .tc .vmem S1408x128 .f32) (harg6 : arg6.IsWhole) (arg7 : Memref sig .tc .vmem S2x1x1x1408 .f32) (harg7 : arg7.IsWhole) (arg8 : Memref sig .tc .vmem S1408x128 .f32) (harg8 : arg8.IsWhole) (arg9 : Memref sig .tc .vmem S1408x128 .f32) (harg9 : arg9.IsWhole) (arg10 : Memref sig .tc .vmem S2x1x1x1408 .f32) (harg10 : arg10.IsWhole) (x0 x1 : Vec Ideal S4224x128 .f32) (x2 : Vec Ideal S1x3x1408x6 .f32) (x3 x4 : Vec Ideal S1408x128 .f32) (x5 : Vec Ideal S2x1x1x1408 .f32) (e : Fin 2) (y : Fin 1408) :
    out0_A_8 c i arg2 harg2 arg3 harg3 arg4 harg4 arg5 harg5 arg6 harg6 arg7 harg7 arg8 harg8 arg9 harg9 arg10 harg10 x0 x1 x2 x3 x4 x5 (ix4 e 0 0 y) = -(∑ x, cellOfBlock x0 x1 x2 x3 x4 x5 e y (y.val ≤ x.val) (i 1).val x) + ∑ t ∈ Finset.range (2 - (i 1).val), -(∑ x, cellOfBlock x0 x1 x2 x3 x4 x5 e y True ((i 1).val + 1 + t) x) := by
  have ht : Scf.trips (Scalar.addi (BitVec.ofNat 32 ↑(i 1)) 1#32) (Scalar.addi (Scalar.addi (BitVec.ofNat 32 ↑(i 1)) 1#32) (Scalar.muli (Scalar.divsi (Scalar.subi 3#32 (Scalar.addi (BitVec.ofNat 32 ↑(i 1)) 1#32)) 1#32) 1#32)) 1#32 = 2 - (i 1).val := trips1 i
  frame_out
  sl_unfold_words
  simp only [View.readAt_eq_ld, Memref.IsWhole.read_unread, Scf.rem_trips, st_k0_t2_zero, ht]
  generalize hS : st_k0_t1 (F := Ideal) Variants.none c none i arg2 harg2 arg3 harg3 arg4 harg4 arg5 harg5 arg6 harg6 arg7 harg7 arg8 harg8 arg9 harg9 arg10 harg10 _ _ _ _ _ _ _ _ _ _ _ _ _ (harg2.unread x0) (harg3.unread x1) (harg4.unread x2) (harg7.unread x5) _ _ = S
  have hs := (congrArg (fun z => z.2.2.1 (ix2 0 y)) hS).symm.trans (state3 c i arg2 harg2 arg3 harg3 arg4 harg4 arg5 harg5 arg6 harg6 arg7 harg7 arg8 harg8 arg9 harg9 arg10 harg10 _ _ _ _ _ _ _ _ _ _ _ _ _ x0 x1 x2 x3 x4 x5 _ y _ (le_of_eq (trips1 i).symm))
  have hs' := (congrArg (fun z => z.2.2.2 (ix2 0 y)) hS).symm.trans (state4 c i arg2 harg2 arg3 harg3 arg4 harg4 arg5 harg5 arg6 harg6 arg7 harg7 arg8 harg8 arg9 harg9 arg10 harg10 _ _ _ _ _ _ _ _ _ _ _ _ _ x0 x1 x2 x3 x4 x5 _ y _ (le_of_eq (trips1 i).symm))
  clear hS
  dsimp only at hs hs'
  unfold_payloads
  canon_tiles z h
  · obtain rfl : e = 1 := by clear hs hs'; have := h0; simp at this; omega
    idx_vars z
    obtain rfl : z3 = y := Fin.ext h3.symm
    pointwise
    rw [hs']
    clear hs hs'
    unfold cell wgt half
    unfold_payloads
    pointwise
    simp only [offd, offe, select_low, select_causal, ite_mul, zero_mul, mul_ite, mul_zero, sum_low, sum_high, row_diag, stat_diag, mask_bot, lane_low, lane_high, if_true, if_false]
    simp only [cellOfBlock, wgtOfBlock, packed00, packed01, packed10, packed11, packed20, packed21, zero_sub, if_true]
  · obtain rfl : e = 0 := by clear hs hs'; have := h0; simp at this; omega
    idx_vars z
    obtain rfl : z3 = y := Fin.ext h3.symm
    pointwise
    rw [hs]
    clear hs hs'
    unfold cell wgt half
    unfold_payloads
    pointwise
    simp only [offd, offe, select_low, select_causal, ite_mul, zero_mul, mul_ite, mul_zero, sum_low, sum_high, row_diag, stat_diag, mask_bot, lane_low, lane_high, if_true, if_false]
    simp only [cellOfBlock, wgtOfBlock, packed00, packed01, packed10, packed11, packed20, packed21, zero_sub, if_true]

end Cert.Kernel2Ideal.Gen
end
-- ==== Proof.DkvPads.lean ====
module
public import proofs.«01_k».proof.Proof.Gen.Kernel2Ideal.Value
public import proofs.«01_k».proof.Proof.Fox
public import proofs.«01_k».proof.Proof.DkvHost
public import proofs.«01_k».proof.Proof.DkvOut
public import Idealize.ShloMosaic.Lib.Pipeline.ValueKit
public import Idealize.ShloMosaic.Lib.Pointwise
public import Idealize.ShloMosaic.Lib.StableHlo.ReadAt
@[expose] public section
set_option maxRecDepth 16384
noncomputable section
namespace Cert.Kernel2Ideal.Gen
open Idealize.ShloMosaic Idealize.ShloMosaic.TcCoe Idealize.ShloMosaic.Tactic

open Cert.Fox
variable (m : (ℓ : Loc nD τ sig) → Buf (Elt Ideal) ℓ)

theorem zero_word : (FloatOps.sitofp (F := Ideal) .f32 (0#32 : BitVec 32) : EReal) = 0 := by
  show ((((0#32 : BitVec 32).toInt : ℝ)) : EReal) = 0
  simp

theorem plus_inf (k : S_.Idx) : (constant (F := Ideal) S_ .f32 2139095040#32 k : EReal) = ⊤ := by
  show Ideal.ofBits .f32 2139095040#32 = ⊤
  simp [Ideal.ofBits, Ideal.ieee]

/-- The projections, the running log gates and the output's gradient. -/
def projOf (c : Dev nD) : Vec Ideal S4112x6528 .f32 := m ((c : Thread nD τ).loc main_arg0)
def cumOf (c : Dev nD) : Vec Ideal S8x4112 .f32 := m ((c : Thread nD τ).loc main_arg1)
def gradOf (c : Dev nD) : Vec Ideal S4112x512 .f32 := m ((c : Thread nD τ).loc main_arg2)

/-- The buffers after the scores are computed, and after the forward pass. -/
def atScores (c : Dev nD) : Valuation τ sig (Elt Ideal) :=
  StableHlo.after (hostOps0_1 (F := Ideal)) (StableHlo.after (hostOps0 (F := Ideal)) (fun b => m (c, b)))
def atSaved (c : Dev nD) : Valuation τ sig (Elt Ideal) := StableHlo.after (hostOps0_2 (F := Ideal)) (atScores m c)

/-- The masked scores. -/
def scoresOf (c : Dev nD) : Vec Ideal S8x4112x4112 .f32 := atScores m c (Proc.tc.devRef main_v19)

theorem scoresOf_at (c : Dev nD) (h : Fin 8) (i j : Fin 4112) : scoresOf m c (ix3 h i j) = scoreE (projOf m c) (cumOf m c) h i j :=
  score_read _ h i j

theorem atScores_arg0 (c : Dev nD) : atScores m c (Proc.tc.devRef main_arg0) = projOf m c := by unfold atScores; after_reads_simp; rfl
theorem atScores_arg1 (c : Dev nD) : atScores m c (Proc.tc.devRef main_arg1) = cumOf m c := by unfold atScores; after_reads_simp; rfl
theorem atScores_arg2 (c : Dev nD) : atScores m c (Proc.tc.devRef main_arg2) = gradOf m c := by unfold atScores; after_reads_simp; rfl
theorem atSaved_arg0 (c : Dev nD) : atSaved m c (Proc.tc.devRef main_arg0) = projOf m c := by rw [← atScores_arg0]; unfold atSaved; generalize atScores m c = U; after_reads_simp
theorem atSaved_arg1 (c : Dev nD) : atSaved m c (Proc.tc.devRef main_arg1) = cumOf m c := by rw [← atScores_arg1]; unfold atSaved; generalize atScores m c = U; after_reads_simp
theorem atSaved_arg2 (c : Dev nD) : atSaved m c (Proc.tc.devRef main_arg2) = gradOf m c := by rw [← atScores_arg2]; unfold atSaved; generalize atScores m c = U; after_reads_simp
theorem atSaved_out (c : Dev nD) : atSaved m c (Proc.tc.devRef main_v33) = outOf (projOf m c) (scoresOf m c) := by
  unfold atSaved scoresOf; rw [out_read, atScores_arg0]
theorem atSaved_lse (c : Dev nD) : atSaved m c (Proc.tc.devRef main_v35) = lseOf (scoresOf m c) := by
  unfold atSaved scoresOf; rw [lse_read]

theorem atSaved_zero (c : Dev nD) : atSaved m c (Proc.tc.devRef main_c) = (constantI S_ 32 0#32 : Vec Ideal S_ .i32) := by unfold atSaved; generalize atScores m c = U; after_reads_simp

theorem V_rest (c : Dev nD) (b : Ref sig .tc) : V m c b = StableHlo.after (hostOps0_3 (F := Ideal) ++ hostOps0_4 (F := Ideal) ++ hostOps0_5 (F := Ideal) ++ hostOps0_6 (F := Ideal) ++ hostOps0_7 (F := Ideal) ++ hostOps0_8 (F := Ideal) ++ hostOps0_9 (F := Ideal) ++ hostOps0_10 (F := Ideal) ++ hostOps0_11 (F := Ideal) ++ hostOps0_12 (F := Ideal) ++ hostOps0_13 (F := Ideal) ++ hostOps0_14 (F := Ideal)) (atSaved m c) (Proc.tc.devRef b) := by
  unfold atSaved atScores
  rw [← after_two, ← after_two, ← after_two]
  rfl

/-- The row sums of the gradient with the output, head by head. -/
def deltaOf (g o : Vec Ideal S4112x512 .f32) : Vec Ideal S8x4112 .f32 :=
  transpose S8x4112 [1, 0] (Host.reduceAdd (F := Ideal) (φ := .f32) (shapeCast S4112x8x64 (mulf (F := Ideal) (φ := .f32) g o) shapeCasts_S4112x512_S4112x8x64)
    (constant S_ .f32 0x00000000#32) reducesTo_S4112x8x64_S4112x8_d2 h_S_) transposes_S4112x8_S8x4112_1_0

theorem deltaOf_at (g o : Vec Ideal S4112x512 .f32) (h : Fin 8) (i : Fin 4112) :
    deltaOf g o (ix2 h i) = ∑ d : Fin 64, g (ix2 i ⟨h.val * 64 + d.val, by omega⟩) * o (ix2 i ⟨h.val * 64 + d.val, by omega⟩) := by
  unfold deltaOf
  pointwise

theorem delta_read (U : Valuation τ sig (Elt Ideal)) :
    (StableHlo.after (hostOps0_2 (F := Ideal)) U) (Proc.tc.devRef main_v39) = deltaOf (U (Proc.tc.devRef main_arg2)) (outOf (U (Proc.tc.devRef main_arg0)) (U (Proc.tc.devRef main_v19))) := by
  after_reads_simp
  rfl

theorem atSaved_delta (c : Dev nD) : atSaved m c (Proc.tc.devRef main_v39) = deltaOf (gradOf m c) (outOf (projOf m c) (scoresOf m c)) := by
  unfold atSaved scoresOf; rw [delta_read, atScores_arg0, atScores_arg2]

/-- The head `e` of pair `p`. -/
def headIn (p : Fin 4) (e : Fin 2) : Fin 8 := ⟨p.val * 2 + e.val, by omega⟩

/-- The three columns of each head pair, packed side by side and cut in blocks. -/
def packOf (u v w : Vec Ideal S8x4224x1 .f32) : Vec Ideal S4x3x1408x6 .f32 :=
  shapeCast S4x3x1408x6 (concatenate S4x4224x6 2
    [⟨S4x4224x2, transpose S4x4224x2 [0, 2, 1] (shapeCast S4x2x4224 u shapeCasts_S8x4224x1_S4x2x4224) transposes_S4x2x4224_S4x4224x2_0_2_1⟩,
     ⟨S4x4224x2, transpose S4x4224x2 [0, 2, 1] (shapeCast S4x2x4224 v shapeCasts_S8x4224x1_S4x2x4224) transposes_S4x2x4224_S4x4224x2_0_2_1⟩,
     ⟨S4x4224x2, transpose S4x4224x2 [0, 2, 1] (shapeCast S4x2x4224 w shapeCasts_S8x4224x1_S4x2x4224) transposes_S4x2x4224_S4x4224x2_0_2_1⟩]
    concatenates_S4x4224x2_S4x4224x2_S4x4224x2_S4x4224x6_d2) shapeCasts_S4x4224x6_S4x3x1408x6

theorem pack_read (U : Valuation τ sig (Elt Ideal)) :
    (StableHlo.after (hostOps0_14 (F := Ideal)) U) (Proc.tc.devRef main_v58)
      = packOf (U (Proc.tc.devRef main_v42)) (U (Proc.tc.devRef main_v47)) (U (Proc.tc.devRef main_v49)) := by
  after_reads_simp
  rfl

theorem packOf_00 (u v w : Vec Ideal S8x4224x1 .f32) (p : Fin 4) (n : Fin 3) (x : Fin 1408) :
    packOf u v w (ix4 p n x 0) = u (ix3 (headIn p 0) ⟨n.val * 1408 + x.val, by omega⟩ 0) := by
  unfold packOf headIn
  pointwise

theorem packOf_01 (u v w : Vec Ideal S8x4224x1 .f32) (p : Fin 4) (n : Fin 3) (x : Fin 1408) :
    packOf u v w (ix4 p n x 1) = u (ix3 (headIn p 1) ⟨n.val * 1408 + x.val, by omega⟩ 0) := by
  unfold packOf headIn
  pointwise

theorem packOf_10 (u v w : Vec Ideal S8x4224x1 .f32) (p : Fin 4) (n : Fin 3) (x : Fin 1408) :
    packOf u v w (ix4 p n x 2) = v (ix3 (headIn p 0) ⟨n.val * 1408 + x.val, by omega⟩ 0) := by
  unfold packOf headIn
  pointwise

theorem packOf_11 (u v w : Vec Ideal S8x4224x1 .f32) (p : Fin 4) (n : Fin 3) (x : Fin 1408) :
    packOf u v w (ix4 p n x 3) = v (ix3 (headIn p 1) ⟨n.val * 1408 + x.val, by omega⟩ 0) := by
  unfold packOf headIn
  pointwise

theorem packOf_20 (u v w : Vec Ideal S8x4224x1 .f32) (p : Fin 4) (n : Fin 3) (x : Fin 1408) :
    packOf u v w (ix4 p n x 4) = w (ix3 (headIn p 0) ⟨n.val * 1408 + x.val, by omega⟩ 0) := by
  unfold packOf headIn
  pointwise

theorem packOf_21 (u v w : Vec Ideal S8x4224x1 .f32) (p : Fin 4) (n : Fin 3) (x : Fin 1408) :
    packOf u v w (ix4 p n x 5) = w (ix3 (headIn p 1) ⟨n.val * 1408 + x.val, by omega⟩ 0) := by
  unfold packOf headIn
  pointwise

/-- The buffers before the columns are packed. -/
def atPacked (c : Dev nD) : Valuation τ sig (Elt Ideal) := StableHlo.after (hostOps0_3 (F := Ideal) ++ hostOps0_4 (F := Ideal) ++ hostOps0_5 (F := Ideal) ++ hostOps0_6 (F := Ideal) ++ hostOps0_7 (F := Ideal) ++ hostOps0_8 (F := Ideal) ++ hostOps0_9 (F := Ideal) ++ hostOps0_10 (F := Ideal) ++ hostOps0_11 (F := Ideal) ++ hostOps0_12 (F := Ideal) ++ hostOps0_13 (F := Ideal)) (atSaved m c)

theorem V_packed (c : Dev nD) : V m c (Pipeline.arrRef spec0 2)
    = packOf (atPacked m c (Proc.tc.devRef main_v42)) (atPacked m c (Proc.tc.devRef main_v47)) (atPacked m c (Proc.tc.devRef main_v49)) := by
  rw [V_rest m c, after_two, ← pack_read]
  rfl

theorem col_0 (c : Dev nD) (h : Fin 8) (i : Fin 4224) :
    (atPacked m c (Proc.tc.devRef main_v42) (ix3 h i 0) : EReal) = padRow (fun i => cumOf m c (ix2 (h) i)) 0 i := by
  rw [← atSaved_arg1 m c]
  unfold atPacked
  generalize atSaved m c = U
  after_reads_at
  simp only [minus_inf, plus_inf, zero_word, id_eq]
  exact padRow_eq (fun i => U (Proc.tc.devRef main_arg1) (ix2 h i)) 0 i

theorem V2_0 (c : Dev nD) (p : Fin 4) (n : Fin 3) (x : Fin 1408) (e : Fin 2) :
    (V m c (Pipeline.arrRef spec0 2) (ix4 p n x (packed 0 e)) : EReal) = padRow (fun i => cumOf m c (ix2 (headIn p e) i)) 0 ⟨n.val * 1408 + x.val, by omega⟩ := by
  rw [V_packed m c]
  obtain rfl | rfl : e = 0 ∨ e = 1 := by omega
  · rw [packed00, packOf_00]; exact col_0 m c (headIn p 0) _
  · rw [packed01, packOf_01]; exact col_0 m c (headIn p 1) _

theorem col_1 (c : Dev nD) (h : Fin 8) (i : Fin 4224) :
    (atPacked m c (Proc.tc.devRef main_v47) (ix3 h i 0) : EReal) = padRow (fun i => lseOf (scoresOf m c) (ix3 (h) i 0)) 0 i := by
  rw [← atSaved_lse m c]
  unfold atPacked
  generalize atSaved m c = U
  after_reads_at
  simp only [minus_inf, plus_inf, zero_word, id_eq]
  exact padRow_eq (fun i => U (Proc.tc.devRef main_v35) (ix3 h i 0)) 0 i

theorem V2_1 (c : Dev nD) (p : Fin 4) (n : Fin 3) (x : Fin 1408) (e : Fin 2) :
    (V m c (Pipeline.arrRef spec0 2) (ix4 p n x (packed 1 e)) : EReal) = padRow (fun i => lseOf (scoresOf m c) (ix3 (headIn p e) i 0)) 0 ⟨n.val * 1408 + x.val, by omega⟩ := by
  rw [V_packed m c]
  obtain rfl | rfl : e = 0 ∨ e = 1 := by omega
  · rw [packed10, packOf_10]; exact col_1 m c (headIn p 0) _
  · rw [packed11, packOf_11]; exact col_1 m c (headIn p 1) _

theorem col_2 (c : Dev nD) (h : Fin 8) (i : Fin 4224) :
    (atPacked m c (Proc.tc.devRef main_v49) (ix3 h i 0) : EReal) = padRow (fun i => deltaOf (gradOf m c) (outOf (projOf m c) (scoresOf m c)) (ix2 (h) i)) 0 i := by
  rw [← atSaved_delta m c]
  unfold atPacked
  generalize atSaved m c = U
  after_reads_at
  simp only [minus_inf, plus_inf, zero_word, id_eq]
  exact padRow_eq (fun i => U (Proc.tc.devRef main_v39) (ix2 h i)) 0 i

theorem V2_2 (c : Dev nD) (p : Fin 4) (n : Fin 3) (x : Fin 1408) (e : Fin 2) :
    (V m c (Pipeline.arrRef spec0 2) (ix4 p n x (packed 2 e)) : EReal) = padRow (fun i => deltaOf (gradOf m c) (outOf (projOf m c) (scoresOf m c)) (ix2 (headIn p e) i)) 0 ⟨n.val * 1408 + x.val, by omega⟩ := by
  rw [V_packed m c]
  obtain rfl | rfl : e = 0 ∨ e = 1 := by omega
  · rw [packed20, packOf_20]; exact col_2 m c (headIn p 0) _
  · rw [packed21, packOf_21]; exact col_2 m c (headIn p 1) _

theorem V0 (c : Dev nD) (i : Fin 4224) (l : Fin 6528) :
    (V m c (Pipeline.arrRef spec0 0) (ix2 i l) : EReal) = padRow (fun n => projOf m c (ix2 n l)) 0 i := by
  rw [← atSaved_arg0 m c, V_rest m c]
  have hz := atSaved_zero m c
  generalize atSaved m c = U at hz ⊢
  after_reads_at
  rw [hz]
  pointwise
  simp only [minus_inf, plus_inf, zero_word, id_eq]
  exact padRow_eq (fun n => U (Proc.tc.devRef main_arg0) (ix2 n l)) 0 i

theorem V1 (c : Dev nD) (i : Fin 4224) (l : Fin 512) :
    (V m c (Pipeline.arrRef spec0 1) (ix2 i l) : EReal) = padRow (fun n => gradOf m c (ix2 n l)) 0 i := by
  rw [← atSaved_arg2 m c, V_rest m c]
  generalize atSaved m c = U
  after_reads_at
  simp only [minus_inf, plus_inf, zero_word, id_eq]
  exact padRow_eq (fun n => U (Proc.tc.devRef main_arg2) (ix2 n l)) 0 i

theorem V5 (c : Dev nD) (h : Fin 8) (n : Fin 3) (x : Fin 1408) :
    (V m c (Pipeline.arrRef spec0 5) (ix4 h n 0 x) : EReal) = padRow (fun n => cumOf m c (ix2 h n)) ⊤ ⟨n.val * 1408 + x.val, by omega⟩ := by
  rw [← atSaved_arg1 m c, V_rest m c]
  generalize atSaved m c = U
  after_reads_at
  simp only [minus_inf, plus_inf, zero_word, id_eq]
  exact padRow_eq (fun n => U (Proc.tc.devRef main_arg1) (ix2 h n)) ⊤ ⟨n.val * 1408 + x.val, by omega⟩

end Cert.Kernel2Ideal.Gen
end
-- ==== Proof.DkvFwd.lean ====
module
public import proofs.«01_k».proof.Proof.DkvPads
@[expose] public section
set_option maxRecDepth 16384
noncomputable section
namespace Cert.Kernel2Ideal.Gen
open Idealize.ShloMosaic Idealize.ShloMosaic.TcCoe Idealize.ShloMosaic.Tactic
open Cert.Fox
variable (m : (ℓ : Loc nD τ sig) → Buf (Elt Ideal) ℓ) (c : Dev nD)
  (P : Fin 4112 → Fin 6528 → ℝ) (C : Fin 8 → Fin 4112 → ℝ) (D : Fin 4112 → Fin 512 → ℝ)

/-- The arguments are the real arrays `P`, `C` and `D`. -/
structure Reals : Prop where
  proj : ∀ n l, projOf m c (ix2 n l) = (P n l : EReal)
  cum : ∀ h n, cumOf m c (ix2 h n) = (C h n : EReal)
  grad : ∀ n l, gradOf m c (ix2 n l) = (D n l : EReal)

variable {m c P C D} (H : Reals m c P C D)
include H

theorem scores_eq (h : Fin 8) (i j : Fin 4112) : scoresOf m c (ix3 h i j) = msk (qOf P h) (kOf P h) (C h) i j := by
  rw [scoresOf_at]
  unfold scoreE msk sc
  simp only [H.proj, H.cum, eighth]
  by_cases hji : j.val ≤ i.val
  · rw [if_pos hji, if_pos hji]
    simp only [← EReal.coe_mul, ← coe_sum, ← EReal.coe_add, ← EReal.coe_sub]
    rfl
  · rw [if_neg hji, if_neg hji]

theorem top_eq (h : Fin 8) (i : Fin 4112) : topOf (scoresOf m c) (ix2 h i) = (top (qOf P h) (kOf P h) (C h) i : EReal) := by
  rw [topOf_at, ← fold_top, ofBits_bot]
  simp only [scores_eq H]

theorem exp_eq (h : Fin 8) (i j : Fin 4112) : expOf (scoresOf m c) (ix3 h i j) = (ex (qOf P h) (kOf P h) (C h) i j : EReal) := by
  rw [expOf_at, top_eq H, scores_eq H, exp_msk]

theorem sum_eq (h : Fin 8) (i : Fin 4112) : (∑ j, expOf (scoresOf m c) (ix3 h i j)) = (nrm (qOf P h) (kOf P h) (C h) i : EReal) := by
  unfold nrm
  rw [coe_sum]
  exact Finset.sum_congr rfl fun j _ => exp_eq H h i j

theorem weight_eq (h : Fin 8) (i j : Fin 4112) : weightOf (scoresOf m c) (ix3 h i j) = (wt (qOf P h) (kOf P h) (C h) i j : EReal) := by
  rw [weightOf_at, exp_eq H, sum_eq H, Ideal.div_coe (nrm_pos _ _ _ _).ne', ← EReal.coe_mul]
  unfold wt
  rw [mul_one_div]

theorem out_eq (h : Fin 8) (i : Fin 4112) (d : Fin 64) :
    outOf (projOf m c) (scoresOf m c) (ix2 i ⟨h.val * 64 + d.val, by omega⟩) = (out (qOf P h) (kOf P h) (vOf P h) (C h) i d : EReal) := by
  rw [outOf_at]
  unfold out
  rw [coe_sum]
  refine Finset.sum_congr rfl fun j _ => ?_
  rw [weight_eq H, H.proj, EReal.coe_mul]
  rfl

theorem lse_eq (h : Fin 8) (i : Fin 4112) : lseOf (scoresOf m c) (ix3 h i 0) = (lse (qOf P h) (kOf P h) (C h) i : EReal) := by
  rw [lseOf_at, top_eq H, sum_eq H, Ideal.log_coe, if_neg (not_le.mpr (nrm_pos _ _ _ _)), ← EReal.coe_add]
  rfl

end Cert.Kernel2Ideal.Gen
end
-- ==== Proof.FoxKeys.lean ====
module
public import proofs.«01_k».proof.Proof.Fox
@[expose] public section
noncomputable section
namespace Cert.Fox
open Idealize.ShloMosaic

/-! ## The gradients of the keys, the values and the keys' running gates -/

/-- The diagonal block, the full query blocks after it, and nothing before it: the sum over all queries. -/
theorem sum_after (T : Fin 4224 → EReal) (b : ℕ) (hb : b < 3) (f : ℕ → Fin 1408 → EReal) (g : Fin 1408 → EReal)
    (hf : ∀ n (_ : b < n) (h : n < 3) (x : Fin 1408), f n x = T ⟨n * 1408 + x.val, by omega⟩) (hg : ∀ x : Fin 1408, g x = T ⟨b * 1408 + x.val, by omega⟩)
    (hz : ∀ j : Fin 4224, j.val < b * 1408 → T j = 0) :
    ∑ x, g x + ∑ t ∈ Finset.range (2 - b), ∑ x, f (b + 1 + t) x = ∑ j, T j := by
  rw [sum_thirds T]
  have hb' : b = 0 ∨ b = 1 ∨ b = 2 := by omega
  have hF : ∀ (n : ℕ) (_ : b < n) (h : n < 3), ∑ x, f n x = ∑ x : Fin 1408, T ⟨n * 1408 + x.val, by omega⟩ :=
    fun n hn h => Finset.sum_congr rfl fun x _ => hf n hn h x
  have hG : ∑ x, g x = ∑ x : Fin 1408, T ⟨b * 1408 + x.val, by omega⟩ := Finset.sum_congr rfl fun x _ => hg x
  have t0 : ∑ x : Fin 1408, T ⟨0 * 1408 + x.val, by omega⟩ = ∑ x : Fin 1408, T ⟨x.val, by omega⟩ :=
    Finset.sum_congr rfl fun x _ => congrArg T (Fin.ext (by simp))
  have t1 : ∑ x : Fin 1408, T ⟨1 * 1408 + x.val, by omega⟩ = ∑ x : Fin 1408, T ⟨1408 + x.val, by omega⟩ :=
    Finset.sum_congr rfl fun x _ => congrArg T (Fin.ext (by simp))
  have t2 : ∑ x : Fin 1408, T ⟨2 * 1408 + x.val, by omega⟩ = ∑ x : Fin 1408, T ⟨2816 + x.val, by omega⟩ :=
    Finset.sum_congr rfl fun x _ => congrArg T (Fin.ext (by simp))
  rcases hb' with rfl | rfl | rfl
  · have h1 := hF 1 (by omega) (by omega)
    have h2 := hF 2 (by omega) (by omega)
    rw [Finset.sum_range_succ, Finset.sum_range_one, hG, h1, h2, t0, t1, t2, add_assoc]
  · have h2 := hF 2 (by omega) (by omega)
    have z0 : ∑ x : Fin 1408, T ⟨x.val, by omega⟩ = 0 := Finset.sum_eq_zero fun x _ => hz _ (by simp)
    rw [Finset.sum_range_one, hG, h2, t1, t2, z0, zero_add]
  · have z0 : ∑ x : Fin 1408, T ⟨x.val, by omega⟩ = 0 := Finset.sum_eq_zero fun x _ => hz _ (by simp; omega)
    have z1 : ∑ x : Fin 1408, T ⟨1408 + x.val, by omega⟩ = 0 := Finset.sum_eq_zero fun x _ => hz _ (by simp; omega)
    rw [Finset.sum_range_zero, add_zero, hG, t2, z0, z1, zero_add, zero_add]

variable (q k v g : Fin 4112 → Fin 64 → ℝ) (c : Fin 4112 → ℝ)

/-- The key's gradient. -/
def dk (j : Fin 4112) (d : Fin 64) : ℝ := ∑ i, ds q k v g c i j * (q i d * (1 / 8))

/-- The value's gradient. -/
def dv (j : Fin 4112) (d : Fin 64) : ℝ := ∑ i, wt q k c i j * g i d

/-- The gradient of the key's running gate. -/
def dck (j : Fin 4112) : ℝ := ∑ i, -ds q k v g c i j

/-- The padded gradients of the keys, of the values, and of the keys' running gates. -/
def dkPad (P : Fin 4112 → Fin 6528 → ℝ) (C : Fin 8 → Fin 4112 → ℝ) (D : Fin 4112 → Fin 512 → ℝ) (i : Fin 4224) (l : Fin 512) : EReal :=
  padRow (fun n => (dk (qOf P (headOf l)) (kOf P (headOf l)) (vOf P (headOf l)) (gOf D (headOf l)) (C (headOf l)) n (dimOf l) : EReal)) 0 i
def dvPad (P : Fin 4112 → Fin 6528 → ℝ) (C : Fin 8 → Fin 4112 → ℝ) (D : Fin 4112 → Fin 512 → ℝ) (i : Fin 4224) (l : Fin 512) : EReal :=
  padRow (fun n => (dv (qOf P (headOf l)) (kOf P (headOf l)) (gOf D (headOf l)) (C (headOf l)) n (dimOf l) : EReal)) 0 i
def dckPad (P : Fin 4112 → Fin 6528 → ℝ) (C : Fin 8 → Fin 4112 → ℝ) (D : Fin 4112 → Fin 512 → ℝ) (h : Fin 8) (i : Fin 4224) : EReal :=
  padRow (fun n => (dck (qOf P h) (kOf P h) (vOf P h) (gOf D h) (C h) n : EReal)) 0 i

/-- The kernel's weight of padded query `i` on padded key `j`. -/
def wgtPad (i j : Fin 4224) : EReal :=
  Ideal.exp ((if j.val ≤ i.val then ∑ d, padRow (fun n => (q n d : EReal)) 0 i * Ideal.ofBits .f32 1040187392#32 * padRow (fun n => (k n d : EReal)) 0 j
      + padRow (fun n => (c n : EReal)) 0 i - padRow (fun n => (c n : EReal)) ⊤ j else ⊥) - padRow (fun n => (lse q k c n : EReal)) 0 i)

/-- The kernel's score gradient of padded query `i` and padded key `j`, from the saved product of the output and its gradient. -/
def gradPad (i j : Fin 4224) : EReal :=
  wgtPad q k c i j * (∑ d, padRow (fun n => (g n d : EReal)) 0 i * padRow (fun n => (v n d : EReal)) 0 j - padRow (fun n => (del q k v g c n : EReal)) 0 i)

theorem wgtPad_place (i j : Fin 4112) : wgtPad q k c (place i) (place j) = (wt q k c i j : EReal) := by
  unfold wgtPad
  simp only [padRow_place, eighth]
  rw [← exp_lse]
  congr 2
  unfold msk sc
  have hp : (place j).val ≤ (place i).val ↔ j.val ≤ i.val := by simp [place]
  by_cases h : j.val ≤ i.val
  · rw [if_pos h, if_pos (hp.mpr h)]
    simp only [← EReal.coe_mul, ← coe_sum, ← EReal.coe_add, ← EReal.coe_sub]
    congr 3
    rw [Finset.sum_mul]
    refine Finset.sum_congr rfl fun d _ => by ring
  · rw [if_neg h, if_neg (fun h' => h (hp.mp h'))]

theorem gradPad_place (i j : Fin 4112) : gradPad q k v g c (place i) (place j) = (ds q k v g c i j : EReal) := by
  unfold gradPad ds
  rw [wgtPad_place]
  simp only [padRow_place]
  unfold dp
  simp only [← EReal.coe_mul, ← coe_sum, ← EReal.coe_sub]

theorem wgtPad_zero (i j : Fin 4224) (h : i.val < 112 ∨ j.val < 112 ∨ ¬ j.val ≤ i.val) : wgtPad q k c i j = 0 := by
  obtain ⟨q', hq⟩ := mul_real (fun i d => padRow (fun n => (q n d : EReal)) 0 i) (fun i d => padRow_real _ _)
  obtain ⟨k', hk⟩ := mul_real (fun i d => padRow (fun n => (k n d : EReal)) 0 i) (fun i d => padRow_real _ _)
  obtain ⟨c', hc⟩ := padRow_real c i
  obtain ⟨l', hl⟩ := padRow_real (lse q k c) i
  unfold wgtPad
  simp only [hq, hk, hc, hl, eighth]
  have hs : (if j.val ≤ i.val then ∑ d, (q' i d : EReal) * ((1 / 8 : ℝ) : EReal) * (k' j d : EReal) + (c' : EReal) - padRow (fun n => (c n : EReal)) ⊤ j else ⊥) = ⊥ := by
    by_cases hji : j.val ≤ i.val
    · rw [if_pos hji, padRow_low _ _ j (by omega)]
      simp only [← EReal.coe_mul, ← coe_sum, ← EReal.coe_add]
      exact EReal.sub_top _
    · rw [if_neg hji]
  rw [hs, EReal.bot_sub]
  simp

theorem gradPad_zero (i j : Fin 4224) (h : i.val < 112 ∨ j.val < 112 ∨ ¬ j.val ≤ i.val) : gradPad q k v g c i j = 0 := by
  unfold gradPad
  rw [wgtPad_zero q k c i j h, zero_mul]

end Cert.Fox
end
-- ==== Proof.DkvArray.lean ====
module
public import proofs.«01_k».proof.Proof.DkvFwd
public import proofs.«01_k».proof.Proof.DkvOut
public import proofs.«01_k».proof.Proof.FoxKeys
@[expose] public section
set_option maxRecDepth 16384
noncomputable section
namespace Cert.Kernel2Ideal.Gen
open Idealize.ShloMosaic Idealize.ShloMosaic.TcCoe Idealize.ShloMosaic.Tactic
open Idealize.ShloMosaic.Pipeline (Dat Cfg Window BodyObligation cellOf)
open Cert.Fox
variable (m : (ℓ : Loc nD τ sig) → Buf (Elt Ideal) ℓ)

/-- Head pair and key block of a grid point. -/
def pairOf (t : Fin cfg0.N) : ℕ := (grid0.coords t 0).val
def blockOf (t : Fin cfg0.N) : ℕ := (grid0.coords t 1).val

theorem pairOf_lt (t : Fin cfg0.N) : pairOf t < 4 := (grid0.coords t 0).isLt
theorem blockOf_lt (t : Fin cfg0.N) : blockOf t < 3 := (grid0.coords t 1).isLt

theorem index_at : ∀ t : Fin cfg0.N,
    win0_0.index t = ![0, 28 + pairOf t] ∧ win0_1.index t = ![0, pairOf t] ∧ win0_2.index t = ![pairOf t, 0, 0, 0] ∧ win0_3.index t = ![blockOf t, 32 + pairOf t] ∧ win0_4.index t = ![blockOf t, 36 + pairOf t] ∧ win0_5.index t = ![pairOf t, blockOf t, 0, 0] ∧ win0_6.index t = ![blockOf t, pairOf t] ∧ win0_7.index t = ![blockOf t, pairOf t] ∧ win0_8.index t = ![pairOf t, blockOf t, 0, 0] :=
  (by decide +kernel : ∀ t : Fin grid0.N,
    win0_0.index t = ![0, 28 + (grid0.coords t 0).val] ∧ win0_1.index t = ![0, (grid0.coords t 0).val] ∧ win0_2.index t = ![(grid0.coords t 0).val, 0, 0, 0] ∧ win0_3.index t = ![(grid0.coords t 1).val, 32 + (grid0.coords t 0).val] ∧ win0_4.index t = ![(grid0.coords t 1).val, 36 + (grid0.coords t 0).val] ∧ win0_5.index t = ![(grid0.coords t 0).val, (grid0.coords t 1).val, 0, 0] ∧ win0_6.index t = ![(grid0.coords t 1).val, (grid0.coords t 0).val] ∧ win0_7.index t = ![(grid0.coords t 1).val, (grid0.coords t 0).val] ∧ win0_8.index t = ![(grid0.coords t 0).val, (grid0.coords t 1).val, 0, 0])

/-- The head and the padded row a block's lane and row stand for. -/
def headAt (t : Fin cfg0.N) (e : Fin 2) : Fin 8 := ⟨pairOf t * 2 + e.val, by have := pairOf_lt t; omega⟩
def rowAt (t : Fin cfg0.N) (r : Fin 1408) : Fin 4224 := ⟨blockOf t * 1408 + r.val, by have := blockOf_lt t; omega⟩

theorem blk0 (c : Dev nD) (t : Fin cfg0.N) (i : Fin 4224) (e : Fin 2) (d : Fin 64) :
    iblk m c 0 t (ix2 i (lane e d)) = V m c (Pipeline.arrRef spec0 0) (ix2 (i) (⟨3584 + ((headAt t e).val * 64 + d.val), by omega⟩ : Fin 6528)) := by
  have hp := pairOf_lt t
  have hb := blockOf_lt t
  unfold lane headAt
  blk_ext [iblk, (index_at t).1]

theorem blk1 (c : Dev nD) (t : Fin cfg0.N) (i : Fin 4224) (e : Fin 2) (d : Fin 64) :
    iblk m c 1 t (ix2 i (lane e d)) = V m c (Pipeline.arrRef spec0 1) (ix2 (i) (⟨(headAt t e).val * 64 + d.val, by omega⟩ : Fin 512)) := by
  have hp := pairOf_lt t
  have hb := blockOf_lt t
  unfold lane headAt
  blk_ext [iblk, (index_at t).2.1]

theorem blk3 (c : Dev nD) (t : Fin cfg0.N) (r : Fin 1408) (e : Fin 2) (d : Fin 64) :
    iblk m c 3 t (ix2 r (lane e d)) = V m c (Pipeline.arrRef spec0 3) (ix2 (rowAt t r) (⟨4096 + ((headAt t e).val * 64 + d.val), by omega⟩ : Fin 6528)) := by
  have hp := pairOf_lt t
  have hb := blockOf_lt t
  unfold lane headAt rowAt
  blk_ext [iblk, (index_at t).2.2.2.1]

theorem blk4 (c : Dev nD) (t : Fin cfg0.N) (r : Fin 1408) (e : Fin 2) (d : Fin 64) :
    iblk m c 4 t (ix2 r (lane e d)) = V m c (Pipeline.arrRef spec0 4) (ix2 (rowAt t r) (⟨4608 + ((headAt t e).val * 64 + d.val), by omega⟩ : Fin 6528)) := by
  have hp := pairOf_lt t
  have hb := blockOf_lt t
  unfold lane headAt rowAt
  blk_ext [iblk, (index_at t).2.2.2.2.1]

theorem blk2 (c : Dev nD) (t : Fin cfg0.N) (n : Fin 3) (x : Fin 1408) (e : Fin 6) :
    iblk m c 2 t (ix4 0 n x e) = V m c (Pipeline.arrRef spec0 2) (ix4 (⟨pairOf t, pairOf_lt t⟩ : Fin 4) n x e) := by
  have hp := pairOf_lt t
  blk_ext [iblk, (index_at t).2.2.1]

theorem blk5 (c : Dev nD) (t : Fin cfg0.N) (e : Fin 2) (r : Fin 1408) :
    iblk m c 5 t (ix4 e 0 0 r) = V m c (Pipeline.arrRef spec0 5) (ix4 (headAt t e) (⟨blockOf t, blockOf_lt t⟩ : Fin 3) 0 r) := by
  have hp := pairOf_lt t
  have hb := blockOf_lt t
  unfold headAt
  blk_ext [iblk, (index_at t).2.2.2.2.2.1]

variable {m} {c : Dev nD} {P : Fin 4112 → Fin 6528 → ℝ} {C : Fin 8 → Fin 4112 → ℝ} {D : Fin 4112 → Fin 512 → ℝ} (H : Reals m c P C D)
include H

theorem delta_eq (h : Fin 8) (i : Fin 4112) :
    deltaOf (gradOf m c) (outOf (projOf m c) (scoresOf m c)) (ix2 h i) = (del (qOf P h) (kOf P h) (vOf P h) (gOf D h) (C h) i : EReal) := by
  rw [deltaOf_at]
  unfold del
  rw [coe_sum]
  refine Finset.sum_congr rfl fun d _ => ?_
  rw [out_eq H, H.grad, EReal.coe_mul]
  rfl

theorem rd0 (t : Fin cfg0.N) (i : Fin 4224) (e : Fin 2) (d : Fin 64) :
    iblk m c 0 t (ix2 i (lane e d)) = padRow (fun n => (qOf P (headAt t e) n d : EReal)) 0 i := by
  rw [blk0]; refine (V0 m c _ _).trans ?_; simp only [H.proj]; rfl

theorem rd1 (t : Fin cfg0.N) (i : Fin 4224) (e : Fin 2) (d : Fin 64) :
    iblk m c 1 t (ix2 i (lane e d)) = padRow (fun n => (gOf D (headAt t e) n d : EReal)) 0 i := by
  rw [blk1]; refine (V1 m c _ _).trans ?_; simp only [H.grad]; rfl

theorem rd3 (t : Fin cfg0.N) (r : Fin 1408) (e : Fin 2) (d : Fin 64) :
    iblk m c 3 t (ix2 r (lane e d)) = padRow (fun n => (kOf P (headAt t e) n d : EReal)) 0 (rowAt t r) := by
  rw [blk3]; refine (V0 m c _ _).trans ?_; simp only [H.proj]; rfl

theorem rd4 (t : Fin cfg0.N) (r : Fin 1408) (e : Fin 2) (d : Fin 64) :
    iblk m c 4 t (ix2 r (lane e d)) = padRow (fun n => (vOf P (headAt t e) n d : EReal)) 0 (rowAt t r) := by
  rw [blk4]; refine (V0 m c _ _).trans ?_; simp only [H.proj]; rfl

theorem stat0 (t : Fin cfg0.N) (n : ℕ) (hn : n < 3) (x : Fin 1408) (e : Fin 2) :
    statOf (iblk m c 2 t) (packed 0 e) n x = padRow (fun n => (C (headAt t e) n : EReal)) 0 ⟨n * 1408 + x.val, by omega⟩ := by
  unfold statOf; rw [dif_pos hn, blk2, V2_0]; simp only [H.cum]; rfl

theorem stat1 (t : Fin cfg0.N) (n : ℕ) (hn : n < 3) (x : Fin 1408) (e : Fin 2) :
    statOf (iblk m c 2 t) (packed 1 e) n x = padRow (fun n => (lse (qOf P (headAt t e)) (kOf P (headAt t e)) (C (headAt t e)) n : EReal)) 0 ⟨n * 1408 + x.val, by omega⟩ := by
  unfold statOf; rw [dif_pos hn, blk2, V2_1]; simp only [lse_eq H]; rfl

theorem stat2 (t : Fin cfg0.N) (n : ℕ) (hn : n < 3) (x : Fin 1408) (e : Fin 2) :
    statOf (iblk m c 2 t) (packed 2 e) n x = padRow (fun n => (del (qOf P (headAt t e)) (kOf P (headAt t e)) (vOf P (headAt t e)) (gOf D (headAt t e)) (C (headAt t e)) n : EReal)) 0 ⟨n * 1408 + x.val, by omega⟩ := by
  unfold statOf; rw [dif_pos hn, blk2, V2_2]; simp only [delta_eq H]; rfl

theorem rd5 (t : Fin cfg0.N) (e : Fin 2) (r : Fin 1408) :
    iblk m c 5 t (ix4 e 0 0 r) = padRow (fun n => (C (headAt t e) n : EReal)) ⊤ (rowAt t r) := by
  rw [blk5, V5]; simp only [H.cum]; rfl

theorem rowOf0 (t : Fin cfg0.N) (n : ℕ) (hn : n < 3) (x : Fin 1408) (e : Fin 2) (d : Fin 64) :
    rowOf (iblk m c 0 t) n x (lane e d) = padRow (fun n => (qOf P (headAt t e) n d : EReal)) 0 ⟨n * 1408 + x.val, by omega⟩ := by
  unfold rowOf; rw [dif_pos (by omega), rd0 H]

theorem rowOf1 (t : Fin cfg0.N) (n : ℕ) (hn : n < 3) (x : Fin 1408) (e : Fin 2) (d : Fin 64) :
    rowOf (iblk m c 1 t) n x (lane e d) = padRow (fun n => (gOf D (headAt t e) n d : EReal)) 0 ⟨n * 1408 + x.val, by omega⟩ := by
  unfold rowOf; rw [dif_pos (by omega), rd1 H]

/-- A block's weight is the padded arrays' one. -/
theorem wgt_at (t : Fin cfg0.N) (e : Fin 2) (y : Fin 1408) (ok : Prop) [Decidable ok] (n : ℕ) (hn : n < 3) (x : Fin 1408) (hok : ok ↔ (rowAt t y).val ≤ n * 1408 + x.val) :
    wgtOfBlock (iblk m c 0 t) (iblk m c 1 t) (iblk m c 2 t) (iblk m c 3 t) (iblk m c 4 t) (iblk m c 5 t) e y ok n x = wgtPad (qOf P (headAt t e)) (kOf P (headAt t e)) (C (headAt t e)) ⟨n * 1408 + x.val, by omega⟩ (rowAt t y) := by
  unfold wgtOfBlock wgtPad
  simp only [rowOf0 H t n hn, stat0 H t n hn, stat1 H t n hn, rd3 H, rd5 H]
  congr 2
  by_cases h : ok
  · rw [if_pos h, if_pos (hok.mp h)]
  · rw [if_neg h, if_neg (fun h' => h (hok.mpr h'))]

/-- A block's score gradient is the padded arrays' one. -/
theorem cell_at (t : Fin cfg0.N) (e : Fin 2) (y : Fin 1408) (ok : Prop) [Decidable ok] (n : ℕ) (hn : n < 3) (x : Fin 1408) (hok : ok ↔ (rowAt t y).val ≤ n * 1408 + x.val) :
    cellOfBlock (iblk m c 0 t) (iblk m c 1 t) (iblk m c 2 t) (iblk m c 3 t) (iblk m c 4 t) (iblk m c 5 t) e y ok n x = gradPad (qOf P (headAt t e)) (kOf P (headAt t e)) (vOf P (headAt t e)) (gOf D (headAt t e)) (C (headAt t e)) ⟨n * 1408 + x.val, by omega⟩ (rowAt t y) := by
  unfold cellOfBlock gradPad
  rw [wgt_at H t e y ok n hn x hok]
  simp only [rowOf1 H t n hn, stat2 H t n hn, rd4 H]

omit H in
theorem ok_full (t : Fin cfg0.N) (y : Fin 1408) (n : ℕ) (hn : blockOf t < n) (x : Fin 1408) : True ↔ (rowAt t y).val ≤ n * 1408 + x.val := by
  unfold rowAt
  have := Nat.mul_le_mul_right 1408 (Nat.succ_le_of_lt hn)
  simp only [Nat.succ_eq_add_one] at this
  have := y.isLt
  exact ⟨fun _ => by show blockOf t * 1408 + y.val ≤ n * 1408 + x.val; omega, fun _ => trivial⟩

omit H in
theorem ok_diag (t : Fin cfg0.N) (y x : Fin 1408) : y.val ≤ x.val ↔ (rowAt t y).val ≤ blockOf t * 1408 + x.val := by
  unfold rowAt
  show _ ↔ blockOf t * 1408 + y.val ≤ blockOf t * 1408 + x.val
  omega

omit H in
theorem before (t : Fin cfg0.N) (y : Fin 1408) (j : Fin 4224) (hj : j.val < blockOf t * 1408) : ¬ (rowAt t y).val ≤ j.val := by
  unfold rowAt
  show ¬ blockOf t * 1408 + y.val ≤ j.val
  omega

/-- The causal sum over a key block's queries is the sum over all queries. -/
theorem sum_wgt (t : Fin cfg0.N) (e : Fin 2) (y : Fin 1408) (w : Fin 4224 → EReal) (u : ℕ → Fin 1408 → EReal)
    (hu : ∀ n (h : n < 3) (x : Fin 1408), u n x = w ⟨n * 1408 + x.val, by omega⟩) :
    ∑ x, wgtOfBlock (iblk m c 0 t) (iblk m c 1 t) (iblk m c 2 t) (iblk m c 3 t) (iblk m c 4 t) (iblk m c 5 t) e y (y.val ≤ x.val) (blockOf t) x * u (blockOf t) x
      + ∑ s ∈ Finset.range (2 - blockOf t), ∑ x : Fin 1408, wgtOfBlock (iblk m c 0 t) (iblk m c 1 t) (iblk m c 2 t) (iblk m c 3 t) (iblk m c 4 t) (iblk m c 5 t) e y True (blockOf t + 1 + s) x * u (blockOf t + 1 + s) x
      = ∑ i, wgtPad (qOf P (headAt t e)) (kOf P (headAt t e)) (C (headAt t e)) i (rowAt t y) * w i := by
  have hb := blockOf_lt t
  refine sum_after (fun i => wgtPad (qOf P (headAt t e)) (kOf P (headAt t e)) (C (headAt t e)) i (rowAt t y) * w i) (blockOf t) hb
    (fun n x => wgtOfBlock (iblk m c 0 t) (iblk m c 1 t) (iblk m c 2 t) (iblk m c 3 t) (iblk m c 4 t) (iblk m c 5 t) e y True n x * u n x) _ ?_ ?_ ?_
  · intro n hn hn' x
    show wgtOfBlock (iblk m c 0 t) (iblk m c 1 t) (iblk m c 2 t) (iblk m c 3 t) (iblk m c 4 t) (iblk m c 5 t) e y True n x * u n x = _
    rw [wgt_at H t e y True n hn' x (ok_full t y n hn x), hu n hn' x]
  · intro x
    rw [wgt_at H t e y (y.val ≤ x.val) (blockOf t) hb x (ok_diag t y x), hu _ hb x]
  · intro j hj
    rw [wgtPad_zero _ _ _ _ _ (Or.inr (Or.inr (before t y j hj))), zero_mul]

/-- The causal sum over a key block's queries is the sum over all queries. -/
theorem sum_cell (t : Fin cfg0.N) (e : Fin 2) (y : Fin 1408) (w : Fin 4224 → EReal) (u : ℕ → Fin 1408 → EReal)
    (hu : ∀ n (h : n < 3) (x : Fin 1408), u n x = w ⟨n * 1408 + x.val, by omega⟩) :
    ∑ x, cellOfBlock (iblk m c 0 t) (iblk m c 1 t) (iblk m c 2 t) (iblk m c 3 t) (iblk m c 4 t) (iblk m c 5 t) e y (y.val ≤ x.val) (blockOf t) x * u (blockOf t) x
      + ∑ s ∈ Finset.range (2 - blockOf t), ∑ x : Fin 1408, cellOfBlock (iblk m c 0 t) (iblk m c 1 t) (iblk m c 2 t) (iblk m c 3 t) (iblk m c 4 t) (iblk m c 5 t) e y True (blockOf t + 1 + s) x * u (blockOf t + 1 + s) x
      = ∑ i, gradPad (qOf P (headAt t e)) (kOf P (headAt t e)) (vOf P (headAt t e)) (gOf D (headAt t e)) (C (headAt t e)) i (rowAt t y) * w i := by
  have hb := blockOf_lt t
  refine sum_after (fun i => gradPad (qOf P (headAt t e)) (kOf P (headAt t e)) (vOf P (headAt t e)) (gOf D (headAt t e)) (C (headAt t e)) i (rowAt t y) * w i) (blockOf t) hb
    (fun n x => cellOfBlock (iblk m c 0 t) (iblk m c 1 t) (iblk m c 2 t) (iblk m c 3 t) (iblk m c 4 t) (iblk m c 5 t) e y True n x * u n x) _ ?_ ?_ ?_
  · intro n hn hn' x
    show cellOfBlock (iblk m c 0 t) (iblk m c 1 t) (iblk m c 2 t) (iblk m c 3 t) (iblk m c 4 t) (iblk m c 5 t) e y True n x * u n x = _
    rw [cell_at H t e y True n hn' x (ok_full t y n hn x), hu n hn' x]
  · intro x
    rw [cell_at H t e y (y.val ≤ x.val) (blockOf t) hb x (ok_diag t y x), hu _ hb x]
  · intro j hj
    rw [gradPad_zero _ _ _ _ _ _ _ (Or.inr (Or.inr (before t y j hj))), zero_mul]

omit H in
/-- The sum over padded queries of the score gradients with a padded row. -/
theorem grad_tokens (h : Fin 8) (j : Fin 4224) (w : Fin 4112 → ℝ) :
    ∑ i, gradPad (qOf P h) (kOf P h) (vOf P h) (gOf D h) (C h) i j * (padRow (fun n => (w n : EReal)) 0 i * Ideal.ofBits .f32 1040187392#32)
      = padRow (fun n => ((∑ i, ds (qOf P h) (kOf P h) (vOf P h) (gOf D h) (C h) i n * (w i * (1 / 8)) : ℝ) : EReal)) 0 j := by
  rw [sum_pad _ (fun i hi => by rw [gradPad_zero _ _ _ _ _ _ _ (Or.inl hi), zero_mul])]
  rcases place_cases j with hj | ⟨n, rfl⟩
  · rw [padRow_low _ _ _ hj]
    exact Finset.sum_eq_zero fun i _ => by rw [gradPad_zero _ _ _ _ _ _ _ (Or.inr (Or.inl hj)), zero_mul]
  · rw [padRow_place, coe_sum]
    refine Finset.sum_congr rfl fun i _ => ?_
    rw [gradPad_place, padRow_place, eighth, EReal.coe_mul, EReal.coe_mul]

omit H in
/-- The sum over padded queries of the weights with a padded row. -/
theorem wgt_tokens (h : Fin 8) (j : Fin 4224) (w : Fin 4112 → ℝ) :
    ∑ i, wgtPad (qOf P h) (kOf P h) (C h) i j * padRow (fun n => (w n : EReal)) 0 i
      = padRow (fun n => ((∑ i, wt (qOf P h) (kOf P h) (C h) i n * w i : ℝ) : EReal)) 0 j := by
  rw [sum_pad _ (fun i hi => by rw [wgtPad_zero _ _ _ _ _ (Or.inl hi), zero_mul])]
  rcases place_cases j with hj | ⟨n, rfl⟩
  · rw [padRow_low _ _ _ hj]
    exact Finset.sum_eq_zero fun i _ => by rw [wgtPad_zero _ _ _ _ _ (Or.inr (Or.inl hj)), zero_mul]
  · rw [padRow_place, coe_sum]
    refine Finset.sum_congr rfl fun i _ => ?_
    rw [wgtPad_place, padRow_place, EReal.coe_mul]

omit H in
theorem gradPad_real (h : Fin 8) (i j : Fin 4224) : ∃ z : ℝ, gradPad (qOf P h) (kOf P h) (vOf P h) (gOf D h) (C h) i j = (z : EReal) := by
  rcases place_cases i with hi | ⟨a, rfl⟩
  · exact ⟨0, by rw [gradPad_zero _ _ _ _ _ _ _ (Or.inl hi)]; rfl⟩
  rcases place_cases j with hj | ⟨b, rfl⟩
  · exact ⟨0, by rw [gradPad_zero _ _ _ _ _ _ _ (Or.inr (Or.inl hj))]; rfl⟩
  · exact ⟨_, gradPad_place _ _ _ _ _ a b⟩

omit H in
/-- A negated sum of real score gradients is the sum of the negated ones. -/
theorem neg_sum (h : Fin 8) (j : Fin 4224) (ix : Fin 1408 → Fin 4224) :
    -(∑ x, gradPad (qOf P h) (kOf P h) (vOf P h) (gOf D h) (C h) (ix x) j) = ∑ x, -gradPad (qOf P h) (kOf P h) (vOf P h) (gOf D h) (C h) (ix x) j := by
  obtain ⟨z, hz⟩ : ∃ z : Fin 1408 → ℝ, ∀ x, gradPad (qOf P h) (kOf P h) (vOf P h) (gOf D h) (C h) (ix x) j = (z x : EReal) :=
    ⟨fun x => (gradPad_real h (ix x) j).choose, fun x => (gradPad_real h (ix x) j).choose_spec⟩
  simp only [hz]
  rw [← coe_sum, ← EReal.coe_neg, ← Finset.sum_neg_distrib, coe_sum]
  simp only [EReal.coe_neg]

/-- The negated causal sums over a key block's queries are the negated sum over all queries. -/
theorem sum_neg (t : Fin cfg0.N) (e : Fin 2) (y : Fin 1408) :
    -(∑ x, cellOfBlock (iblk m c 0 t) (iblk m c 1 t) (iblk m c 2 t) (iblk m c 3 t) (iblk m c 4 t) (iblk m c 5 t) e y (y.val ≤ x.val) (blockOf t) x)
      + ∑ s ∈ Finset.range (2 - blockOf t), -(∑ x, cellOfBlock (iblk m c 0 t) (iblk m c 1 t) (iblk m c 2 t) (iblk m c 3 t) (iblk m c 4 t) (iblk m c 5 t) e y True (blockOf t + 1 + s) x)
      = ∑ i, -gradPad (qOf P (headAt t e)) (kOf P (headAt t e)) (vOf P (headAt t e)) (gOf D (headAt t e)) (C (headAt t e)) i (rowAt t y) := by
  have hb := blockOf_lt t
  have hd : -(∑ x, cellOfBlock (iblk m c 0 t) (iblk m c 1 t) (iblk m c 2 t) (iblk m c 3 t) (iblk m c 4 t) (iblk m c 5 t) e y (y.val ≤ x.val) (blockOf t) x)
      = ∑ x : Fin 1408, -gradPad (qOf P (headAt t e)) (kOf P (headAt t e)) (vOf P (headAt t e)) (gOf D (headAt t e)) (C (headAt t e)) ⟨blockOf t * 1408 + x.val, by omega⟩ (rowAt t y) := by
    rw [← neg_sum]
    exact congrArg _ (Finset.sum_congr rfl fun x _ => cell_at H t e y (y.val ≤ x.val) (blockOf t) hb x (ok_diag t y x))
  have hs : ∀ s ∈ Finset.range (2 - blockOf t), -(∑ x, cellOfBlock (iblk m c 0 t) (iblk m c 1 t) (iblk m c 2 t) (iblk m c 3 t) (iblk m c 4 t) (iblk m c 5 t) e y True (blockOf t + 1 + s) x)
      = ∑ x, -cellOfBlock (iblk m c 0 t) (iblk m c 1 t) (iblk m c 2 t) (iblk m c 3 t) (iblk m c 4 t) (iblk m c 5 t) e y True (blockOf t + 1 + s) x := by
    intro s hs
    have hs' := Finset.mem_range.mp hs
    have hn : blockOf t + 1 + s < 3 := by omega
    have hc := fun x => cell_at H t e y True (blockOf t + 1 + s) hn x (ok_full t y _ (by omega) x)
    simp only [hc]
    exact neg_sum _ _ _
  rw [hd, Finset.sum_congr rfl hs]
  refine sum_after (fun i => -gradPad (qOf P (headAt t e)) (kOf P (headAt t e)) (vOf P (headAt t e)) (gOf D (headAt t e)) (C (headAt t e)) i (rowAt t y)) (blockOf t) hb
    (fun n x => -cellOfBlock (iblk m c 0 t) (iblk m c 1 t) (iblk m c 2 t) (iblk m c 3 t) (iblk m c 4 t) (iblk m c 5 t) e y True n x) _ ?_ (fun _ => rfl) ?_
  · intro n hn hn' x
    show -cellOfBlock (iblk m c 0 t) (iblk m c 1 t) (iblk m c 2 t) (iblk m c 3 t) (iblk m c 4 t) (iblk m c 5 t) e y True n x = _
    rw [cell_at H t e y True n hn' x (ok_full t y n hn x)]
  · intro j hj
    rw [gradPad_zero _ _ _ _ _ _ _ (Or.inr (Or.inr (before t y j hj))), neg_zero]

omit H in
theorem neg_tokens (h : Fin 8) (j : Fin 4224) :
    ∑ i, -gradPad (qOf P h) (kOf P h) (vOf P h) (gOf D h) (C h) i j
      = padRow (fun n => ((∑ i, -ds (qOf P h) (kOf P h) (vOf P h) (gOf D h) (C h) i n : ℝ) : EReal)) 0 j := by
  rw [sum_pad _ (fun i hi => by rw [gradPad_zero _ _ _ _ _ _ _ (Or.inl hi), neg_zero])]
  rcases place_cases j with hj | ⟨n, rfl⟩
  · rw [padRow_low _ _ _ hj]
    exact Finset.sum_eq_zero fun i _ => by rw [gradPad_zero _ _ _ _ _ _ _ (Or.inr (Or.inl hj)), neg_zero]
  · rw [padRow_place, coe_sum]
    refine Finset.sum_congr rfl fun i _ => ?_
    rw [gradPad_place, EReal.coe_neg]

end Cert.Kernel2Ideal.Gen
end
-- ==== Proof.DkvFinal.lean ====
module
public import proofs.«01_k».proof.Proof.DkvArray
@[expose] public section
set_option maxRecDepth 16384
noncomputable section
namespace Cert.Kernel2Ideal.Gen
open Idealize.ShloMosaic Idealize.ShloMosaic.TcCoe Idealize.ShloMosaic.Tactic
open Idealize.ShloMosaic.Pipeline (Dat Cfg Window BodyObligation cellOf)
open Cert.Fox
variable (m : (ℓ : Loc nD τ sig) → Buf (Elt Ideal) ℓ)

theorem lane_split (l : Fin 128) : ∃ (e : Fin 2) (d : Fin 64), l = lane e d :=
  ⟨⟨l.val / 64, by omega⟩, ⟨l.val % 64, by omega⟩, Fin.ext (by simp only [lane]; omega)⟩

variable {m} {c : Dev nD} {P : Fin 4112 → Fin 6528 → ℝ} {C : Fin 8 → Fin 4112 → ℝ} {D : Fin 4112 → Fin 512 → ℝ} (H : Reals m c P C D)
include H

theorem dk_at (t : Fin cfg0.N) (y : Fin 1408) (e : Fin 2) (d : Fin 64) :
    (outsAt0 m c t).1 (ix2 y (lane e d))
      = padRow (fun n => (dk (qOf P (headAt t e)) (kOf P (headAt t e)) (vOf P (headAt t e)) (gOf D (headAt t e)) (C (headAt t e)) n d : EReal)) 0 (rowAt t y) := by
  have h0 := out6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk m c 0 t) (iblk m c 1 t) (iblk m c 2 t) (iblk m c 3 t) (iblk m c 4 t) (iblk m c 5 t) y e d
  refine Eq.trans (b := out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk m c 0 t) (iblk m c 1 t) (iblk m c 2 t) (iblk m c 3 t) (iblk m c 4 t) (iblk m c 5 t) (ix2 y (lane e d))) (by rw [outsAt0]) (h0.trans ?_)
  clear h0
  have h := sum_cell H t e y (fun i => padRow (fun n => (qOf P (headAt t e) n d : EReal)) 0 i * Ideal.ofBits .f32 1040187392#32)
    (fun n x => rowOf (iblk m c 0 t) n x (lane e d) * Ideal.ofBits .f32 1040187392#32) (fun n hn x => congrArg (· * Ideal.ofBits .f32 1040187392#32) (rowOf0 H t n hn x e d))
  unfold blockOf at h
  exact h.trans (grad_tokens (headAt t e) (rowAt t y) (fun n => qOf P (headAt t e) n d))

theorem dv_at (t : Fin cfg0.N) (y : Fin 1408) (e : Fin 2) (d : Fin 64) :
    (outsAt0 m c t).2.1 (ix2 y (lane e d))
      = padRow (fun n => (dv (qOf P (headAt t e)) (kOf P (headAt t e)) (gOf D (headAt t e)) (C (headAt t e)) n d : EReal)) 0 (rowAt t y) := by
  have h0 := out7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk m c 0 t) (iblk m c 1 t) (iblk m c 2 t) (iblk m c 3 t) (iblk m c 4 t) (iblk m c 5 t) y e d
  refine Eq.trans (b := out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk m c 0 t) (iblk m c 1 t) (iblk m c 2 t) (iblk m c 3 t) (iblk m c 4 t) (iblk m c 5 t) (ix2 y (lane e d))) (by rw [outsAt0]) (h0.trans ?_)
  clear h0
  have h := sum_wgt H t e y (padRow (fun n => (gOf D (headAt t e) n d : EReal)) 0)
    (fun n x => rowOf (iblk m c 1 t) n x (lane e d)) (fun n hn x => rowOf1 H t n hn x e d)
  unfold blockOf at h
  exact h.trans (wgt_tokens (headAt t e) (rowAt t y) (fun n => gOf D (headAt t e) n d))

theorem dc_at (t : Fin cfg0.N) (e : Fin 2) (y : Fin 1408) :
    (outsAt0 m c t).2.2 (ix4 e 0 0 y)
      = padRow (fun n => (dck (qOf P (headAt t e)) (kOf P (headAt t e)) (vOf P (headAt t e)) (gOf D (headAt t e)) (C (headAt t e)) n : EReal)) 0 (rowAt t y) := by
  have h0 := out8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk m c 0 t) (iblk m c 1 t) (iblk m c 2 t) (iblk m c 3 t) (iblk m c 4 t) (iblk m c 5 t) e y
  refine Eq.trans (b := out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk m c 0 t) (iblk m c 1 t) (iblk m c 2 t) (iblk m c 3 t) (iblk m c 4 t) (iblk m c 5 t) (ix4 e 0 0 y)) (by rw [outsAt0]) (h0.trans ?_)
  clear h0
  have h := sum_neg H t e y
  unfold blockOf at h
  exact h.trans (neg_tokens (headAt t e) (rowAt t y))

/-- The key gradients the kernel leaves. -/
theorem final6 : (dats m 0 c).arrAt 6 cfg0.N = fun i : S4224x512.Idx => dkPad P C D (i 0) (i 1) := by
  refine (dats m 0 c).arrAt_eq_of_covers 6 _ (by decide +kernel) fun t hf y => ?_
  blk_simp
  rw [after0_6]
  idx_vars y
  obtain ⟨e, d, rfl⟩ := lane_split y1
  rw [dk_at H]
  have h0 : (((View.whole main_v59_0).slice (win0_6.rect t)).emb (ix2 y0 (lane e d)) 0 : Fin 4224) = rowAt t y0 := by
    refine Fin.ext ?_
    blk_simp [(index_at t).2.2.2.2.2.2.1]
    unfold rowAt
    simp
  have h1 : (((View.whole main_v59_0).slice (win0_6.rect t)).emb (ix2 y0 (lane e d)) 1 : Fin 512) = (⟨(headAt t e).val * 64 + d.val, by omega⟩ : Fin 512) := by
    refine Fin.ext ?_
    blk_simp [(index_at t).2.2.2.2.2.2.1]
    unfold lane headAt
    simp
    omega
  have h2 : headOf ⟨(headAt t e).val * 64 + d.val, by omega⟩ = headAt t e := Fin.ext (by simp only [headOf]; omega)
  have h3 : dimOf ⟨(headAt t e).val * 64 + d.val, by omega⟩ = d := Fin.ext (by simp only [dimOf]; omega)
  refine Eq.trans ?_ (congrArg₂ (dkPad P C D) h0 h1).symm
  unfold dkPad
  rw [h2, h3]

/-- The value gradients the kernel leaves. -/
theorem final7 : (dats m 0 c).arrAt 7 cfg0.N = fun i : S4224x512.Idx => dvPad P C D (i 0) (i 1) := by
  refine (dats m 0 c).arrAt_eq_of_covers 7 _ (by decide +kernel) fun t hf y => ?_
  blk_simp
  rw [after0_7]
  idx_vars y
  obtain ⟨e, d, rfl⟩ := lane_split y1
  rw [dv_at H]
  have h0 : (((View.whole main_v59_1).slice (win0_7.rect t)).emb (ix2 y0 (lane e d)) 0 : Fin 4224) = rowAt t y0 := by
    refine Fin.ext ?_
    blk_simp [(index_at t).2.2.2.2.2.2.2.1]
    unfold rowAt
    simp
  have h1 : (((View.whole main_v59_1).slice (win0_7.rect t)).emb (ix2 y0 (lane e d)) 1 : Fin 512) = (⟨(headAt t e).val * 64 + d.val, by omega⟩ : Fin 512) := by
    refine Fin.ext ?_
    blk_simp [(index_at t).2.2.2.2.2.2.2.1]
    unfold lane headAt
    simp
    omega
  have h2 : headOf ⟨(headAt t e).val * 64 + d.val, by omega⟩ = headAt t e := Fin.ext (by simp only [headOf]; omega)
  have h3 : dimOf ⟨(headAt t e).val * 64 + d.val, by omega⟩ = d := Fin.ext (by simp only [dimOf]; omega)
  refine Eq.trans ?_ (congrArg₂ (dvPad P C D) h0 h1).symm
  unfold dvPad
  rw [h2, h3]

omit H in
theorem place_lt (a : Fin 3) (b : Fin 1408) : a.val * 1408 + b.val < 4224 := by omega

/-- The padded gate gradients, cut in blocks. -/
def dckBlocks (P : Fin 4112 → Fin 6528 → ℝ) (C : Fin 8 → Fin 4112 → ℝ) (D : Fin 4112 → Fin 512 → ℝ) (i : S8x3x1x1408.Idx) : EReal :=
  dckPad P C D (i 0) ⟨(i 1).val * 1408 + (i 3).val, place_lt (i 1) (i 3)⟩

omit H in
/-- Where a block of the gate gradients lies in its array. -/
theorem emb8 (t : Fin cfg0.N) (y0 : Fin 2) (y3 : Fin 1408) :
    (((View.whole main_v59_2).slice (win0_8.rect t)).emb (ix4 y0 0 0 y3) : S8x3x1x1408.Idx) = ix4 (headAt t y0) (⟨blockOf t, blockOf_lt t⟩ : Fin 3) 0 y3 := by
  have hp := pairOf_lt t
  have hb := blockOf_lt t
  unfold headAt
  blk_ext [(index_at t).2.2.2.2.2.2.2.2]

/-- The gate gradients the kernel leaves. -/
theorem final8 : (dats m 0 c).arrAt 8 cfg0.N = dckBlocks P C D := by
  refine (dats m 0 c).arrAt_eq_of_covers 8 _ (by decide +kernel) fun t hf y => ?_
  blk_simp
  rw [after0_8]
  idx_vars y
  obtain rfl : y1 = 0 := by omega
  obtain rfl : y2 = 0 := by omega
  exact (dc_at H t y0 y3).trans (congrArg (dckBlocks P C D) (emb8 t y0 y3)).symm

end Cert.Kernel2Ideal.Gen
end
-- ==== Proof.DkvRef.lean ====
module
public import proofs.«01_k».proof.Proof.FoxKeys
public import proofs.«01_k».proof.Proof.Gen.Reference2Ideal.Read
public import Idealize.ShloMosaic.Lib.Pipeline.ValueKit
public import Idealize.ShloMosaic.Lib.Pointwise
public import Idealize.ShloMosaic.Lib.WordCmp
@[expose] public section
set_option maxRecDepth 16384
noncomputable section
namespace Cert.Reference2Ideal.Read
open Cert.Reference2Ideal Cert.Reference2Ideal.Gen Idealize.ShloMosaic Idealize.ShloMosaic.TcCoe Idealize.ShloMosaic.Tactic
open Cert.Fox

theorem select_le (j i : Fin 4112) {α : Type} (A B : α) :
    Scalar.select (IntOp.cmpi .sle (BitVec.ofNat 32 j.val) (BitVec.ofNat 32 i.val)) A B = if j.val ≤ i.val then A else B := by
  unfold Scalar.select
  rw [WordCmp.cmpi_sle_ofNat (by have := j.isLt; omega) (by have := i.isLt; omega)]
  by_cases h : j.val ≤ i.val <;> simp [h]

theorem minus_inf (k : S_.Idx) : (constant (F := Ideal) S_ .f32 4286578688#32 k : EReal) = ⊥ := by
  show Ideal.ofBits .f32 4286578688#32 = ⊥
  exact ofBits_bot

theorem one_word : (Ideal.ofBits .f32 1065353216#32 : EReal) = ((1 : ℝ) : EReal) := by
  simp [Ideal.ofBits, Ideal.ieee]
  rw [← EReal.coe_mul]
  norm_num

theorem zero_int : (FloatOps.sitofp (F := Ideal) .f32 (0#32 : BitVec 32) : EReal) = 0 := by
  show ((((0#32 : BitVec 32).toInt : ℝ)) : EReal) = 0
  simp

variable (x0 : Vec Ideal S4112x6528 .f32) (x1 : Vec Ideal S8x4112 .f32) (x2 : Vec Ideal S4112x512 .f32)
  (P : Fin 4112 → Fin 6528 → ℝ) (C : Fin 8 → Fin 4112 → ℝ) (D : Fin 4112 → Fin 512 → ℝ)

/-- The arguments are the real arrays `P`, `C` and `D`. -/
structure Reals : Prop where
  proj : ∀ n l, x0 (ix2 n l) = (P n l : EReal)
  cum : ∀ h n, x1 (ix2 h n) = (C h n : EReal)
  grad : ∀ n l, x2 (ix2 n l) = (D n l : EReal)

variable {x0 x1 x2 P C D} (H : Reals x0 x1 x2 P C D)
include H

theorem s1 (h : Fin 8) (i : Fin 4112) (d : Fin 64):
    (val_main_v1 (F := Ideal) x0 (ix3 i h d) : EReal) = (qOf P h i d : EReal) := by
  unfold val_main_v1 val_main_v0
  pointwise
  rw [H.proj]; rfl
theorem s3 (h : Fin 8) (i : Fin 4112) (d : Fin 64):
    (val_main_v3 (F := Ideal) x0 (ix3 i h d) : EReal) = (kOf P h i d : EReal) := by
  unfold val_main_v3 val_main_v2
  pointwise
  rw [H.proj]; rfl
theorem s5 (h : Fin 8) (i : Fin 4112) (d : Fin 64):
    (val_main_v5 (F := Ideal) x0 (ix3 i h d) : EReal) = (vOf P h i d : EReal) := by
  unfold val_main_v5 val_main_v4
  pointwise
  rw [H.proj]; rfl
theorem s21 (h : Fin 8) (i j : Fin 4112):
    (val_main_v21_0 (F := Ideal) x0 x1 (ix3 h i j) : EReal) = msk (qOf P h) (kOf P h) (C h) i j := by
  unfold val_main_v21_0 val_main_v21_1 val_main_v14 val_main_call0_v2 val_main_call0_v0 val_main_cst_0 val_main_v20 val_main_v19 val_main_v18 val_main_v17 val_main_v16 val_main_v15 val_main_v13 val_main_v12 val_main_v11 val_main_v10 val_main_v9 val_main_v8 val_main_v7 val_main_cst val_main_v6
  generalize hy_q : val_main_v1 x0 = q
  generalize hy_k : val_main_v3 x0 = k
  pointwise
  subst hy_q
  subst hy_k
  unfold msk sc
  rw [select_le]
  simp only [s1 H, s3 H, H.cum, eighth, minus_inf, id_eq]
  by_cases hji : j.val ≤ i.val
  · rw [if_pos hji, if_pos hji]
    simp only [← EReal.coe_mul, ← coe_sum, ← EReal.coe_add, ← EReal.coe_sub]
  · rw [if_neg hji, if_neg hji]
theorem s22 (h : Fin 8) (i : Fin 4112):
    (val_main_v22 (F := Ideal) x0 x1 (ix2 h i) : EReal) = (top (qOf P h) (kOf P h) (C h) i : EReal) := by
  unfold val_main_v22 val_main_cst_1
  generalize hy_s : val_main_v21_0 x0 x1 = s
  pointwise
  subst hy_s
  rw [← fold_top, ofBits_bot]
  simp only [s21 H]
theorem s28 (h : Fin 8) (i : Fin 4112) : (val_main_v28 (F := Ideal) (ix2 h i) : EReal) = ⊥ := by
  unfold val_main_v28 val_main_cst_3
  pointwise
  exact ofBits_bot

theorem s29 (h : Fin 8) (i : Fin 4112) : (val_main_v29 (F := Ideal) x0 x1 (ix2 h i) : EReal) = (top (qOf P h) (kOf P h) (C h) i : EReal) := by
  rw [val_main_v29_apply, s22 H, s28 H]
  exact max_eq_right bot_le

theorem s42 (h : Fin 8) (i j : Fin 4112):
    (val_main_v42 (F := Ideal) x0 x1 (ix3 h i j) : EReal) = (ex (qOf P h) (kOf P h) (C h) i j : EReal) := by
  unfold val_main_v42 val_main_v41 val_main_v40 val_main_v39
  generalize hy_s : val_main_v21_0 x0 x1 = s
  generalize hy_t : val_main_v29 x0 x1 = t
  pointwise
  subst hy_s
  subst hy_t
  rw [s21 H, s29 H, exp_msk]
theorem s43 (h : Fin 8) (i : Fin 4112):
    (val_main_v43 (F := Ideal) x0 x1 (ix2 h i) : EReal) = (nrm (qOf P h) (kOf P h) (C h) i : EReal) := by
  unfold val_main_v43 val_main_cst_9
  generalize hy_s : val_main_v42 x0 x1 = s
  pointwise
  subst hy_s
  simp only [s42 H]
  unfold nrm
  rw [coe_sum]
theorem s44 (h : Fin 8) (i : Fin 4112):
    (val_main_v44 (F := Ideal) x0 x1 (ix3 h i 0) : EReal) = (nrm (qOf P h) (kOf P h) (C h) i : EReal) := by
  unfold val_main_v44
  generalize hy_s : val_main_v43 x0 x1 = s
  pointwise
  subst hy_s
  rw [s43 H]
theorem s49 (h : Fin 8) (i : Fin 4112):
    (val_main_v49 (F := Ideal) x0 x1 (ix3 h i 0) : EReal) = ((1 / (nrm (qOf P h) (kOf P h) (C h) i * nrm (qOf P h) (kOf P h) (C h) i) : ℝ) : EReal) := by
  unfold val_main_v49 val_main_v48 val_main_v47 val_main_cst_10
  generalize hy_s : val_main_v44 x0 x1 = s
  pointwise
  subst hy_s
  rw [s44 H, ← EReal.coe_one, ← EReal.coe_mul, Ideal.div_coe (mul_pos (nrm_pos (qOf P h) (kOf P h) (C h) i) (nrm_pos (qOf P h) (kOf P h) (C h) i)).ne', ← EReal.coe_mul, one_mul]
theorem s46 (h : Fin 8) (i j : Fin 4112):
    (val_main_v46 (F := Ideal) x0 x1 (ix3 h i j) : EReal) = (wt (qOf P h) (kOf P h) (C h) i j : EReal) := by
  unfold val_main_v46 val_main_v45
  generalize hy_s : val_main_v42 x0 x1 = s
  generalize hy_t : val_main_v44 x0 x1 = t
  pointwise
  subst hy_s
  subst hy_t
  rw [s42 H, s44 H, Ideal.div_coe (nrm_pos (qOf P h) (kOf P h) (C h) i).ne', ← EReal.coe_mul]
  unfold wt
  rw [mul_one_div]
theorem s55 (h : Fin 8) (i j : Fin 4112):
    (val_main_v55 (F := Ideal) x0 x2 (ix3 h i j) : EReal) = (dp (vOf P h) (gOf D h) i j : EReal) := by
  unfold val_main_v55 val_main_v54 val_main_v53
  generalize hy_s : val_main_v5 x0 = s
  pointwise
  subst hy_s
  simp only [s5 H, H.grad]
  unfold dp gOf
  simp only [coe_sum, EReal.coe_mul]
theorem s60 (h : Fin 8) (i j : Fin 4112):
    (val_main_v60 (F := Ideal) x0 x1 x2 (ix3 h i j) : EReal) = ((dp (vOf P h) (gOf D h) i j * (1 / (nrm (qOf P h) (kOf P h) (C h) i * nrm (qOf P h) (kOf P h) (C h) i)) * ex (qOf P h) (kOf P h) (C h) i j : ℝ) : EReal) := by
  unfold val_main_v60 val_main_v59 val_main_v58
  generalize hy_s : val_main_v55 x0 x2 = s
  generalize hy_t : val_main_v49 x0 x1 = t
  generalize hy_u : val_main_v42 x0 x1 = u
  pointwise
  subst hy_s
  subst hy_t
  subst hy_u
  rw [s55 H, s49 H, s42 H, EReal.coe_mul, EReal.coe_mul]
theorem s61 (h : Fin 8) (i : Fin 4112):
    (val_main_v61 (F := Ideal) x0 x1 x2 (ix2 h i) : EReal) = ((del (qOf P h) (kOf P h) (vOf P h) (gOf D h) (C h) i / nrm (qOf P h) (kOf P h) (C h) i : ℝ) : EReal) := by
  unfold val_main_v61 val_main_cst_11
  generalize hy_s : val_main_v60 x0 x1 x2 = s
  pointwise
  subst hy_s
  simp only [s60 H]
  rw [← coe_sum, del_eq, Finset.sum_div]
  refine congrArg _ (Finset.sum_congr rfl fun j _ => ?_)
  have hn := (nrm_pos (qOf P h) (kOf P h) (C h) i).ne'
  unfold wt
  field_simp
theorem s63 (h : Fin 8) (i : Fin 4112):
    (val_main_v63 (F := Ideal) x0 x1 x2 (ix3 h i 0) : EReal) = ((-(del (qOf P h) (kOf P h) (vOf P h) (gOf D h) (C h) i / nrm (qOf P h) (kOf P h) (C h) i) : ℝ) : EReal) := by
  unfold val_main_v63 val_main_v62
  generalize hy_s : val_main_v61 x0 x1 x2 = s
  pointwise
  subst hy_s
  rw [s61 H, EReal.coe_neg]
theorem s66 (h : Fin 8) (i : Fin 4112):
    (val_main_v66 (F := Ideal) x0 x1 x2 (ix2 h i) : EReal) = ((-(del (qOf P h) (kOf P h) (vOf P h) (gOf D h) (C h) i / nrm (qOf P h) (kOf P h) (C h) i) : ℝ) : EReal) := by
  unfold val_main_v66 val_main_cst_12
  generalize hy_s : val_main_v63 x0 x1 x2 = s
  pointwise
  subst hy_s
  rw [Fin.sum_univ_one]
  exact s63 H h i
theorem s69 (h : Fin 8) (i j : Fin 4112):
    (val_main_v69 (F := Ideal) x0 x1 x2 (ix3 h i j) : EReal) = (ds (qOf P h) (kOf P h) (vOf P h) (gOf D h) (C h) i j : EReal) := by
  unfold val_main_v69 val_main_v68 val_main_v67 val_main_v65 val_main_v64
  generalize hy_s : val_main_v55 x0 x2 = s
  generalize hy_t : val_main_v44 x0 x1 = t
  generalize hy_u : val_main_v66 x0 x1 x2 = u
  generalize hy_w : val_main_v42 x0 x1 = w
  pointwise
  subst hy_s
  subst hy_t
  subst hy_u
  subst hy_w
  have hn := (nrm_pos (qOf P h) (kOf P h) (C h) i).ne'
  rw [s55 H, s44 H, s66 H, s42 H, Ideal.div_coe hn, ← EReal.coe_mul, ← EReal.coe_add, ← EReal.coe_mul]
  refine congrArg _ ?_
  unfold ds wt
  field_simp
  ring
theorem s70 (h : Fin 8) (i j : Fin 4112):
    (val_main_v70 (F := Ideal) x0 x1 x2 (ix3 h i j) : EReal) = (ds (qOf P h) (kOf P h) (vOf P h) (gOf D h) (C h) i j : EReal) := by
  unfold val_main_v70 val_main_v21_1 val_main_v20 val_main_v19 val_main_v18 val_main_v17 val_main_v16 val_main_v15 val_main_call1_v0 val_main_call1_cst
  generalize hy_s : val_main_v69 x0 x1 x2 = s
  pointwise
  subst hy_s
  rw [select_le]
  by_cases hji : j.val ≤ i.val
  · rw [if_pos hji, s69 H]
  · rw [if_neg hji, ds_above _ _ _ _ _ _ _ hji]
    simp
theorem s57 (h : Fin 8) (i : Fin 4112) (d : Fin 64):
    (val_main_v57 (F := Ideal) x0 x1 x2 (ix3 i h d) : EReal) = (dv (qOf P h) (kOf P h) (gOf D h) (C h) i d : EReal) := by
  unfold val_main_v57 val_main_v56 val_main_v54 val_main_v53
  generalize hy_s : val_main_v46 x0 x1 = s
  pointwise
  subst hy_s
  simp only [s46 H, H.grad]
  unfold dv gOf
  simp only [coe_sum, EReal.coe_mul]
  refine Finset.sum_congr rfl fun j _ => mul_comm _ _
theorem s72 (h : Fin 8) (i : Fin 4112):
    (val_main_v72 (F := Ideal) x0 x1 x2 (ix2 h i) : EReal) = (dck (qOf P h) (kOf P h) (vOf P h) (gOf D h) (C h) i : EReal) := by
  unfold val_main_v72 val_main_cst_13 val_main_v71
  generalize hy_s : val_main_v70 x0 x1 x2 = s
  pointwise
  subst hy_s
  simp only [s70 H]
  unfold dck
  simp only [coe_sum, EReal.coe_neg]
theorem s74 (h : Fin 8) (i : Fin 4112):
    (val_main_v74 (F := Ideal) x0 x1 x2 (ix2 h i) : EReal) = (dck (qOf P h) (kOf P h) (vOf P h) (gOf D h) (C h) i : EReal) := by
  unfold val_main_v74 val_main_cst_14 val_main_v73
  generalize hy_s : val_main_v72 x0 x1 x2 = s
  pointwise
  subst hy_s
  rw [Fin.sum_univ_one]
  exact s72 H h i
theorem s78 (h : Fin 8) (i : Fin 4112) (d : Fin 64):
    (val_main_v78 (F := Ideal) x0 x1 x2 (ix3 i h d) : EReal) = (dk (qOf P h) (kOf P h) (vOf P h) (gOf D h) (C h) i d : EReal) := by
  unfold val_main_v78 val_main_v77 val_main_v76 val_main_v75 val_main_cst_15
  generalize hy_s : val_main_v70 x0 x1 x2 = s
  generalize hy_k : val_main_v1 x0 = k
  pointwise
  subst hy_s
  subst hy_k
  simp only [s70 H, s1 H, eighth, ← EReal.coe_mul, ← coe_sum]
  unfold dk
  refine congrArg _ (Finset.sum_congr rfl fun j _ => by ring)
theorem s82 (i : Fin 4224) (l : Fin 512):
    (val_main_v82 (F := Ideal) x0 x1 x2 (ix2 i l) : EReal) = dkPad P C D i l := by
  unfold val_main_v82 val_main_call3_v0 val_main_c_16 val_main_v81
  generalize hy_s : val_main_v78 x0 x1 x2 = s
  pointwise
  subst hy_s
  simp only [s78 H, zero_int]
  exact padRow_eq (fun n => (dk (qOf P (headOf l)) (kOf P (headOf l)) (vOf P (headOf l)) (gOf D (headOf l)) (C (headOf l)) n (dimOf l) : EReal)) 0 i
theorem s84 (i : Fin 4224) (l : Fin 512):
    (val_main_v84 (F := Ideal) x0 x1 x2 (ix2 i l) : EReal) = dvPad P C D i l := by
  unfold val_main_v84 val_main_call4_v0 val_main_c_17 val_main_v83
  generalize hy_s : val_main_v57 x0 x1 x2 = s
  pointwise
  subst hy_s
  simp only [s57 H, zero_int]
  exact padRow_eq (fun n => (dv (qOf P (headOf l)) (kOf P (headOf l)) (gOf D (headOf l)) (C (headOf l)) n (dimOf l) : EReal)) 0 i
theorem s80 (h : Fin 8) (n : Fin 3) (x : Fin 1408):
    (val_main_v80 (F := Ideal) x0 x1 x2 (ix4 h n 0 x) : EReal) = dckPad P C D h ⟨n.val * 1408 + x.val, by omega⟩ := by
  unfold val_main_v80 val_main_v79 val_main_call2_v0 val_main_c
  generalize hy_s : val_main_v74 x0 x1 x2 = s
  pointwise
  subst hy_s
  simp only [s74 H, zero_int]
  exact padRow_eq (fun n => (dck (qOf P h) (kOf P h) (vOf P h) (gOf D h) (C h) n : EReal)) 0 ⟨n.val * 1408 + x.val, by omega⟩

end Cert.Reference2Ideal.Read
end
-- ==== Proof.DkvEq.lean ====
module
public import proofs.«01_k».proof.Defs
public import proofs.«01_k».proof.Proof.Finite
public import proofs.«01_k».proof.Proof.DkvFinal
public import proofs.«01_k».proof.Proof.DkvRef
public import proofs.«01_k».proof.Proof.Gen.Reference2Ideal.Run
public import proofs.«01_k».proof.Proof.Gen.Pre_finite
@[expose] public section
set_option maxRecDepth 16384
noncomputable section
/-! The gradients of the keys, of the values and of the keys' running gates: the kernel's arrays are the reference's. -/
namespace Cert.DkvEq
open Idealize.ShloMosaic Idealize.ShloMosaic.TcCoe Idealize.SL.Sem
open Cert.Fox

variable (m : (ℓ : Loc Cert.Kernel2Ideal.nD Cert.Kernel2Ideal.τ Cert.Kernel2Ideal.sig) → Buf (Elt Ideal) ℓ)
  (m' : (ℓ : Loc Cert.Reference2Ideal.nD Cert.Reference2Ideal.τ Cert.Reference2Ideal.sig) → Buf (Elt Ideal) ℓ)

/-- The three arguments as real arrays. -/
def realP (c : Dev Cert.Kernel2Ideal.nD) (n : Fin 4112) (l : Fin 6528) : ℝ := (Cert.Kernel2Ideal.Gen.projOf m c (ix2 n l)).toReal
def realC (c : Dev Cert.Kernel2Ideal.nD) (h : Fin 8) (n : Fin 4112) : ℝ := (Cert.Kernel2Ideal.Gen.cumOf m c (ix2 h n)).toReal
def realD (c : Dev Cert.Kernel2Ideal.nD) (n : Fin 4112) (l : Fin 512) : ℝ := (Cert.Kernel2Ideal.Gen.gradOf m c (ix2 n l)).toReal

theorem reals_kernel (hm : Cert.Pre_Kernel2Ideal_finite (hPre_finite := Cert.Pre_finite.Gen.facts) m) (c : Dev Cert.Kernel2Ideal.nD) :
    Cert.Kernel2Ideal.Gen.Reals m c (realP m c) (realC m c) (realD m c) := by
  obtain ⟨h0, h1, h2⟩ := @Cert.Pre_finite.real_of_fn Cert.Pre_finite.Gen.facts _ _ _ (hm c)
  exact ⟨fun n l => h0 _, fun h n => h1 _, fun n l => h2 _⟩

abbrev Agree : Prop := ∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)

theorem reals_reference (hm : Cert.Pre_Kernel2Ideal_finite (hPre_finite := Cert.Pre_finite.Gen.facts) m) (ha : Agree m m') (c : Dev Cert.Kernel2Ideal.nD) :
    Cert.Reference2Ideal.Read.Reals (m' ((c.tc : Thread Cert.Reference2Ideal.nD Cert.Reference2Ideal.τ).loc Cert.Reference2Ideal.main_arg0))
      (m' ((c.tc : Thread Cert.Reference2Ideal.nD Cert.Reference2Ideal.τ).loc Cert.Reference2Ideal.main_arg1))
      (m' ((c.tc : Thread Cert.Reference2Ideal.nD Cert.Reference2Ideal.τ).loc Cert.Reference2Ideal.main_arg2))
      (realP m c) (realC m c) (realD m c) := by
  obtain ⟨h0, h1, h2⟩ := @Cert.Pre_finite.real_of_fn Cert.Pre_finite.Gen.facts _ _ _ (hm c)
  obtain ⟨a0, a1, a2⟩ := ha c
  rw [a0, a1, a2]
  exact ⟨fun n l => h0 _, fun h n => h1 _, fun n l => h2 _⟩

theorem first_eq (hm : Cert.Pre_Kernel2Ideal_finite (hPre_finite := Cert.Pre_finite.Gen.facts) m) (ha : Agree m m') (c : Dev Cert.Kernel2Ideal.nD) :
    Cert.Reference2Ideal.Value.res_main_v82 m' c = (Cert.Kernel2Ideal.Gen.dats m 0 c).arrAt 6 Cert.Kernel2Ideal.cfg0.N := by
  rw [Cert.Reference2Ideal.Read.val_main_v82_eq, Cert.Kernel2Ideal.Gen.final6 (reals_kernel m hm c)]
  funext i
  obtain ⟨a, b, rfl⟩ : ∃ a b, i = ix2 a b := ⟨i 0, i 1, by funext d; fin_cases d <;> rfl⟩
  exact Cert.Reference2Ideal.Read.s82 (reals_reference m m' hm ha c) a b

theorem second_eq (hm : Cert.Pre_Kernel2Ideal_finite (hPre_finite := Cert.Pre_finite.Gen.facts) m) (ha : Agree m m') (c : Dev Cert.Kernel2Ideal.nD) :
    Cert.Reference2Ideal.Value.res_main_v84 m' c = (Cert.Kernel2Ideal.Gen.dats m 0 c).arrAt 7 Cert.Kernel2Ideal.cfg0.N := by
  rw [Cert.Reference2Ideal.Read.val_main_v84_eq, Cert.Kernel2Ideal.Gen.final7 (reals_kernel m hm c)]
  funext i
  obtain ⟨a, b, rfl⟩ : ∃ a b, i = ix2 a b := ⟨i 0, i 1, by funext d; fin_cases d <;> rfl⟩
  exact Cert.Reference2Ideal.Read.s84 (reals_reference m m' hm ha c) a b

theorem third_eq (hm : Cert.Pre_Kernel2Ideal_finite (hPre_finite := Cert.Pre_finite.Gen.facts) m) (ha : Agree m m') (c : Dev Cert.Kernel2Ideal.nD) :
    Cert.Reference2Ideal.Value.res_main_v80 m' c = (Cert.Kernel2Ideal.Gen.dats m 0 c).arrAt 8 Cert.Kernel2Ideal.cfg0.N := by
  rw [Cert.Reference2Ideal.Read.val_main_v80_eq, Cert.Kernel2Ideal.Gen.final8 (reals_kernel m hm c)]
  funext i
  obtain ⟨a, b, e, x, rfl⟩ : ∃ a b e x, i = ix4 a b e x := ⟨i 0, i 1, i 2, i 3, by funext d; fin_cases d <;> rfl⟩
  obtain rfl : e = 0 := Subsingleton.elim _ _
  exact Cert.Reference2Ideal.Read.s80 (reals_reference m m' hm ha c) a b x

theorem claim : Cert.algebraic_Kernel2Ideal_Reference2Ideal_pre_finite (hKernel2Ideal := Cert.Kernel2Ideal.Gen.facts)
    (hReference2Ideal := Cert.Reference2Ideal.Gen.facts) (hPre_finite := Cert.Pre_finite.Gen.facts) := by
  intro m g m' g' hm ha
  refine ⟨fun c => (Cert.Kernel2Ideal.Gen.dats m 0 c).arrAt 6 Cert.Kernel2Ideal.cfg0.N,
    fun c => (Cert.Kernel2Ideal.Gen.dats m 0 c).arrAt 7 Cert.Kernel2Ideal.cfg0.N,
    fun c => (Cert.Kernel2Ideal.Gen.dats m 0 c).arrAt 8 Cert.Kernel2Ideal.cfg0.N, ?_, ?_⟩
  · exact (θ_run Cert.Kernel2Ideal.defs _ _).mono (fun r h c => h c) (Cert.Kernel2Ideal.Value.run_blocks m g)
  · exact (θ_run Cert.Reference2Ideal.defs _ _).mono
      (fun r h c => ⟨(h c).1.trans (first_eq m m' hm ha c), (h c).2.1.trans (second_eq m m' hm ha c), (h c).2.2.1.trans (third_eq m m' hm ha c), (h c).2.2.2⟩)
      (Cert.Reference2Ideal.Value.run m' g')

end Cert.DkvEq
-- ==== Proof.Product.lean ====
module
public import Idealize.ShloMosaic.Lib.Pipeline.ValueKit
public import Idealize.ShloMosaic.Lib.Pointwise
@[expose] public section
noncomputable section
/-! A matrix product whose contracted axis is cut in blocks, added one after the other. -/
namespace Cert.Product
open Idealize.ShloMosaic

/-- Entry `(i, j)` of an array, zero outside it. -/
def cell {a b : ℕ} (X : Fin a → Fin b → EReal) (i j : ℕ) : EReal :=
  if h : i < a ∧ j < b then X ⟨i, h.1⟩ ⟨j, h.2⟩ else 0

theorem cell_in {a b : ℕ} (X : Fin a → Fin b → EReal) {i j : ℕ} (hi : i < a) (hj : j < b) :
    cell X i j = X ⟨i, hi⟩ ⟨j, hj⟩ := dif_pos ⟨hi, hj⟩

theorem cell_fin {a b : ℕ} (X : Fin a → Fin b → EReal) (i : Fin a) (j : Fin b) : cell X i.val j.val = X i j :=
  cell_in X i.isLt j.isLt

theorem cell_at {a b : ℕ} (X : Fin a → Fin b → EReal) {m n : ℕ} {i : Fin a} {j : Fin b} (hi : i.val = m) (hj : j.val = n) : cell X m n = X i j := by
  rw [← hi, ← hj, cell_fin]

/-- Block `r` of length `n` of a sum. -/
def part (n : ℕ) (f : ℕ → EReal) (r : ℕ) : EReal := ∑ x : Fin n, f (r * n + x.val)

/-- The blocks, added up, are the whole sum. -/
theorem sum_parts (n : ℕ) (f : ℕ → EReal) (k : ℕ) : ∑ r ∈ Finset.range k, part n f r = ∑ i : Fin (k * n), f i.val := by
  rw [Fin.sum_univ_eq_sum_range]
  induction k with
  | zero => simp
  | succ k ih =>
    rw [Finset.sum_range_succ, ih, Nat.succ_mul, Finset.sum_range_add]
    unfold part
    rw [Fin.sum_univ_eq_sum_range (fun x => f (k * n + x))]

/-- Entry `(i, j)` of the product. -/
def mul {p n q : ℕ} (X : Fin p → Fin n → EReal) (Y : Fin n → Fin q → EReal) (i : Fin p) (j : Fin q) : EReal := ∑ k, X i k * Y k j

/-- Its summands. -/
def summand {p n q : ℕ} (X : Fin p → Fin n → EReal) (Y : Fin n → Fin q → EReal) (a b k : ℕ) : EReal := cell X a k * cell Y k b

theorem sum_summand {p n q : ℕ} (X : Fin p → Fin n → EReal) (Y : Fin n → Fin q → EReal) {a b : ℕ} {i : Fin p} {j : Fin q} (hi : i.val = a) (hj : j.val = b) :
    ∑ k : Fin n, summand X Y a b k.val = mul X Y i j :=
  Finset.sum_congr rfl fun k _ => by unfold summand; rw [← hi, ← hj, cell_fin, cell_fin]

/-- The product of a block of `X` and a block of `Y` is one part of the sum. -/
theorem mul_block {p n q tm tk tn : ℕ} (X : Fin p → Fin n → EReal) (Y : Fin n → Fin q → EReal) (x : Fin tm → Fin tk → EReal) (y : Fin tk → Fin tn → EReal)
    {r s u : ℕ} (hx : ∀ i k, x i k = cell X (r * tm + i.val) (s * tk + k.val)) (hy : ∀ k j, y k j = cell Y (s * tk + k.val) (u * tn + j.val))
    (a : Fin tm) (b : Fin tn) : mul x y a b = part tk (summand X Y (r * tm + a.val) (u * tn + b.val)) s :=
  Finset.sum_congr rfl fun k _ => by rw [hx, hy]; rfl

/-- The contracted axis in one block. -/
theorem single {p n q tm tn : ℕ} (X : Fin p → Fin n → EReal) (Y : Fin n → Fin q → EReal) (x : Fin tm → Fin n → EReal) (y : Fin n → Fin tn → EReal)
    {r u : ℕ} (hx : ∀ i k, x i k = cell X (r * tm + i.val) k.val) (hy : ∀ k j, y k j = cell Y k.val (u * tn + j.val))
    (a : Fin tm) (b : Fin tn) {i : Fin p} {j : Fin q} (hi : i.val = r * tm + a.val) (hj : j.val = u * tn + b.val) : 0 + mul x y a b = mul X Y i j := by
  rw [zero_add, ← sum_summand X Y hi hj]
  exact Finset.sum_congr rfl fun k _ => by rw [hx, hy]; rfl

/-- An output block summed over `J` points: the first sets the scratch to zero and adds its part, each later one adds its
    part, and the last stores scratch plus its part. Point `t` is at block row `t / J / nj` and block column `t / J % nj`. -/
theorem total {N tm tn : ℕ} (J n nj : ℕ) (hJ : 1 < J) (s out : (k : ℕ) → k < N → Fin tm → Fin tn → EReal) (f : ℕ → ℕ → ℕ → EReal)
    (start : ∀ t : Fin N, t.val % J = 0 → ∀ a b, s t.val t.isLt a b
      = 0 + part n (f (t.val / J / nj * tm + a.val) (t.val / J % nj * tn + b.val)) (t.val % J))
    (next : ∀ t : Fin N, t.val % J ≠ 0 → t.val % J ≠ J - 1 → ∀ a b, s t.val t.isLt a b
      = s (t.val - 1) (Nat.lt_of_le_of_lt (Nat.sub_le _ _) t.isLt) a b + part n (f (t.val / J / nj * tm + a.val) (t.val / J % nj * tn + b.val)) (t.val % J))
    (last : ∀ t : Fin N, t.val % J = J - 1 → ∀ a b, out t.val t.isLt a b
      = s (t.val - 1) (Nat.lt_of_le_of_lt (Nat.sub_le _ _) t.isLt) a b + part n (f (t.val / J / nj * tm + a.val) (t.val / J % nj * tn + b.val)) (t.val % J))
    (t : Fin N) (ht : t.val % J = J - 1) (a : Fin tm) (b : Fin tn) :
    out t.val t.isLt a b = ∑ i : Fin (J * n), f (t.val / J / nj * tm + a.val) (t.val / J % nj * tn + b.val) i.val := by
  have before : ∀ k : ℕ, k % J ≠ 0 → (k - 1) / J = k / J ∧ (k - 1) % J + 1 = k % J := fun k hk => by
    have e : k - 1 = J * (k / J) + (k % J - 1) := by have := Nat.div_add_mod k J; omega
    have l : k % J - 1 < J := by have := Nat.mod_lt k (show 0 < J by omega); omega
    rw [e, Nat.mul_add_div (by omega), Nat.div_eq_of_lt l, Nat.mul_add_mod, Nat.mod_eq_of_lt l]
    exact ⟨rfl, by omega⟩
  have scratch : ∀ (k : ℕ) (h : k < N), k % J ≠ J - 1 → s k h a b
      = ∑ r ∈ Finset.range (k % J + 1), part n (f (k / J / nj * tm + a.val) (k / J % nj * tn + b.val)) r := by
    intro k
    induction k with
    | zero => intro h _; rw [start ⟨0, h⟩ (Nat.zero_mod J)]; simp
    | succ k ih =>
      intro h hk
      by_cases h0 : (k + 1) % J = 0
      · rw [start ⟨k + 1, h⟩ h0, h0]; simp
      · obtain ⟨e1, e2⟩ := before (k + 1) h0
        have hlt := Nat.mod_lt (k + 1) (show 0 < J by omega)
        rw [Nat.add_sub_cancel] at e1 e2
        rw [next ⟨k + 1, h⟩ h0 hk, Finset.sum_range_succ, ← e1, ← e2]
        exact congrArg (· + _) (ih (by omega) (by omega))
  obtain ⟨e1, e2⟩ := before t.val (by omega)
  rw [last t ht, scratch _ _ (by omega), e1, e2, ← Finset.sum_range_succ, ht, Nat.sub_add_cancel (by omega), sum_parts]

/-- The contracted axis in `J` blocks. -/
theorem several {N p q tm tk tn : ℕ} (J nj : ℕ) (hJ : 1 < J) (X : Fin p → Fin (J * tk) → EReal) (Y : Fin (J * tk) → Fin q → EReal)
    (x : Fin N → Fin tm → Fin tk → EReal) (y : Fin N → Fin tk → Fin tn → EReal)
    (hx : ∀ t i k, x t i k = cell X (t.val / J / nj * tm + i.val) (t.val % J * tk + k.val))
    (hy : ∀ t k j, y t k j = cell Y (t.val % J * tk + k.val) (t.val / J % nj * tn + j.val))
    (s out : (k : ℕ) → k < N → Fin tm → Fin tn → EReal)
    (start : ∀ t : Fin N, t.val % J = 0 → ∀ a b, s t.val t.isLt a b = 0 + mul (x t) (y t) a b)
    (next : ∀ t : Fin N, t.val % J ≠ 0 → t.val % J ≠ J - 1 → ∀ a b, s t.val t.isLt a b
      = s (t.val - 1) (Nat.lt_of_le_of_lt (Nat.sub_le _ _) t.isLt) a b + mul (x t) (y t) a b)
    (last : ∀ t : Fin N, t.val % J = J - 1 → ∀ a b, out t.val t.isLt a b
      = s (t.val - 1) (Nat.lt_of_le_of_lt (Nat.sub_le _ _) t.isLt) a b + mul (x t) (y t) a b)
    (t : Fin N) (ht : t.val % J = J - 1) (a : Fin tm) (b : Fin tn) {i : Fin p} {j : Fin q}
    (hi : i.val = t.val / J / nj * tm + a.val) (hj : j.val = t.val / J % nj * tn + b.val) : out t.val t.isLt a b = mul X Y i j := by
  have e := fun t => mul_block X Y (x t) (y t) (hx t) (hy t)
  refine (total J tk nj hJ s out (summand X Y) (fun t h a b => ?_) (fun t h h' a b => ?_) (fun t h a b => ?_) t ht a b).trans (sum_summand X Y hi hj)
  · rw [start t h, e]
  · rw [next t h h', e]
  · rw [last t h, e]

end Cert.Product
end
-- ==== Proof.DwIn.lean ====
module
public import proofs.«01_k».proof.Defs
public import proofs.«01_k».proof.Proof.Product
public import proofs.«01_k».proof.Proof.Gen.Kernel3Ideal.Value
public import proofs.«01_k».proof.Proof.Gen.Reference3Ideal.Read
@[expose] public section
set_option maxRecDepth 16384
noncomputable section
/-! The gradient of the input projection's weights, `Uᵀ G`. -/
namespace Cert.DwIn
open Idealize.ShloMosaic Idealize.ShloMosaic.TcCoe Idealize.ShloMosaic.Tactic Idealize.SL.Sem
open Cert.Product Cert.Kernel3Ideal Cert.Kernel3Ideal.Gen

section body
variable {c : Dev nD} {i : grid0.Coords} {a0 : Memref sig .tc .vmem S1408x1024 .bf16} {h0 : a0.IsWhole} {a1 : Memref sig .tc .vmem S1408x2176 .bf16} {h1 : a1.IsWhole}
  {a2 : Memref sig .tc .vmem S1024x2176 .bf16} {h2 : a2.IsWhole} {a3 : Memref sig .tc .vmem S1024x2176 .f32} {h3 : a3.IsWhole}
  {x0 : Vec Ideal S1408x1024 .bf16} {x1 : Vec Ideal S1408x2176 .bf16} {s : Vec Ideal S1024x2176 .f32} {p : Fin 1024} {q : Fin 2176}

theorem first {hc0 : cond0_0 i} {hc1 : ¬cond0_1 i} : sout0_A_0 (F := Ideal) c i a0 h0 a1 h1 a2 h2 a3 h3 hc0 hc1 x0 x1 (ix2 p q)
    = 0 + mul (fun i k => x0 (ix2 k i)) (fun k j => x1 (ix2 k j)) p q := by
  frame_out
  unfold_payloads
  unfold mul
  pointwise

theorem next {hc0 : ¬cond0_0 i} {hc1 : ¬cond0_1 i} : sout0_B_0 (F := Ideal) c i a0 h0 a1 h1 a2 h2 a3 h3 hc0 hc1 x0 x1 s (ix2 p q)
    = s (ix2 p q) + mul (fun i k => x0 (ix2 k i)) (fun k j => x1 (ix2 k j)) p q := by
  frame_out
  unfold_payloads
  unfold mul
  pointwise

theorem last {hc0 : ¬cond0_0 i} {hc1 : cond0_1 i} : out0_C_2 (F := Ideal) c i a0 h0 a1 h1 a2 h2 a3 h3 hc0 hc1 x0 x1 s (ix2 p q)
    = s (ix2 p q) + mul (fun i k => x0 (ix2 k i)) (fun k j => x1 (ix2 k j)) p q := by
  frame_out
  unfold_payloads
  unfold mul
  pointwise

end body

variable (m : (ℓ : Loc nD τ sig) → Buf (Elt Ideal) ℓ) (c : Dev nD)

/-- The two factors. -/
def lhs (i : Fin 1024) (k : Fin 4224) : EReal := V m c (Pipeline.arrRef spec0 0) (ix2 k i)
def rhs (k : Fin 4224) (j : Fin 6528) : EReal := V m c (Pipeline.arrRef spec0 1) (ix2 k j)

theorem index_at : ∀ t : Fin cfg0.N, win0_0.index t = ![t.val % 3, t.val / 3 / 3] ∧ win0_1.index t = ![t.val % 3, t.val / 3 % 3]
    ∧ win0_2.index t = ![t.val / 3 / 3, t.val / 3 % 3] :=
  (by decide +kernel : ∀ t : Fin grid0.N, win0_0.index t = ![t.val % 3, t.val / 3 / 3] ∧ win0_1.index t = ![t.val % 3, t.val / 3 % 3]
    ∧ win0_2.index t = ![t.val / 3 / 3, t.val / 3 % 3])

theorem lhs_at (t : Fin cfg0.N) (i : Fin 1024) (k : Fin 1408) : iblk m c 0 t (ix2 k i) = cell (lhs m c) (t.val / 3 / 3 * 1024 + i.val) (t.val % 3 * 1408 + k.val) := by
  have ht := lt_of_lt_of_eq t.isLt (show cfg0.N = 9 from N_0)
  rw [cell_in _ (by omega) (by omega)]
  unfold lhs
  blk_ext [iblk, (index_at t).1]

theorem rhs_at (t : Fin cfg0.N) (k : Fin 1408) (j : Fin 2176) : iblk m c 1 t (ix2 k j) = cell (rhs m c) (t.val % 3 * 1408 + k.val) (t.val / 3 % 3 * 2176 + j.val) := by
  rw [cell_in _ (by omega) (by omega)]
  unfold rhs
  blk_ext [iblk, (index_at t).2.1]

/-- What the last point of a block leaves. -/
theorem out_at (t : Fin cfg0.N) (ht : t.val % 3 = 2) (a : Fin 1024) (b : Fin 2176) {i : Fin 1024} {j : Fin 6528} (hi : i.val = t.val / 3 / 3 * 1024 + a.val)
    (hj : j.val = t.val / 3 % 3 * 2176 + b.val) : (outsAt0 m c t.val t.isLt).1 (ix2 a b) = mul (lhs m c) (rhs m c) i j := by
  refine several 3 3 (by decide) (lhs m c) (rhs m c) (fun t i k => iblk m c 0 t (ix2 k i)) (fun t k j => iblk m c 1 t (ix2 k j)) (lhs_at m c) (rhs_at m c)
    (fun k h a b => (outsAt0 m c k h).2 (ix2 a b)) (fun k h a b => (outsAt0 m c k h).1 (ix2 a b))
    (fun t h a b => ?_) (fun t h h' a b => ?_) (fun t h a b => ?_) t ht a b hi hj
  · have e := congrArg Prod.snd (outsAt0_A m c t h (by omega))
    dsimp only at e ⊢
    rw [e]
    exact first
  · have e := congrArg Prod.snd (outsAt0_B m c t h h')
    dsimp only at e ⊢
    rw [e]
    exact next
  · have e := congrArg Prod.fst (outsAt0_C m c t (by omega) h)
    dsimp only at e ⊢
    rw [e]
    exact last

/-- The array the kernel leaves. -/
theorem final : (dats m 0 c).arrAt 2 cfg0.N = fun i : S1024x6528.Idx => mul (lhs m c) (rhs m c) (i 0) (i 1) := by
  refine (dats m 0 c).arrAt_eq_of_covers 2 _ (by decide +kernel) fun t hf y => ?_
  blk_simp
  rw [after0_2]
  idx_vars y
  exact out_at m c t ((flush0_2 t).mp hf) y0 y1 (by blk_simp [(index_at t).2.2]) (by blk_simp [(index_at t).2.2])

/-- The reference's array. -/
theorem reference (x0 : (⟨S4224x1024, .bf16⟩ : BufTy).Contents (Elt Ideal)) (x1 : (⟨S4224x6528, .bf16⟩ : BufTy).Contents (Elt Ideal)) (a : Fin 1024) (b : Fin 6528) :
    Reference3Ideal.Read.val_main_v7 (F := Ideal) x0 x1 (ix2 a b) = mul (fun i k => x0 (ix2 k i)) (fun k j => x1 (ix2 k j)) a b := by
  rw [Reference3Ideal.Read.val_main_v7_apply, Reference3Ideal.Read.val_main_v6_apply]
  refine (Reference3Ideal.Read.val_main_v5_apply x0 x1 _).trans (Finset.sum_congr rfl fun k _ => (mul_comm _ _).trans (congrArg₂ (· * ·) ?_ ?_))
  · exact congrArg x0 (by funext d; fin_cases d <;> rfl)
  · exact congrArg x1 (by funext d; fin_cases d <;> rfl)

theorem claim : algebraic_Kernel3Ideal_Reference3Ideal (hKernel3Ideal := facts) (hReference3Ideal := Reference3Ideal.Gen.facts) := by
  intro m g m' g' _ ha
  refine ⟨fun c => (dats m 0 c).arrAt 2 cfg0.N, Value.run_blocks m g, ?_⟩
  refine (θ_run Reference3Ideal.defs _ _).mono (fun r h c => ⟨(h c).1.trans ?_, (h c).2⟩) (Reference3Ideal.Value.run m' g')
  dsimp only
  rw [Reference3Ideal.Read.val_main_v7_eq, final, (ha c).1, (ha c).2, ← V_main_arg0 m c, ← V_main_arg1 m c]
  funext i
  idx_vars i
  exact reference _ _ i0 i1

theorem frame_reference : quiescent_Reference3Ideal (hReference3Ideal := Reference3Ideal.Gen.facts) := fun m ρ _ =>
  (θ_run Reference3Ideal.defs _ _).mono (fun r h => ⟨fun c => (h c).2, sem_eq_zero_of_no_sems (by decide) r.2⟩)
    (Reference3Ideal.Value.run (F := Ideal) m ρ)

end Cert.DwIn
end
-- ==== Proof.Du.lean ====
module
public import proofs.«01_k».proof.Defs
public import proofs.«01_k».proof.Proof.Product
public import proofs.«01_k».proof.Proof.Gen.Kernel4Ideal.Value
public import proofs.«01_k».proof.Proof.Gen.Reference4Ideal.Read
@[expose] public section
set_option maxRecDepth 16384
noncomputable section
/-! The gradient of the input projection's rows, `G Wᵀ`. -/
namespace Cert.Du
open Idealize.ShloMosaic Idealize.ShloMosaic.TcCoe Idealize.ShloMosaic.Tactic Idealize.SL.Sem
open Cert.Product Cert.Kernel4Ideal Cert.Kernel4Ideal.Gen

section body
variable {c : Dev nD} {i : grid0.Coords} {a0 : Memref sig .tc .vmem S1408x2176 .bf16} {h0 : a0.IsWhole} {a1 : Memref sig .tc .vmem S512x2176 .bf16} {h1 : a1.IsWhole}
  {a2 : Memref sig .tc .vmem S1408x512 .f32} {h2 : a2.IsWhole} {a3 : Memref sig .tc .vmem S1408x512 .f32} {h3 : a3.IsWhole}
  {x0 : Vec Ideal S1408x2176 .bf16} {x1 : Vec Ideal S512x2176 .bf16} {s : Vec Ideal S1408x512 .f32} {p : Fin 1408} {q : Fin 512}

theorem first {hc0 : cond0_0 i} {hc1 : ¬cond0_1 i} : sout0_A_0 (F := Ideal) c i a0 h0 a1 h1 a2 h2 a3 h3 hc0 hc1 x0 x1 (ix2 p q)
    = 0 + mul (fun i k => x0 (ix2 i k)) (fun k j => x1 (ix2 j k)) p q := by
  frame_out
  unfold_payloads
  unfold mul
  pointwise

theorem next {hc0 : ¬cond0_0 i} {hc1 : ¬cond0_1 i} : sout0_B_0 (F := Ideal) c i a0 h0 a1 h1 a2 h2 a3 h3 hc0 hc1 x0 x1 s (ix2 p q)
    = s (ix2 p q) + mul (fun i k => x0 (ix2 i k)) (fun k j => x1 (ix2 j k)) p q := by
  frame_out
  unfold_payloads
  unfold mul
  pointwise

theorem last {hc0 : ¬cond0_0 i} {hc1 : cond0_1 i} : out0_C_2 (F := Ideal) c i a0 h0 a1 h1 a2 h2 a3 h3 hc0 hc1 x0 x1 s (ix2 p q)
    = s (ix2 p q) + mul (fun i k => x0 (ix2 i k)) (fun k j => x1 (ix2 j k)) p q := by
  frame_out
  unfold_payloads
  unfold mul
  pointwise

end body

variable (m : (ℓ : Loc nD τ sig) → Buf (Elt Ideal) ℓ) (c : Dev nD)

/-- The two factors. -/
def lhs (i : Fin 4224) (k : Fin 6528) : EReal := V m c (Pipeline.arrRef spec0 0) (ix2 i k)
def rhs (k : Fin 6528) (j : Fin 1024) : EReal := V m c (Pipeline.arrRef spec0 1) (ix2 j k)

theorem index_at : ∀ t : Fin cfg0.N, win0_0.index t = ![t.val / 3 / 2, t.val % 3] ∧ win0_1.index t = ![t.val / 3 % 2, t.val % 3]
    ∧ win0_2.index t = ![t.val / 3 / 2, t.val / 3 % 2] :=
  (by decide +kernel : ∀ t : Fin grid0.N, win0_0.index t = ![t.val / 3 / 2, t.val % 3] ∧ win0_1.index t = ![t.val / 3 % 2, t.val % 3]
    ∧ win0_2.index t = ![t.val / 3 / 2, t.val / 3 % 2])

theorem lhs_at (t : Fin cfg0.N) (i : Fin 1408) (k : Fin 2176) : iblk m c 0 t (ix2 i k) = cell (lhs m c) (t.val / 3 / 2 * 1408 + i.val) (t.val % 3 * 2176 + k.val) := by
  have ht := lt_of_lt_of_eq t.isLt (show cfg0.N = 18 from N_0)
  rw [cell_in _ (by omega) (by omega)]
  unfold lhs
  blk_ext [iblk, (index_at t).1]

theorem rhs_at (t : Fin cfg0.N) (k : Fin 2176) (j : Fin 512) : iblk m c 1 t (ix2 j k) = cell (rhs m c) (t.val % 3 * 2176 + k.val) (t.val / 3 % 2 * 512 + j.val) := by
  rw [cell_in _ (by omega) (by omega)]
  unfold rhs
  blk_ext [iblk, (index_at t).2.1]

/-- What the last point of a block leaves. -/
theorem out_at (t : Fin cfg0.N) (ht : t.val % 3 = 2) (a : Fin 1408) (b : Fin 512) {i : Fin 4224} {j : Fin 1024} (hi : i.val = t.val / 3 / 2 * 1408 + a.val)
    (hj : j.val = t.val / 3 % 2 * 512 + b.val) : (outsAt0 m c t.val t.isLt).1 (ix2 a b) = mul (lhs m c) (rhs m c) i j := by
  refine several 3 2 (by decide) (lhs m c) (rhs m c) (fun t i k => iblk m c 0 t (ix2 i k)) (fun t k j => iblk m c 1 t (ix2 j k)) (lhs_at m c) (rhs_at m c)
    (fun k h a b => (outsAt0 m c k h).2 (ix2 a b)) (fun k h a b => (outsAt0 m c k h).1 (ix2 a b))
    (fun t h a b => ?_) (fun t h h' a b => ?_) (fun t h a b => ?_) t ht a b hi hj
  · have e := congrArg Prod.snd (outsAt0_A m c t h (by omega))
    dsimp only at e ⊢
    rw [e]
    exact first
  · have e := congrArg Prod.snd (outsAt0_B m c t h h')
    dsimp only at e ⊢
    rw [e]
    exact next
  · have e := congrArg Prod.fst (outsAt0_C m c t (by omega) h)
    dsimp only at e ⊢
    rw [e]
    exact last

/-- The array the kernel leaves. -/
theorem final : (dats m 0 c).arrAt 2 cfg0.N = fun i : S4224x1024.Idx => mul (lhs m c) (rhs m c) (i 0) (i 1) := by
  refine (dats m 0 c).arrAt_eq_of_covers 2 _ (by decide +kernel) fun t hf y => ?_
  blk_simp
  rw [after0_2]
  idx_vars y
  exact out_at m c t ((flush0_2 t).mp hf) y0 y1 (by blk_simp [(index_at t).2.2]) (by blk_simp [(index_at t).2.2])

/-- The reference's array. -/
theorem reference (x0 : (⟨S4224x6528, .bf16⟩ : BufTy).Contents (Elt Ideal)) (x1 : (⟨S1024x6528, .bf16⟩ : BufTy).Contents (Elt Ideal)) (a : Fin 4224) (b : Fin 1024) :
    Reference4Ideal.Read.val_main_v4 (F := Ideal) x0 x1 (ix2 a b) = mul (fun i k => x0 (ix2 i k)) (fun k j => x1 (ix2 j k)) a b := by
  refine (Reference4Ideal.Read.val_main_v4_apply x0 x1 _).trans (Finset.sum_congr rfl fun k _ => congrArg₂ (· * ·) ?_ ?_)
  · exact congrArg x0 (by funext d; fin_cases d <;> rfl)
  · exact congrArg x1 (by funext d; fin_cases d <;> rfl)

theorem claim : algebraic_Kernel4Ideal_Reference4Ideal (hKernel4Ideal := facts) (hReference4Ideal := Reference4Ideal.Gen.facts) := by
  intro m g m' g' _ ha
  refine ⟨fun c => (dats m 0 c).arrAt 2 cfg0.N, Value.run_blocks m g, ?_⟩
  refine (θ_run Reference4Ideal.defs _ _).mono (fun r h c => ⟨(h c).1.trans ?_, (h c).2⟩) (Reference4Ideal.Value.run m' g')
  dsimp only
  rw [Reference4Ideal.Read.val_main_v4_eq, final, (ha c).1, (ha c).2, ← V_main_arg0 m c, ← V_main_arg1 m c]
  funext i
  idx_vars i
  exact reference _ _ i0 i1

theorem frame_reference : quiescent_Reference4Ideal (hReference4Ideal := Reference4Ideal.Gen.facts) := fun m ρ _ =>
  (θ_run Reference4Ideal.defs _ _).mono (fun r h => ⟨fun c => (h c).2, sem_eq_zero_of_no_sems (by decide) r.2⟩)
    (Reference4Ideal.Value.run (F := Ideal) m ρ)

end Cert.Du
end
-- ==== Proof.DwFfnIn.lean ====
module
public import proofs.«01_k».proof.Defs
public import proofs.«01_k».proof.Proof.Product
public import proofs.«01_k».proof.Proof.Gen.Kernel5Ideal.Value
public import proofs.«01_k».proof.Proof.Gen.Reference5Ideal.Read
@[expose] public section
set_option maxRecDepth 16384
noncomputable section
/-! The gradient of the feed-forward layer's first weights, `Uᵀ G`. -/
namespace Cert.DwFfnIn
open Idealize.ShloMosaic Idealize.ShloMosaic.TcCoe Idealize.ShloMosaic.Tactic Idealize.SL.Sem
open Cert.Product Cert.Kernel5Ideal Cert.Kernel5Ideal.Gen

section body
variable {c : Dev nD} {i : grid0.Coords} {a0 : Memref sig .tc .vmem S1408x1024 .bf16} {h0 : a0.IsWhole} {a1 : Memref sig .tc .vmem S1408x1408 .bf16} {h1 : a1.IsWhole}
  {a2 : Memref sig .tc .vmem S1024x1408 .bf16} {h2 : a2.IsWhole} {a3 : Memref sig .tc .vmem S1024x1408 .f32} {h3 : a3.IsWhole}
  {x0 : Vec Ideal S1408x1024 .bf16} {x1 : Vec Ideal S1408x1408 .bf16} {s : Vec Ideal S1024x1408 .f32} {p : Fin 1024} {q : Fin 1408}

theorem first {hc0 : cond0_0 i} {hc1 : ¬cond0_1 i} : sout0_A_0 (F := Ideal) c i a0 h0 a1 h1 a2 h2 a3 h3 hc0 hc1 x0 x1 (ix2 p q)
    = 0 + mul (fun i k => x0 (ix2 k i)) (fun k j => x1 (ix2 k j)) p q := by
  frame_out
  unfold_payloads
  unfold mul
  pointwise

theorem next {hc0 : ¬cond0_0 i} {hc1 : ¬cond0_1 i} : sout0_B_0 (F := Ideal) c i a0 h0 a1 h1 a2 h2 a3 h3 hc0 hc1 x0 x1 s (ix2 p q)
    = s (ix2 p q) + mul (fun i k => x0 (ix2 k i)) (fun k j => x1 (ix2 k j)) p q := by
  frame_out
  unfold_payloads
  unfold mul
  pointwise

theorem last {hc0 : ¬cond0_0 i} {hc1 : cond0_1 i} : out0_C_2 (F := Ideal) c i a0 h0 a1 h1 a2 h2 a3 h3 hc0 hc1 x0 x1 s (ix2 p q)
    = s (ix2 p q) + mul (fun i k => x0 (ix2 k i)) (fun k j => x1 (ix2 k j)) p q := by
  frame_out
  unfold_payloads
  unfold mul
  pointwise

end body

variable (m : (ℓ : Loc nD τ sig) → Buf (Elt Ideal) ℓ) (c : Dev nD)

/-- The two factors. -/
def lhs (i : Fin 1024) (k : Fin 4224) : EReal := V m c (Pipeline.arrRef spec0 0) (ix2 k i)
def rhs (k : Fin 4224) (j : Fin 5632) : EReal := V m c (Pipeline.arrRef spec0 1) (ix2 k j)

theorem index_at : ∀ t : Fin cfg0.N, win0_0.index t = ![t.val % 3, t.val / 3 / 4] ∧ win0_1.index t = ![t.val % 3, t.val / 3 % 4]
    ∧ win0_2.index t = ![t.val / 3 / 4, t.val / 3 % 4] :=
  (by decide +kernel : ∀ t : Fin grid0.N, win0_0.index t = ![t.val % 3, t.val / 3 / 4] ∧ win0_1.index t = ![t.val % 3, t.val / 3 % 4]
    ∧ win0_2.index t = ![t.val / 3 / 4, t.val / 3 % 4])

theorem lhs_at (t : Fin cfg0.N) (i : Fin 1024) (k : Fin 1408) : iblk m c 0 t (ix2 k i) = cell (lhs m c) (t.val / 3 / 4 * 1024 + i.val) (t.val % 3 * 1408 + k.val) := by
  have ht := lt_of_lt_of_eq t.isLt (show cfg0.N = 12 from N_0)
  rw [cell_in _ (by omega) (by omega)]
  unfold lhs
  blk_ext [iblk, (index_at t).1]

theorem rhs_at (t : Fin cfg0.N) (k : Fin 1408) (j : Fin 1408) : iblk m c 1 t (ix2 k j) = cell (rhs m c) (t.val % 3 * 1408 + k.val) (t.val / 3 % 4 * 1408 + j.val) := by
  rw [cell_in _ (by omega) (by omega)]
  unfold rhs
  blk_ext [iblk, (index_at t).2.1]

/-- What the last point of a block leaves. -/
theorem out_at (t : Fin cfg0.N) (ht : t.val % 3 = 2) (a : Fin 1024) (b : Fin 1408) {i : Fin 1024} {j : Fin 5632} (hi : i.val = t.val / 3 / 4 * 1024 + a.val)
    (hj : j.val = t.val / 3 % 4 * 1408 + b.val) : (outsAt0 m c t.val t.isLt).1 (ix2 a b) = mul (lhs m c) (rhs m c) i j := by
  refine several 3 4 (by decide) (lhs m c) (rhs m c) (fun t i k => iblk m c 0 t (ix2 k i)) (fun t k j => iblk m c 1 t (ix2 k j)) (lhs_at m c) (rhs_at m c)
    (fun k h a b => (outsAt0 m c k h).2 (ix2 a b)) (fun k h a b => (outsAt0 m c k h).1 (ix2 a b))
    (fun t h a b => ?_) (fun t h h' a b => ?_) (fun t h a b => ?_) t ht a b hi hj
  · have e := congrArg Prod.snd (outsAt0_A m c t h (by omega))
    dsimp only at e ⊢
    rw [e]
    exact first
  · have e := congrArg Prod.snd (outsAt0_B m c t h h')
    dsimp only at e ⊢
    rw [e]
    exact next
  · have e := congrArg Prod.fst (outsAt0_C m c t (by omega) h)
    dsimp only at e ⊢
    rw [e]
    exact last

/-- The array the kernel leaves. -/
theorem final : (dats m 0 c).arrAt 2 cfg0.N = fun i : S1024x5632.Idx => mul (lhs m c) (rhs m c) (i 0) (i 1) := by
  refine (dats m 0 c).arrAt_eq_of_covers 2 _ (by decide +kernel) fun t hf y => ?_
  blk_simp
  rw [after0_2]
  idx_vars y
  exact out_at m c t ((flush0_2 t).mp hf) y0 y1 (by blk_simp [(index_at t).2.2]) (by blk_simp [(index_at t).2.2])

/-- The reference's array. -/
theorem reference (x0 : (⟨S4224x1024, .bf16⟩ : BufTy).Contents (Elt Ideal)) (x1 : (⟨S4224x5632, .bf16⟩ : BufTy).Contents (Elt Ideal)) (a : Fin 1024) (b : Fin 5632) :
    Reference5Ideal.Read.val_main_v7 (F := Ideal) x0 x1 (ix2 a b) = mul (fun i k => x0 (ix2 k i)) (fun k j => x1 (ix2 k j)) a b := by
  rw [Reference5Ideal.Read.val_main_v7_apply, Reference5Ideal.Read.val_main_v6_apply]
  refine (Reference5Ideal.Read.val_main_v5_apply x0 x1 _).trans (Finset.sum_congr rfl fun k _ => (mul_comm _ _).trans (congrArg₂ (· * ·) ?_ ?_))
  · exact congrArg x0 (by funext d; fin_cases d <;> rfl)
  · exact congrArg x1 (by funext d; fin_cases d <;> rfl)

theorem claim : algebraic_Kernel5Ideal_Reference5Ideal (hKernel5Ideal := facts) (hReference5Ideal := Reference5Ideal.Gen.facts) := by
  intro m g m' g' _ ha
  refine ⟨fun c => (dats m 0 c).arrAt 2 cfg0.N, Value.run_blocks m g, ?_⟩
  refine (θ_run Reference5Ideal.defs _ _).mono (fun r h c => ⟨(h c).1.trans ?_, (h c).2⟩) (Reference5Ideal.Value.run m' g')
  dsimp only
  rw [Reference5Ideal.Read.val_main_v7_eq, final, (ha c).1, (ha c).2, ← V_main_arg0 m c, ← V_main_arg1 m c]
  funext i
  idx_vars i
  exact reference _ _ i0 i1

theorem frame_reference : quiescent_Reference5Ideal (hReference5Ideal := Reference5Ideal.Gen.facts) := fun m ρ _ =>
  (θ_run Reference5Ideal.defs _ _).mono (fun r h => ⟨fun c => (h c).2, sem_eq_zero_of_no_sems (by decide) r.2⟩)
    (Reference5Ideal.Value.run (F := Ideal) m ρ)

end Cert.DwFfnIn
end
-- ==== Proof.DuFfn.lean ====
module
public import proofs.«01_k».proof.Defs
public import proofs.«01_k».proof.Proof.Product
public import proofs.«01_k».proof.Proof.Gen.Kernel6Ideal.Value
public import proofs.«01_k».proof.Proof.Gen.Reference6Ideal.Read
@[expose] public section
set_option maxRecDepth 16384
noncomputable section
/-! The gradient of the feed-forward layer's rows, `G Wᵀ`. -/
namespace Cert.DuFfn
open Idealize.ShloMosaic Idealize.ShloMosaic.TcCoe Idealize.ShloMosaic.Tactic Idealize.SL.Sem
open Cert.Product Cert.Kernel6Ideal Cert.Kernel6Ideal.Gen

section body
variable {c : Dev nD} {i : grid0.Coords} {a0 : Memref sig .tc .vmem S1408x1408 .bf16} {h0 : a0.IsWhole} {a1 : Memref sig .tc .vmem S512x1408 .bf16} {h1 : a1.IsWhole}
  {a2 : Memref sig .tc .vmem S1408x512 .f32} {h2 : a2.IsWhole} {a3 : Memref sig .tc .vmem S1408x512 .f32} {h3 : a3.IsWhole}
  {x0 : Vec Ideal S1408x1408 .bf16} {x1 : Vec Ideal S512x1408 .bf16} {s : Vec Ideal S1408x512 .f32} {p : Fin 1408} {q : Fin 512}

theorem first {hc0 : cond0_0 i} {hc1 : ¬cond0_1 i} : sout0_A_0 (F := Ideal) c i a0 h0 a1 h1 a2 h2 a3 h3 hc0 hc1 x0 x1 (ix2 p q)
    = 0 + mul (fun i k => x0 (ix2 i k)) (fun k j => x1 (ix2 j k)) p q := by
  frame_out
  unfold_payloads
  unfold mul
  pointwise

theorem next {hc0 : ¬cond0_0 i} {hc1 : ¬cond0_1 i} : sout0_B_0 (F := Ideal) c i a0 h0 a1 h1 a2 h2 a3 h3 hc0 hc1 x0 x1 s (ix2 p q)
    = s (ix2 p q) + mul (fun i k => x0 (ix2 i k)) (fun k j => x1 (ix2 j k)) p q := by
  frame_out
  unfold_payloads
  unfold mul
  pointwise

theorem last {hc0 : ¬cond0_0 i} {hc1 : cond0_1 i} : out0_C_2 (F := Ideal) c i a0 h0 a1 h1 a2 h2 a3 h3 hc0 hc1 x0 x1 s (ix2 p q)
    = s (ix2 p q) + mul (fun i k => x0 (ix2 i k)) (fun k j => x1 (ix2 j k)) p q := by
  frame_out
  unfold_payloads
  unfold mul
  pointwise

end body

variable (m : (ℓ : Loc nD τ sig) → Buf (Elt Ideal) ℓ) (c : Dev nD)

/-- The two factors. -/
def lhs (i : Fin 4224) (k : Fin 5632) : EReal := V m c (Pipeline.arrRef spec0 0) (ix2 i k)
def rhs (k : Fin 5632) (j : Fin 1024) : EReal := V m c (Pipeline.arrRef spec0 1) (ix2 j k)

theorem index_at : ∀ t : Fin cfg0.N, win0_0.index t = ![t.val / 4 / 2, t.val % 4] ∧ win0_1.index t = ![t.val / 4 % 2, t.val % 4]
    ∧ win0_2.index t = ![t.val / 4 / 2, t.val / 4 % 2] :=
  (by decide +kernel : ∀ t : Fin grid0.N, win0_0.index t = ![t.val / 4 / 2, t.val % 4] ∧ win0_1.index t = ![t.val / 4 % 2, t.val % 4]
    ∧ win0_2.index t = ![t.val / 4 / 2, t.val / 4 % 2])

theorem lhs_at (t : Fin cfg0.N) (i : Fin 1408) (k : Fin 1408) : iblk m c 0 t (ix2 i k) = cell (lhs m c) (t.val / 4 / 2 * 1408 + i.val) (t.val % 4 * 1408 + k.val) := by
  have ht := lt_of_lt_of_eq t.isLt (show cfg0.N = 24 from N_0)
  rw [cell_in _ (by omega) (by omega)]
  unfold lhs
  blk_ext [iblk, (index_at t).1]

theorem rhs_at (t : Fin cfg0.N) (k : Fin 1408) (j : Fin 512) : iblk m c 1 t (ix2 j k) = cell (rhs m c) (t.val % 4 * 1408 + k.val) (t.val / 4 % 2 * 512 + j.val) := by
  rw [cell_in _ (by omega) (by omega)]
  unfold rhs
  blk_ext [iblk, (index_at t).2.1]

/-- What the last point of a block leaves. -/
theorem out_at (t : Fin cfg0.N) (ht : t.val % 4 = 3) (a : Fin 1408) (b : Fin 512) {i : Fin 4224} {j : Fin 1024} (hi : i.val = t.val / 4 / 2 * 1408 + a.val)
    (hj : j.val = t.val / 4 % 2 * 512 + b.val) : (outsAt0 m c t.val t.isLt).1 (ix2 a b) = mul (lhs m c) (rhs m c) i j := by
  refine several 4 2 (by decide) (lhs m c) (rhs m c) (fun t i k => iblk m c 0 t (ix2 i k)) (fun t k j => iblk m c 1 t (ix2 j k)) (lhs_at m c) (rhs_at m c)
    (fun k h a b => (outsAt0 m c k h).2 (ix2 a b)) (fun k h a b => (outsAt0 m c k h).1 (ix2 a b))
    (fun t h a b => ?_) (fun t h h' a b => ?_) (fun t h a b => ?_) t ht a b hi hj
  · have e := congrArg Prod.snd (outsAt0_A m c t h (by omega))
    dsimp only at e ⊢
    rw [e]
    exact first
  · have e := congrArg Prod.snd (outsAt0_B m c t h h')
    dsimp only at e ⊢
    rw [e]
    exact next
  · have e := congrArg Prod.fst (outsAt0_C m c t (by omega) h)
    dsimp only at e ⊢
    rw [e]
    exact last

/-- The array the kernel leaves. -/
theorem final : (dats m 0 c).arrAt 2 cfg0.N = fun i : S4224x1024.Idx => mul (lhs m c) (rhs m c) (i 0) (i 1) := by
  refine (dats m 0 c).arrAt_eq_of_covers 2 _ (by decide +kernel) fun t hf y => ?_
  blk_simp
  rw [after0_2]
  idx_vars y
  exact out_at m c t ((flush0_2 t).mp hf) y0 y1 (by blk_simp [(index_at t).2.2]) (by blk_simp [(index_at t).2.2])

/-- The reference's array. -/
theorem reference (x0 : (⟨S4224x5632, .bf16⟩ : BufTy).Contents (Elt Ideal)) (x1 : (⟨S1024x5632, .bf16⟩ : BufTy).Contents (Elt Ideal)) (a : Fin 4224) (b : Fin 1024) :
    Reference6Ideal.Read.val_main_v4 (F := Ideal) x0 x1 (ix2 a b) = mul (fun i k => x0 (ix2 i k)) (fun k j => x1 (ix2 j k)) a b := by
  refine (Reference6Ideal.Read.val_main_v4_apply x0 x1 _).trans (Finset.sum_congr rfl fun k _ => congrArg₂ (· * ·) ?_ ?_)
  · exact congrArg x0 (by funext d; fin_cases d <;> rfl)
  · exact congrArg x1 (by funext d; fin_cases d <;> rfl)

theorem claim : algebraic_Kernel6Ideal_Reference6Ideal (hKernel6Ideal := facts) (hReference6Ideal := Reference6Ideal.Gen.facts) := by
  intro m g m' g' _ ha
  refine ⟨fun c => (dats m 0 c).arrAt 2 cfg0.N, Value.run_blocks m g, ?_⟩
  refine (θ_run Reference6Ideal.defs _ _).mono (fun r h c => ⟨(h c).1.trans ?_, (h c).2⟩) (Reference6Ideal.Value.run m' g')
  dsimp only
  rw [Reference6Ideal.Read.val_main_v4_eq, final, (ha c).1, (ha c).2, ← V_main_arg0 m c, ← V_main_arg1 m c]
  funext i
  idx_vars i
  exact reference _ _ i0 i1

theorem frame_reference : quiescent_Reference6Ideal (hReference6Ideal := Reference6Ideal.Gen.facts) := fun m ρ _ =>
  (θ_run Reference6Ideal.defs _ _).mono (fun r h => ⟨fun c => (h c).2, sem_eq_zero_of_no_sems (by decide) r.2⟩)
    (Reference6Ideal.Value.run (F := Ideal) m ρ)

end Cert.DuFfn
end
-- ==== Proof.DwFfnOut.lean ====
module
public import proofs.«01_k».proof.Defs
public import proofs.«01_k».proof.Proof.Product
public import proofs.«01_k».proof.Proof.Gen.Kernel7Ideal.Value
public import proofs.«01_k».proof.Proof.Gen.Reference7Ideal.Read
@[expose] public section
set_option maxRecDepth 16384
noncomputable section
/-! The gradient of the feed-forward layer's second weights, `Aᵀ G`. -/
namespace Cert.DwFfnOut
open Idealize.ShloMosaic Idealize.ShloMosaic.TcCoe Idealize.ShloMosaic.Tactic Idealize.SL.Sem
open Cert.Product Cert.Kernel7Ideal Cert.Kernel7Ideal.Gen

section body
variable {c : Dev nD} {i : grid0.Coords} {a0 : Memref sig .tc .vmem S1408x1408 .bf16} {h0 : a0.IsWhole} {a1 : Memref sig .tc .vmem S1408x512 .f32} {h1 : a1.IsWhole}
  {a2 : Memref sig .tc .vmem S1408x512 .bf16} {h2 : a2.IsWhole} {a3 : Memref sig .tc .vmem S1408x512 .f32} {h3 : a3.IsWhole}
  {x0 : Vec Ideal S1408x1408 .bf16} {x1 : Vec Ideal S1408x512 .f32} {s : Vec Ideal S1408x512 .f32} {p : Fin 1408} {q : Fin 512}

theorem first {hc0 : cond0_0 i} {hc1 : ¬cond0_1 i} : sout0_A_0 (F := Ideal) c i a0 h0 a1 h1 a2 h2 a3 h3 hc0 hc1 x0 x1 (ix2 p q)
    = 0 + mul (fun i k => x0 (ix2 k i)) (fun k j => x1 (ix2 k j)) p q := by
  frame_out
  unfold_payloads
  unfold mul
  pointwise

theorem next {hc0 : ¬cond0_0 i} {hc1 : ¬cond0_1 i} : sout0_B_0 (F := Ideal) c i a0 h0 a1 h1 a2 h2 a3 h3 hc0 hc1 x0 x1 s (ix2 p q)
    = s (ix2 p q) + mul (fun i k => x0 (ix2 k i)) (fun k j => x1 (ix2 k j)) p q := by
  frame_out
  unfold_payloads
  unfold mul
  pointwise

theorem last {hc0 : ¬cond0_0 i} {hc1 : cond0_1 i} : out0_C_2 (F := Ideal) c i a0 h0 a1 h1 a2 h2 a3 h3 hc0 hc1 x0 x1 s (ix2 p q)
    = s (ix2 p q) + mul (fun i k => x0 (ix2 k i)) (fun k j => x1 (ix2 k j)) p q := by
  frame_out
  unfold_payloads
  unfold mul
  pointwise

end body

variable (m : (ℓ : Loc nD τ sig) → Buf (Elt Ideal) ℓ) (c : Dev nD)

/-- The two factors. -/
def lhs (i : Fin 2816) (k : Fin 4224) : EReal := V m c (Pipeline.arrRef spec0 0) (ix2 k i)
def rhs (k : Fin 4224) (j : Fin 1024) : EReal := V m c (Pipeline.arrRef spec0 1) (ix2 k j)

theorem index_at : ∀ t : Fin cfg0.N, win0_0.index t = ![t.val % 3, t.val / 3 / 2] ∧ win0_1.index t = ![t.val % 3, t.val / 3 % 2]
    ∧ win0_2.index t = ![t.val / 3 / 2, t.val / 3 % 2] :=
  (by decide +kernel : ∀ t : Fin grid0.N, win0_0.index t = ![t.val % 3, t.val / 3 / 2] ∧ win0_1.index t = ![t.val % 3, t.val / 3 % 2]
    ∧ win0_2.index t = ![t.val / 3 / 2, t.val / 3 % 2])

theorem lhs_at (t : Fin cfg0.N) (i : Fin 1408) (k : Fin 1408) : iblk m c 0 t (ix2 k i) = cell (lhs m c) (t.val / 3 / 2 * 1408 + i.val) (t.val % 3 * 1408 + k.val) := by
  have ht := lt_of_lt_of_eq t.isLt (show cfg0.N = 12 from N_0)
  rw [cell_in _ (by omega) (by omega)]
  unfold lhs
  blk_ext [iblk, (index_at t).1]

theorem rhs_at (t : Fin cfg0.N) (k : Fin 1408) (j : Fin 512) : iblk m c 1 t (ix2 k j) = cell (rhs m c) (t.val % 3 * 1408 + k.val) (t.val / 3 % 2 * 512 + j.val) := by
  rw [cell_in _ (by omega) (by omega)]
  unfold rhs
  blk_ext [iblk, (index_at t).2.1]

/-- What the last point of a block leaves. -/
theorem out_at (t : Fin cfg0.N) (ht : t.val % 3 = 2) (a : Fin 1408) (b : Fin 512) {i : Fin 2816} {j : Fin 1024} (hi : i.val = t.val / 3 / 2 * 1408 + a.val)
    (hj : j.val = t.val / 3 % 2 * 512 + b.val) : (outsAt0 m c t.val t.isLt).1 (ix2 a b) = mul (lhs m c) (rhs m c) i j := by
  refine several 3 2 (by decide) (lhs m c) (rhs m c) (fun t i k => iblk m c 0 t (ix2 k i)) (fun t k j => iblk m c 1 t (ix2 k j)) (lhs_at m c) (rhs_at m c)
    (fun k h a b => (outsAt0 m c k h).2 (ix2 a b)) (fun k h a b => (outsAt0 m c k h).1 (ix2 a b))
    (fun t h a b => ?_) (fun t h h' a b => ?_) (fun t h a b => ?_) t ht a b hi hj
  · have e := congrArg Prod.snd (outsAt0_A m c t h (by omega))
    dsimp only at e ⊢
    rw [e]
    exact first
  · have e := congrArg Prod.snd (outsAt0_B m c t h h')
    dsimp only at e ⊢
    rw [e]
    exact next
  · have e := congrArg Prod.fst (outsAt0_C m c t (by omega) h)
    dsimp only at e ⊢
    rw [e]
    exact last

/-- The array the kernel leaves. -/
theorem final : (dats m 0 c).arrAt 2 cfg0.N = fun i : S2816x1024.Idx => mul (lhs m c) (rhs m c) (i 0) (i 1) := by
  refine (dats m 0 c).arrAt_eq_of_covers 2 _ (by decide +kernel) fun t hf y => ?_
  blk_simp
  rw [after0_2]
  idx_vars y
  exact out_at m c t ((flush0_2 t).mp hf) y0 y1 (by blk_simp [(index_at t).2.2]) (by blk_simp [(index_at t).2.2])

/-- The reference's array. -/
theorem reference (x0 : (⟨S4224x2816, .bf16⟩ : BufTy).Contents (Elt Ideal)) (x1 : (⟨S4224x1024, .f32⟩ : BufTy).Contents (Elt Ideal)) (a : Fin 2816) (b : Fin 1024) :
    Reference7Ideal.Read.val_main_v6 (F := Ideal) x0 x1 (ix2 a b) = mul (fun i k => x0 (ix2 k i)) (fun k j => x1 (ix2 k j)) a b := by
  rw [Reference7Ideal.Read.val_main_v6_apply, Reference7Ideal.Read.val_main_v5_apply]
  refine (Reference7Ideal.Read.val_main_v4_apply x0 x1 _).trans (Finset.sum_congr rfl fun k _ => (mul_comm _ _).trans (congrArg₂ (· * ·) ?_ ?_))
  · exact congrArg x0 (by funext d; fin_cases d <;> rfl)
  · exact congrArg x1 (by funext d; fin_cases d <;> rfl)

theorem claim : algebraic_Kernel7Ideal_Reference7Ideal (hKernel7Ideal := facts) (hReference7Ideal := Reference7Ideal.Gen.facts) := by
  intro m g m' g' _ ha
  refine ⟨fun c => (dats m 0 c).arrAt 2 cfg0.N, Value.run_blocks m g, ?_⟩
  refine (θ_run Reference7Ideal.defs _ _).mono (fun r h c => ⟨(h c).1.trans ?_, (h c).2⟩) (Reference7Ideal.Value.run m' g')
  dsimp only
  rw [Reference7Ideal.Read.val_main_v6_eq, final, (ha c).1, (ha c).2, ← V_main_arg0 m c, ← V_main_arg1 m c]
  funext i
  idx_vars i
  exact reference _ _ i0 i1

theorem frame_reference : quiescent_Reference7Ideal (hReference7Ideal := Reference7Ideal.Gen.facts) := fun m ρ _ =>
  (θ_run Reference7Ideal.defs _ _).mono (fun r h => ⟨fun c => (h c).2, sem_eq_zero_of_no_sems (by decide) r.2⟩)
    (Reference7Ideal.Value.run (F := Ideal) m ρ)

end Cert.DwFfnOut
end
-- ==== Proof.DAct.lean ====
module
public import proofs.«01_k».proof.Defs
public import proofs.«01_k».proof.Proof.Product
public import proofs.«01_k».proof.Proof.Gen.Kernel8Ideal.Value
public import proofs.«01_k».proof.Proof.Gen.Reference8Ideal.Read
@[expose] public section
set_option maxRecDepth 16384
noncomputable section
/-! The gradient of the feed-forward layer's hidden rows, `G Wᵀ`. -/
namespace Cert.DAct
open Idealize.ShloMosaic Idealize.ShloMosaic.TcCoe Idealize.ShloMosaic.Tactic Idealize.SL.Sem
open Cert.Product Cert.Kernel8Ideal Cert.Kernel8Ideal.Gen

section body
variable {c : Dev nD} {i : grid0.Coords} {a0 : Memref sig .tc .vmem S1408x1024 .f32} {h0 : a0.IsWhole} {a1 : Memref sig .tc .vmem S256x1024 .bf16} {h1 : a1.IsWhole}
  {a2 : Memref sig .tc .vmem S1408x256 .f32} {h2 : a2.IsWhole} {a3 : Memref sig .tc .vmem S1408x256 .f32} {h3 : a3.IsWhole}
  {x0 : Vec Ideal S1408x1024 .f32} {x1 : Vec Ideal S256x1024 .bf16} {p : Fin 1408} {q : Fin 256}

theorem only {hc0 : cond0_0 i} {hc1 : cond0_1 i} : out0_A_2 (F := Ideal) c i a0 h0 a1 h1 a2 h2 a3 h3 hc0 hc1 x0 x1 (ix2 p q)
    = 0 + mul (fun i k => x0 (ix2 i k)) (fun k j => x1 (ix2 j k)) p q := by
  frame_out
  unfold_payloads
  unfold mul
  pointwise

end body

variable (m : (ℓ : Loc nD τ sig) → Buf (Elt Ideal) ℓ) (c : Dev nD)

/-- The two factors. -/
def lhs (i : Fin 4224) (k : Fin 1024) : EReal := V m c (Pipeline.arrRef spec0 0) (ix2 i k)
def rhs (k : Fin 1024) (j : Fin 2816) : EReal := V m c (Pipeline.arrRef spec0 1) (ix2 j k)

theorem index_at : ∀ t : Fin cfg0.N, win0_0.index t = ![t.val / 11, 0] ∧ win0_1.index t = ![t.val % 11, 0]
    ∧ win0_2.index t = ![t.val / 11, t.val % 11] :=
  (by decide +kernel : ∀ t : Fin grid0.N, win0_0.index t = ![t.val / 11, 0] ∧ win0_1.index t = ![t.val % 11, 0]
    ∧ win0_2.index t = ![t.val / 11, t.val % 11])

theorem lhs_at (t : Fin cfg0.N) (i : Fin 1408) (k : Fin 1024) : iblk m c 0 t (ix2 i k) = cell (lhs m c) (t.val / 11 * 1408 + i.val) k.val := by
  have ht := lt_of_lt_of_eq t.isLt (show cfg0.N = 33 from N_0)
  rw [cell_in _ (by omega) (by omega)]
  unfold lhs
  blk_ext [iblk, (index_at t).1]

theorem rhs_at (t : Fin cfg0.N) (k : Fin 1024) (j : Fin 256) : iblk m c 1 t (ix2 j k) = cell (rhs m c) k.val (t.val % 11 * 256 + j.val) := by
  rw [cell_in _ (by omega) (by omega)]
  unfold rhs
  blk_ext [iblk, (index_at t).2.1]

/-- The array the kernel leaves. -/
theorem final : (dats m 0 c).arrAt 2 cfg0.N = fun i : S4224x2816.Idx => mul (lhs m c) (rhs m c) (i 0) (i 1) := by
  refine (dats m 0 c).arrAt_eq_of_covers 2 _ (by decide +kernel) fun t hf y => ?_
  blk_simp
  rw [after0_2]
  idx_vars y
  unfold outsAt0
  exact only.trans (single (lhs m c) (rhs m c) _ _ (lhs_at m c t) (rhs_at m c t) y0 y1 (by blk_simp [(index_at t).2.2]) (by blk_simp [(index_at t).2.2]))

/-- The reference's array. -/
theorem reference (x0 : (⟨S4224x1024, .f32⟩ : BufTy).Contents (Elt Ideal)) (x1 : (⟨S2816x1024, .bf16⟩ : BufTy).Contents (Elt Ideal)) (a : Fin 4224) (b : Fin 2816) :
    Reference8Ideal.Read.val_main_v3 (F := Ideal) x0 x1 (ix2 a b) = mul (fun i k => x0 (ix2 i k)) (fun k j => x1 (ix2 j k)) a b := by
  refine (Reference8Ideal.Read.val_main_v3_apply x0 x1 _).trans (Finset.sum_congr rfl fun k _ => congrArg₂ (· * ·) ?_ ?_)
  · exact congrArg x0 (by funext d; fin_cases d <;> rfl)
  · exact congrArg x1 (by funext d; fin_cases d <;> rfl)

theorem claim : algebraic_Kernel8Ideal_Reference8Ideal (hKernel8Ideal := facts) (hReference8Ideal := Reference8Ideal.Gen.facts) := by
  intro m g m' g' _ ha
  refine ⟨fun c => (dats m 0 c).arrAt 2 cfg0.N, Value.run_blocks m g, ?_⟩
  refine (θ_run Reference8Ideal.defs _ _).mono (fun r h c => ⟨(h c).1.trans ?_, (h c).2⟩) (Reference8Ideal.Value.run m' g')
  dsimp only
  rw [Reference8Ideal.Read.val_main_v3_eq, final, (ha c).1, (ha c).2, ← V_main_arg0 m c, ← V_main_arg1 m c]
  funext i
  idx_vars i
  exact reference _ _ i0 i1

theorem frame_reference : quiescent_Reference8Ideal (hReference8Ideal := Reference8Ideal.Gen.facts) := fun m ρ _ =>
  (θ_run Reference8Ideal.defs _ _).mono (fun r h => ⟨fun c => (h c).2, sem_eq_zero_of_no_sems (by decide) r.2⟩)
    (Reference8Ideal.Value.run (F := Ideal) m ρ)

end Cert.DAct
end
-- ==== Proof.DwOut.lean ====
module
public import proofs.«01_k».proof.Defs
public import proofs.«01_k».proof.Proof.Product
public import proofs.«01_k».proof.Proof.Gen.Kernel9Ideal.Value
public import proofs.«01_k».proof.Proof.Gen.Reference9Ideal.Read
@[expose] public section
set_option maxRecDepth 16384
noncomputable section
/-! The gradient of the output projection's weights, `Mᵀ G`. -/
namespace Cert.DwOut
open Idealize.ShloMosaic Idealize.ShloMosaic.TcCoe Idealize.ShloMosaic.Tactic Idealize.SL.Sem
open Cert.Product Cert.Kernel9Ideal Cert.Kernel9Ideal.Gen

section body
variable {c : Dev nD} {i : grid0.Coords} {a0 : Memref sig .tc .vmem S1408x1024 .bf16} {h0 : a0.IsWhole} {a1 : Memref sig .tc .vmem S1408x512 .f32} {h1 : a1.IsWhole}
  {a2 : Memref sig .tc .vmem S1024x512 .bf16} {h2 : a2.IsWhole} {a3 : Memref sig .tc .vmem S1024x512 .f32} {h3 : a3.IsWhole}
  {x0 : Vec Ideal S1408x1024 .bf16} {x1 : Vec Ideal S1408x512 .f32} {s : Vec Ideal S1024x512 .f32} {p : Fin 1024} {q : Fin 512}

theorem first {hc0 : cond0_0 i} {hc1 : ¬cond0_1 i} : sout0_A_0 (F := Ideal) c i a0 h0 a1 h1 a2 h2 a3 h3 hc0 hc1 x0 x1 (ix2 p q)
    = 0 + mul (fun i k => x0 (ix2 k i)) (fun k j => x1 (ix2 k j)) p q := by
  frame_out
  unfold_payloads
  unfold mul
  pointwise

theorem next {hc0 : ¬cond0_0 i} {hc1 : ¬cond0_1 i} : sout0_B_0 (F := Ideal) c i a0 h0 a1 h1 a2 h2 a3 h3 hc0 hc1 x0 x1 s (ix2 p q)
    = s (ix2 p q) + mul (fun i k => x0 (ix2 k i)) (fun k j => x1 (ix2 k j)) p q := by
  frame_out
  unfold_payloads
  unfold mul
  pointwise

theorem last {hc0 : ¬cond0_0 i} {hc1 : cond0_1 i} : out0_C_2 (F := Ideal) c i a0 h0 a1 h1 a2 h2 a3 h3 hc0 hc1 x0 x1 s (ix2 p q)
    = s (ix2 p q) + mul (fun i k => x0 (ix2 k i)) (fun k j => x1 (ix2 k j)) p q := by
  frame_out
  unfold_payloads
  unfold mul
  pointwise

end body

variable (m : (ℓ : Loc nD τ sig) → Buf (Elt Ideal) ℓ) (c : Dev nD)

/-- The two factors. -/
def lhs (i : Fin 1024) (k : Fin 4224) : EReal := V m c (Pipeline.arrRef spec0 0) (ix2 k i)
def rhs (k : Fin 4224) (j : Fin 1024) : EReal := V m c (Pipeline.arrRef spec0 1) (ix2 k j)

theorem index_at : ∀ t : Fin cfg0.N, win0_0.index t = ![t.val % 3, t.val / 3 / 2] ∧ win0_1.index t = ![t.val % 3, t.val / 3 % 2]
    ∧ win0_2.index t = ![t.val / 3 / 2, t.val / 3 % 2] :=
  (by decide +kernel : ∀ t : Fin grid0.N, win0_0.index t = ![t.val % 3, t.val / 3 / 2] ∧ win0_1.index t = ![t.val % 3, t.val / 3 % 2]
    ∧ win0_2.index t = ![t.val / 3 / 2, t.val / 3 % 2])

theorem lhs_at (t : Fin cfg0.N) (i : Fin 1024) (k : Fin 1408) : iblk m c 0 t (ix2 k i) = cell (lhs m c) (t.val / 3 / 2 * 1024 + i.val) (t.val % 3 * 1408 + k.val) := by
  have ht := lt_of_lt_of_eq t.isLt (show cfg0.N = 6 from N_0)
  rw [cell_in _ (by omega) (by omega)]
  unfold lhs
  blk_ext [iblk, (index_at t).1]

theorem rhs_at (t : Fin cfg0.N) (k : Fin 1408) (j : Fin 512) : iblk m c 1 t (ix2 k j) = cell (rhs m c) (t.val % 3 * 1408 + k.val) (t.val / 3 % 2 * 512 + j.val) := by
  rw [cell_in _ (by omega) (by omega)]
  unfold rhs
  blk_ext [iblk, (index_at t).2.1]

/-- What the last point of a block leaves. -/
theorem out_at (t : Fin cfg0.N) (ht : t.val % 3 = 2) (a : Fin 1024) (b : Fin 512) {i : Fin 1024} {j : Fin 1024} (hi : i.val = t.val / 3 / 2 * 1024 + a.val)
    (hj : j.val = t.val / 3 % 2 * 512 + b.val) : (outsAt0 m c t.val t.isLt).1 (ix2 a b) = mul (lhs m c) (rhs m c) i j := by
  refine several 3 2 (by decide) (lhs m c) (rhs m c) (fun t i k => iblk m c 0 t (ix2 k i)) (fun t k j => iblk m c 1 t (ix2 k j)) (lhs_at m c) (rhs_at m c)
    (fun k h a b => (outsAt0 m c k h).2 (ix2 a b)) (fun k h a b => (outsAt0 m c k h).1 (ix2 a b))
    (fun t h a b => ?_) (fun t h h' a b => ?_) (fun t h a b => ?_) t ht a b hi hj
  · have e := congrArg Prod.snd (outsAt0_A m c t h (by omega))
    dsimp only at e ⊢
    rw [e]
    exact first
  · have e := congrArg Prod.snd (outsAt0_B m c t h h')
    dsimp only at e ⊢
    rw [e]
    exact next
  · have e := congrArg Prod.fst (outsAt0_C m c t (by omega) h)
    dsimp only at e ⊢
    rw [e]
    exact last

/-- The array the kernel leaves. -/
theorem final : (dats m 0 c).arrAt 2 cfg0.N = fun i : S1024x1024.Idx => mul (lhs m c) (rhs m c) (i 0) (i 1) := by
  refine (dats m 0 c).arrAt_eq_of_covers 2 _ (by decide +kernel) fun t hf y => ?_
  blk_simp
  rw [after0_2]
  idx_vars y
  exact out_at m c t ((flush0_2 t).mp hf) y0 y1 (by blk_simp [(index_at t).2.2]) (by blk_simp [(index_at t).2.2])

/-- The reference's array. -/
theorem reference (x0 : (⟨S4224x1024, .bf16⟩ : BufTy).Contents (Elt Ideal)) (x1 : (⟨S4224x1024, .f32⟩ : BufTy).Contents (Elt Ideal)) (a : Fin 1024) (b : Fin 1024) :
    Reference9Ideal.Read.val_main_v6 (F := Ideal) x0 x1 (ix2 a b) = mul (fun i k => x0 (ix2 k i)) (fun k j => x1 (ix2 k j)) a b := by
  rw [Reference9Ideal.Read.val_main_v6_apply, Reference9Ideal.Read.val_main_v5_apply]
  refine (Reference9Ideal.Read.val_main_v4_apply x0 x1 _).trans (Finset.sum_congr rfl fun k _ => (mul_comm _ _).trans (congrArg₂ (· * ·) ?_ ?_))
  · exact congrArg x0 (by funext d; fin_cases d <;> rfl)
  · exact congrArg x1 (by funext d; fin_cases d <;> rfl)

theorem claim : algebraic_Kernel9Ideal_Reference9Ideal (hKernel9Ideal := facts) (hReference9Ideal := Reference9Ideal.Gen.facts) := by
  intro m g m' g' _ ha
  refine ⟨fun c => (dats m 0 c).arrAt 2 cfg0.N, Value.run_blocks m g, ?_⟩
  refine (θ_run Reference9Ideal.defs _ _).mono (fun r h c => ⟨(h c).1.trans ?_, (h c).2⟩) (Reference9Ideal.Value.run m' g')
  dsimp only
  rw [Reference9Ideal.Read.val_main_v6_eq, final, (ha c).1, (ha c).2, ← V_main_arg0 m c, ← V_main_arg1 m c]
  funext i
  idx_vars i
  exact reference _ _ i0 i1

theorem frame_reference : quiescent_Reference9Ideal (hReference9Ideal := Reference9Ideal.Gen.facts) := fun m ρ _ =>
  (θ_run Reference9Ideal.defs _ _).mono (fun r h => ⟨fun c => (h c).2, sem_eq_zero_of_no_sems (by decide) r.2⟩)
    (Reference9Ideal.Value.run (F := Ideal) m ρ)

end Cert.DwOut
end
-- ==== Proof.DMerged.lean ====
module
public import proofs.«01_k».proof.Defs
public import proofs.«01_k».proof.Proof.Product
public import proofs.«01_k».proof.Proof.Gen.Kernel10Ideal.Value
public import proofs.«01_k».proof.Proof.Gen.Reference10Ideal.Read
@[expose] public section
set_option maxRecDepth 16384
noncomputable section
/-! The gradient of the merged branches, `G Wᵀ`. -/
namespace Cert.DMerged
open Idealize.ShloMosaic Idealize.ShloMosaic.TcCoe Idealize.ShloMosaic.Tactic Idealize.SL.Sem
open Cert.Product Cert.Kernel10Ideal Cert.Kernel10Ideal.Gen

section body
variable {c : Dev nD} {i : grid0.Coords} {a0 : Memref sig .tc .vmem S1408x1024 .f32} {h0 : a0.IsWhole} {a1 : Memref sig .tc .vmem S512x1024 .bf16} {h1 : a1.IsWhole}
  {a2 : Memref sig .tc .vmem S1408x512 .f32} {h2 : a2.IsWhole} {a3 : Memref sig .tc .vmem S1408x512 .f32} {h3 : a3.IsWhole}
  {x0 : Vec Ideal S1408x1024 .f32} {x1 : Vec Ideal S512x1024 .bf16} {p : Fin 1408} {q : Fin 512}

theorem only {hc0 : cond0_0 i} {hc1 : cond0_1 i} : out0_A_2 (F := Ideal) c i a0 h0 a1 h1 a2 h2 a3 h3 hc0 hc1 x0 x1 (ix2 p q)
    = 0 + mul (fun i k => x0 (ix2 i k)) (fun k j => x1 (ix2 j k)) p q := by
  frame_out
  unfold_payloads
  unfold mul
  pointwise

end body

variable (m : (ℓ : Loc nD τ sig) → Buf (Elt Ideal) ℓ) (c : Dev nD)

/-- The two factors. -/
def lhs (i : Fin 4224) (k : Fin 1024) : EReal := V m c (Pipeline.arrRef spec0 0) (ix2 i k)
def rhs (k : Fin 1024) (j : Fin 1024) : EReal := V m c (Pipeline.arrRef spec0 1) (ix2 j k)

theorem index_at : ∀ t : Fin cfg0.N, win0_0.index t = ![t.val / 2, 0] ∧ win0_1.index t = ![t.val % 2, 0]
    ∧ win0_2.index t = ![t.val / 2, t.val % 2] :=
  (by decide +kernel : ∀ t : Fin grid0.N, win0_0.index t = ![t.val / 2, 0] ∧ win0_1.index t = ![t.val % 2, 0]
    ∧ win0_2.index t = ![t.val / 2, t.val % 2])

theorem lhs_at (t : Fin cfg0.N) (i : Fin 1408) (k : Fin 1024) : iblk m c 0 t (ix2 i k) = cell (lhs m c) (t.val / 2 * 1408 + i.val) k.val := by
  have ht := lt_of_lt_of_eq t.isLt (show cfg0.N = 6 from N_0)
  rw [cell_in _ (by omega) (by omega)]
  unfold lhs
  blk_ext [iblk, (index_at t).1]

theorem rhs_at (t : Fin cfg0.N) (k : Fin 1024) (j : Fin 512) : iblk m c 1 t (ix2 j k) = cell (rhs m c) k.val (t.val % 2 * 512 + j.val) := by
  rw [cell_in _ (by omega) (by omega)]
  unfold rhs
  blk_ext [iblk, (index_at t).2.1]

/-- The array the kernel leaves. -/
theorem final : (dats m 0 c).arrAt 2 cfg0.N = fun i : S4224x1024.Idx => mul (lhs m c) (rhs m c) (i 0) (i 1) := by
  refine (dats m 0 c).arrAt_eq_of_covers 2 _ (by decide +kernel) fun t hf y => ?_
  blk_simp
  rw [after0_2]
  idx_vars y
  unfold outsAt0
  exact only.trans (single (lhs m c) (rhs m c) _ _ (lhs_at m c t) (rhs_at m c t) y0 y1 (by blk_simp [(index_at t).2.2]) (by blk_simp [(index_at t).2.2]))

/-- The reference's array. -/
theorem reference (x0 : (⟨S4224x1024, .f32⟩ : BufTy).Contents (Elt Ideal)) (x1 : (⟨S1024x1024, .bf16⟩ : BufTy).Contents (Elt Ideal)) (a : Fin 4224) (b : Fin 1024) :
    Reference10Ideal.Read.val_main_v3 (F := Ideal) x0 x1 (ix2 a b) = mul (fun i k => x0 (ix2 i k)) (fun k j => x1 (ix2 j k)) a b := by
  refine (Reference10Ideal.Read.val_main_v3_apply x0 x1 _).trans (Finset.sum_congr rfl fun k _ => congrArg₂ (· * ·) ?_ ?_)
  · exact congrArg x0 (by funext d; fin_cases d <;> rfl)
  · exact congrArg x1 (by funext d; fin_cases d <;> rfl)

theorem claim : algebraic_Kernel10Ideal_Reference10Ideal (hKernel10Ideal := facts) (hReference10Ideal := Reference10Ideal.Gen.facts) := by
  intro m g m' g' _ ha
  refine ⟨fun c => (dats m 0 c).arrAt 2 cfg0.N, Value.run_blocks m g, ?_⟩
  refine (θ_run Reference10Ideal.defs _ _).mono (fun r h c => ⟨(h c).1.trans ?_, (h c).2⟩) (Reference10Ideal.Value.run m' g')
  dsimp only
  rw [Reference10Ideal.Read.val_main_v3_eq, final, (ha c).1, (ha c).2, ← V_main_arg0 m c, ← V_main_arg1 m c]
  funext i
  idx_vars i
  exact reference _ _ i0 i1

theorem frame_reference : quiescent_Reference10Ideal (hReference10Ideal := Reference10Ideal.Gen.facts) := fun m ρ _ =>
  (θ_run Reference10Ideal.defs _ _).mono (fun r h => ⟨fun c => (h c).2, sem_eq_zero_of_no_sems (by decide) r.2⟩)
    (Reference10Ideal.Value.run (F := Ideal) m ρ)

end Cert.DMerged
end
-- ==== Proof.DwBranch.lean ====
module
public import proofs.«01_k».proof.Defs
public import proofs.«01_k».proof.Proof.Product
public import proofs.«01_k».proof.Proof.Gen.Kernel11Ideal.Value
public import proofs.«01_k».proof.Proof.Gen.Reference11Ideal.Read
@[expose] public section
set_option maxRecDepth 16384
noncomputable section
/-! The gradient of a branch's projection, `Oᵀ G`. -/
namespace Cert.DwBranch
open Idealize.ShloMosaic Idealize.ShloMosaic.TcCoe Idealize.ShloMosaic.Tactic Idealize.SL.Sem
open Cert.Product Cert.Kernel11Ideal Cert.Kernel11Ideal.Gen

section body
variable {c : Dev nD} {i : grid0.Coords} {a0 : Memref sig .tc .vmem S1408x512 .f32} {h0 : a0.IsWhole} {a1 : Memref sig .tc .vmem S1408x512 .bf16} {h1 : a1.IsWhole}
  {a2 : Memref sig .tc .vmem S512x512 .bf16} {h2 : a2.IsWhole} {a3 : Memref sig .tc .vmem S512x512 .f32} {h3 : a3.IsWhole}
  {x0 : Vec Ideal S1408x512 .f32} {x1 : Vec Ideal S1408x512 .bf16} {s : Vec Ideal S512x512 .f32} {p : Fin 512} {q : Fin 512}

theorem first {hc0 : cond0_0 i} {hc1 : ¬cond0_1 i} : sout0_A_0 (F := Ideal) c i a0 h0 a1 h1 a2 h2 a3 h3 hc0 hc1 x0 x1 (ix2 p q)
    = 0 + mul (fun i k => x0 (ix2 k i)) (fun k j => x1 (ix2 k j)) p q := by
  frame_out
  unfold_payloads
  unfold mul
  pointwise

theorem next {hc0 : ¬cond0_0 i} {hc1 : ¬cond0_1 i} : sout0_B_0 (F := Ideal) c i a0 h0 a1 h1 a2 h2 a3 h3 hc0 hc1 x0 x1 s (ix2 p q)
    = s (ix2 p q) + mul (fun i k => x0 (ix2 k i)) (fun k j => x1 (ix2 k j)) p q := by
  frame_out
  unfold_payloads
  unfold mul
  pointwise

theorem last {hc0 : ¬cond0_0 i} {hc1 : cond0_1 i} : out0_C_2 (F := Ideal) c i a0 h0 a1 h1 a2 h2 a3 h3 hc0 hc1 x0 x1 s (ix2 p q)
    = s (ix2 p q) + mul (fun i k => x0 (ix2 k i)) (fun k j => x1 (ix2 k j)) p q := by
  frame_out
  unfold_payloads
  unfold mul
  pointwise

end body

variable (m : (ℓ : Loc nD τ sig) → Buf (Elt Ideal) ℓ) (c : Dev nD)

/-- The two factors. -/
def lhs (i : Fin 512) (k : Fin 4224) : EReal := V m c (Pipeline.arrRef spec0 0) (ix2 k i)
def rhs (k : Fin 4224) (j : Fin 1024) : EReal := V m c (Pipeline.arrRef spec0 1) (ix2 k j)

theorem index_at : ∀ t : Fin cfg0.N, win0_0.index t = ![t.val % 3, t.val / 3 / 2] ∧ win0_1.index t = ![t.val % 3, t.val / 3 % 2]
    ∧ win0_2.index t = ![t.val / 3 / 2, t.val / 3 % 2] :=
  (by decide +kernel : ∀ t : Fin grid0.N, win0_0.index t = ![t.val % 3, t.val / 3 / 2] ∧ win0_1.index t = ![t.val % 3, t.val / 3 % 2]
    ∧ win0_2.index t = ![t.val / 3 / 2, t.val / 3 % 2])

theorem lhs_at (t : Fin cfg0.N) (i : Fin 512) (k : Fin 1408) : iblk m c 0 t (ix2 k i) = cell (lhs m c) (t.val / 3 / 2 * 512 + i.val) (t.val % 3 * 1408 + k.val) := by
  have ht := lt_of_lt_of_eq t.isLt (show cfg0.N = 6 from N_0)
  rw [cell_in _ (by omega) (by omega)]
  unfold lhs
  blk_ext [iblk, (index_at t).1]

theorem rhs_at (t : Fin cfg0.N) (k : Fin 1408) (j : Fin 512) : iblk m c 1 t (ix2 k j) = cell (rhs m c) (t.val % 3 * 1408 + k.val) (t.val / 3 % 2 * 512 + j.val) := by
  rw [cell_in _ (by omega) (by omega)]
  unfold rhs
  blk_ext [iblk, (index_at t).2.1]

/-- What the last point of a block leaves. -/
theorem out_at (t : Fin cfg0.N) (ht : t.val % 3 = 2) (a : Fin 512) (b : Fin 512) {i : Fin 512} {j : Fin 1024} (hi : i.val = t.val / 3 / 2 * 512 + a.val)
    (hj : j.val = t.val / 3 % 2 * 512 + b.val) : (outsAt0 m c t.val t.isLt).1 (ix2 a b) = mul (lhs m c) (rhs m c) i j := by
  refine several 3 2 (by decide) (lhs m c) (rhs m c) (fun t i k => iblk m c 0 t (ix2 k i)) (fun t k j => iblk m c 1 t (ix2 k j)) (lhs_at m c) (rhs_at m c)
    (fun k h a b => (outsAt0 m c k h).2 (ix2 a b)) (fun k h a b => (outsAt0 m c k h).1 (ix2 a b))
    (fun t h a b => ?_) (fun t h h' a b => ?_) (fun t h a b => ?_) t ht a b hi hj
  · have e := congrArg Prod.snd (outsAt0_A m c t h (by omega))
    dsimp only at e ⊢
    rw [e]
    exact first
  · have e := congrArg Prod.snd (outsAt0_B m c t h h')
    dsimp only at e ⊢
    rw [e]
    exact next
  · have e := congrArg Prod.fst (outsAt0_C m c t (by omega) h)
    dsimp only at e ⊢
    rw [e]
    exact last

/-- The array the kernel leaves. -/
theorem final : (dats m 0 c).arrAt 2 cfg0.N = fun i : S512x1024.Idx => mul (lhs m c) (rhs m c) (i 0) (i 1) := by
  refine (dats m 0 c).arrAt_eq_of_covers 2 _ (by decide +kernel) fun t hf y => ?_
  blk_simp
  rw [after0_2]
  idx_vars y
  exact out_at m c t ((flush0_2 t).mp hf) y0 y1 (by blk_simp [(index_at t).2.2]) (by blk_simp [(index_at t).2.2])

/-- The reference's array. -/
theorem reference (x0 : (⟨S4224x512, .f32⟩ : BufTy).Contents (Elt Ideal)) (x1 : (⟨S4224x1024, .bf16⟩ : BufTy).Contents (Elt Ideal)) (a : Fin 512) (b : Fin 1024) :
    Reference11Ideal.Read.val_main_v6 (F := Ideal) x0 x1 (ix2 a b) = mul (fun i k => x0 (ix2 k i)) (fun k j => x1 (ix2 k j)) a b := by
  rw [Reference11Ideal.Read.val_main_v6_apply, Reference11Ideal.Read.val_main_v5_apply]
  refine (Reference11Ideal.Read.val_main_v4_apply x0 x1 _).trans (Finset.sum_congr rfl fun k _ => (mul_comm _ _).trans (congrArg₂ (· * ·) ?_ ?_))
  · exact congrArg x0 (by funext d; fin_cases d <;> rfl)
  · exact congrArg x1 (by funext d; fin_cases d <;> rfl)

theorem claim : algebraic_Kernel11Ideal_Reference11Ideal (hKernel11Ideal := facts) (hReference11Ideal := Reference11Ideal.Gen.facts) := by
  intro m g m' g' _ ha
  refine ⟨fun c => (dats m 0 c).arrAt 2 cfg0.N, Value.run_blocks m g, ?_⟩
  refine (θ_run Reference11Ideal.defs _ _).mono (fun r h c => ⟨(h c).1.trans ?_, (h c).2⟩) (Reference11Ideal.Value.run m' g')
  dsimp only
  rw [Reference11Ideal.Read.val_main_v6_eq, final, (ha c).1, (ha c).2, ← V_main_arg0 m c, ← V_main_arg1 m c]
  funext i
  idx_vars i
  exact reference _ _ i0 i1

theorem frame_reference : quiescent_Reference11Ideal (hReference11Ideal := Reference11Ideal.Gen.facts) := fun m ρ _ =>
  (θ_run Reference11Ideal.defs _ _).mono (fun r h => ⟨fun c => (h c).2, sem_eq_zero_of_no_sems (by decide) r.2⟩)
    (Reference11Ideal.Value.run (F := Ideal) m ρ)

end Cert.DwBranch
end
-- ==== Proof.DBranch.lean ====
module
public import proofs.«01_k».proof.Defs
public import proofs.«01_k».proof.Proof.Product
public import proofs.«01_k».proof.Proof.Gen.Kernel12Ideal.Value
public import proofs.«01_k».proof.Proof.Gen.Reference12Ideal.Read
@[expose] public section
set_option maxRecDepth 16384
noncomputable section
/-! The gradient of a branch's rows, `G Wᵀ`. -/
namespace Cert.DBranch
open Idealize.ShloMosaic Idealize.ShloMosaic.TcCoe Idealize.ShloMosaic.Tactic Idealize.SL.Sem
open Cert.Product Cert.Kernel12Ideal Cert.Kernel12Ideal.Gen

section body
variable {c : Dev nD} {i : grid0.Coords} {a0 : Memref sig .tc .vmem S1408x1024 .bf16} {h0 : a0.IsWhole} {a1 : Memref sig .tc .vmem S512x1024 .bf16} {h1 : a1.IsWhole}
  {a2 : Memref sig .tc .vmem S1408x512 .f32} {h2 : a2.IsWhole} {a3 : Memref sig .tc .vmem S1408x512 .f32} {h3 : a3.IsWhole}
  {x0 : Vec Ideal S1408x1024 .bf16} {x1 : Vec Ideal S512x1024 .bf16} {p : Fin 1408} {q : Fin 512}

theorem only {hc0 : cond0_0 i} {hc1 : cond0_1 i} : out0_A_2 (F := Ideal) c i a0 h0 a1 h1 a2 h2 a3 h3 hc0 hc1 x0 x1 (ix2 p q)
    = 0 + mul (fun i k => x0 (ix2 i k)) (fun k j => x1 (ix2 j k)) p q := by
  frame_out
  unfold_payloads
  unfold mul
  pointwise

end body

variable (m : (ℓ : Loc nD τ sig) → Buf (Elt Ideal) ℓ) (c : Dev nD)

/-- The two factors. -/
def lhs (i : Fin 4224) (k : Fin 1024) : EReal := V m c (Pipeline.arrRef spec0 0) (ix2 i k)
def rhs (k : Fin 1024) (j : Fin 512) : EReal := V m c (Pipeline.arrRef spec0 1) (ix2 j k)

theorem index_at : ∀ t : Fin cfg0.N, win0_0.index t = ![t.val, 0] ∧ win0_1.index t = ![0, 0]
    ∧ win0_2.index t = ![t.val, 0] :=
  (by decide +kernel : ∀ t : Fin grid0.N, win0_0.index t = ![t.val, 0] ∧ win0_1.index t = ![0, 0]
    ∧ win0_2.index t = ![t.val, 0])

theorem lhs_at (t : Fin cfg0.N) (i : Fin 1408) (k : Fin 1024) : iblk m c 0 t (ix2 i k) = cell (lhs m c) (t.val * 1408 + i.val) k.val := by
  have ht := lt_of_lt_of_eq t.isLt (show cfg0.N = 3 from N_0)
  rw [cell_in _ (by omega) (by omega)]
  unfold lhs
  blk_ext [iblk, (index_at t).1]

theorem rhs_at (t : Fin cfg0.N) (k : Fin 1024) (j : Fin 512) : iblk m c 1 t (ix2 j k) = cell (rhs m c) k.val (0 * 512 + j.val) := by
  rw [cell_in _ (by omega) (by omega)]
  unfold rhs
  blk_ext [iblk, (index_at t).2.1]

/-- The array the kernel leaves. -/
theorem final : (dats m 0 c).arrAt 2 cfg0.N = fun i : S4224x512.Idx => mul (lhs m c) (rhs m c) (i 0) (i 1) := by
  refine (dats m 0 c).arrAt_eq_of_covers 2 _ (by decide +kernel) fun t hf y => ?_
  blk_simp
  rw [after0_2]
  idx_vars y
  unfold outsAt0
  exact only.trans (single (lhs m c) (rhs m c) _ _ (lhs_at m c t) (rhs_at m c t) y0 y1 (by blk_simp [(index_at t).2.2]) (by blk_simp [(index_at t).2.2]))

/-- The reference's array. -/
theorem reference (x0 : (⟨S4224x1024, .bf16⟩ : BufTy).Contents (Elt Ideal)) (x1 : (⟨S512x1024, .bf16⟩ : BufTy).Contents (Elt Ideal)) (a : Fin 4224) (b : Fin 512) :
    Reference12Ideal.Read.val_main_v4 (F := Ideal) x0 x1 (ix2 a b) = mul (fun i k => x0 (ix2 i k)) (fun k j => x1 (ix2 j k)) a b := by
  refine (Reference12Ideal.Read.val_main_v4_apply x0 x1 _).trans (Finset.sum_congr rfl fun k _ => congrArg₂ (· * ·) ?_ ?_)
  · exact congrArg x0 (by funext d; fin_cases d <;> rfl)
  · exact congrArg x1 (by funext d; fin_cases d <;> rfl)

theorem claim : algebraic_Kernel12Ideal_Reference12Ideal (hKernel12Ideal := facts) (hReference12Ideal := Reference12Ideal.Gen.facts) := by
  intro m g m' g' _ ha
  refine ⟨fun c => (dats m 0 c).arrAt 2 cfg0.N, Value.run_blocks m g, ?_⟩
  refine (θ_run Reference12Ideal.defs _ _).mono (fun r h c => ⟨(h c).1.trans ?_, (h c).2⟩) (Reference12Ideal.Value.run m' g')
  dsimp only
  rw [Reference12Ideal.Read.val_main_v4_eq, final, (ha c).1, (ha c).2, ← V_main_arg0 m c, ← V_main_arg1 m c]
  funext i
  idx_vars i
  exact reference _ _ i0 i1

theorem frame_reference : quiescent_Reference12Ideal (hReference12Ideal := Reference12Ideal.Gen.facts) := fun m ρ _ =>
  (θ_run Reference12Ideal.defs _ _).mono (fun r h => ⟨fun c => (h c).2, sem_eq_zero_of_no_sems (by decide) r.2⟩)
    (Reference12Ideal.Value.run (F := Ideal) m ρ)

end Cert.DBranch
end
-- ==== Proof.DwBranchScan.lean ====
module
public import proofs.«01_k».proof.Defs
public import proofs.«01_k».proof.Proof.Product
public import proofs.«01_k».proof.Proof.Gen.Kernel13Ideal.Value
public import proofs.«01_k».proof.Proof.Gen.Reference13Ideal.Read
@[expose] public section
set_option maxRecDepth 16384
noncomputable section
/-! The gradient of the recurrent branch's projection, `Oᵀ G`. -/
namespace Cert.DwBranchScan
open Idealize.ShloMosaic Idealize.ShloMosaic.TcCoe Idealize.ShloMosaic.Tactic Idealize.SL.Sem
open Cert.Product Cert.Kernel13Ideal Cert.Kernel13Ideal.Gen

section body
variable {c : Dev nD} {i : grid0.Coords} {a0 : Memref sig .tc .vmem S1408x512 .bf16} {h0 : a0.IsWhole} {a1 : Memref sig .tc .vmem S1408x512 .bf16} {h1 : a1.IsWhole}
  {a2 : Memref sig .tc .vmem S512x512 .bf16} {h2 : a2.IsWhole} {a3 : Memref sig .tc .vmem S512x512 .f32} {h3 : a3.IsWhole}
  {x0 : Vec Ideal S1408x512 .bf16} {x1 : Vec Ideal S1408x512 .bf16} {s : Vec Ideal S512x512 .f32} {p : Fin 512} {q : Fin 512}

theorem first {hc0 : cond0_0 i} {hc1 : ¬cond0_1 i} : sout0_A_0 (F := Ideal) c i a0 h0 a1 h1 a2 h2 a3 h3 hc0 hc1 x0 x1 (ix2 p q)
    = 0 + mul (fun i k => x0 (ix2 k i)) (fun k j => x1 (ix2 k j)) p q := by
  frame_out
  unfold_payloads
  unfold mul
  pointwise

theorem next {hc0 : ¬cond0_0 i} {hc1 : ¬cond0_1 i} : sout0_B_0 (F := Ideal) c i a0 h0 a1 h1 a2 h2 a3 h3 hc0 hc1 x0 x1 s (ix2 p q)
    = s (ix2 p q) + mul (fun i k => x0 (ix2 k i)) (fun k j => x1 (ix2 k j)) p q := by
  frame_out
  unfold_payloads
  unfold mul
  pointwise

theorem last {hc0 : ¬cond0_0 i} {hc1 : cond0_1 i} : out0_C_2 (F := Ideal) c i a0 h0 a1 h1 a2 h2 a3 h3 hc0 hc1 x0 x1 s (ix2 p q)
    = s (ix2 p q) + mul (fun i k => x0 (ix2 k i)) (fun k j => x1 (ix2 k j)) p q := by
  frame_out
  unfold_payloads
  unfold mul
  pointwise

end body

variable (m : (ℓ : Loc nD τ sig) → Buf (Elt Ideal) ℓ) (c : Dev nD)

/-- The two factors. -/
def lhs (i : Fin 512) (k : Fin 4224) : EReal := V m c (Pipeline.arrRef spec0 0) (ix2 k i)
def rhs (k : Fin 4224) (j : Fin 1024) : EReal := V m c (Pipeline.arrRef spec0 1) (ix2 k j)

theorem index_at : ∀ t : Fin cfg0.N, win0_0.index t = ![t.val % 3, t.val / 3 / 2] ∧ win0_1.index t = ![t.val % 3, t.val / 3 % 2]
    ∧ win0_2.index t = ![t.val / 3 / 2, t.val / 3 % 2] :=
  (by decide +kernel : ∀ t : Fin grid0.N, win0_0.index t = ![t.val % 3, t.val / 3 / 2] ∧ win0_1.index t = ![t.val % 3, t.val / 3 % 2]
    ∧ win0_2.index t = ![t.val / 3 / 2, t.val / 3 % 2])

theorem lhs_at (t : Fin cfg0.N) (i : Fin 512) (k : Fin 1408) : iblk m c 0 t (ix2 k i) = cell (lhs m c) (t.val / 3 / 2 * 512 + i.val) (t.val % 3 * 1408 + k.val) := by
  have ht := lt_of_lt_of_eq t.isLt (show cfg0.N = 6 from N_0)
  rw [cell_in _ (by omega) (by omega)]
  unfold lhs
  blk_ext [iblk, (index_at t).1]

theorem rhs_at (t : Fin cfg0.N) (k : Fin 1408) (j : Fin 512) : iblk m c 1 t (ix2 k j) = cell (rhs m c) (t.val % 3 * 1408 + k.val) (t.val / 3 % 2 * 512 + j.val) := by
  rw [cell_in _ (by omega) (by omega)]
  unfold rhs
  blk_ext [iblk, (index_at t).2.1]

/-- What the last point of a block leaves. -/
theorem out_at (t : Fin cfg0.N) (ht : t.val % 3 = 2) (a : Fin 512) (b : Fin 512) {i : Fin 512} {j : Fin 1024} (hi : i.val = t.val / 3 / 2 * 512 + a.val)
    (hj : j.val = t.val / 3 % 2 * 512 + b.val) : (outsAt0 m c t.val t.isLt).1 (ix2 a b) = mul (lhs m c) (rhs m c) i j := by
  refine several 3 2 (by decide) (lhs m c) (rhs m c) (fun t i k => iblk m c 0 t (ix2 k i)) (fun t k j => iblk m c 1 t (ix2 k j)) (lhs_at m c) (rhs_at m c)
    (fun k h a b => (outsAt0 m c k h).2 (ix2 a b)) (fun k h a b => (outsAt0 m c k h).1 (ix2 a b))
    (fun t h a b => ?_) (fun t h h' a b => ?_) (fun t h a b => ?_) t ht a b hi hj
  · have e := congrArg Prod.snd (outsAt0_A m c t h (by omega))
    dsimp only at e ⊢
    rw [e]
    exact first
  · have e := congrArg Prod.snd (outsAt0_B m c t h h')
    dsimp only at e ⊢
    rw [e]
    exact next
  · have e := congrArg Prod.fst (outsAt0_C m c t (by omega) h)
    dsimp only at e ⊢
    rw [e]
    exact last

/-- The array the kernel leaves. -/
theorem final : (dats m 0 c).arrAt 2 cfg0.N = fun i : S512x1024.Idx => mul (lhs m c) (rhs m c) (i 0) (i 1) := by
  refine (dats m 0 c).arrAt_eq_of_covers 2 _ (by decide +kernel) fun t hf y => ?_
  blk_simp
  rw [after0_2]
  idx_vars y
  exact out_at m c t ((flush0_2 t).mp hf) y0 y1 (by blk_simp [(index_at t).2.2]) (by blk_simp [(index_at t).2.2])

/-- The reference's array. -/
theorem reference (x0 : (⟨S4224x512, .bf16⟩ : BufTy).Contents (Elt Ideal)) (x1 : (⟨S4224x1024, .bf16⟩ : BufTy).Contents (Elt Ideal)) (a : Fin 512) (b : Fin 1024) :
    Reference13Ideal.Read.val_main_v7 (F := Ideal) x0 x1 (ix2 a b) = mul (fun i k => x0 (ix2 k i)) (fun k j => x1 (ix2 k j)) a b := by
  rw [Reference13Ideal.Read.val_main_v7_apply, Reference13Ideal.Read.val_main_v6_apply]
  refine (Reference13Ideal.Read.val_main_v5_apply x0 x1 _).trans (Finset.sum_congr rfl fun k _ => (mul_comm _ _).trans (congrArg₂ (· * ·) ?_ ?_))
  · exact congrArg x0 (by funext d; fin_cases d <;> rfl)
  · exact congrArg x1 (by funext d; fin_cases d <;> rfl)

theorem claim : algebraic_Kernel13Ideal_Reference13Ideal (hKernel13Ideal := facts) (hReference13Ideal := Reference13Ideal.Gen.facts) := by
  intro m g m' g' _ ha
  refine ⟨fun c => (dats m 0 c).arrAt 2 cfg0.N, Value.run_blocks m g, ?_⟩
  refine (θ_run Reference13Ideal.defs _ _).mono (fun r h c => ⟨(h c).1.trans ?_, (h c).2⟩) (Reference13Ideal.Value.run m' g')
  dsimp only
  rw [Reference13Ideal.Read.val_main_v7_eq, final, (ha c).1, (ha c).2, ← V_main_arg0 m c, ← V_main_arg1 m c]
  funext i
  idx_vars i
  exact reference _ _ i0 i1

theorem frame_reference : quiescent_Reference13Ideal (hReference13Ideal := Reference13Ideal.Gen.facts) := fun m ρ _ =>
  (θ_run Reference13Ideal.defs _ _).mono (fun r h => ⟨fun c => (h c).2, sem_eq_zero_of_no_sems (by decide) r.2⟩)
    (Reference13Ideal.Value.run (F := Ideal) m ρ)

end Cert.DwBranchScan
end
-- ==== Proof.DwGates.lean ====
module
public import proofs.«01_k».proof.Defs
public import proofs.«01_k».proof.Proof.Product
public import proofs.«01_k».proof.Proof.Gen.Kernel14Ideal.Value
public import proofs.«01_k».proof.Proof.Gen.Reference14Ideal.Read
@[expose] public section
set_option maxRecDepth 16384
noncomputable section
/-! The gradient of the recurrent gates' weights, `Xᵀ G`. -/
namespace Cert.DwGates
open Idealize.ShloMosaic Idealize.ShloMosaic.TcCoe Idealize.ShloMosaic.Tactic Idealize.SL.Sem
open Cert.Product Cert.Kernel14Ideal Cert.Kernel14Ideal.Gen

section body
variable {c : Dev nD} {i : grid0.Coords} {a0 : Memref sig .tc .vmem S1408x512 .f32} {h0 : a0.IsWhole} {a1 : Memref sig .tc .vmem S1408x512 .bf16} {h1 : a1.IsWhole}
  {a2 : Memref sig .tc .vmem S512x512 .f32} {h2 : a2.IsWhole} {a3 : Memref sig .tc .vmem S512x512 .f32} {h3 : a3.IsWhole}
  {x0 : Vec Ideal S1408x512 .f32} {x1 : Vec Ideal S1408x512 .bf16} {s : Vec Ideal S512x512 .f32} {p : Fin 512} {q : Fin 512}

theorem first {hc0 : cond0_0 i} {hc1 : ¬cond0_1 i} : sout0_A_0 (F := Ideal) c i a0 h0 a1 h1 a2 h2 a3 h3 hc0 hc1 x0 x1 (ix2 p q)
    = 0 + mul (fun i k => x0 (ix2 k i)) (fun k j => x1 (ix2 k j)) p q := by
  frame_out
  unfold_payloads
  unfold mul
  pointwise

theorem next {hc0 : ¬cond0_0 i} {hc1 : ¬cond0_1 i} : sout0_B_0 (F := Ideal) c i a0 h0 a1 h1 a2 h2 a3 h3 hc0 hc1 x0 x1 s (ix2 p q)
    = s (ix2 p q) + mul (fun i k => x0 (ix2 k i)) (fun k j => x1 (ix2 k j)) p q := by
  frame_out
  unfold_payloads
  unfold mul
  pointwise

theorem last {hc0 : ¬cond0_0 i} {hc1 : cond0_1 i} : out0_C_2 (F := Ideal) c i a0 h0 a1 h1 a2 h2 a3 h3 hc0 hc1 x0 x1 s (ix2 p q)
    = s (ix2 p q) + mul (fun i k => x0 (ix2 k i)) (fun k j => x1 (ix2 k j)) p q := by
  frame_out
  unfold_payloads
  unfold mul
  pointwise

end body

variable (m : (ℓ : Loc nD τ sig) → Buf (Elt Ideal) ℓ) (c : Dev nD)

/-- The two factors. -/
def lhs (i : Fin 512) (k : Fin 4224) : EReal := V m c (Pipeline.arrRef spec0 0) (ix2 k i)
def rhs (k : Fin 4224) (j : Fin 1024) : EReal := V m c (Pipeline.arrRef spec0 1) (ix2 k j)

theorem index_at : ∀ t : Fin cfg0.N, win0_0.index t = ![t.val % 3, t.val / 3 / 2] ∧ win0_1.index t = ![t.val % 3, t.val / 3 % 2]
    ∧ win0_2.index t = ![t.val / 3 / 2, t.val / 3 % 2] :=
  (by decide +kernel : ∀ t : Fin grid0.N, win0_0.index t = ![t.val % 3, t.val / 3 / 2] ∧ win0_1.index t = ![t.val % 3, t.val / 3 % 2]
    ∧ win0_2.index t = ![t.val / 3 / 2, t.val / 3 % 2])

theorem lhs_at (t : Fin cfg0.N) (i : Fin 512) (k : Fin 1408) : iblk m c 0 t (ix2 k i) = cell (lhs m c) (t.val / 3 / 2 * 512 + i.val) (t.val % 3 * 1408 + k.val) := by
  have ht := lt_of_lt_of_eq t.isLt (show cfg0.N = 6 from N_0)
  rw [cell_in _ (by omega) (by omega)]
  unfold lhs
  blk_ext [iblk, (index_at t).1]

theorem rhs_at (t : Fin cfg0.N) (k : Fin 1408) (j : Fin 512) : iblk m c 1 t (ix2 k j) = cell (rhs m c) (t.val % 3 * 1408 + k.val) (t.val / 3 % 2 * 512 + j.val) := by
  rw [cell_in _ (by omega) (by omega)]
  unfold rhs
  blk_ext [iblk, (index_at t).2.1]

/-- What the last point of a block leaves. -/
theorem out_at (t : Fin cfg0.N) (ht : t.val % 3 = 2) (a : Fin 512) (b : Fin 512) {i : Fin 512} {j : Fin 1024} (hi : i.val = t.val / 3 / 2 * 512 + a.val)
    (hj : j.val = t.val / 3 % 2 * 512 + b.val) : (outsAt0 m c t.val t.isLt).1 (ix2 a b) = mul (lhs m c) (rhs m c) i j := by
  refine several 3 2 (by decide) (lhs m c) (rhs m c) (fun t i k => iblk m c 0 t (ix2 k i)) (fun t k j => iblk m c 1 t (ix2 k j)) (lhs_at m c) (rhs_at m c)
    (fun k h a b => (outsAt0 m c k h).2 (ix2 a b)) (fun k h a b => (outsAt0 m c k h).1 (ix2 a b))
    (fun t h a b => ?_) (fun t h h' a b => ?_) (fun t h a b => ?_) t ht a b hi hj
  · have e := congrArg Prod.snd (outsAt0_A m c t h (by omega))
    dsimp only at e ⊢
    rw [e]
    exact first
  · have e := congrArg Prod.snd (outsAt0_B m c t h h')
    dsimp only at e ⊢
    rw [e]
    exact next
  · have e := congrArg Prod.fst (outsAt0_C m c t (by omega) h)
    dsimp only at e ⊢
    rw [e]
    exact last

/-- The array the kernel leaves. -/
theorem final : (dats m 0 c).arrAt 2 cfg0.N = fun i : S512x1024.Idx => mul (lhs m c) (rhs m c) (i 0) (i 1) := by
  refine (dats m 0 c).arrAt_eq_of_covers 2 _ (by decide +kernel) fun t hf y => ?_
  blk_simp
  rw [after0_2]
  idx_vars y
  exact out_at m c t ((flush0_2 t).mp hf) y0 y1 (by blk_simp [(index_at t).2.2]) (by blk_simp [(index_at t).2.2])

/-- The reference's array. -/
theorem reference (x0 : (⟨S4224x512, .f32⟩ : BufTy).Contents (Elt Ideal)) (x1 : (⟨S4224x1024, .bf16⟩ : BufTy).Contents (Elt Ideal)) (a : Fin 512) (b : Fin 1024) :
    Reference14Ideal.Read.val_main_v4 (F := Ideal) x0 x1 (ix2 a b) = mul (fun i k => x0 (ix2 k i)) (fun k j => x1 (ix2 k j)) a b := by
  rw [Reference14Ideal.Read.val_main_v4_apply]
  refine (Reference14Ideal.Read.val_main_v3_apply x0 x1 _).trans (Finset.sum_congr rfl fun k _ => (mul_comm _ _).trans (congrArg₂ (· * ·) ?_ ?_))
  · exact congrArg x0 (by funext d; fin_cases d <;> rfl)
  · exact congrArg x1 (by funext d; fin_cases d <;> rfl)

theorem claim : algebraic_Kernel14Ideal_Reference14Ideal (hKernel14Ideal := facts) (hReference14Ideal := Reference14Ideal.Gen.facts) := by
  intro m g m' g' _ ha
  refine ⟨fun c => (dats m 0 c).arrAt 2 cfg0.N, Value.run_blocks m g, ?_⟩
  refine (θ_run Reference14Ideal.defs _ _).mono (fun r h c => ⟨(h c).1.trans ?_, (h c).2⟩) (Reference14Ideal.Value.run m' g')
  dsimp only
  rw [Reference14Ideal.Read.val_main_v4_eq, final, (ha c).1, (ha c).2, ← V_main_arg0 m c, ← V_main_arg1 m c]
  funext i
  idx_vars i
  exact reference _ _ i0 i1

theorem frame_reference : quiescent_Reference14Ideal (hReference14Ideal := Reference14Ideal.Gen.facts) := fun m ρ _ =>
  (θ_run Reference14Ideal.defs _ _).mono (fun r h => ⟨fun c => (h c).2, sem_eq_zero_of_no_sems (by decide) r.2⟩)
    (Reference14Ideal.Value.run (F := Ideal) m ρ)

end Cert.DwGates
end
-- ==== Proof.DConv.lean ====
module
public import proofs.«01_k».proof.Defs
public import proofs.«01_k».proof.Proof.Product
public import proofs.«01_k».proof.Proof.Gen.Kernel15Ideal.Value
public import proofs.«01_k».proof.Proof.Gen.Reference15Ideal.Read
@[expose] public section
set_option maxRecDepth 16384
noncomputable section
/-! The gradient of the recurrent gates' rows added to the direct one, `G Wᵀ + D`. -/
namespace Cert.DConv
open Idealize.ShloMosaic Idealize.ShloMosaic.TcCoe Idealize.ShloMosaic.Tactic Idealize.SL.Sem
open Cert.Product Cert.Kernel15Ideal Cert.Kernel15Ideal.Gen

section body
variable {c : Dev nD} {i : grid0.Coords} {a0 : Memref sig .tc .vmem S1408x1024 .bf16} {h0 : a0.IsWhole} {a1 : Memref sig .tc .vmem S512x1024 .f32} {h1 : a1.IsWhole}
  {ar : Memref sig .tc .vmem S1408x512 .f32} {hr : ar.IsWhole} {a2 : Memref sig .tc .vmem S1408x512 .f32} {h2 : a2.IsWhole} {a3 : Memref sig .tc .vmem S1408x512 .f32} {h3 : a3.IsWhole}
  {x0 : Vec Ideal S1408x1024 .bf16} {x1 : Vec Ideal S512x1024 .f32} {r : Vec Ideal S1408x512 .f32} {p : Fin 1408} {q : Fin 512}

theorem only {hc0 : cond0_0 i} {hc1 : cond0_1 i} : out0_A_3 (F := Ideal) c i a0 h0 a1 h1 ar hr a2 h2 a3 h3 hc0 hc1 x0 x1 r (ix2 p q)
    = (0 + mul (fun i k => x0 (ix2 i k)) (fun k j => x1 (ix2 j k)) p q) + r (ix2 p q) := by
  frame_out
  unfold_payloads
  unfold mul
  pointwise

end body

variable (m : (ℓ : Loc nD τ sig) → Buf (Elt Ideal) ℓ) (c : Dev nD)

/-- The two factors, and what is added. -/
def lhs (i : Fin 4224) (k : Fin 1024) : EReal := V m c (Pipeline.arrRef spec0 0) (ix2 i k)
def rhs (k : Fin 1024) (j : Fin 512) : EReal := V m c (Pipeline.arrRef spec0 1) (ix2 j k)
def base (i : Fin 4224) (j : Fin 512) : EReal := V m c (Pipeline.arrRef spec0 2) (ix2 i j)

theorem index_at : ∀ t : Fin cfg0.N, win0_0.index t = ![t.val, 0] ∧ win0_1.index t = ![0, 0]
    ∧ win0_2.index t = ![t.val, 0] ∧ win0_3.index t = ![t.val, 0] :=
  (by decide +kernel : ∀ t : Fin grid0.N, win0_0.index t = ![t.val, 0] ∧ win0_1.index t = ![0, 0]
    ∧ win0_2.index t = ![t.val, 0] ∧ win0_3.index t = ![t.val, 0])

theorem lhs_at (t : Fin cfg0.N) (i : Fin 1408) (k : Fin 1024) : iblk m c 0 t (ix2 i k) = cell (lhs m c) (t.val * 1408 + i.val) k.val := by
  have ht := lt_of_lt_of_eq t.isLt (show cfg0.N = 3 from N_0)
  rw [cell_in _ (by omega) (by omega)]
  unfold lhs
  blk_ext [iblk, (index_at t).1]

theorem rhs_at (t : Fin cfg0.N) (k : Fin 1024) (j : Fin 512) : iblk m c 1 t (ix2 j k) = cell (rhs m c) k.val (0 * 512 + j.val) := by
  rw [cell_in _ (by omega) (by omega)]
  unfold rhs
  blk_ext [iblk, (index_at t).2.1]

theorem base_at (t : Fin cfg0.N) (i : Fin 1408) (j : Fin 512) : iblk m c 2 t (ix2 i j) = cell (base m c) (t.val * 1408 + i.val) (0 * 512 + j.val) := by
  have ht := lt_of_lt_of_eq t.isLt (show cfg0.N = 3 from N_0)
  rw [cell_in _ (by omega) (by omega)]
  unfold base
  blk_ext [iblk, (index_at t).2.2.1]

/-- The array the kernel leaves. -/
theorem final : (dats m 0 c).arrAt 3 cfg0.N = fun i : S4224x512.Idx => mul (lhs m c) (rhs m c) (i 0) (i 1) + base m c (i 0) (i 1) := by
  refine (dats m 0 c).arrAt_eq_of_covers 3 _ (by decide +kernel) fun t hf y => ?_
  blk_simp
  rw [after0_3]
  idx_vars y
  unfold outsAt0
  exact only.trans (congrArg₂ (· + ·) (single (lhs m c) (rhs m c) _ _ (lhs_at m c t) (rhs_at m c t) y0 y1 (by blk_simp [(index_at t).2.2.2]) (by blk_simp [(index_at t).2.2.2]))
    ((base_at m c t y0 y1).trans (cell_at _ (by blk_simp [(index_at t).2.2.2]) (by blk_simp [(index_at t).2.2.2]))))

/-- The reference's array. -/
theorem reference (x0 : (⟨S4224x1024, .bf16⟩ : BufTy).Contents (Elt Ideal)) (x1 : (⟨S512x1024, .f32⟩ : BufTy).Contents (Elt Ideal)) (x2 : (⟨S4224x512, .f32⟩ : BufTy).Contents (Elt Ideal)) (a : Fin 4224) (b : Fin 512) :
    Reference15Ideal.Read.val_main_v4 (F := Ideal) x0 x1 x2 (ix2 a b) = mul (fun i k => x0 (ix2 i k)) (fun k j => x1 (ix2 j k)) a b + x2 (ix2 a b) := by
  rw [Reference15Ideal.Read.val_main_v4_apply]
  refine (add_comm _ _).trans (congrArg (· + x2 (ix2 a b)) ?_)
  refine (Reference15Ideal.Read.val_main_v3_apply x0 x1 _).trans (Finset.sum_congr rfl fun k _ => congrArg₂ (· * ·) ?_ ?_)
  · exact congrArg x0 (by funext d; fin_cases d <;> rfl)
  · exact congrArg x1 (by funext d; fin_cases d <;> rfl)

theorem claim : algebraic_Kernel15Ideal_Reference15Ideal (hKernel15Ideal := facts) (hReference15Ideal := Reference15Ideal.Gen.facts) := by
  intro m g m' g' _ ha
  refine ⟨fun c => (dats m 0 c).arrAt 3 cfg0.N, Value.run_blocks m g, ?_⟩
  refine (θ_run Reference15Ideal.defs _ _).mono (fun r h c => ⟨(h c).1.trans ?_, (h c).2⟩) (Reference15Ideal.Value.run m' g')
  dsimp only
  rw [Reference15Ideal.Read.val_main_v4_eq, final, (ha c).1, (ha c).2.1, (ha c).2.2, ← V_main_arg0 m c, ← V_main_arg1 m c, ← V_main_arg2 m c]
  funext i
  idx_vars i
  exact reference _ _ _ i0 i1

theorem frame_reference : quiescent_Reference15Ideal (hReference15Ideal := Reference15Ideal.Gen.facts) := fun m ρ _ =>
  (θ_run Reference15Ideal.defs _ _).mono (fun r h => ⟨fun c => (h c).2, sem_eq_zero_of_no_sems (by decide) r.2⟩)
    (Reference15Ideal.Value.run (F := Ideal) m ρ)

end Cert.DConv
end
-- ==== Proof.InProj.lean ====
module
public import proofs.«01_k».proof.Defs
public import proofs.«01_k».proof.Proof.Product
public import proofs.«01_k».proof.Proof.Gen.Kernel16Ideal.Value
public import proofs.«01_k».proof.Proof.Gen.Reference16Ideal.Read
@[expose] public section
set_option maxRecDepth 16384
noncomputable section
/-! The input projection, `U W`. -/
namespace Cert.InProj
open Idealize.ShloMosaic Idealize.ShloMosaic.TcCoe Idealize.ShloMosaic.Tactic Idealize.SL.Sem
open Cert.Product Cert.Kernel16Ideal Cert.Kernel16Ideal.Gen

section body
variable {c : Dev nD} {i : grid0.Coords} {a0 : Memref sig .tc .vmem S1408x1024 .bf16} {h0 : a0.IsWhole} {a1 : Memref sig .tc .vmem S1024x384 .bf16} {h1 : a1.IsWhole}
  {a2 : Memref sig .tc .vmem S1408x384 .f32} {h2 : a2.IsWhole} {a3 : Memref sig .tc .vmem S1408x384 .f32} {h3 : a3.IsWhole}
  {x0 : Vec Ideal S1408x1024 .bf16} {x1 : Vec Ideal S1024x384 .bf16} {p : Fin 1408} {q : Fin 384}

theorem only {hc0 : cond0_0 i} {hc1 : cond0_1 i} : out0_A_2 (F := Ideal) c i a0 h0 a1 h1 a2 h2 a3 h3 hc0 hc1 x0 x1 (ix2 p q)
    = 0 + mul (fun i k => x0 (ix2 i k)) (fun k j => x1 (ix2 k j)) p q := by
  frame_out
  unfold_payloads
  unfold mul
  pointwise

end body

variable (m : (ℓ : Loc nD τ sig) → Buf (Elt Ideal) ℓ) (c : Dev nD)

/-- The two factors. -/
def lhs (i : Fin 4224) (k : Fin 1024) : EReal := V m c (Pipeline.arrRef spec0 0) (ix2 i k)
def rhs (k : Fin 1024) (j : Fin 6528) : EReal := V m c (Pipeline.arrRef spec0 1) (ix2 k j)

theorem index_at : ∀ t : Fin cfg0.N, win0_0.index t = ![t.val / 17, 0] ∧ win0_1.index t = ![0, t.val % 17]
    ∧ win0_2.index t = ![t.val / 17, t.val % 17] :=
  (by decide +kernel : ∀ t : Fin grid0.N, win0_0.index t = ![t.val / 17, 0] ∧ win0_1.index t = ![0, t.val % 17]
    ∧ win0_2.index t = ![t.val / 17, t.val % 17])

theorem lhs_at (t : Fin cfg0.N) (i : Fin 1408) (k : Fin 1024) : iblk m c 0 t (ix2 i k) = cell (lhs m c) (t.val / 17 * 1408 + i.val) k.val := by
  have ht := lt_of_lt_of_eq t.isLt (show cfg0.N = 51 from N_0)
  rw [cell_in _ (by omega) (by omega)]
  unfold lhs
  blk_ext [iblk, (index_at t).1]

theorem rhs_at (t : Fin cfg0.N) (k : Fin 1024) (j : Fin 384) : iblk m c 1 t (ix2 k j) = cell (rhs m c) k.val (t.val % 17 * 384 + j.val) := by
  rw [cell_in _ (by omega) (by omega)]
  unfold rhs
  blk_ext [iblk, (index_at t).2.1]

/-- The array the kernel leaves. -/
theorem final : (dats m 0 c).arrAt 2 cfg0.N = fun i : S4224x6528.Idx => mul (lhs m c) (rhs m c) (i 0) (i 1) := by
  refine (dats m 0 c).arrAt_eq_of_covers 2 _ (by decide +kernel) fun t hf y => ?_
  blk_simp
  rw [after0_2]
  idx_vars y
  unfold outsAt0
  exact only.trans (single (lhs m c) (rhs m c) _ _ (lhs_at m c t) (rhs_at m c t) y0 y1 (by blk_simp [(index_at t).2.2]) (by blk_simp [(index_at t).2.2]))

/-- The reference's array. -/
theorem reference (x0 : (⟨S4224x1024, .bf16⟩ : BufTy).Contents (Elt Ideal)) (x1 : (⟨S1024x6528, .bf16⟩ : BufTy).Contents (Elt Ideal)) (a : Fin 4224) (b : Fin 6528) :
    Reference16Ideal.Read.val_main_v2 (F := Ideal) x0 x1 (ix2 a b) = mul (fun i k => x0 (ix2 i k)) (fun k j => x1 (ix2 k j)) a b := by
  refine (Reference16Ideal.Read.val_main_v2_apply x0 x1 _).trans (Finset.sum_congr rfl fun k _ => congrArg₂ (· * ·) ?_ ?_)
  · exact congrArg x0 (by funext d; fin_cases d <;> rfl)
  · exact congrArg x1 (by funext d; fin_cases d <;> rfl)

theorem claim : algebraic_Kernel16Ideal_Reference16Ideal (hKernel16Ideal := facts) (hReference16Ideal := Reference16Ideal.Gen.facts) := by
  intro m g m' g' _ ha
  refine ⟨fun c => (dats m 0 c).arrAt 2 cfg0.N, Value.run_blocks m g, ?_⟩
  refine (θ_run Reference16Ideal.defs _ _).mono (fun r h c => ⟨(h c).1.trans ?_, (h c).2⟩) (Reference16Ideal.Value.run m' g')
  dsimp only
  rw [Reference16Ideal.Read.val_main_v2_eq, final, (ha c).1, (ha c).2, ← V_main_arg0 m c, ← V_main_arg1 m c]
  funext i
  idx_vars i
  exact reference _ _ i0 i1

theorem frame_reference : quiescent_Reference16Ideal (hReference16Ideal := Reference16Ideal.Gen.facts) := fun m ρ _ =>
  (θ_run Reference16Ideal.defs _ _).mono (fun r h => ⟨fun c => (h c).2, sem_eq_zero_of_no_sems (by decide) r.2⟩)
    (Reference16Ideal.Value.run (F := Ideal) m ρ)

end Cert.InProj
end
-- ==== Proof.Gates.lean ====
module
public import proofs.«01_k».proof.Defs
public import proofs.«01_k».proof.Proof.Product
public import proofs.«01_k».proof.Proof.Gen.Kernel17Ideal.Value
public import proofs.«01_k».proof.Proof.Gen.Reference17Ideal.Read
@[expose] public section
set_option maxRecDepth 16384
noncomputable section
/-! The recurrent gates, `X W`. -/
namespace Cert.Gates
open Idealize.ShloMosaic Idealize.ShloMosaic.TcCoe Idealize.ShloMosaic.Tactic Idealize.SL.Sem
open Cert.Product Cert.Kernel17Ideal Cert.Kernel17Ideal.Gen

section body
variable {c : Dev nD} {i : grid0.Coords} {a0 : Memref sig .tc .vmem S1408x512 .f32} {h0 : a0.IsWhole} {a1 : Memref sig .tc .vmem S512x512 .f32} {h1 : a1.IsWhole}
  {a2 : Memref sig .tc .vmem S1408x512 .f32} {h2 : a2.IsWhole} {a3 : Memref sig .tc .vmem S1408x512 .f32} {h3 : a3.IsWhole}
  {x0 : Vec Ideal S1408x512 .f32} {x1 : Vec Ideal S512x512 .f32} {p : Fin 1408} {q : Fin 512}

theorem only {hc0 : cond0_0 i} {hc1 : cond0_1 i} : out0_A_2 (F := Ideal) c i a0 h0 a1 h1 a2 h2 a3 h3 hc0 hc1 x0 x1 (ix2 p q)
    = 0 + mul (fun i k => x0 (ix2 i k)) (fun k j => x1 (ix2 k j)) p q := by
  frame_out
  unfold_payloads
  unfold mul
  pointwise

end body

variable (m : (ℓ : Loc nD τ sig) → Buf (Elt Ideal) ℓ) (c : Dev nD)

/-- The two factors. -/
def lhs (i : Fin 4224) (k : Fin 512) : EReal := V m c (Pipeline.arrRef spec0 0) (ix2 i k)
def rhs (k : Fin 512) (j : Fin 1024) : EReal := V m c (Pipeline.arrRef spec0 1) (ix2 k j)

theorem index_at : ∀ t : Fin cfg0.N, win0_0.index t = ![t.val / 2, 0] ∧ win0_1.index t = ![0, t.val % 2]
    ∧ win0_2.index t = ![t.val / 2, t.val % 2] :=
  (by decide +kernel : ∀ t : Fin grid0.N, win0_0.index t = ![t.val / 2, 0] ∧ win0_1.index t = ![0, t.val % 2]
    ∧ win0_2.index t = ![t.val / 2, t.val % 2])

theorem lhs_at (t : Fin cfg0.N) (i : Fin 1408) (k : Fin 512) : iblk m c 0 t (ix2 i k) = cell (lhs m c) (t.val / 2 * 1408 + i.val) k.val := by
  have ht := lt_of_lt_of_eq t.isLt (show cfg0.N = 6 from N_0)
  rw [cell_in _ (by omega) (by omega)]
  unfold lhs
  blk_ext [iblk, (index_at t).1]

theorem rhs_at (t : Fin cfg0.N) (k : Fin 512) (j : Fin 512) : iblk m c 1 t (ix2 k j) = cell (rhs m c) k.val (t.val % 2 * 512 + j.val) := by
  rw [cell_in _ (by omega) (by omega)]
  unfold rhs
  blk_ext [iblk, (index_at t).2.1]

/-- The array the kernel leaves. -/
theorem final : (dats m 0 c).arrAt 2 cfg0.N = fun i : S4224x1024.Idx => mul (lhs m c) (rhs m c) (i 0) (i 1) := by
  refine (dats m 0 c).arrAt_eq_of_covers 2 _ (by decide +kernel) fun t hf y => ?_
  blk_simp
  rw [after0_2]
  idx_vars y
  unfold outsAt0
  exact only.trans (single (lhs m c) (rhs m c) _ _ (lhs_at m c t) (rhs_at m c t) y0 y1 (by blk_simp [(index_at t).2.2]) (by blk_simp [(index_at t).2.2]))

/-- The reference's array. -/
theorem reference (x0 : (⟨S4224x512, .f32⟩ : BufTy).Contents (Elt Ideal)) (x1 : (⟨S512x1024, .f32⟩ : BufTy).Contents (Elt Ideal)) (a : Fin 4224) (b : Fin 1024) :
    Reference17Ideal.Read.val_main_v0 (F := Ideal) x0 x1 (ix2 a b) = mul (fun i k => x0 (ix2 i k)) (fun k j => x1 (ix2 k j)) a b := by
  refine (Reference17Ideal.Read.val_main_v0_apply x0 x1 _).trans (Finset.sum_congr rfl fun k _ => congrArg₂ (· * ·) ?_ ?_)
  · exact congrArg x0 (by funext d; fin_cases d <;> rfl)
  · exact congrArg x1 (by funext d; fin_cases d <;> rfl)

theorem claim : algebraic_Kernel17Ideal_Reference17Ideal (hKernel17Ideal := facts) (hReference17Ideal := Reference17Ideal.Gen.facts) := by
  intro m g m' g' _ ha
  refine ⟨fun c => (dats m 0 c).arrAt 2 cfg0.N, Value.run_blocks m g, ?_⟩
  refine (θ_run Reference17Ideal.defs _ _).mono (fun r h c => ⟨(h c).1.trans ?_, (h c).2⟩) (Reference17Ideal.Value.run m' g')
  dsimp only
  rw [Reference17Ideal.Read.val_main_v0_eq, final, (ha c).1, (ha c).2, ← V_main_arg0 m c, ← V_main_arg1 m c]
  funext i
  idx_vars i
  exact reference _ _ i0 i1

theorem frame_reference : quiescent_Reference17Ideal (hReference17Ideal := Reference17Ideal.Gen.facts) := fun m ρ _ =>
  (θ_run Reference17Ideal.defs _ _).mono (fun r h => ⟨fun c => (h c).2, sem_eq_zero_of_no_sems (by decide) r.2⟩)
    (Reference17Ideal.Value.run (F := Ideal) m ρ)

end Cert.Gates
end
-- ==== Proof.Branch.lean ====
module
public import proofs.«01_k».proof.Defs
public import proofs.«01_k».proof.Proof.Product
public import proofs.«01_k».proof.Proof.Gen.Kernel18Ideal.Value
public import proofs.«01_k».proof.Proof.Gen.Reference18Ideal.Read
@[expose] public section
set_option maxRecDepth 16384
noncomputable section
/-! A branch's projection, `O W`. -/
namespace Cert.Branch
open Idealize.ShloMosaic Idealize.ShloMosaic.TcCoe Idealize.ShloMosaic.Tactic Idealize.SL.Sem
open Cert.Product Cert.Kernel18Ideal Cert.Kernel18Ideal.Gen

section body
variable {c : Dev nD} {i : grid0.Coords} {a0 : Memref sig .tc .vmem S1408x512 .f32} {h0 : a0.IsWhole} {a1 : Memref sig .tc .vmem S512x512 .bf16} {h1 : a1.IsWhole}
  {a2 : Memref sig .tc .vmem S1408x512 .f32} {h2 : a2.IsWhole} {a3 : Memref sig .tc .vmem S1408x512 .f32} {h3 : a3.IsWhole}
  {x0 : Vec Ideal S1408x512 .f32} {x1 : Vec Ideal S512x512 .bf16} {p : Fin 1408} {q : Fin 512}

theorem only {hc0 : cond0_0 i} {hc1 : cond0_1 i} : out0_A_2 (F := Ideal) c i a0 h0 a1 h1 a2 h2 a3 h3 hc0 hc1 x0 x1 (ix2 p q)
    = 0 + mul (fun i k => x0 (ix2 i k)) (fun k j => x1 (ix2 k j)) p q := by
  frame_out
  unfold_payloads
  unfold mul
  pointwise

end body

variable (m : (ℓ : Loc nD τ sig) → Buf (Elt Ideal) ℓ) (c : Dev nD)

/-- The two factors. -/
def lhs (i : Fin 4224) (k : Fin 512) : EReal := V m c (Pipeline.arrRef spec0 0) (ix2 i k)
def rhs (k : Fin 512) (j : Fin 1024) : EReal := V m c (Pipeline.arrRef spec0 1) (ix2 k j)

theorem index_at : ∀ t : Fin cfg0.N, win0_0.index t = ![t.val / 2, 0] ∧ win0_1.index t = ![0, t.val % 2]
    ∧ win0_2.index t = ![t.val / 2, t.val % 2] :=
  (by decide +kernel : ∀ t : Fin grid0.N, win0_0.index t = ![t.val / 2, 0] ∧ win0_1.index t = ![0, t.val % 2]
    ∧ win0_2.index t = ![t.val / 2, t.val % 2])

theorem lhs_at (t : Fin cfg0.N) (i : Fin 1408) (k : Fin 512) : iblk m c 0 t (ix2 i k) = cell (lhs m c) (t.val / 2 * 1408 + i.val) k.val := by
  have ht := lt_of_lt_of_eq t.isLt (show cfg0.N = 6 from N_0)
  rw [cell_in _ (by omega) (by omega)]
  unfold lhs
  blk_ext [iblk, (index_at t).1]

theorem rhs_at (t : Fin cfg0.N) (k : Fin 512) (j : Fin 512) : iblk m c 1 t (ix2 k j) = cell (rhs m c) k.val (t.val % 2 * 512 + j.val) := by
  rw [cell_in _ (by omega) (by omega)]
  unfold rhs
  blk_ext [iblk, (index_at t).2.1]

/-- The array the kernel leaves. -/
theorem final : (dats m 0 c).arrAt 2 cfg0.N = fun i : S4224x1024.Idx => mul (lhs m c) (rhs m c) (i 0) (i 1) := by
  refine (dats m 0 c).arrAt_eq_of_covers 2 _ (by decide +kernel) fun t hf y => ?_
  blk_simp
  rw [after0_2]
  idx_vars y
  unfold outsAt0
  exact only.trans (single (lhs m c) (rhs m c) _ _ (lhs_at m c t) (rhs_at m c t) y0 y1 (by blk_simp [(index_at t).2.2]) (by blk_simp [(index_at t).2.2]))

/-- The reference's array. -/
theorem reference (x0 : (⟨S4224x512, .f32⟩ : BufTy).Contents (Elt Ideal)) (x1 : (⟨S512x1024, .bf16⟩ : BufTy).Contents (Elt Ideal)) (a : Fin 4224) (b : Fin 1024) :
    Reference18Ideal.Read.val_main_v1 (F := Ideal) x0 x1 (ix2 a b) = mul (fun i k => x0 (ix2 i k)) (fun k j => x1 (ix2 k j)) a b := by
  refine (Reference18Ideal.Read.val_main_v1_apply x0 x1 _).trans (Finset.sum_congr rfl fun k _ => congrArg₂ (· * ·) ?_ ?_)
  · exact congrArg x0 (by funext d; fin_cases d <;> rfl)
  · exact congrArg x1 (by funext d; fin_cases d <;> rfl)

theorem claim : algebraic_Kernel18Ideal_Reference18Ideal (hKernel18Ideal := facts) (hReference18Ideal := Reference18Ideal.Gen.facts) := by
  intro m g m' g' _ ha
  refine ⟨fun c => (dats m 0 c).arrAt 2 cfg0.N, Value.run_blocks m g, ?_⟩
  refine (θ_run Reference18Ideal.defs _ _).mono (fun r h c => ⟨(h c).1.trans ?_, (h c).2⟩) (Reference18Ideal.Value.run m' g')
  dsimp only
  rw [Reference18Ideal.Read.val_main_v1_eq, final, (ha c).1, (ha c).2, ← V_main_arg0 m c, ← V_main_arg1 m c]
  funext i
  idx_vars i
  exact reference _ _ i0 i1

theorem frame_reference : quiescent_Reference18Ideal (hReference18Ideal := Reference18Ideal.Gen.facts) := fun m ρ _ =>
  (θ_run Reference18Ideal.defs _ _).mono (fun r h => ⟨fun c => (h c).2, sem_eq_zero_of_no_sems (by decide) r.2⟩)
    (Reference18Ideal.Value.run (F := Ideal) m ρ)

end Cert.Branch
end
-- ==== Proof.BranchScan.lean ====
module
public import proofs.«01_k».proof.Defs
public import proofs.«01_k».proof.Proof.Product
public import proofs.«01_k».proof.Proof.Gen.Kernel19Ideal.Value
public import proofs.«01_k».proof.Proof.Gen.Reference19Ideal.Read
@[expose] public section
set_option maxRecDepth 16384
noncomputable section
/-! The recurrent branch's projection, `O W`. -/
namespace Cert.BranchScan
open Idealize.ShloMosaic Idealize.ShloMosaic.TcCoe Idealize.ShloMosaic.Tactic Idealize.SL.Sem
open Cert.Product Cert.Kernel19Ideal Cert.Kernel19Ideal.Gen

section body
variable {c : Dev nD} {i : grid0.Coords} {a0 : Memref sig .tc .vmem S1408x512 .bf16} {h0 : a0.IsWhole} {a1 : Memref sig .tc .vmem S512x512 .bf16} {h1 : a1.IsWhole}
  {a2 : Memref sig .tc .vmem S1408x512 .f32} {h2 : a2.IsWhole} {a3 : Memref sig .tc .vmem S1408x512 .f32} {h3 : a3.IsWhole}
  {x0 : Vec Ideal S1408x512 .bf16} {x1 : Vec Ideal S512x512 .bf16} {p : Fin 1408} {q : Fin 512}

theorem only {hc0 : cond0_0 i} {hc1 : cond0_1 i} : out0_A_2 (F := Ideal) c i a0 h0 a1 h1 a2 h2 a3 h3 hc0 hc1 x0 x1 (ix2 p q)
    = 0 + mul (fun i k => x0 (ix2 i k)) (fun k j => x1 (ix2 k j)) p q := by
  frame_out
  unfold_payloads
  unfold mul
  pointwise

end body

variable (m : (ℓ : Loc nD τ sig) → Buf (Elt Ideal) ℓ) (c : Dev nD)

/-- The two factors. -/
def lhs (i : Fin 4224) (k : Fin 512) : EReal := V m c (Pipeline.arrRef spec0 0) (ix2 i k)
def rhs (k : Fin 512) (j : Fin 1024) : EReal := V m c (Pipeline.arrRef spec0 1) (ix2 k j)

theorem index_at : ∀ t : Fin cfg0.N, win0_0.index t = ![t.val / 2, 0] ∧ win0_1.index t = ![0, t.val % 2]
    ∧ win0_2.index t = ![t.val / 2, t.val % 2] :=
  (by decide +kernel : ∀ t : Fin grid0.N, win0_0.index t = ![t.val / 2, 0] ∧ win0_1.index t = ![0, t.val % 2]
    ∧ win0_2.index t = ![t.val / 2, t.val % 2])

theorem lhs_at (t : Fin cfg0.N) (i : Fin 1408) (k : Fin 512) : iblk m c 0 t (ix2 i k) = cell (lhs m c) (t.val / 2 * 1408 + i.val) k.val := by
  have ht := lt_of_lt_of_eq t.isLt (show cfg0.N = 6 from N_0)
  rw [cell_in _ (by omega) (by omega)]
  unfold lhs
  blk_ext [iblk, (index_at t).1]

theorem rhs_at (t : Fin cfg0.N) (k : Fin 512) (j : Fin 512) : iblk m c 1 t (ix2 k j) = cell (rhs m c) k.val (t.val % 2 * 512 + j.val) := by
  rw [cell_in _ (by omega) (by omega)]
  unfold rhs
  blk_ext [iblk, (index_at t).2.1]

/-- The array the kernel leaves. -/
theorem final : (dats m 0 c).arrAt 2 cfg0.N = fun i : S4224x1024.Idx => mul (lhs m c) (rhs m c) (i 0) (i 1) := by
  refine (dats m 0 c).arrAt_eq_of_covers 2 _ (by decide +kernel) fun t hf y => ?_
  blk_simp
  rw [after0_2]
  idx_vars y
  unfold outsAt0
  exact only.trans (single (lhs m c) (rhs m c) _ _ (lhs_at m c t) (rhs_at m c t) y0 y1 (by blk_simp [(index_at t).2.2]) (by blk_simp [(index_at t).2.2]))

/-- The reference's array. -/
theorem reference (x0 : (⟨S4224x512, .bf16⟩ : BufTy).Contents (Elt Ideal)) (x1 : (⟨S512x1024, .bf16⟩ : BufTy).Contents (Elt Ideal)) (a : Fin 4224) (b : Fin 1024) :
    Reference19Ideal.Read.val_main_v2 (F := Ideal) x0 x1 (ix2 a b) = mul (fun i k => x0 (ix2 i k)) (fun k j => x1 (ix2 k j)) a b := by
  refine (Reference19Ideal.Read.val_main_v2_apply x0 x1 _).trans (Finset.sum_congr rfl fun k _ => congrArg₂ (· * ·) ?_ ?_)
  · exact congrArg x0 (by funext d; fin_cases d <;> rfl)
  · exact congrArg x1 (by funext d; fin_cases d <;> rfl)

theorem claim : algebraic_Kernel19Ideal_Reference19Ideal (hKernel19Ideal := facts) (hReference19Ideal := Reference19Ideal.Gen.facts) := by
  intro m g m' g' _ ha
  refine ⟨fun c => (dats m 0 c).arrAt 2 cfg0.N, Value.run_blocks m g, ?_⟩
  refine (θ_run Reference19Ideal.defs _ _).mono (fun r h c => ⟨(h c).1.trans ?_, (h c).2⟩) (Reference19Ideal.Value.run m' g')
  dsimp only
  rw [Reference19Ideal.Read.val_main_v2_eq, final, (ha c).1, (ha c).2, ← V_main_arg0 m c, ← V_main_arg1 m c]
  funext i
  idx_vars i
  exact reference _ _ i0 i1

theorem frame_reference : quiescent_Reference19Ideal (hReference19Ideal := Reference19Ideal.Gen.facts) := fun m ρ _ =>
  (θ_run Reference19Ideal.defs _ _).mono (fun r h => ⟨fun c => (h c).2, sem_eq_zero_of_no_sems (by decide) r.2⟩)
    (Reference19Ideal.Value.run (F := Ideal) m ρ)

end Cert.BranchScan
end
-- ==== Proof.OutProj.lean ====
module
public import proofs.«01_k».proof.Defs
public import proofs.«01_k».proof.Proof.Product
public import proofs.«01_k».proof.Proof.Gen.Kernel20Ideal.Value
public import proofs.«01_k».proof.Proof.Gen.Reference20Ideal.Read
@[expose] public section
set_option maxRecDepth 16384
noncomputable section
/-! The output projection and the residual, `M W + H`. -/
namespace Cert.OutProj
open Idealize.ShloMosaic Idealize.ShloMosaic.TcCoe Idealize.ShloMosaic.Tactic Idealize.SL.Sem
open Cert.Product Cert.Kernel20Ideal Cert.Kernel20Ideal.Gen

section body
variable {c : Dev nD} {i : grid0.Coords} {a0 : Memref sig .tc .vmem S1408x1024 .bf16} {h0 : a0.IsWhole} {a1 : Memref sig .tc .vmem S1024x512 .bf16} {h1 : a1.IsWhole}
  {ar : Memref sig .tc .vmem S1408x512 .f32} {hr : ar.IsWhole} {a2 : Memref sig .tc .vmem S1408x512 .f32} {h2 : a2.IsWhole} {a3 : Memref sig .tc .vmem S1408x512 .f32} {h3 : a3.IsWhole}
  {x0 : Vec Ideal S1408x1024 .bf16} {x1 : Vec Ideal S1024x512 .bf16} {r : Vec Ideal S1408x512 .f32} {p : Fin 1408} {q : Fin 512}

theorem only {hc0 : cond0_0 i} {hc1 : cond0_1 i} : out0_A_3 (F := Ideal) c i a0 h0 a1 h1 ar hr a2 h2 a3 h3 hc0 hc1 x0 x1 r (ix2 p q)
    = (0 + mul (fun i k => x0 (ix2 i k)) (fun k j => x1 (ix2 k j)) p q) + r (ix2 p q) := by
  frame_out
  unfold_payloads
  unfold mul
  pointwise

end body

variable (m : (ℓ : Loc nD τ sig) → Buf (Elt Ideal) ℓ) (c : Dev nD)

/-- The two factors, and what is added. -/
def lhs (i : Fin 4224) (k : Fin 1024) : EReal := V m c (Pipeline.arrRef spec0 0) (ix2 i k)
def rhs (k : Fin 1024) (j : Fin 1024) : EReal := V m c (Pipeline.arrRef spec0 1) (ix2 k j)
def base (i : Fin 4224) (j : Fin 1024) : EReal := V m c (Pipeline.arrRef spec0 2) (ix2 i j)

theorem index_at : ∀ t : Fin cfg0.N, win0_0.index t = ![t.val / 2, 0] ∧ win0_1.index t = ![0, t.val % 2]
    ∧ win0_2.index t = ![t.val / 2, t.val % 2] ∧ win0_3.index t = ![t.val / 2, t.val % 2] :=
  (by decide +kernel : ∀ t : Fin grid0.N, win0_0.index t = ![t.val / 2, 0] ∧ win0_1.index t = ![0, t.val % 2]
    ∧ win0_2.index t = ![t.val / 2, t.val % 2] ∧ win0_3.index t = ![t.val / 2, t.val % 2])

theorem lhs_at (t : Fin cfg0.N) (i : Fin 1408) (k : Fin 1024) : iblk m c 0 t (ix2 i k) = cell (lhs m c) (t.val / 2 * 1408 + i.val) k.val := by
  have ht := lt_of_lt_of_eq t.isLt (show cfg0.N = 6 from N_0)
  rw [cell_in _ (by omega) (by omega)]
  unfold lhs
  blk_ext [iblk, (index_at t).1]

theorem rhs_at (t : Fin cfg0.N) (k : Fin 1024) (j : Fin 512) : iblk m c 1 t (ix2 k j) = cell (rhs m c) k.val (t.val % 2 * 512 + j.val) := by
  rw [cell_in _ (by omega) (by omega)]
  unfold rhs
  blk_ext [iblk, (index_at t).2.1]

theorem base_at (t : Fin cfg0.N) (i : Fin 1408) (j : Fin 512) : iblk m c 2 t (ix2 i j) = cell (base m c) (t.val / 2 * 1408 + i.val) (t.val % 2 * 512 + j.val) := by
  have ht := lt_of_lt_of_eq t.isLt (show cfg0.N = 6 from N_0)
  rw [cell_in _ (by omega) (by omega)]
  unfold base
  blk_ext [iblk, (index_at t).2.2.1]

/-- The array the kernel leaves. -/
theorem final : (dats m 0 c).arrAt 3 cfg0.N = fun i : S4224x1024.Idx => mul (lhs m c) (rhs m c) (i 0) (i 1) + base m c (i 0) (i 1) := by
  refine (dats m 0 c).arrAt_eq_of_covers 3 _ (by decide +kernel) fun t hf y => ?_
  blk_simp
  rw [after0_3]
  idx_vars y
  unfold outsAt0
  exact only.trans (congrArg₂ (· + ·) (single (lhs m c) (rhs m c) _ _ (lhs_at m c t) (rhs_at m c t) y0 y1 (by blk_simp [(index_at t).2.2.2]) (by blk_simp [(index_at t).2.2.2]))
    ((base_at m c t y0 y1).trans (cell_at _ (by blk_simp [(index_at t).2.2.2]) (by blk_simp [(index_at t).2.2.2]))))

/-- The reference's array. -/
theorem reference (x0 : (⟨S4224x1024, .bf16⟩ : BufTy).Contents (Elt Ideal)) (x1 : (⟨S1024x1024, .bf16⟩ : BufTy).Contents (Elt Ideal)) (x2 : (⟨S4224x1024, .f32⟩ : BufTy).Contents (Elt Ideal)) (a : Fin 4224) (b : Fin 1024) :
    Reference20Ideal.Read.val_main_v3 (F := Ideal) x0 x1 x2 (ix2 a b) = mul (fun i k => x0 (ix2 i k)) (fun k j => x1 (ix2 k j)) a b + x2 (ix2 a b) := by
  rw [Reference20Ideal.Read.val_main_v3_apply]
  refine (add_comm _ _).trans (congrArg (· + x2 (ix2 a b)) ?_)
  refine (Reference20Ideal.Read.val_main_v2_apply x0 x1 _).trans (Finset.sum_congr rfl fun k _ => congrArg₂ (· * ·) ?_ ?_)
  · exact congrArg x0 (by funext d; fin_cases d <;> rfl)
  · exact congrArg x1 (by funext d; fin_cases d <;> rfl)

theorem claim : algebraic_Kernel20Ideal_Reference20Ideal (hKernel20Ideal := facts) (hReference20Ideal := Reference20Ideal.Gen.facts) := by
  intro m g m' g' _ ha
  refine ⟨fun c => (dats m 0 c).arrAt 3 cfg0.N, Value.run_blocks m g, ?_⟩
  refine (θ_run Reference20Ideal.defs _ _).mono (fun r h c => ⟨(h c).1.trans ?_, (h c).2⟩) (Reference20Ideal.Value.run m' g')
  dsimp only
  rw [Reference20Ideal.Read.val_main_v3_eq, final, (ha c).1, (ha c).2.1, (ha c).2.2, ← V_main_arg0 m c, ← V_main_arg1 m c, ← V_main_arg2 m c]
  funext i
  idx_vars i
  exact reference _ _ _ i0 i1

theorem frame_reference : quiescent_Reference20Ideal (hReference20Ideal := Reference20Ideal.Gen.facts) := fun m ρ _ =>
  (θ_run Reference20Ideal.defs _ _).mono (fun r h => ⟨fun c => (h c).2, sem_eq_zero_of_no_sems (by decide) r.2⟩)
    (Reference20Ideal.Value.run (F := Ideal) m ρ)

end Cert.OutProj
end
-- ==== Proof.FfnIn.lean ====
module
public import proofs.«01_k».proof.Defs
public import proofs.«01_k».proof.Proof.Product
public import proofs.«01_k».proof.Proof.Gen.Kernel21Ideal.Value
public import proofs.«01_k».proof.Proof.Gen.Reference21Ideal.Read
@[expose] public section
set_option maxRecDepth 16384
noncomputable section
/-! The feed-forward layer's first product, `U W`. -/
namespace Cert.FfnIn
open Idealize.ShloMosaic Idealize.ShloMosaic.TcCoe Idealize.ShloMosaic.Tactic Idealize.SL.Sem
open Cert.Product Cert.Kernel21Ideal Cert.Kernel21Ideal.Gen

section body
variable {c : Dev nD} {i : grid0.Coords} {a0 : Memref sig .tc .vmem S1408x1024 .bf16} {h0 : a0.IsWhole} {a1 : Memref sig .tc .vmem S1024x512 .bf16} {h1 : a1.IsWhole}
  {a2 : Memref sig .tc .vmem S1408x512 .f32} {h2 : a2.IsWhole} {a3 : Memref sig .tc .vmem S1408x512 .f32} {h3 : a3.IsWhole}
  {x0 : Vec Ideal S1408x1024 .bf16} {x1 : Vec Ideal S1024x512 .bf16} {p : Fin 1408} {q : Fin 512}

theorem only {hc0 : cond0_0 i} {hc1 : cond0_1 i} : out0_A_2 (F := Ideal) c i a0 h0 a1 h1 a2 h2 a3 h3 hc0 hc1 x0 x1 (ix2 p q)
    = 0 + mul (fun i k => x0 (ix2 i k)) (fun k j => x1 (ix2 k j)) p q := by
  frame_out
  unfold_payloads
  unfold mul
  pointwise

end body

variable (m : (ℓ : Loc nD τ sig) → Buf (Elt Ideal) ℓ) (c : Dev nD)

/-- The two factors. -/
def lhs (i : Fin 4224) (k : Fin 1024) : EReal := V m c (Pipeline.arrRef spec0 0) (ix2 i k)
def rhs (k : Fin 1024) (j : Fin 5632) : EReal := V m c (Pipeline.arrRef spec0 1) (ix2 k j)

theorem index_at : ∀ t : Fin cfg0.N, win0_0.index t = ![t.val / 11, 0] ∧ win0_1.index t = ![0, t.val % 11]
    ∧ win0_2.index t = ![t.val / 11, t.val % 11] :=
  (by decide +kernel : ∀ t : Fin grid0.N, win0_0.index t = ![t.val / 11, 0] ∧ win0_1.index t = ![0, t.val % 11]
    ∧ win0_2.index t = ![t.val / 11, t.val % 11])

theorem lhs_at (t : Fin cfg0.N) (i : Fin 1408) (k : Fin 1024) : iblk m c 0 t (ix2 i k) = cell (lhs m c) (t.val / 11 * 1408 + i.val) k.val := by
  have ht := lt_of_lt_of_eq t.isLt (show cfg0.N = 33 from N_0)
  rw [cell_in _ (by omega) (by omega)]
  unfold lhs
  blk_ext [iblk, (index_at t).1]

theorem rhs_at (t : Fin cfg0.N) (k : Fin 1024) (j : Fin 512) : iblk m c 1 t (ix2 k j) = cell (rhs m c) k.val (t.val % 11 * 512 + j.val) := by
  rw [cell_in _ (by omega) (by omega)]
  unfold rhs
  blk_ext [iblk, (index_at t).2.1]

/-- The array the kernel leaves. -/
theorem final : (dats m 0 c).arrAt 2 cfg0.N = fun i : S4224x5632.Idx => mul (lhs m c) (rhs m c) (i 0) (i 1) := by
  refine (dats m 0 c).arrAt_eq_of_covers 2 _ (by decide +kernel) fun t hf y => ?_
  blk_simp
  rw [after0_2]
  idx_vars y
  unfold outsAt0
  exact only.trans (single (lhs m c) (rhs m c) _ _ (lhs_at m c t) (rhs_at m c t) y0 y1 (by blk_simp [(index_at t).2.2]) (by blk_simp [(index_at t).2.2]))

/-- The reference's array. -/
theorem reference (x0 : (⟨S4224x1024, .bf16⟩ : BufTy).Contents (Elt Ideal)) (x1 : (⟨S1024x5632, .bf16⟩ : BufTy).Contents (Elt Ideal)) (a : Fin 4224) (b : Fin 5632) :
    Reference21Ideal.Read.val_main_v2 (F := Ideal) x0 x1 (ix2 a b) = mul (fun i k => x0 (ix2 i k)) (fun k j => x1 (ix2 k j)) a b := by
  refine (Reference21Ideal.Read.val_main_v2_apply x0 x1 _).trans (Finset.sum_congr rfl fun k _ => congrArg₂ (· * ·) ?_ ?_)
  · exact congrArg x0 (by funext d; fin_cases d <;> rfl)
  · exact congrArg x1 (by funext d; fin_cases d <;> rfl)

theorem claim : algebraic_Kernel21Ideal_Reference21Ideal (hKernel21Ideal := facts) (hReference21Ideal := Reference21Ideal.Gen.facts) := by
  intro m g m' g' _ ha
  refine ⟨fun c => (dats m 0 c).arrAt 2 cfg0.N, Value.run_blocks m g, ?_⟩
  refine (θ_run Reference21Ideal.defs _ _).mono (fun r h c => ⟨(h c).1.trans ?_, (h c).2⟩) (Reference21Ideal.Value.run m' g')
  dsimp only
  rw [Reference21Ideal.Read.val_main_v2_eq, final, (ha c).1, (ha c).2, ← V_main_arg0 m c, ← V_main_arg1 m c]
  funext i
  idx_vars i
  exact reference _ _ i0 i1

theorem frame_reference : quiescent_Reference21Ideal (hReference21Ideal := Reference21Ideal.Gen.facts) := fun m ρ _ =>
  (θ_run Reference21Ideal.defs _ _).mono (fun r h => ⟨fun c => (h c).2, sem_eq_zero_of_no_sems (by decide) r.2⟩)
    (Reference21Ideal.Value.run (F := Ideal) m ρ)

end Cert.FfnIn
end
-- ==== Proof.FfnOut.lean ====
module
public import proofs.«01_k».proof.Defs
public import proofs.«01_k».proof.Proof.Product
public import proofs.«01_k».proof.Proof.Gen.Kernel22Ideal.Value
public import proofs.«01_k».proof.Proof.Gen.Reference22Ideal.Read
@[expose] public section
set_option maxRecDepth 16384
noncomputable section
/-! The feed-forward layer's second product and the residual, `A W + H`. -/
namespace Cert.FfnOut
open Idealize.ShloMosaic Idealize.ShloMosaic.TcCoe Idealize.ShloMosaic.Tactic Idealize.SL.Sem
open Cert.Product Cert.Kernel22Ideal Cert.Kernel22Ideal.Gen

section body
variable {c : Dev nD} {i : grid0.Coords} {a0 : Memref sig .tc .vmem S1408x1408 .bf16} {h0 : a0.IsWhole} {a1 : Memref sig .tc .vmem S1408x512 .bf16} {h1 : a1.IsWhole}
  {ar : Memref sig .tc .vmem S1408x512 .f32} {hr : ar.IsWhole} {a2 : Memref sig .tc .vmem S1408x512 .f32} {h2 : a2.IsWhole} {a3 : Memref sig .tc .vmem S1408x512 .f32} {h3 : a3.IsWhole}
  {x0 : Vec Ideal S1408x1408 .bf16} {x1 : Vec Ideal S1408x512 .bf16} {r : Vec Ideal S1408x512 .f32} {s : Vec Ideal S1408x512 .f32} {p : Fin 1408} {q : Fin 512}

theorem first {hc0 : cond0_0 i} {hc1 : ¬cond0_1 i} : sout0_A_0 (F := Ideal) c i a0 h0 a1 h1 ar hr a2 h2 a3 h3 hc0 hc1 x0 x1 r (ix2 p q)
    = 0 + mul (fun i k => x0 (ix2 i k)) (fun k j => x1 (ix2 k j)) p q := by
  frame_out
  unfold_payloads
  unfold mul
  pointwise

theorem last {hc0 : ¬cond0_0 i} {hc1 : cond0_1 i} : out0_B_3 (F := Ideal) c i a0 h0 a1 h1 ar hr a2 h2 a3 h3 hc0 hc1 x0 x1 r s (ix2 p q)
    = (s (ix2 p q) + mul (fun i k => x0 (ix2 i k)) (fun k j => x1 (ix2 k j)) p q) + r (ix2 p q) := by
  frame_out
  unfold_payloads
  unfold mul
  pointwise

end body

variable (m : (ℓ : Loc nD τ sig) → Buf (Elt Ideal) ℓ) (c : Dev nD)

/-- The two factors, and what is added. -/
def lhs (i : Fin 4224) (k : Fin 2816) : EReal := V m c (Pipeline.arrRef spec0 0) (ix2 i k)
def rhs (k : Fin 2816) (j : Fin 1024) : EReal := V m c (Pipeline.arrRef spec0 1) (ix2 k j)
def base (i : Fin 4224) (j : Fin 1024) : EReal := V m c (Pipeline.arrRef spec0 2) (ix2 i j)

theorem index_at : ∀ t : Fin cfg0.N, win0_0.index t = ![t.val / 2 / 2, t.val % 2] ∧ win0_1.index t = ![t.val % 2, t.val / 2 % 2]
    ∧ win0_2.index t = ![t.val / 2 / 2, t.val / 2 % 2] ∧ win0_3.index t = ![t.val / 2 / 2, t.val / 2 % 2] :=
  (by decide +kernel : ∀ t : Fin grid0.N, win0_0.index t = ![t.val / 2 / 2, t.val % 2] ∧ win0_1.index t = ![t.val % 2, t.val / 2 % 2]
    ∧ win0_2.index t = ![t.val / 2 / 2, t.val / 2 % 2] ∧ win0_3.index t = ![t.val / 2 / 2, t.val / 2 % 2])

theorem lhs_at (t : Fin cfg0.N) (i : Fin 1408) (k : Fin 1408) : iblk m c 0 t (ix2 i k) = cell (lhs m c) (t.val / 2 / 2 * 1408 + i.val) (t.val % 2 * 1408 + k.val) := by
  have ht := lt_of_lt_of_eq t.isLt (show cfg0.N = 12 from N_0)
  rw [cell_in _ (by omega) (by omega)]
  unfold lhs
  blk_ext [iblk, (index_at t).1]

theorem rhs_at (t : Fin cfg0.N) (k : Fin 1408) (j : Fin 512) : iblk m c 1 t (ix2 k j) = cell (rhs m c) (t.val % 2 * 1408 + k.val) (t.val / 2 % 2 * 512 + j.val) := by
  rw [cell_in _ (by omega) (by omega)]
  unfold rhs
  blk_ext [iblk, (index_at t).2.1]

theorem base_at (t : Fin cfg0.N) (i : Fin 1408) (j : Fin 512) : iblk m c 2 t (ix2 i j) = cell (base m c) (t.val / 2 / 2 * 1408 + i.val) (t.val / 2 % 2 * 512 + j.val) := by
  have ht := lt_of_lt_of_eq t.isLt (show cfg0.N = 12 from N_0)
  rw [cell_in _ (by omega) (by omega)]
  unfold base
  blk_ext [iblk, (index_at t).2.2.1]

/-- What the last point of a block leaves. -/
theorem out_at (t : Fin cfg0.N) (ht : t.val % 2 = 1) (a : Fin 1408) (b : Fin 512) {i : Fin 4224} {j : Fin 1024} (hi : i.val = t.val / 2 / 2 * 1408 + a.val)
    (hj : j.val = t.val / 2 % 2 * 512 + b.val) : (outsAt0 m c t.val t.isLt).1 (ix2 a b) = mul (lhs m c) (rhs m c) i j + base m c i j := by
  have e := congrArg Prod.fst (outsAt0_B m c t (by omega) ht)
  dsimp only at e ⊢
  rw [e]
  refine last.trans (congrArg₂ (· + ·) ?_ ((base_at m c t a b).trans (cell_at _ hi hj)))
  refine several 2 2 (by decide) (lhs m c) (rhs m c) (fun t i k => iblk m c 0 t (ix2 i k)) (fun t k j => iblk m c 1 t (ix2 k j)) (lhs_at m c) (rhs_at m c)
    (fun k h a b => (outsAt0 m c k h).2 (ix2 a b))
    (fun k h a b => (outsAt0 m c (k - 1) (Nat.lt_of_le_of_lt (Nat.sub_le _ _) h)).2 (ix2 a b)
      + mul (fun i k' => iblk m c 0 ⟨k, h⟩ (ix2 i k')) (fun k' j => iblk m c 1 ⟨k, h⟩ (ix2 k' j)) a b)
    (fun t h a b => ?_) (fun t h h' a b => ?_) (fun t h a b => rfl) t ht a b hi hj
  · have e := congrArg Prod.snd (outsAt0_A m c t h (by omega))
    dsimp only at e ⊢
    rw [e]
    exact first
  · omega

/-- The array the kernel leaves. -/
theorem final : (dats m 0 c).arrAt 3 cfg0.N = fun i : S4224x1024.Idx => mul (lhs m c) (rhs m c) (i 0) (i 1) + base m c (i 0) (i 1) := by
  refine (dats m 0 c).arrAt_eq_of_covers 3 _ (by decide +kernel) fun t hf y => ?_
  blk_simp
  rw [after0_3]
  idx_vars y
  exact out_at m c t ((flush0_3 t).mp hf) y0 y1 (by blk_simp [(index_at t).2.2.2]) (by blk_simp [(index_at t).2.2.2])

/-- The reference's array. -/
theorem reference (x0 : (⟨S4224x2816, .bf16⟩ : BufTy).Contents (Elt Ideal)) (x1 : (⟨S2816x1024, .bf16⟩ : BufTy).Contents (Elt Ideal)) (x2 : (⟨S4224x1024, .f32⟩ : BufTy).Contents (Elt Ideal)) (a : Fin 4224) (b : Fin 1024) :
    Reference22Ideal.Read.val_main_v3 (F := Ideal) x0 x1 x2 (ix2 a b) = mul (fun i k => x0 (ix2 i k)) (fun k j => x1 (ix2 k j)) a b + x2 (ix2 a b) := by
  rw [Reference22Ideal.Read.val_main_v3_apply]
  refine (add_comm _ _).trans (congrArg (· + x2 (ix2 a b)) ?_)
  refine (Reference22Ideal.Read.val_main_v2_apply x0 x1 _).trans (Finset.sum_congr rfl fun k _ => congrArg₂ (· * ·) ?_ ?_)
  · exact congrArg x0 (by funext d; fin_cases d <;> rfl)
  · exact congrArg x1 (by funext d; fin_cases d <;> rfl)

theorem claim : algebraic_Kernel22Ideal_Reference22Ideal (hKernel22Ideal := facts) (hReference22Ideal := Reference22Ideal.Gen.facts) := by
  intro m g m' g' _ ha
  refine ⟨fun c => (dats m 0 c).arrAt 3 cfg0.N, Value.run_blocks m g, ?_⟩
  refine (θ_run Reference22Ideal.defs _ _).mono (fun r h c => ⟨(h c).1.trans ?_, (h c).2⟩) (Reference22Ideal.Value.run m' g')
  dsimp only
  rw [Reference22Ideal.Read.val_main_v3_eq, final, (ha c).1, (ha c).2.1, (ha c).2.2, ← V_main_arg0 m c, ← V_main_arg1 m c, ← V_main_arg2 m c]
  funext i
  idx_vars i
  exact reference _ _ _ i0 i1

theorem frame_reference : quiescent_Reference22Ideal (hReference22Ideal := Reference22Ideal.Gen.facts) := fun m ρ _ =>
  (θ_run Reference22Ideal.defs _ _).mono (fun r h => ⟨fun c => (h c).2, sem_eq_zero_of_no_sems (by decide) r.2⟩)
    (Reference22Ideal.Value.run (F := Ideal) m ρ)

end Cert.FfnOut
end
-- ==== Proof.Rows.lean ====
module
public import Idealize.ShloMosaic.Lib.Pipeline.ValueKit
public import Idealize.ShloMosaic.Lib.Pointwise
@[expose] public section
noncomputable section
/-! Kernels that work row by row: columns joined side by side, the logistic function, and finite arguments. -/
namespace Cert.Rows
open Idealize.ShloMosaic

theorem piece_lt {N K n : ℕ} (hn : n = N * K) (j : Fin n) : j.val / K < N :=
  Nat.div_lt_of_lt_mul (by have := j.isLt.trans_eq hn; rwa [Nat.mul_comm])

theorem within_lt {N K n : ℕ} (hn : n = N * K) (j : Fin n) : j.val % K < K :=
  Nat.mod_lt _ (Nat.pos_of_ne_zero fun h => by have := j.isLt.trans_eq hn; simp [h] at this)

/-- Columns of `N` arrays of width `K`, side by side. -/
def join {N K a n : ℕ} (hn : n = N * K) (f : Fin N → Fin a → Fin K → EReal) (i : Fin a) (j : Fin n) : EReal :=
  f ⟨j.val / K, piece_lt hn j⟩ i ⟨j.val % K, within_lt hn j⟩

theorem join_at {N K a n : ℕ} (hn : n = N * K) (f : Fin N → Fin a → Fin K → EReal) (i : Fin a) {j : Fin n} (k : Fin N) (l : Fin K)
    (hj : j.val = k.val * K + l.val) : join hn f i j = f k i l := by
  have hK : 0 < K := Nat.zero_lt_of_lt l.isLt
  exact congr (congrFun (congrArg f (Fin.ext (by show j.val / K = k.val; rw [hj, Nat.mul_comm, Nat.mul_add_div hK, Nat.div_eq_of_lt l.isLt, Nat.add_zero]))) i)
    (Fin.ext (by show j.val % K = l.val; rw [hj, Nat.mul_comm, Nat.mul_add_mod, Nat.mod_eq_of_lt l.isLt]))

/-- Every column lies in one of the arrays. -/
theorem split {N K n : ℕ} (hn : n = N * K) (j : Fin n) : ∃ (k : Fin N) (l : Fin K), j.val = k.val * K + l.val :=
  ⟨⟨j.val / K, piece_lt hn j⟩, ⟨j.val % K, within_lt hn j⟩, (Nat.div_add_mod' _ _).symm⟩

/-- A concatenation of arrays of one width, read in array `k`. -/
theorem concatenate_at {α : Type} {N K a n : ℕ} (f : Fin N → ((⟨2, ![a, K]⟩ : Shape).Idx → α))
    (h : Shape.Concatenates ((List.ofFn fun n : Fin N => (⟨⟨2, ![a, K]⟩, f n⟩ : (s : Shape) × (s.Idx → α))).map (·.1)) (⟨2, ![a, n]⟩ : Shape) 1)
    (i : Fin a) (j : Fin n) (k : Fin N) (l : Fin K) (hj : j.val = k.val * K + l.val) :
    concatenate (⟨2, ![a, n]⟩ : Shape) 1 (List.ofFn fun n : Fin N => (⟨⟨2, ![a, K]⟩, f n⟩ : (s : Shape) × (s.Idx → α))) h (ix2 i j) = f k (ix2 i l) := by
  have hK : 0 < K := Nat.zero_lt_of_lt l.isLt
  refine concatenate_ofFn_apply (t := ⟨2, ![a, n]⟩) (1 : Fin 2) f h rfl K rfl (ix2 i j) k ?_ (ix2 i l) ?_ ?_
  · show j.val / K = k.val
    rw [hj, Nat.mul_comm, Nat.mul_add_div hK, Nat.div_eq_of_lt l.isLt, Nat.add_zero]
  · show l.val = j.val % K
    rw [hj, Nat.mul_comm, Nat.mul_add_mod, Nat.mod_eq_of_lt l.isLt]
  · intro b hb
    match b with
    | ⟨0, _⟩ => rfl
    | ⟨1, _⟩ => exact absurd rfl hb

/-- The logistic function as the kernels write it. -/
def sigm (x : EReal) : EReal := Ideal.div 1 (1 + Ideal.exp (0 - x))

theorem sigm_coe (r : ℝ) : sigm (r : EReal) = ((1 / (1 + Real.exp (-r)) : ℝ) : EReal) := by
  unfold sigm
  rw [zero_sub, ← EReal.coe_neg, Ideal.exp_coe, ← EReal.coe_one, ← EReal.coe_add]
  rw [Ideal.div_coe (by positivity), ← EReal.coe_mul, one_mul]

end Cert.Rows
end
-- ==== Proof.MergeBwd.lean ====
module
public import proofs.«01_k».proof.Defs
public import proofs.«01_k».proof.Proof.Rows
public import proofs.«01_k».proof.Proof.Fox
public import proofs.«01_k».proof.Proof.Gen.Kernel23Ideal.Value
public import proofs.«01_k».proof.Proof.Gen.Reference23Ideal.Read
@[expose] public section
set_option maxRecDepth 16384
noncomputable section
/-! The gradient of the gated merge of the three branches, `σ(g₀) b₀ + σ(g₁) b₁ + σ(g₂) b₂`. -/
namespace Cert.MergeBwd
open Idealize.ShloMosaic Idealize.ShloMosaic.TcCoe Idealize.ShloMosaic.Tactic Idealize.SL.Sem
open Cert.Rows Cert.Fox Cert.Kernel23Ideal Cert.Kernel23Ideal.Gen

/-- One of three. -/
def pick {α : Type} (k : Fin 3) (a b c : α) : α :=
  match k with
  | 0 => a
  | 1 => b
  | 2 => c

/-- Column `l` of the gates of branch `k`. -/
def column (k : Fin 3) (l : Fin 1024) : Fin 3072 := ⟨k.val * 1024 + l.val, by omega⟩

/-- The gates of the three branches, in the kernel. -/
theorem gates (x0 : Vec Ideal S128x3072 .f32) (p : Fin 128) (l : Fin 1024) :
    ∀ k : Fin 3, ((match k with | 0 => k0_pay7 (F := Ideal) x0 | 1 => k0_pay10 (F := Ideal) x0 | 2 => k0_pay1 (F := Ideal) x0) (ix2 p l) : EReal)
      = sigm (x0 (ix2 p (column k l)))
  | 0 => by
    dsimp only
    unfold sigm k0_pay7
    pointwise
    rw [show (⟨l.val, by omega⟩ : Fin 3072) = column 0 l from Fin.ext (by show l.val = 0 * 1024 + l.val; omega)]
  | 1 => by
    dsimp only
    unfold sigm k0_pay10
    pointwise
    rw [show (⟨1024 + l.val, by omega⟩ : Fin 3072) = column 1 l from Fin.ext (by show 1024 + l.val = 1 * 1024 + l.val; omega)]
  | 2 => by
    dsimp only
    unfold sigm k0_pay1
    pointwise
    rw [show (⟨2048 + l.val, by omega⟩ : Fin 3072) = column 2 l from Fin.ext (by show 2048 + l.val = 2 * 1024 + l.val; omega)]

theorem bit : ∀ (t : Fin grid0.N) (p : Fin 128), BitVec.setWidth 32 (IntOp.cmpi CmpIPredicate.sge
      (IntOp.addi (Scalar.muli (BitVec.ofNat 32 (grid0.coords t 0).val) 128#32) (BitVec.ofNat 32 p.val)) 112#32)
      = if 112 ≤ t.val * 128 + p.val then 1#32 else 0#32 := by
  decide +kernel

/-- The kernel multiplies the rows before the first token by zero, and the others by one. -/
def mask (i : ℕ) : EReal := if 112 ≤ i then 1 else 0

theorem masked (t : Fin cfg0.N) (x4 : Vec Ideal S128x1024 .f32) (p : Fin 128) (l : Fin 1024) :
    (k0_pay6 (F := Ideal) (grid0.coords t) x4 (ix2 p l) : EReal) = x4 (ix2 p l) * mask (t.val * 128 + p.val) := by
  unfold k0_pay6 mask
  pointwise
  rw [bit t p]
  split_ifs
  · show (_ : EReal) * ((((1#32 : BitVec 32).toInt : ℝ)) : EReal) = _
    simp
  · show (_ : EReal) * ((((0#32 : BitVec 32).toInt : ℝ)) : EReal) = _
    simp

theorem masked_row (d r : Fin 4224 → EReal) (i : Fin 4224) : d i * mask i.val * r i = padRow (fun n => d (place n) * r (place n)) 0 i := by
  unfold mask
  obtain h | ⟨n, rfl⟩ := place_cases i
  · rw [padRow_low _ _ _ h, if_neg (by omega), mul_zero, zero_mul]
  · rw [padRow_place, if_pos (by show 112 ≤ 112 + n.val; omega), mul_one]

variable (m : (ℓ : Loc nD τ sig) → Buf (Elt Ideal) ℓ) (c : Dev nD)

def gate (i : Fin 4224) (j : Fin 3072) : EReal := V m c (Pipeline.arrRef spec0 0) (ix2 i ⟨j.val, by omega⟩)
def branch (k : Fin 3) (i : Fin 4224) (l : Fin 1024) : EReal :=
  match k with
  | 0 => V m c (Pipeline.arrRef spec0 1) (ix2 i l)
  | 1 => V m c (Pipeline.arrRef spec0 2) (ix2 i l)
  | 2 => V m c (Pipeline.arrRef spec0 3) (ix2 i l)
def dmerged (i : Fin 4224) (l : Fin 1024) : EReal := V m c (Pipeline.arrRef spec0 4) (ix2 i l)

theorem index_at : ∀ t : Fin cfg0.N, win0_0.index t = ![t.val, 0] ∧ win0_1.index t = ![t.val, 0]
    ∧ win0_2.index t = ![t.val, 0] ∧ win0_3.index t = ![t.val, 0] ∧ win0_4.index t = ![t.val, 0] ∧ win0_5.index t = ![t.val, 0]
    ∧ win0_6.index t = ![t.val, 0] ∧ win0_7.index t = ![t.val, 0] ∧ win0_8.index t = ![t.val, 0] :=
  (by decide +kernel : ∀ t : Fin grid0.N, win0_0.index t = ![t.val, 0] ∧ win0_1.index t = ![t.val, 0]
    ∧ win0_2.index t = ![t.val, 0] ∧ win0_3.index t = ![t.val, 0] ∧ win0_4.index t = ![t.val, 0] ∧ win0_5.index t = ![t.val, 0]
    ∧ win0_6.index t = ![t.val, 0] ∧ win0_7.index t = ![t.val, 0] ∧ win0_8.index t = ![t.val, 0])

section rows
variable (t : Fin cfg0.N) (p : Fin 128) {i : Fin 4224} (hi : i.val = t.val * 128 + p.val)
include hi

theorem gate_at (j : Fin 3072) : X0_0 m c t (ix2 p j) = gate m c i j := by
  unfold gate X0_0 Pipeline.Window.fill
  rw [dif_pos (moved0_0 t _)]
  blk_ext [iblk, (index_at t).1]

theorem branch_at (l : Fin 1024) : ∀ k : Fin 3, pick (α := Vec Ideal S128x1024 .f32) k (iblk m c 1 t) (iblk m c 2 t) (iblk m c 3 t) (ix2 p l) = branch m c k i l
  | 0 => by
    unfold branch pick
    blk_ext [iblk, (index_at t).2.1]
  | 1 => by
    unfold branch pick
    blk_ext [iblk, (index_at t).2.2.1]
  | 2 => by
    unfold branch pick
    blk_ext [iblk, (index_at t).2.2.2.1]

theorem dmerged_at (l : Fin 1024) : iblk m c 4 t (ix2 p l) = dmerged m c i l := by
  unfold dmerged
  blk_ext [iblk, (index_at t).2.2.2.2.1]

end rows

section body
variable {c} {t : Fin cfg0.N} {a1 : Memref sig .tc .vmem S128x3072 .f32} {h1 : a1.IsWhole} {a2 : Memref sig .tc .vmem S128x1024 .f32} {h2 : a2.IsWhole}
  {a3 : Memref sig .tc .vmem S128x1024 .f32} {h3 : a3.IsWhole} {a4 : Memref sig .tc .vmem S128x1024 .f32} {h4 : a4.IsWhole} {a5 : Memref sig .tc .vmem S128x1024 .f32} {h5 : a5.IsWhole}
  {a6 : Memref sig .tc .vmem S128x1024 .bf16} {h6 : a6.IsWhole} {a7 : Memref sig .tc .vmem S128x1024 .bf16} {h7 : a7.IsWhole} {a8 : Memref sig .tc .vmem S128x1024 .bf16} {h8 : a8.IsWhole}
  {a9 : Memref sig .tc .vmem S128x3072 .bf16} {h9 : a9.IsWhole} {x0 : Vec Ideal S128x3072 .f32} {x1 x2 x3 x4 : Vec Ideal S128x1024 .f32} {p : Fin 128} {l : Fin 1024}

theorem side0 : (out0_A_5 (F := Ideal) c (grid0.coords t) a1 h1 a2 h2 a3 h3 a4 h4 a5 h5 a6 h6 a7 h7 a8 h8 a9 h9 x0 x1 x2 x3 x4 (ix2 p l) : EReal)
      = x4 (ix2 p l) * mask (t.val * 128 + p.val) * sigm (x0 (ix2 p (column 0 l))) := by
  frame_out
  rw [← masked, ← gates x0 p l 0]
  rfl

theorem side1 : (out0_A_6 (F := Ideal) c (grid0.coords t) a1 h1 a2 h2 a3 h3 a4 h4 a5 h5 a6 h6 a7 h7 a8 h8 a9 h9 x0 x1 x2 x3 x4 (ix2 p l) : EReal)
      = x4 (ix2 p l) * mask (t.val * 128 + p.val) * sigm (x0 (ix2 p (column 1 l))) := by
  frame_out
  rw [← masked, ← gates x0 p l 1]
  rfl

theorem side2 : (out0_A_7 (F := Ideal) c (grid0.coords t) a1 h1 a2 h2 a3 h3 a4 h4 a5 h5 a6 h6 a7 h7 a8 h8 a9 h9 x0 x1 x2 x3 x4 (ix2 p l) : EReal)
      = x4 (ix2 p l) * mask (t.val * 128 + p.val) * sigm (x0 (ix2 p (column 2 l))) := by
  frame_out
  rw [← masked, ← gates x0 p l 2]
  rfl

/-- The gradients with respect to the gates of the three branches, in the kernel. -/
def pieces (t : Fin cfg0.N) (x0 : Vec Ideal S128x3072 .f32) (x1 x2 x3 x4 : Vec Ideal S128x1024 .f32) (k : Fin 3) : FVec Ideal S128x1024 .f32 :=
  match k with
  | 0 => k0_pay9 (F := Ideal) (grid0.coords t) x0 x1 x4
  | 1 => mulf (k0_pay12 (F := Ideal) (grid0.coords t) x0 x2 x4) (subf (broadcast S128x1024 (Scalar.ofBits .f32 0x3F800000#32)) (k0_pay10 (F := Ideal) x0))
  | 2 => mulf (mulf (mulf (k0_pay6 (F := Ideal) (grid0.coords t) x4) x3) (k0_pay1 (F := Ideal) x0))
      (subf (broadcast S128x1024 (Scalar.ofBits .f32 0x3F800000#32)) (k0_pay1 (F := Ideal) x0))

theorem pieces_at : ∀ k : Fin 3, (pieces t x0 x1 x2 x3 x4 k (ix2 p l) : EReal)
      = x4 (ix2 p l) * mask (t.val * 128 + p.val) * pick k x1 x2 x3 (ix2 p l)
        * sigm (x0 (ix2 p (column k l))) * (1 - sigm (x0 (ix2 p (column k l))))
  | 0 => by
    rw [← masked, ← gates x0 p l 0]
    unfold pick pieces k0_pay9
    dsimp only
    generalize k0_pay6 (F := Ideal) (grid0.coords t) x4 = a
    generalize k0_pay7 (F := Ideal) x0 = b
    pointwise
  | 1 => by
    rw [← masked, ← gates x0 p l 1]
    unfold pick pieces k0_pay12
    dsimp only
    generalize k0_pay6 (F := Ideal) (grid0.coords t) x4 = a
    generalize k0_pay10 (F := Ideal) x0 = b
    pointwise
  | 2 => by
    rw [← masked, ← gates x0 p l 2]
    unfold pick pieces
    dsimp only
    generalize k0_pay6 (F := Ideal) (grid0.coords t) x4 = a
    generalize k0_pay1 (F := Ideal) x0 = b
    pointwise

theorem gateSide (k : Fin 3) {q : Fin 3072} (hq : q.val = k.val * 1024 + l.val) :
      (out0_A_8 (F := Ideal) c (grid0.coords t) a1 h1 a2 h2 a3 h3 a4 h4 a5 h5 a6 h6 a7 h7 a8 h8 a9 h9 x0 x1 x2 x3 x4 (ix2 p q) : EReal)
      = x4 (ix2 p l) * mask (t.val * 128 + p.val) * pick k x1 x2 x3 (ix2 p l)
        * sigm (x0 (ix2 p (column k l))) * (1 - sigm (x0 (ix2 p (column k l)))) := by
  frame_out
  exact Eq.trans (concatenate_at (pieces t x0 x1 x2 x3 x4) concatenates_S128x1024_S128x1024_S128x1024_S128x3072_d1 p q k l hq) (pieces_at k)

end body

/-- The gradient with respect to a branch, and with respect to its gates. -/
def dbranch (k : Fin 3) (i : Fin 4224) (l : Fin 1024) : EReal :=
  padRow (fun n => dmerged m c (place n) l * sigm (gate m c (place n) (column k l))) 0 i
def dgate (k : Fin 3) (i : Fin 4224) (l : Fin 1024) : EReal :=
  padRow (fun n => dmerged m c (place n) l * (branch m c k (place n) l
    * (sigm (gate m c (place n) (column k l)) * (1 - sigm (gate m c (place n) (column k l)))))) 0 i

section rows
variable {m c} {d b g : EReal} {k : Fin 3} {l : Fin 1024} {r : ℕ} {i : Fin 4224}

theorem dbranch_row (hi : i.val = r) (hd : d = dmerged m c i l) (hg : g = gate m c i (column k l)) : d * mask r * sigm g = dbranch m c k i l := by
  rw [hd, hg, ← hi]
  exact masked_row (fun i => dmerged m c i l) (fun i => sigm (gate m c i (column k l))) i

theorem dgate_row (hi : i.val = r) (hd : d = dmerged m c i l) (hb : b = branch m c k i l) (hg : g = gate m c i (column k l)) :
    d * mask r * b * sigm g * (1 - sigm g) = dgate m c k i l := by
  rw [hd, hb, hg, ← hi, mul_assoc, mul_assoc (_ * _)]
  exact masked_row (fun i => dmerged m c i l) (fun i => branch m c k i l * (sigm (gate m c i (column k l)) * (1 - sigm (gate m c i (column k l))))) i

end rows

/-- The arrays the kernel leaves. -/
theorem final0 : (dats m 0 c).arrAt 5 cfg0.N = fun i : S4224x1024.Idx => dbranch m c 0 (i 0) (i 1) := by
  refine (dats m 0 c).arrAt_eq_of_covers 5 _ (by decide +kernel) fun t hf y => ?_
  blk_simp
  rw [after0_5]
  unfold outsAt0
  dsimp only
  idx_vars y
  have hi := show (((View.whole main_v0_0).slice (win0_5.rect t)).emb (ix2 y0 y1) 0).val = t.val * 128 + y0.val from by blk_simp [(index_at t).2.2.2.2.2.1]
  refine Eq.trans ?_ (congrArg (dbranch m c 0 _) (show y1 = _ from Fin.ext (by blk_simp [(index_at t).2.2.2.2.2.1])))
  exact side0.trans (dbranch_row hi (dmerged_at m c t y0 hi y1) (gate_at m c t y0 hi _))

theorem final1 : (dats m 0 c).arrAt 6 cfg0.N = fun i : S4224x1024.Idx => dbranch m c 1 (i 0) (i 1) := by
  refine (dats m 0 c).arrAt_eq_of_covers 6 _ (by decide +kernel) fun t hf y => ?_
  blk_simp
  rw [after0_6]
  unfold outsAt0
  dsimp only
  idx_vars y
  have hi := show (((View.whole main_v0_1).slice (win0_6.rect t)).emb (ix2 y0 y1) 0).val = t.val * 128 + y0.val from by blk_simp [(index_at t).2.2.2.2.2.2.1]
  refine Eq.trans ?_ (congrArg (dbranch m c 1 _) (show y1 = _ from Fin.ext (by blk_simp [(index_at t).2.2.2.2.2.2.1])))
  exact side1.trans (dbranch_row hi (dmerged_at m c t y0 hi y1) (gate_at m c t y0 hi _))

theorem final2 : (dats m 0 c).arrAt 7 cfg0.N = fun i : S4224x1024.Idx => dbranch m c 2 (i 0) (i 1) := by
  refine (dats m 0 c).arrAt_eq_of_covers 7 _ (by decide +kernel) fun t hf y => ?_
  blk_simp
  rw [after0_7]
  unfold outsAt0
  dsimp only
  idx_vars y
  have hi := show (((View.whole main_v0_2).slice (win0_7.rect t)).emb (ix2 y0 y1) 0).val = t.val * 128 + y0.val from by blk_simp [(index_at t).2.2.2.2.2.2.2.1]
  refine Eq.trans ?_ (congrArg (dbranch m c 2 _) (show y1 = _ from Fin.ext (by blk_simp [(index_at t).2.2.2.2.2.2.2.1])))
  exact side2.trans (dbranch_row hi (dmerged_at m c t y0 hi y1) (gate_at m c t y0 hi _))

theorem finalGate : (dats m 0 c).arrAt 8 cfg0.N = fun i : S4224x3072.Idx => join (N := 3) (K := 1024) rfl (dgate m c) (i 0) (i 1) := by
  refine (dats m 0 c).arrAt_eq_of_covers 8 _ (by decide +kernel) fun t hf y => ?_
  blk_simp
  rw [after0_8]
  unfold outsAt0
  dsimp only
  idx_vars y
  obtain ⟨k, l, h⟩ := split (N := 3) (K := 1024) rfl y1
  have hi := show (((View.whole main_v0_3).slice (win0_8.rect t)).emb (ix2 y0 y1) 0).val = t.val * 128 + y0.val from by blk_simp [(index_at t).2.2.2.2.2.2.2.2]
  refine Eq.trans ?_ (join_at rfl _ _ k l (by blk_simp [(index_at t).2.2.2.2.2.2.2.2]; omega)).symm
  exact (gateSide k h).trans (dgate_row hi (dmerged_at m c t y0 hi l) (branch_at m c t y0 hi l k) (gate_at m c t y0 hi _))

theorem branch_args (i : Fin 4224) (l : Fin 1024) : ∀ k : Fin 3, branch m c k i l
    = pick (α := (⟨S4224x1024, .f32⟩ : BufTy).Contents (Elt Ideal)) k (m ((c : Thread nD τ).loc main_arg1)) (m ((c : Thread nD τ).loc main_arg2)) (m ((c : Thread nD τ).loc main_arg3)) (ix2 i l)
  | 0 => congrFun (V_main_arg1 m c) _
  | 1 => congrFun (V_main_arg2 m c) _
  | 2 => congrFun (V_main_arg3 m c) _

section reference
open Reference23Ideal.Read
variable (x0 : (⟨S4224x6528, .f32⟩ : BufTy).Contents (Elt Ideal)) (x1 x2 x3 x4 : (⟨S4224x1024, .f32⟩ : BufTy).Contents (Elt Ideal)) (n : Fin 4112) (l : Fin 1024)

theorem sigm_at (j : Fin 3072) : (val_main_v10 (F := Ideal) x0 (ix2 n j) : EReal) = sigm (x0 (ix2 (place n) ⟨j.val, by omega⟩)) := by
  rw [val_main_v10_apply, val_main_v9_apply, val_main_v8_apply, val_main_v7_apply, val_main_v6_apply, val_main_v5_apply, val_main_v1_apply, val_main_v0_apply,
    val_main_cst_0_apply, val_main_cst_apply]
  have e : idx_main_v0 (idx_main_v1 (ix2 n j)) = ix2 (place n) ⟨j.val, by omega⟩ := by funext d; fin_cases d <;> rfl
  rw [e]
  unfold sigm
  rw [zero_sub]
  pointwise

theorem zero_int : (FloatOps.sitofp (F := Ideal) .bf16 (0#32 : BitVec 32) : EReal) = 0 := by
  show ((((0#32 : BitVec 32).toInt : ℝ)) : EReal) = 0
  simp

theorem ct_at : val_main_v22 (F := Ideal) x4 (ix2 n l) = x4 (ix2 (place n) l) := by
  rw [val_main_v22_apply]
  exact congrArg x4 (by funext d; fin_cases d <;> rfl)

theorem refGates : ∀ k : Fin 3, ((match k with | 0 => val_main_v14 (F := Ideal) x0 | 1 => val_main_v15 (F := Ideal) x0 | 2 => val_main_v16 (F := Ideal) x0) (ix2 n l) : EReal)
      = sigm (x0 (ix2 (place n) ⟨(column k l).val, by omega⟩))
  | 0 => by
    dsimp only
    rw [val_main_v14_apply, ← sigm_at]
    exact congrArg _ (by funext d; fin_cases d <;> [rfl; exact Fin.ext (by show l.val = 0 * 1024 + l.val; omega)])
  | 1 => by
    dsimp only
    rw [val_main_v15_apply, ← sigm_at]
    exact congrArg _ (by funext d; fin_cases d <;> [rfl; exact Fin.ext (by show 1024 + l.val = 1 * 1024 + l.val; omega)])
  | 2 => by
    dsimp only
    rw [val_main_v16_apply, ← sigm_at]
    exact congrArg _ (by funext d; fin_cases d <;> [rfl; exact Fin.ext (by show 2048 + l.val = 2 * 1024 + l.val; omega)])

theorem refBranch (i : Fin 4224) : ∀ k : Fin 3, ((match k with | 0 => val_main_v32 (F := Ideal) x0 x4 | 1 => val_main_v34 (F := Ideal) x0 x4 | 2 => val_main_v36 (F := Ideal) x0 x4) (ix2 i l) : EReal)
      = padRow (fun n => x4 (ix2 (place n) l) * sigm (x0 (ix2 (place n) ⟨(column k l).val, by omega⟩))) 0 i
  | 0 => by
    dsimp only
    unfold val_main_v32 val_main_call0_v0 val_main_c val_main_v31
    have e (n : Fin 4112) : (val_main_v27 (F := Ideal) x0 x4 (ix2 n l) : EReal) = _ :=
      (val_main_v27_apply _ _ _).trans (((congrArg₂ (FloatOps.mulf (F := Ideal)) (refGates x0 n l 0) (ct_at x4 n l))).trans (mul_comm _ _))
    generalize val_main_v27 (F := Ideal) x0 x4 = s at e
    pointwise
    simp only [e, zero_int]
    exact padRow_eq (fun n => x4 (ix2 (place n) l) * sigm (x0 (ix2 (place n) ⟨(column 0 l).val, by omega⟩))) 0 i
  | 1 => by
    dsimp only
    unfold val_main_v34 val_main_call1_v0 val_main_c_2 val_main_v33
    have e (n : Fin 4112) : (val_main_v25 (F := Ideal) x0 x4 (ix2 n l) : EReal) = _ :=
      (val_main_v25_apply _ _ _).trans (((congrArg₂ (FloatOps.mulf (F := Ideal)) (refGates x0 n l 1) (ct_at x4 n l))).trans (mul_comm _ _))
    generalize val_main_v25 (F := Ideal) x0 x4 = s at e
    pointwise
    simp only [e, zero_int]
    exact padRow_eq (fun n => x4 (ix2 (place n) l) * sigm (x0 (ix2 (place n) ⟨(column 1 l).val, by omega⟩))) 0 i
  | 2 => by
    dsimp only
    unfold val_main_v36 val_main_call2_v0 val_main_c_3 val_main_v35
    have e (n : Fin 4112) : (val_main_v23 (F := Ideal) x0 x4 (ix2 n l) : EReal) = _ :=
      (val_main_v23_apply _ _ _).trans (((congrArg₂ (FloatOps.mulf (F := Ideal)) (refGates x0 n l 2) (ct_at x4 n l))).trans (mul_comm _ _))
    generalize val_main_v23 (F := Ideal) x0 x4 = s at e
    pointwise
    simp only [e, zero_int]
    exact padRow_eq (fun n => x4 (ix2 (place n) l) * sigm (x0 (ix2 (place n) ⟨(column 2 l).val, by omega⟩))) 0 i

theorem refPieces : ∀ k : Fin 3, ((match k with | 0 => val_main_v28 (F := Ideal) x1 x4 | 1 => val_main_v26 (F := Ideal) x2 x4 | 2 => val_main_v24 (F := Ideal) x3 x4) (ix2 n l) : EReal)
      = x4 (ix2 (place n) l) * pick k x1 x2 x3 (ix2 (place n) l)
  | 0 => by
    dsimp only
    rw [val_main_v28_apply, ct_at, val_main_v2_apply]
    exact congrArg (fun i => (x4 (ix2 (place n) l) * x1 i : EReal)) (by funext d; fin_cases d <;> rfl)
  | 1 => by
    dsimp only
    rw [val_main_v26_apply, ct_at, val_main_v3_apply]
    exact congrArg (fun i => (x4 (ix2 (place n) l) * x2 i : EReal)) (by funext d; fin_cases d <;> rfl)
  | 2 => by
    dsimp only
    rw [val_main_v24_apply, ct_at, val_main_v4_apply]
    exact congrArg (fun i => (x4 (ix2 (place n) l) * x3 i : EReal)) (by funext d; fin_cases d <;> rfl)

theorem refGate (i : Fin 4224) (k : Fin 3) {j : Fin 3072} (hj : j.val = k.val * 1024 + l.val) :
    (val_main_v38 (F := Ideal) x0 x1 x2 x3 x4 (ix2 i j) : EReal)
      = padRow (fun n => x4 (ix2 (place n) l) * (pick k x1 x2 x3 (ix2 (place n) l)
        * (sigm (x0 (ix2 (place n) ⟨(column k l).val, by omega⟩)) * (1 - sigm (x0 (ix2 (place n) ⟨(column k l).val, by omega⟩)))))) 0 i := by
  obtain rfl : j = column k l := Fin.ext hj
  unfold val_main_v38 val_main_call3_v0 val_main_c_4 val_main_v37
  have e (n : Fin 4112) : (val_main_v30 (F := Ideal) x0 x1 x2 x3 x4 (ix2 n (column k l)) : EReal)
      = x4 (ix2 (place n) l) * (pick k x1 x2 x3 (ix2 (place n) l)
        * (sigm (x0 (ix2 (place n) ⟨(column k l).val, by omega⟩)) * (1 - sigm (x0 (ix2 (place n) ⟨(column k l).val, by omega⟩))))) := by
    rw [val_main_v30_apply, val_main_v13_apply, val_main_v12_apply, sigm_at, val_main_v11_apply, val_main_cst_1_apply, ← mul_assoc]
    refine congrArg₂ (fun a b : EReal => a * b) (Eq.trans ?_ (refPieces x1 x2 x3 x4 n l k)) (by pointwise)
    exact concatenate_at (fun k : Fin 3 => match k with | 0 => val_main_v28 (F := Ideal) x1 x4 | 1 => val_main_v26 (F := Ideal) x2 x4 | 2 => val_main_v24 (F := Ideal) x3 x4)
      Reference23Ideal.Gen.concatenates_S4112x1024_S4112x1024_S4112x1024_S4112x3072_d1 n (column k l) k l rfl
  generalize val_main_v30 (F := Ideal) x0 x1 x2 x3 x4 = s at e
  pointwise
  simp only [e, zero_int]
  exact padRow_eq (fun n => x4 (ix2 (place n) l) * (pick k x1 x2 x3 (ix2 (place n) l)
    * (sigm (x0 (ix2 (place n) ⟨(column k l).val, by omega⟩)) * (1 - sigm (x0 (ix2 (place n) ⟨(column k l).val, by omega⟩)))))) 0 i

end reference

theorem claim : algebraic_Kernel23Ideal_Reference23Ideal (hKernel23Ideal := facts) (hReference23Ideal := Reference23Ideal.Gen.facts) := by
  intro m g m' g' _ ha
  refine ⟨fun c => (dats m 0 c).arrAt 5 cfg0.N, fun c => (dats m 0 c).arrAt 6 cfg0.N, fun c => (dats m 0 c).arrAt 7 cfg0.N,
    fun c => (dats m 0 c).arrAt 8 cfg0.N, Value.run_blocks m g, ?_⟩
  refine (θ_run Reference23Ideal.defs _ _).mono (fun r h c => ⟨(h c).1.trans ?_, (h c).2.1.trans ?_, (h c).2.2.1.trans ?_, (h c).2.2.2.1.trans ?_, (h c).2.2.2.2⟩)
    (Reference23Ideal.Value.run m' g')
  · dsimp only
    rw [Reference23Ideal.Read.val_main_v32_eq, final0, (ha c).1, (ha c).2.2.2.2]
    funext i
    idx_vars i
    refine (refBranch _ _ i1 i0 0).trans ?_
    unfold dbranch dmerged gate
    rw [V_main_arg0 m c, V_main_arg4 m c]
  · dsimp only
    rw [Reference23Ideal.Read.val_main_v34_eq, final1, (ha c).1, (ha c).2.2.2.2]
    funext i
    idx_vars i
    refine (refBranch _ _ i1 i0 1).trans ?_
    unfold dbranch dmerged gate
    rw [V_main_arg0 m c, V_main_arg4 m c]
  · dsimp only
    rw [Reference23Ideal.Read.val_main_v36_eq, final2, (ha c).1, (ha c).2.2.2.2]
    funext i
    idx_vars i
    refine (refBranch _ _ i1 i0 2).trans ?_
    unfold dbranch dmerged gate
    rw [V_main_arg0 m c, V_main_arg4 m c]
  · dsimp only
    rw [Reference23Ideal.Read.val_main_v38_eq, finalGate, (ha c).1, (ha c).2.1, (ha c).2.2.1, (ha c).2.2.2.1, (ha c).2.2.2.2]
    funext i
    idx_vars i
    obtain ⟨k, l, h⟩ := split (N := 3) (K := 1024) rfl i1
    refine (refGate _ _ _ _ _ l i0 k h).trans (Eq.trans ?_ (join_at rfl _ i0 k l h).symm)
    unfold dgate dmerged gate
    rw [V_main_arg0 m c, V_main_arg4 m c]
    simp only [branch_args]

theorem frame_reference : quiescent_Reference23Ideal (hReference23Ideal := Reference23Ideal.Gen.facts) := fun m ρ _ =>
  (θ_run Reference23Ideal.defs _ _).mono (fun r h => ⟨fun c => (h c).2.2.2.2, sem_eq_zero_of_no_sems (by decide) r.2⟩)
    (Reference23Ideal.Value.run (F := Ideal) m ρ)

end Cert.MergeBwd
end
-- ==== Proof.ActBwd.lean ====
module
public import proofs.«01_k».proof.Defs
public import proofs.«01_k».proof.Proof.Rows
public import proofs.«01_k».proof.Proof.Finite
public import proofs.«01_k».proof.Proof.Gen.Pre_finite
public import proofs.«01_k».proof.Proof.Gen.Pre_finite_act
public import proofs.«01_k».proof.Proof.Gen.Kernel24Ideal.Value
public import proofs.«01_k».proof.Proof.Gen.Reference24Ideal.Read
@[expose] public section
set_option maxRecDepth 16384
noncomputable section
/-! The gradient of the gated unit of the feed-forward part, `silu(gate) · up`. -/
namespace Cert.ActBwd
open Idealize.ShloMosaic Idealize.ShloMosaic.TcCoe Idealize.ShloMosaic.Tactic Idealize.SL.Sem
open Cert.Rows Cert.Kernel24Ideal Cert.Kernel24Ideal.Gen

/-- The gradient with respect to the gate and to the other factor, as the kernel writes them. -/
def grad (k : Fin 2) (g u d : EReal) : EReal :=
  match k with
  | 0 => d * u * (sigm g * (1 + g * (1 - sigm g)))
  | 1 => d * (g * sigm g)

/-- The pieces of one block, side by side. -/
theorem piece (x0 x1 x2 : Vec Ideal S128x2816 .f32) (p : Fin 128) (l : Fin 2816) :
    ∀ k : Fin 2, (Value.Cat3_0 (F := Ideal) x2 x1 x0 k (ix2 p l) : EReal) = grad k (x0 (ix2 p l)) (x1 (ix2 p l)) (x2 (ix2 p l))
  | 0 => by
    unfold grad sigm Value.Cat3_0
    pointwise
  | 1 => by
    unfold grad sigm Value.Cat3_0
    pointwise

/-- What one point leaves in its block. -/
theorem block {x0 x1 x2 : Vec Ideal S128x2816 .f32} {p : Fin 128} {q : Fin 5632} {k : Fin 2} {l : Fin 2816} (hq : q.val = k.val * 2816 + l.val) :
    out0_3 (F := Ideal) x0 x1 x2 (ix2 p q) = grad k (x0 (ix2 p l)) (x1 (ix2 p l)) (x2 (ix2 p l)) := by
  unfold out0_3
  have ld (x : Vec Ideal S128x2816 .f32) : View.ld x r0_0 = x := View.ld_unit_zero (S := S128x2816) (off := ![0, 0]) (by funext a; fin_cases a <;> rfl) _ x
  rw [ld, ld, ld]
  refine (Value.canon3_eq _ _ _ _).trans ?_
  have e : Value.csel3_0 (ix2 p q) = k := Fin.ext (by show q.val / 2816 = k.val; omega)
  have e' : Value.ix3_0 (ix2 p q) = ix2 p l := by
    funext a
    match a with
    | ⟨0, _⟩ => rfl
    | ⟨1, _⟩ => exact Fin.ext (by show q.val % 2816 = l.val; omega)
  unfold Value.E3
  rw [e, e']
  exact piece x0 x1 x2 p l k

variable (m : (ℓ : Loc nD τ sig) → Buf (Elt Ideal) ℓ) (c : Dev nD)

def gate (i : Fin 4224) (l : Fin 2816) : EReal := V m c (Pipeline.arrRef spec0 0) (ix2 i ⟨l.val, by omega⟩)
def up (i : Fin 4224) (l : Fin 2816) : EReal := V m c (Pipeline.arrRef spec0 1) (ix2 i ⟨2816 + l.val, by omega⟩)
def dact (i : Fin 4224) (l : Fin 2816) : EReal := V m c (Pipeline.arrRef spec0 2) (ix2 i l)

theorem index_at : ∀ t : Fin cfg0.N, win0_0.index t = ![t.val, 0] ∧ win0_1.index t = ![t.val, 1]
    ∧ win0_2.index t = ![t.val, 0] ∧ win0_3.index t = ![t.val, 0] :=
  (by decide +kernel : ∀ t : Fin grid0.N, win0_0.index t = ![t.val, 0] ∧ win0_1.index t = ![t.val, 1]
    ∧ win0_2.index t = ![t.val, 0] ∧ win0_3.index t = ![t.val, 0])

section rows
variable (t : Fin cfg0.N) (p : Fin 128) (l : Fin 2816) {i : Fin 4224} (hi : i.val = t.val * 128 + p.val)
include hi

theorem gate_at : iblk m c 0 t (ix2 p l) = gate m c i l := by
  unfold gate
  blk_ext [iblk, (index_at t).1]

theorem up_at : iblk m c 1 t (ix2 p l) = up m c i l := by
  unfold up
  blk_ext [iblk, (index_at t).2.1]

theorem dact_at : iblk m c 2 t (ix2 p l) = dact m c i l := by
  unfold dact
  blk_ext [iblk, (index_at t).2.2.1]

end rows

/-- The array the kernel leaves. -/
theorem final : (dats m 0 c).arrAt 3 cfg0.N = fun i : S4224x5632.Idx =>
    join (N := 2) (K := 2816) rfl (fun k i l => grad k (gate m c i l) (up m c i l) (dact m c i l)) (i 0) (i 1) := by
  refine (dats m 0 c).arrAt_eq_of_covers 3 _ (by decide +kernel) fun t hf y => ?_
  blk_simp
  rw [after0_3]
  idx_vars y
  obtain ⟨k, l, h⟩ := split (N := 2) (K := 2816) rfl y1
  refine (block h).trans (Eq.trans ?_ (join_at rfl _ _ k l (by blk_simp [(index_at t).2.2.2]; omega)).symm)
  exact congr (congrArg₂ (grad k) (gate_at m c t y0 l (by blk_simp [(index_at t).2.2.2])) (up_at m c t y0 l (by blk_simp [(index_at t).2.2.2])))
    (dact_at m c t y0 l (by blk_simp [(index_at t).2.2.2]))

/-- The two gradients, as the reference writes them. -/
def refGrad (k : Fin 2) (g u d : EReal) : EReal :=
  match k with
  | 0 => d * u * sigm g + g * (d * u) * (sigm g * (1 - sigm g))
  | 1 => g * sigm g * d

theorem sigm_top : sigm ⊤ = 1 := by
  unfold sigm
  rw [zero_sub, EReal.neg_top, Ideal.exp_bot, add_zero]
  simp [Ideal.div]

theorem sigm_bot : sigm ⊥ = 0 := by
  unfold sigm
  rw [zero_sub, EReal.neg_bot, Ideal.exp_top, EReal.add_top_of_ne_bot (x := 1) (EReal.coe_ne_bot 1)]
  simp [Ideal.div]

/-- The gradients agree at every gate, if the other two numbers are real. -/
theorem grad_eq (k : Fin 2) (g : EReal) (u d : ℝ) : grad k g u d = refGrad k g u d := by
  unfold grad refGrad
  match k with
  | 0 =>
    induction g with
    | top =>
      have e : (1 : EReal) - 1 = 0 := EReal.sub_self (EReal.coe_ne_top 1) (EReal.coe_ne_bot 1)
      simp [sigm_top, e]
    | bot => simp [sigm_bot]
    | coe g =>
      dsimp only
      rw [sigm_coe]
      simp only [← EReal.coe_one, ← EReal.coe_mul, ← EReal.coe_add, ← EReal.coe_sub]
      exact congrArg _ (by ring)
  | 1 => exact mul_comm _ _

theorem grad_of_real (k : Fin 2) (g : EReal) {u d : EReal} (hu : u = (u.toReal : EReal)) (hd : d = (d.toReal : EReal)) : grad k g u d = refGrad k g u d := by
  rw [hu, hd]
  exact grad_eq k g _ _

section reference
open Reference24Ideal.Read
variable (x0 : (⟨S4224x5632, .f32⟩ : BufTy).Contents (Elt Ideal)) (x1 : (⟨S4224x2816, .f32⟩ : BufTy).Contents (Elt Ideal)) (i : Fin 4224) (l : Fin 2816)

theorem sigm_at : (val_main_v2_2 (F := Ideal) x0 (ix2 i l) : EReal) = sigm (x0 (ix2 i ⟨l.val, by omega⟩)) := by
  rw [val_main_v2_2_apply, val_main_call0_v4_apply, val_main_call0_v3_apply, val_main_call0_v2_apply, val_main_call0_v1_apply, val_main_call0_v0_apply,
    val_main_v0_apply, val_main_call0_cst_0_apply, val_main_call0_cst_apply]
  have e : idx_main_v0 (ix2 i l) = ix2 i ⟨l.val, by omega⟩ := by funext d; fin_cases d <;> rfl
  rw [e]
  unfold sigm
  rw [zero_sub]
  pointwise

theorem refPiece : ∀ k : Fin 2, ((match k with | 0 => val_main_v6 (F := Ideal) x0 x1 | 1 => val_main_v4 (F := Ideal) x0 x1) (ix2 i l) : EReal)
      = refGrad k (x0 (ix2 i ⟨l.val, by omega⟩)) (x0 (ix2 i ⟨2816 + l.val, by omega⟩)) (x1 (ix2 i l))
  | 0 => by
    dsimp only
    rw [val_main_v6_apply, val_main_call1_v1_apply, val_main_call1_v2_apply, val_main_call1_v0_apply, val_main_v2_1_apply, val_main_call0_v7_apply,
      val_main_v5_apply, sigm_at, val_main_v0_apply, val_main_v1_apply, val_main_call0_v6_apply, val_main_call0_cst_1_apply]
    have e : idx_main_v0 (ix2 i l) = ix2 i ⟨l.val, by omega⟩ := by funext d; fin_cases d <;> rfl
    have e' : idx_main_v1 (ix2 i l) = ix2 i ⟨2816 + l.val, by omega⟩ := by funext d; fin_cases d <;> rfl
    rw [e, e']
    unfold refGrad
    pointwise
  | 1 => by
    dsimp only
    rw [val_main_v4_apply, val_main_v2_0_apply, sigm_at, val_main_v0_apply]
    have e : idx_main_v0 (ix2 i l) = ix2 i ⟨l.val, by omega⟩ := by funext d; fin_cases d <;> rfl
    rw [e]
    unfold refGrad
    pointwise

/-- The reference's array. -/
theorem reference (k : Fin 2) {j : Fin 5632} (hj : j.val = k.val * 2816 + l.val) :
    (val_main_v8 (F := Ideal) x0 x1 (ix2 i j) : EReal)
      = refGrad k (x0 (ix2 i ⟨l.val, by omega⟩)) (x0 (ix2 i ⟨2816 + l.val, by omega⟩)) (x1 (ix2 i l)) := by
  rw [val_main_v8_apply]
  refine Eq.trans ?_ (refPiece x0 x1 i l k)
  exact concatenate_at (fun k : Fin 2 => match k with | 0 => val_main_v6 (F := Ideal) x0 x1 | 1 => val_main_v4 (F := Ideal) x0 x1)
    Reference24Ideal.Gen.concatenates_S4224x2816_S4224x2816_S4224x5632_d1 i j k l hj

end reference

/-- Where the precondition holds, the factor beside the gate and the gradient from above are real numbers. -/
theorem reals [Cert.Pre_finite_act.Facts] (x0 : FVec Ideal S4224x5632 .f32) (x1 : FVec Ideal S4224x2816 .f32)
    (h : Cert.Pre_finite_act.fn (F := Ideal) x0 x1 = fun _ => 1#1) (i : Fin 4224) (l : Fin 2816) :
    (x0 (ix2 i ⟨2816 + l.val, by omega⟩) : EReal) = ((x0 (ix2 i ⟨2816 + l.val, by omega⟩) : EReal).toReal : EReal) ∧ (x1 (ix2 i l) : EReal) = ((x1 (ix2 i l) : EReal).toReal : EReal) := by
  have e := congrFun h (Shape.Idx.first Cert.Pre_finite_act.Facts.h_S_)
  obtain ⟨e0, e1⟩ := IntOp.andi_eq_one.1 (show IntOp.andi _ _ = 1#1 from e)
  have f := @Cert.Pre_finite.all_real Cert.Pre_finite.Gen.facts _ _ _ _ _ _ _ _ e0 (ix2 i l)
  beta_reduce at f
  have s : (extractStridedSlice Cert.Pre_finite_act.S4224x2816 ![0, 2816] x0 Cert.Pre_finite_act.Facts.slices_S4224x5632_S4224x2816_0_2816 (ix2 i l) : EReal)
      = x0 (ix2 i ⟨2816 + l.val, by omega⟩) := by
    pointwise
  rw [s] at f
  exact ⟨f, @Cert.Pre_finite.all_real Cert.Pre_finite.Gen.facts _ x1 _ _ _ _ _ _ e1 _⟩

theorem claim : algebraic_Kernel24Ideal_Reference24Ideal_pre_finite_act (hKernel24Ideal := facts) (hReference24Ideal := Reference24Ideal.Gen.facts)
    (hPre_finite_act := Cert.Pre_finite_act.Gen.facts) := by
  intro m g m' g' hp ha
  refine ⟨fun c => (dats m 0 c).arrAt 3 cfg0.N, Value.run_blocks m g, ?_⟩
  refine (θ_run Reference24Ideal.defs _ _).mono (fun r h c => ⟨(h c).1.trans ?_, (h c).2⟩) (Reference24Ideal.Value.run m' g')
  have hr := @reals Cert.Pre_finite_act.Gen.facts _ _ (hp c)
  dsimp only
  rw [Reference24Ideal.Read.val_main_v8_eq, final, (ha c).1, (ha c).2]
  funext i
  idx_vars i
  obtain ⟨k, l, h⟩ := split (N := 2) (K := 2816) rfl i1
  refine (reference _ _ i0 l k h).trans (Eq.trans ?_ (join_at rfl _ i0 k l h).symm)
  unfold gate up dact
  obtain ⟨r0, r1⟩ := hr i0 l
  exact (grad_of_real k _ r0 r1).symm

theorem frame_reference : quiescent_Reference24Ideal (hReference24Ideal := Reference24Ideal.Gen.facts) := fun m ρ _ =>
  (θ_run Reference24Ideal.defs _ _).mono (fun r h => ⟨fun c => (h c).2, sem_eq_zero_of_no_sems (by decide) r.2⟩)
    (Reference24Ideal.Value.run (F := Ideal) m ρ)

end Cert.ActBwd
end
-- ==== Proof.NormBwd.lean ====
module
public import proofs.«01_k».proof.Defs
public import proofs.«01_k».proof.Proof.Rows
public import proofs.«01_k».proof.Proof.Fox
public import proofs.«01_k».proof.Proof.Product
public import proofs.«01_k».proof.Proof.MergeBwd
public import proofs.«01_k».proof.Proof.Gen.Kernel25Ideal.Value
public import proofs.«01_k».proof.Proof.Gen.Reference25Ideal.Read
@[expose] public section
set_option maxRecDepth 16384
noncomputable section
/-! The gradient of the normalised rows `x · rsqrt(mean(x²) + ε) · g`, added to a gradient that skips the normalisation. -/
namespace Cert.NormBwd
open Idealize.ShloMosaic Idealize.ShloMosaic.TcCoe Idealize.ShloMosaic.Tactic Idealize.SL.Sem
open Cert.Rows Cert.Fox Cert.Kernel25Ideal Cert.Kernel25Ideal.Gen
open Cert.MergeBwd (mask)
open Cert.Product (part sum_parts cell cell_in cell_fin)

/-! ## One row -/

/-- The length of a row, and the small number added to its mean square. -/
def len : EReal := Ideal.ofBits .f32 1149239296#32
def eps : EReal := Ideal.ofBits .f32 897988541#32

def meanSq (x : Fin 1024 → EReal) : EReal := Ideal.div (∑ k, x k * x k) len + eps
def scale (x : Fin 1024 → EReal) : EReal := Ideal.rsqrt (meanSq x)

/-- The gradient of a row, as the kernel writes it. -/
def grad (x g d : Fin 1024 → EReal) (l : Fin 1024) : EReal :=
  scale x * (d l * g l - x l * scale x * Ideal.div (∑ k, d k * g k * (x k * scale x)) len)

/-- What the mean square passes on to an entry, as the reference writes it. -/
def through (x g d : Fin 1024 → EReal) : EReal :=
  Ideal.div ((∑ k, x k * (d k * g k)) * (Ideal.ofBits .f32 0xBF000000#32 * Ideal.div (scale x) (meanSq x))) len

/-- The gradient of a row, as the reference writes it. -/
def refGrad (x g d : Fin 1024 → EReal) (l : Fin 1024) : EReal :=
  d l * g l * scale x + x l * through x g d + through x g d * x l

theorem len_word : len = ((1024 : ℝ) : EReal) := by
  unfold len
  simp [Ideal.ofBits, Ideal.ieee]
  rw [← EReal.coe_mul]
  norm_num

theorem eps_word : ∃ e : ℝ, 0 < e ∧ eps = (e : EReal) := by
  unfold eps
  refine ⟨8796093 * (2 : ℝ) ^ (-43 : ℤ), by positivity, ?_⟩
  simp [Ideal.ofBits, Ideal.ieee]

theorem half_word : (Ideal.ofBits .f32 0xBF000000#32 : EReal) = ((-(1 / 2) : ℝ) : EReal) := by
  simp [Ideal.ofBits, Ideal.ieee]
  rw [← EReal.coe_mul]
  norm_num

theorem sum_scaled {n : ℕ} (f : Fin n → EReal) {r : ℝ} (hr : 0 < r) : ∑ k, f k * (r : EReal) = (∑ k, f k) * (r : EReal) := by
  classical
  induction (Finset.univ : Finset (Fin n)) using Finset.induction_on with
  | empty => simp
  | insert k s hk ih =>
    rw [Finset.sum_insert hk, Finset.sum_insert hk, ih, EReal.right_distrib_of_nonneg_of_ne_top (by exact_mod_cast hr.le) (EReal.coe_ne_top r)]

/-- A positive real times a difference, multiplied out, with the second product in two halves. -/
theorem multiplied_out (a u : EReal) {r s : ℝ} (hr : 0 < r) (hs : 0 < s) :
    (r : EReal) * (a - u * (s : EReal)) = a * (r : EReal) + u * ((-(r * s) / 2 : ℝ) : EReal) + u * ((-(r * s) / 2 : ℝ) : EReal) := by
  have hn : -(r * s) / 2 < 0 := by have := mul_pos hr hs; linarith
  induction u with
  | top => induction a with
    | top | bot | coe a =>
      simp [EReal.top_mul_coe_of_pos hs, EReal.top_mul_coe_of_neg hn, EReal.coe_mul_bot_of_pos hr, EReal.sub_top]
  | bot => induction a with
    | top | bot | coe a =>
      simp [EReal.bot_mul_coe_of_pos hs, EReal.bot_mul_coe_of_neg hn, EReal.coe_mul_bot_of_pos hr, EReal.coe_mul_top_of_pos hr, EReal.top_mul_coe_of_pos hr, EReal.bot_mul_coe_of_pos hr, ← EReal.coe_mul]
  | coe u => induction a with
    | top | bot =>
      simp [EReal.coe_mul_bot_of_pos hr, EReal.coe_mul_top_of_pos hr, EReal.top_mul_coe_of_pos hr, EReal.bot_mul_coe_of_pos hr, ← EReal.coe_mul]
    | coe a =>
      simp only [← EReal.coe_mul, ← EReal.coe_add, ← EReal.coe_sub]
      exact congrArg _ (by ring)

/-- On a row of reals the two gradients agree. -/
theorem grad_real (x : Fin 1024 → ℝ) (g d : Fin 1024 → EReal) (l : Fin 1024) :
    grad (fun k => x k) g d l = refGrad (fun k => x k) g d l := by
  obtain ⟨e, he, ee⟩ := eps_word
  have hs : 0 ≤ ∑ k, x k * x k := Finset.sum_nonneg fun k _ => mul_self_nonneg _
  have hv : 0 < (∑ k, x k * x k) / 1024 + e := by positivity
  have ms : meanSq (fun k => x k) = (((∑ k, x k * x k) / 1024 + e : ℝ) : EReal) := by
    unfold meanSq
    rw [len_word, ee]
    simp only [← EReal.coe_mul, ← coe_sum]
    rw [Ideal.div_coe (show (1024 : ℝ) ≠ 0 by norm_num), ← EReal.coe_mul, mul_one_div, ← EReal.coe_add]
  generalize (∑ k, x k * x k) / 1024 + e = v at hv ms
  have sc : scale (fun k => x k) = (((Real.sqrt v)⁻¹ : ℝ) : EReal) := by
    unfold scale
    rw [ms, Ideal.rsqrt_coe, if_neg hv.not_gt, if_neg hv.ne']
  have hr : (Real.sqrt v)⁻¹ * (1 / v) = (Real.sqrt v)⁻¹ * (Real.sqrt v)⁻¹ * (Real.sqrt v)⁻¹ := by
    rw [← mul_inv, Real.mul_self_sqrt hv.le]
    ring
  have hp : 0 < (Real.sqrt v)⁻¹ := inv_pos.mpr (Real.sqrt_pos.mpr hv)
  unfold grad refGrad through
  rw [sc, ms, len_word, half_word]
  generalize (Real.sqrt v)⁻¹ = r at hr hp
  have e1 : ∑ k, d k * g k * ((x k : EReal) * (r : EReal)) = (∑ k, (x k : EReal) * (d k * g k)) * (r : EReal) := by
    rw [← sum_scaled _ hp]
    exact Finset.sum_congr rfl fun k _ => by rw [← mul_assoc, mul_comm (d k * g k)]
  have e2 (T : EReal) : (x l : EReal) * (r : EReal) * (T * (r : EReal) * ((1 / 1024 : ℝ) : EReal)) = (x l : EReal) * T * ((r * (r * (1 / 1024)) : ℝ) : EReal) := by
    rw [mul_assoc T, mul_mul_mul_comm, ← EReal.coe_mul, ← EReal.coe_mul]
  have e3 (T : EReal) : T * (((-(1 / 2) : ℝ) : EReal) * ((r : EReal) * ((1 / v : ℝ) : EReal))) * ((1 / 1024 : ℝ) : EReal)
      = T * ((-(r * (r * (r * (1 / 1024)))) / 2 : ℝ) : EReal) := by
    rw [mul_assoc T, ← EReal.coe_mul, ← EReal.coe_mul, ← EReal.coe_mul, hr]
    exact congrArg (fun q : ℝ => T * (q : EReal)) (by ring)
  rw [Ideal.div_coe (show (1024 : ℝ) ≠ 0 by norm_num), Ideal.div_coe (show (1024 : ℝ) ≠ 0 by norm_num), Ideal.div_coe hv.ne', e1, e2, e3,
    multiplied_out _ _ hp (by positivity), mul_comm _ (x l : EReal), ← mul_assoc (x l : EReal)]

theorem square_nonneg (x : EReal) : 0 ≤ x * x := by
  induction x with
  | top | bot => simp
  | coe r => exact_mod_cast mul_self_nonneg r

/-- A row with an infinite entry has the scale zero, and both gradients are zero. -/
theorem grad_infinite (x g d : Fin 1024 → EReal) (l : Fin 1024) {k : Fin 1024} (hk : x k = ⊤ ∨ x k = ⊥) : grad x g d l = refGrad x g d l := by
  have hs : ∑ k, x k * x k = ⊤ := by
    refine top_le_iff.mp (le_trans (le_of_eq ?_) (Finset.single_le_sum (f := fun k => x k * x k) (fun k _ => square_nonneg (x k)) (Finset.mem_univ k)))
    obtain h | h := hk <;> simp [h]
  obtain ⟨e, -, ee⟩ := eps_word
  have ms : meanSq x = ⊤ := by
    unfold meanSq
    rw [hs, len_word, ee, Ideal.div_coe (show (1024 : ℝ) ≠ 0 by norm_num), EReal.top_mul_coe_of_pos (by norm_num), EReal.top_add_coe]
  have sc : scale x = 0 := by
    unfold scale
    rw [ms, Ideal.rsqrt_top]
  have th : through x g d = 0 := by
    unfold through
    rw [sc, len_word, Ideal.div_coe (show (1024 : ℝ) ≠ 0 by norm_num), ms]
    simp [Ideal.div]
  unfold grad refGrad
  rw [sc, th]
  simp

/-- The two gradients agree. -/
theorem grad_eq (x g d : Fin 1024 → EReal) (l : Fin 1024) : grad x g d l = refGrad x g d l := by
  by_cases h : ∃ k, x k = ⊤ ∨ x k = ⊥
  · obtain ⟨k, hk⟩ := h
    exact grad_infinite x g d l hk
  · have hx : x = fun k => ((x k).toReal : EReal) := by
      funext k
      exact (EReal.coe_toReal (fun e => h ⟨k, Or.inl e⟩) fun e => h ⟨k, Or.inr e⟩).symm
    rw [hx]
    exact grad_real _ g d l

/-! ## The kernel -/

theorem scaled (x0 : Vec Ideal S384x1024 .f32) (p : Fin 384) (l : Fin 1024) :
    (k0_pay4 (F := Ideal) x0 (ix2 p l) : EReal) = x0 (ix2 p l) * scale (fun k => x0 (ix2 p k)) := by
  unfold k0_pay4 k0_pay3 scale meanSq len eps
  pointwise

theorem scale_at (x0 : Vec Ideal S384x1024 .f32) (p : Fin 384) :
    (k0_pay3 (F := Ideal) x0 (ix2 p 0) : EReal) = scale (fun k => x0 (ix2 p k)) := by
  unfold k0_pay3 scale meanSq len eps
  pointwise

theorem bit : ∀ (t : Fin grid0.N) (p : Fin 384), BitVec.setWidth 32 (IntOp.cmpi CmpIPredicate.sge
      (IntOp.addi (Scalar.muli (BitVec.ofNat 32 (grid0.coords t 0).val) 384#32) (BitVec.ofNat 32 p.val)) 112#32)
      = if 112 ≤ t.val * 384 + p.val then 1#32 else 0#32 := by
  decide +kernel

theorem row_out (t : Fin cfg0.N) (x0 x1 x2 : Vec Ideal S384x1024 .f32) (x3 : Vec Ideal S1x1024 .f32) (p : Fin 384) (l : Fin 1024) :
    (k0_pay5 (F := Ideal) (grid0.coords t) x0 x1 x2 x3 (ix2 p l) : EReal)
      = x2 (ix2 p l) + grad (fun k => x0 (ix2 p k)) (fun k => x3 (ix2 0 k)) (fun k => x1 (ix2 p k)) l * mask (t.val * 384 + p.val) := by
  have hs := scaled x0 p
  have ha := scale_at x0 p
  unfold k0_pay5
  generalize k0_pay4 (F := Ideal) x0 = a at hs
  generalize k0_pay3 (F := Ideal) x0 = b at ha
  pointwise
  unfold grad mask len
  rw [bit t p, ha]
  simp only [hs]
  split_ifs
  · show (_ : EReal) + _ * ((((1#32 : BitVec 32).toInt : ℝ)) : EReal) = _
    simp
  · show (_ : EReal) + _ * ((((0#32 : BitVec 32).toInt : ℝ)) : EReal) = _
    simp

theorem column_out (x0 x1 : Vec Ideal S384x1024 .f32) (z : Fin 1) (l : Fin 1024) :
    (k0_pay6 (F := Ideal) x0 x1 (ix2 z l) : EReal) = ∑ p, x1 (ix2 p l) * (x0 (ix2 p l) * scale (fun k => x0 (ix2 p k))) := by
  have hs := fun p => scaled x0 p l
  unfold k0_pay6
  generalize k0_pay4 (F := Ideal) x0 = a at hs
  pointwise
  exact Finset.sum_congr rfl fun p _ => congrArg _ (hs p)

theorem row_of (t : Fin cfg0.N) {x0 x1 x2 : Vec Ideal S384x1024 .f32} {x3 : Vec Ideal S1x1024 .f32} {p : Fin 384} (l : Fin 1024) {r g d s : Fin 1024 → EReal}
    (hr : ∀ k, x0 (ix2 p k) = r k) (hd : ∀ k, x1 (ix2 p k) = d k) (hs : ∀ k, x2 (ix2 p k) = s k) (hg : ∀ k, x3 (ix2 0 k) = g k) :
    (k0_pay5 (F := Ideal) (grid0.coords t) x0 x1 x2 x3 (ix2 p l) : EReal) = s l + grad r g d l * mask (t.val * 384 + p.val) := by
  rw [row_out, hs, funext hr, funext hd, funext hg]

theorem column_of {x0 x1 : Vec Ideal S384x1024 .f32} (z : Fin 1) (l : Fin 1024) {r d : Fin 384 → Fin 1024 → EReal}
    (hr : ∀ p k, x0 (ix2 p k) = r p k) (hd : ∀ p k, x1 (ix2 p k) = d p k) :
    (k0_pay6 (F := Ideal) x0 x1 (ix2 z l) : EReal) = ∑ p, d p l * (r p l * scale (r p)) := by
  rw [column_out]
  exact Finset.sum_congr rfl fun p _ => by rw [hd, hr, funext (hr p)]

section body
variable {c : Dev nD} {i : grid0.Coords} {a1 : Memref sig .tc .vmem S384x1024 .f32} {h1 : a1.IsWhole} {a2 : Memref sig .tc .vmem S384x1024 .f32} {h2 : a2.IsWhole}
  {a3 : Memref sig .tc .vmem S384x1024 .f32} {h3 : a3.IsWhole} {a4 : Memref sig .tc .vmem S1x1024 .f32} {h4 : a4.IsWhole} {a5 : Memref sig .tc .vmem S384x1024 .f32} {h5 : a5.IsWhole}
  {a6 : Memref sig .tc .vmem S1x1024 .f32} {h6 : a6.IsWhole} {x0 x1 x2 : Vec Ideal S384x1024 .f32} {x3 s : Vec Ideal S1x1024 .f32} {z : Fin 1} {l : Fin 1024}

theorem rows_first {hc : cond0_0 i} : out0_A_4 (F := Ideal) c i a1 h1 a2 h2 a3 h3 a4 h4 a5 h5 a6 h6 hc x0 x1 x2 x3 = k0_pay5 (F := Ideal) i x0 x1 x2 x3 := by
  funext y
  frame_out

theorem rows_next {hc : ¬cond0_0 i} : out0_B_4 (F := Ideal) c i a1 h1 a2 h2 a3 h3 a4 h4 a5 h5 a6 h6 hc x0 x1 x2 x3 s = k0_pay5 (F := Ideal) i x0 x1 x2 x3 := by
  funext y
  frame_out

theorem sum_first {hc : cond0_0 i} : (out0_A_5 (F := Ideal) c i a1 h1 a2 h2 a3 h3 a4 h4 a5 h5 a6 h6 hc x0 x1 x2 x3 (ix2 z l) : EReal)
    = k0_pay6 (F := Ideal) x0 x1 (ix2 z l) := by
  frame_out
  unfold k0_pay1 k0_pay2
  generalize k0_pay6 (F := Ideal) x0 x1 = a
  pointwise

theorem sum_next {hc : ¬cond0_0 i} : (out0_B_5 (F := Ideal) c i a1 h1 a2 h2 a3 h3 a4 h4 a5 h5 a6 h6 hc x0 x1 x2 x3 s (ix2 z l) : EReal)
    = s (ix2 z l) + k0_pay6 (F := Ideal) x0 x1 (ix2 z l) := by
  frame_out
  unfold k0_pay2
  generalize k0_pay6 (F := Ideal) x0 x1 = a
  pointwise

end body

variable (m : (ℓ : Loc nD τ sig) → Buf (Elt Ideal) ℓ) (c : Dev nD)

def row (i : Fin 4224) (l : Fin 1024) : EReal := V m c (Pipeline.arrRef spec0 0) (ix2 i l)
def dout (i : Fin 4224) (l : Fin 1024) : EReal := V m c (Pipeline.arrRef spec0 1) (ix2 i l)
def skip (i : Fin 4224) (l : Fin 1024) : EReal := V m c (Pipeline.arrRef spec0 2) (ix2 i l)
def gain (l : Fin 1024) : EReal := V m c (Pipeline.arrRef spec0 3) (ix2 0 l)

theorem index_at : ∀ t : Fin cfg0.N, win0_0.index t = ![t.val, 0] ∧ win0_1.index t = ![t.val, 0] ∧ win0_2.index t = ![t.val, 0]
    ∧ win0_3.index t = ![0, 0] ∧ win0_4.index t = ![t.val, 0] ∧ win0_5.index t = ![0, 0] :=
  (by decide +kernel : ∀ t : Fin grid0.N, win0_0.index t = ![t.val, 0] ∧ win0_1.index t = ![t.val, 0] ∧ win0_2.index t = ![t.val, 0]
    ∧ win0_3.index t = ![0, 0] ∧ win0_4.index t = ![t.val, 0] ∧ win0_5.index t = ![0, 0])

section rows
variable (t : Fin cfg0.N) (p : Fin 384) (l : Fin 1024) {i : Fin 4224} (hi : i.val = t.val * 384 + p.val)

include hi in
theorem row_at : iblk m c 0 t (ix2 p l) = row m c i l := by
  unfold row
  blk_ext [iblk, (index_at t).1]

include hi in
theorem dout_at : iblk m c 1 t (ix2 p l) = dout m c i l := by
  unfold dout
  blk_ext [iblk, (index_at t).2.1]

include hi in
theorem skip_at : iblk m c 2 t (ix2 p l) = skip m c i l := by
  unfold skip
  blk_ext [iblk, (index_at t).2.2.1]

theorem gain_at : iblk m c 3 t (ix2 0 l) = gain m c l := by
  unfold gain
  blk_ext [iblk, (index_at t).2.2.2.1]

end rows

theorem left_rows (t : Fin cfg0.N) : (outsAt0 m c t.val t.isLt).1 = k0_pay5 (F := Ideal) (grid0.coords t) (iblk m c 0 t) (iblk m c 1 t) (iblk m c 2 t) (iblk m c 3 t) := by
  by_cases h0 : t.val % 11 = 0
  · have e := congrArg Prod.fst (outsAt0_A m c t h0)
    dsimp only at e
    exact e.trans rows_first
  · have e := congrArg Prod.fst (outsAt0_B m c t h0)
    dsimp only at e
    exact e.trans rows_next

theorem masked_row (s d : Fin 4224 → EReal) (i : Fin 4224) : s i + d i * mask i.val = s i + padRow (fun n => d (place n)) 0 i := by
  unfold mask
  obtain h | ⟨n, rfl⟩ := place_cases i
  · rw [padRow_low _ _ _ h, if_neg (by omega), mul_zero]
  · rw [padRow_place, if_pos (by show 112 ≤ 112 + n.val; omega), mul_one]

/-- The array of rows the kernel leaves. -/
theorem final_rows : (dats m 0 c).arrAt 4 cfg0.N = fun i : S4224x1024.Idx =>
    skip m c (i 0) (i 1) + padRow (fun n => grad (row m c (place n)) (gain m c) (dout m c (place n)) (i 1)) 0 (i 0) := by
  refine (dats m 0 c).arrAt_eq_of_covers 4 _ (by decide +kernel) fun t hf y => ?_
  blk_simp
  rw [after0_4, left_rows]
  idx_vars y
  have ht := lt_of_lt_of_eq t.isLt (show cfg0.N = 11 from N_0)
  have ia := (index_at t).2.2.2.2.1
  have hi : (⟨t.val * 384 + y0.val, by omega⟩ : Fin 4224).val = t.val * 384 + y0.val := rfl
  refine (row_of t y1 (row_at m c t y0 · hi) (dout_at m c t y0 · hi) (skip_at m c t y0 · hi) (gain_at m c t)).trans ?_
  refine (masked_row (fun i => skip m c i y1) (fun i => grad (row m c i) (gain m c) (dout m c i) y1) ⟨t.val * 384 + y0.val, by omega⟩).trans ?_
  refine congrArg₂ (fun (i : Fin 4224) (l : Fin 1024) => skip m c i l + padRow (fun n => grad (row m c (place n)) (gain m c) (dout m c (place n)) l) 0 i)
    (Fin.ext (by blk_simp [ia])) (Fin.ext (by blk_simp [ia]))

/-- A row's share in the gradient of the gain. -/
def share (i : Fin 4224) (l : Fin 1024) : EReal := dout m c i l * (row m c i l * scale (row m c i))

theorem block_sum (t : Fin cfg0.N) (z : Fin 1) (l : Fin 1024) :
    (k0_pay6 (F := Ideal) (iblk m c 0 t) (iblk m c 1 t) (ix2 z l) : EReal) = part 384 (fun n => cell (share m c) n l.val) t.val := by
  have ht := lt_of_lt_of_eq t.isLt (show cfg0.N = 11 from N_0)
  refine (column_of z l (r := fun p => row m c ⟨t.val * 384 + p.val, by omega⟩) (d := fun p => dout m c ⟨t.val * 384 + p.val, by omega⟩)
    (fun p k => row_at m c t p k rfl) (fun p k => dout_at m c t p k rfl)).trans ?_
  unfold part
  exact Finset.sum_congr rfl fun p _ => (cell_in (share m c) (i := t.val * 384 + p.val) (by omega) l.isLt).symm

theorem sum_so_far (z : Fin 1) (l : Fin 1024) : ∀ (n : ℕ) (h : n < cfg0.N),
    ((outsAt0 m c n h).2 (ix2 z l) : EReal) = ∑ r ∈ Finset.range (n + 1), part 384 (fun n => cell (share m c) n l.val) r
  | 0, h => by
    have e := congrArg Prod.snd (outsAt0_A m c ⟨0, h⟩ rfl)
    dsimp only at e
    rw [Finset.sum_range_one]
    exact (congrFun e _).trans (sum_first.trans (block_sum m c ⟨0, h⟩ z l))
  | n + 1, h => by
    have ht := lt_of_lt_of_eq h (show cfg0.N = 11 from N_0)
    have e := congrArg Prod.snd (outsAt0_B m c ⟨n + 1, h⟩ (by show ¬(n + 1) % 11 = 0; omega))
    dsimp only at e
    rw [Finset.sum_range_succ, ← sum_so_far z l n (by omega)]
    exact (congrFun e _).trans (sum_next.trans (congrArg₂ (fun a b : EReal => a + b) rfl (block_sum m c ⟨n + 1, h⟩ z l)))

/-- The sum over the rows that the kernel leaves. -/
theorem final_sum : (dats m 0 c).arrAt 5 cfg0.N = fun i : S1x1024.Idx => ∑ k, share m c k (i 1) := by
  refine (dats m 0 c).arrAt_eq_of_covers 5 _ (by decide +kernel) fun t hf y => ?_
  blk_simp
  rw [after0_5]
  idx_vars y
  have ht := lt_of_lt_of_eq t.isLt (show cfg0.N = 11 from N_0)
  have h10 : t.val = 10 := by have := (flush0_5 t).mp hf; omega
  have ia := (index_at t).2.2.2.2.2
  refine (sum_so_far m c y0 y1 t.val t.isLt).trans ?_
  rw [h10, sum_parts]
  refine (Finset.sum_congr rfl fun i _ => cell_fin (share m c) i y1).trans ?_
  refine congrArg (fun l : Fin 1024 => ∑ k, share m c k l) (Fin.ext (by blk_simp [ia]))

/-! ## The reference -/

section reference
open Reference25Ideal.Read
variable (x0 : (⟨S4224x1024, .f32⟩ : BufTy).Contents (Elt Ideal)) (x1 : (⟨S1x1024, .f32⟩ : BufTy).Contents (Elt Ideal))
  (x2 x3 : (⟨S4224x1024, .f32⟩ : BufTy).Contents (Elt Ideal)) (i : Fin 4224) (l : Fin 1024)

theorem ref_meanSq : (val_main_v7 (F := Ideal) x0 (ix2 i 0) : EReal) = meanSq (fun k => x0 (ix2 i k)) := by
  unfold val_main_v7 val_main_v6 val_main_v5 val_main_v4 val_main_v3 val_main_v2 val_main_v1 val_main_cst val_main_cst_0 val_main_cst_1 meanSq len eps
  pointwise

theorem ref_scale : (val_main_v8 (F := Ideal) x0 (ix2 i 0) : EReal) = scale (fun k => x0 (ix2 i k)) :=
  (val_main_v8_apply _ _).trans (congrArg Ideal.rsqrt (ref_meanSq x0 i))

theorem ref_dhat : (val_main_v21 (F := Ideal) x1 x2 (ix2 i l) : EReal) = x2 (ix2 i l) * x1 (ix2 0 l) := by
  unfold val_main_v21 val_main_v20 val_main_v14 val_main_v0
  pointwise

theorem ref_through : (val_main_v32 (F := Ideal) x0 x1 x2 (ix2 i l) : EReal)
    = through (fun k => x0 (ix2 i k)) (fun k => x1 (ix2 0 k)) (fun k => x2 (ix2 i k)) := by
  have h7 := ref_meanSq x0 i
  have h8 := ref_scale x0 i
  have h21 := ref_dhat x1 x2 i
  unfold val_main_v32 val_main_v31 val_main_v30 val_main_v29 val_main_v28 val_main_v25 val_main_v24 val_main_v23 val_main_v11 val_main_v10 val_main_v9
    val_main_cst_2 val_main_cst_5 val_main_cst_6 val_main_cst_7
  generalize val_main_v21 (F := Ideal) x1 x2 = d at h21
  generalize val_main_v8 (F := Ideal) x0 = s at h8
  generalize val_main_v7 (F := Ideal) x0 = v at h7
  pointwise
  unfold through len
  simp [h7, h8, h21]

theorem ref_grad : (val_main_v36 (F := Ideal) x0 x1 x2 (ix2 i l) : EReal)
    = refGrad (fun k => x0 (ix2 i k)) (fun k => x1 (ix2 0 k)) (fun k => x2 (ix2 i k)) l := by
  have h8 := ref_scale x0 i
  have h21 := ref_dhat x1 x2 i l
  have h32 := ref_through x0 x1 x2 i l
  unfold val_main_v36 val_main_v35 val_main_v34 val_main_v33 val_main_v27 val_main_v26
  generalize val_main_v21 (F := Ideal) x1 x2 = d at h21
  generalize val_main_v8 (F := Ideal) x0 = s at h8
  generalize val_main_v32 (F := Ideal) x0 x1 x2 = v at h32
  pointwise
  unfold refGrad
  rw [h8, h21, h32]

theorem zero_int : (FloatOps.sitofp (F := Ideal) FTy.f32 (0#32 : BitVec 32) : EReal) = 0 := by
  show ((((0#32 : BitVec 32).toInt : ℝ)) : EReal) = _
  simp

theorem ref_rows : (val_main_v39 (F := Ideal) x0 x1 x2 x3 (ix2 i l) : EReal)
    = x3 (ix2 i l) + padRow (fun n => refGrad (fun k => x0 (ix2 (place n) k)) (fun k => x1 (ix2 0 k)) (fun k => x2 (ix2 (place n) k)) l) 0 i := by
  have e := fun n => ref_grad x0 x1 x2 (place n) l
  unfold val_main_v39 val_main_v38 val_main_v37 val_main_call0_v0 val_main_c
  generalize val_main_v36 (F := Ideal) x0 x1 x2 = s at e
  pointwise
  simp only [zero_int]
  refine congrArg (fun z : EReal => x3 (ix2 i l) + z) (Eq.trans ?_ (padRow_eq _ 0 i))
  exact dite_congr rfl (fun h => e ⟨i.val - 112, h.2⟩) fun _ => rfl

theorem ref_sum (z : Fin 1) : (val_main_v40 (F := Ideal) x0 x2 (ix2 z l) : EReal)
    = ∑ i, x2 (ix2 i l) * (x0 (ix2 i l) * scale (fun k => x0 (ix2 i k))) := by
  have h8 := ref_scale x0
  unfold val_main_v40 val_main_v22 val_main_v19 val_main_v18 val_main_v17 val_main_v13 val_main_v12 val_main_cst_3 val_main_cst_4
  generalize val_main_v8 (F := Ideal) x0 = s at h8
  pointwise
  simp [h8, mul_comm]

end reference

theorem claim : algebraic_Kernel25Ideal_Reference25Ideal (hKernel25Ideal := facts) (hReference25Ideal := Reference25Ideal.Gen.facts) := by
  intro m g m' g' _ ha
  refine ⟨fun c => (dats m 0 c).arrAt 4 cfg0.N, fun c => (dats m 0 c).arrAt 5 cfg0.N, Value.run_blocks m g, ?_⟩
  refine (θ_run Reference25Ideal.defs _ _).mono (fun r h c => ⟨(h c).1.trans ?_, (h c).2.1.trans ?_, (h c).2.2⟩) (Reference25Ideal.Value.run m' g')
  · dsimp only
    rw [Reference25Ideal.Read.val_main_v39_eq, final_rows, (ha c).1, (ha c).2.1, (ha c).2.2.1, (ha c).2.2.2]
    funext i
    idx_vars i
    refine (ref_rows _ _ _ _ i0 i1).trans ?_
    refine congrArg₂ (fun a b : EReal => a + b) rfl (congrArg (fun f => padRow f 0 i0) (funext fun n => ?_))
    exact (grad_eq _ _ _ i1).symm
  · dsimp only
    rw [Reference25Ideal.Read.val_main_v40_eq, final_sum, (ha c).1, (ha c).2.2.1]
    funext i
    idx_vars i
    exact ref_sum _ _ i1 i0

theorem frame_reference : quiescent_Reference25Ideal (hReference25Ideal := Reference25Ideal.Gen.facts) := fun m ρ _ =>
  (θ_run Reference25Ideal.defs _ _).mono (fun r h => ⟨fun c => (h c).2.2, sem_eq_zero_of_no_sems (by decide) r.2⟩)
    (Reference25Ideal.Value.run (F := Ideal) m ρ)

end Cert.NormBwd
end
-- ==== Proof.ActFwd.lean ====
module
public import proofs.«01_k».proof.Defs
public import proofs.«01_k».proof.Proof.Rows
public import proofs.«01_k».proof.Proof.Gen.Kernel26Ideal.Value
public import proofs.«01_k».proof.Proof.Gen.Reference26Ideal.Read
@[expose] public section
set_option maxRecDepth 16384
noncomputable section
/-! The gated unit of the feed-forward part, `silu(gate) · up`. -/
namespace Cert.ActFwd
open Idealize.ShloMosaic Idealize.ShloMosaic.TcCoe Idealize.ShloMosaic.Tactic Idealize.SL.Sem
open Cert.Rows Cert.Kernel26Ideal Cert.Kernel26Ideal.Gen

/-- One entry. -/
def act (g u : EReal) : EReal := g * sigm g * u

/-- What one point leaves in its block. -/
theorem block (x0 x1 : Vec Ideal S384x2816 .f32) (p : Fin 384) (l : Fin 2816) :
    (out0_2 (F := Ideal) x0 x1 (ix2 p l) : EReal) = act (x0 (ix2 p l)) (x1 (ix2 p l)) := by
  frame_out
  unfold act sigm k0_pay1
  pointwise

variable (m : (ℓ : Loc nD τ sig) → Buf (Elt Ideal) ℓ) (c : Dev nD)

theorem index_at : ∀ t : Fin cfg0.N, win0_0.index t = ![t.val, 0] ∧ win0_1.index t = ![t.val, 1] ∧ win0_2.index t = ![t.val, 0] :=
  (by decide +kernel : ∀ t : Fin grid0.N, win0_0.index t = ![t.val, 0] ∧ win0_1.index t = ![t.val, 1] ∧ win0_2.index t = ![t.val, 0])

/-- The array of one entry after the other. -/
def array (x : FVec Ideal S4224x5632 .f32) (i : Fin 4224) (l : Fin 2816) : EReal :=
  act (x (ix2 i ⟨l.val, by omega⟩)) (x (ix2 i ⟨2816 + l.val, by omega⟩))

/-- The array the kernel leaves. -/
theorem final : (dats m 0 c).arrAt 2 cfg0.N = fun i : S4224x2816.Idx => array (V m c (Pipeline.arrRef spec0 0)) (i 0) (i 1) := by
  refine (dats m 0 c).arrAt_eq_of_covers 2 _ (by decide +kernel) fun t hf y => ?_
  blk_simp
  rw [after0_2]
  idx_vars y
  refine (block _ _ y0 y1).trans ?_
  unfold array
  refine congrArg₂ act ?_ ?_
  · blk_ext [iblk, (index_at t).1, (index_at t).2.2]
  · blk_ext [iblk, (index_at t).2.1, (index_at t).2.2]

section reference
open Reference26Ideal.Read

/-- The reference's array. -/
theorem reference (x : (⟨S4224x5632, .f32⟩ : BufTy).Contents (Elt Ideal)) (i : Fin 4224) (l : Fin 2816) :
    (val_main_v4 (F := Ideal) x (ix2 i l) : EReal) = array x i l := by
  unfold val_main_v4 val_main_v3 val_main_v2 val_main_call0_v5 val_main_call0_v4 val_main_call0_v3 val_main_call0_v2 val_main_call0_v1 val_main_call0_v0
    val_main_call0_cst val_main_call0_cst_0 val_main_v1 val_main_v0 array act sigm
  rw [zero_sub]
  pointwise

end reference

theorem claim : algebraic_Kernel26Ideal_Reference26Ideal (hKernel26Ideal := facts) (hReference26Ideal := Reference26Ideal.Gen.facts) := by
  intro m g m' g' _ ha
  refine ⟨fun c => (dats m 0 c).arrAt 2 cfg0.N, Value.run_blocks m g, ?_⟩
  refine (θ_run Reference26Ideal.defs _ _).mono (fun r h c => ⟨(h c).1.trans ?_, (h c).2⟩) (Reference26Ideal.Value.run m' g')
  dsimp only
  rw [Reference26Ideal.Read.val_main_v4_eq, final, ha c]
  funext i
  idx_vars i
  exact reference _ i0 i1

theorem frame_reference : quiescent_Reference26Ideal (hReference26Ideal := Reference26Ideal.Gen.facts) := fun m ρ _ =>
  (θ_run Reference26Ideal.defs _ _).mono (fun r h => ⟨fun c => (h c).2, sem_eq_zero_of_no_sems (by decide) r.2⟩)
    (Reference26Ideal.Value.run (F := Ideal) m ρ)

end Cert.ActFwd
end
-- ==== Proof.MergeFwd.lean ====
module
public import proofs.«01_k».proof.Defs
public import proofs.«01_k».proof.Proof.MergeBwd
public import proofs.«01_k».proof.Proof.Gen.Kernel27Ideal.Value
public import proofs.«01_k».proof.Proof.Gen.Reference27Ideal.Read
@[expose] public section
set_option maxRecDepth 16384
noncomputable section
/-! The gated merge of the three branches, `σ(g₀) b₀ + σ(g₁) b₁ + σ(g₂) b₂`. -/
namespace Cert.MergeFwd
open Idealize.ShloMosaic Idealize.ShloMosaic.TcCoe Idealize.ShloMosaic.Tactic Idealize.SL.Sem
open Cert.Rows Cert.Fox Cert.Kernel27Ideal Cert.Kernel27Ideal.Gen
open Cert.MergeBwd (mask bit zero_int)

/-- One entry, of a row `g` of the gates and the entries of the branches. -/
def merged (g : Fin 3072 → EReal) (a b c : EReal) (l : Fin 1024) : EReal :=
  sigm (g ⟨l.val, by omega⟩) * a + sigm (g ⟨1024 + l.val, by omega⟩) * b + sigm (g ⟨2048 + l.val, by omega⟩) * c

theorem first_two (x0 : Vec Ideal S128x3072 .f32) (x1 x2 : Vec Ideal S128x1024 .f32) (p : Fin 128) (l : Fin 1024) :
    (k0_pay3 (F := Ideal) x0 x1 x2 (ix2 p l) : EReal)
      = sigm (x0 (ix2 p ⟨l.val, by omega⟩)) * x1 (ix2 p l) + sigm (x0 (ix2 p ⟨1024 + l.val, by omega⟩)) * x2 (ix2 p l) := by
  unfold k0_pay3 sigm
  pointwise

theorem third (x0 : Vec Ideal S128x3072 .f32) (x3 : Vec Ideal S128x1024 .f32) (p : Fin 128) (l : Fin 1024) :
    (k0_pay4 (F := Ideal) x0 x3 (ix2 p l) : EReal) = sigm (x0 (ix2 p ⟨2048 + l.val, by omega⟩)) * x3 (ix2 p l) := by
  unfold k0_pay4 sigm
  pointwise

theorem mask_at (t : Fin cfg0.N) (p : Fin 128) : (k0_pay2 (F := Ideal) (grid0.coords t) (ix2 p 0) : EReal) = mask (t.val * 128 + p.val) := by
  unfold k0_pay2 mask
  pointwise
  rw [bit t p]
  split_ifs
  · show ((((1#32 : BitVec 32).toInt : ℝ)) : EReal) = _
    simp
  · show ((((0#32 : BitVec 32).toInt : ℝ)) : EReal) = _
    simp

theorem masked_row (r : Fin 4224 → EReal) (i : Fin 4224) : r i * mask i.val = padRow (fun n => r (place n)) 0 i := by
  unfold mask
  obtain h | ⟨n, rfl⟩ := place_cases i
  · rw [padRow_low _ _ _ h, if_neg (by omega), mul_zero]
  · rw [padRow_place, if_pos (by show 112 ≤ 112 + n.val; omega), mul_one]

section body
variable {c : Dev nD} {t : Fin cfg0.N} {a1 : Memref sig .tc .vmem S128x3072 .f32} {h1 : a1.IsWhole} {a2 : Memref sig .tc .vmem S128x1024 .f32} {h2 : a2.IsWhole}
  {a3 : Memref sig .tc .vmem S128x1024 .f32} {h3 : a3.IsWhole} {a4 : Memref sig .tc .vmem S128x1024 .f32} {h4 : a4.IsWhole} {a5 : Memref sig .tc .vmem S128x1024 .bf16} {h5 : a5.IsWhole}
  {x0 : Vec Ideal S128x3072 .f32} {x1 x2 x3 : Vec Ideal S128x1024 .f32} {p : Fin 128} {l : Fin 1024}

/-- What one point leaves in its block. -/
theorem block : (out0_A_4 (F := Ideal) c (grid0.coords t) a1 h1 a2 h2 a3 h3 a4 h4 a5 h5 x0 x1 x2 x3 (ix2 p l) : EReal)
      = merged (fun j => x0 (ix2 p j)) (x1 (ix2 p l)) (x2 (ix2 p l)) (x3 (ix2 p l)) l * mask (t.val * 128 + p.val) := by
  frame_out
  have e2 := mask_at t p
  have e3 := first_two x0 x1 x2 p l
  have e4 := third x0 x3 p l
  unfold k0_pay1
  generalize k0_pay2 (F := Ideal) (grid0.coords t) = a at e2
  generalize k0_pay3 (F := Ideal) x0 x1 x2 = b at e3
  generalize k0_pay4 (F := Ideal) x0 x3 = d at e4
  pointwise
  rw [e2, e3, e4]
  rfl

end body

variable (m : (ℓ : Loc nD τ sig) → Buf (Elt Ideal) ℓ) (c : Dev nD)

theorem index_at : ∀ t : Fin cfg0.N, win0_0.index t = ![t.val, 0] ∧ win0_1.index t = ![t.val, 0]
    ∧ win0_2.index t = ![t.val, 0] ∧ win0_3.index t = ![t.val, 0] ∧ win0_4.index t = ![t.val, 0] :=
  (by decide +kernel : ∀ t : Fin grid0.N, win0_0.index t = ![t.val, 0] ∧ win0_1.index t = ![t.val, 0]
    ∧ win0_2.index t = ![t.val, 0] ∧ win0_3.index t = ![t.val, 0] ∧ win0_4.index t = ![t.val, 0])

/-- The array of all rows, before the padding is set to zero. -/
def array (x : FVec Ideal S4224x6528 .f32) (a b d : FVec Ideal S4224x1024 .f32) (l : Fin 1024) (i : Fin 4224) : EReal :=
  merged (fun j => x (ix2 i ⟨j.val, by omega⟩)) (a (ix2 i l)) (b (ix2 i l)) (d (ix2 i l)) l

def result (x : FVec Ideal S4224x6528 .f32) (a b d : FVec Ideal S4224x1024 .f32) (i : Fin 4224) (l : Fin 1024) : EReal :=
  padRow (fun n => array x a b d l (place n)) 0 i

/-- The array the kernel leaves. -/
theorem final : (dats m 0 c).arrAt 4 cfg0.N = fun i : S4224x1024.Idx =>
    result (V m c (Pipeline.arrRef spec0 0)) (V m c (Pipeline.arrRef spec0 1)) (V m c (Pipeline.arrRef spec0 2)) (V m c (Pipeline.arrRef spec0 3)) (i 0) (i 1) := by
  refine (dats m 0 c).arrAt_eq_of_covers 4 _ (by decide +kernel) fun t hf y => ?_
  blk_simp
  rw [after0_4]
  unfold outsAt0
  dsimp only
  idx_vars y
  have ht := lt_of_lt_of_eq t.isLt (show cfg0.N = 33 from N_0)
  have ia := (index_at t).2.2.2.2
  have e (j : Fin 3072) : X0_0 m c t (ix2 y0 j) = V m c (Pipeline.arrRef spec0 0) (ix2 ⟨t.val * 128 + y0.val, by omega⟩ ⟨j.val, by omega⟩) := by
    unfold X0_0 Pipeline.Window.fill
    rw [dif_pos (moved0_0 t _)]
    blk_ext [iblk, (index_at t).1]
  have e1 : iblk m c 1 t (ix2 y0 y1) = V m c (Pipeline.arrRef spec0 1) (ix2 ⟨t.val * 128 + y0.val, by omega⟩ y1) := by
    blk_ext [iblk, (index_at t).2.1]
  have e2 : iblk m c 2 t (ix2 y0 y1) = V m c (Pipeline.arrRef spec0 2) (ix2 ⟨t.val * 128 + y0.val, by omega⟩ y1) := by
    blk_ext [iblk, (index_at t).2.2.1]
  have e3 : iblk m c 3 t (ix2 y0 y1) = V m c (Pipeline.arrRef spec0 3) (ix2 ⟨t.val * 128 + y0.val, by omega⟩ y1) := by
    blk_ext [iblk, (index_at t).2.2.2.1]
  refine block.trans ?_
  rw [funext e, e1, e2, e3]
  refine (masked_row (array _ _ _ _ y1) ⟨t.val * 128 + y0.val, by omega⟩).trans ?_
  exact congrArg₂ (result _ _ _ _) (Fin.ext (by blk_simp [ia])) (Fin.ext (by blk_simp [ia]))

section reference
open Reference27Ideal.Read
variable (x0 : (⟨S4224x6528, .f32⟩ : BufTy).Contents (Elt Ideal)) (x1 x2 x3 : (⟨S4224x1024, .f32⟩ : BufTy).Contents (Elt Ideal)) (l : Fin 1024)

theorem sigm_at (n : Fin 4112) (j : Fin 3072) : (val_main_v10 (F := Ideal) x0 (ix2 n j) : EReal) = sigm (x0 (ix2 (place n) ⟨j.val, by omega⟩)) := by
  rw [val_main_v10_apply, val_main_v9_apply, val_main_v8_apply, val_main_v7_apply, val_main_v6_apply, val_main_v5_apply, val_main_v1_apply, val_main_v0_apply,
    val_main_cst_0_apply, val_main_cst_apply]
  have e : idx_main_v0 (idx_main_v1 (ix2 n j)) = ix2 (place n) ⟨j.val, by omega⟩ := by funext d; fin_cases d <;> rfl
  rw [e]
  unfold sigm
  rw [zero_sub]
  pointwise

theorem ref_row (n : Fin 4112) : (val_main_v19 (F := Ideal) x0 x1 x2 x3 (ix2 n l) : EReal) = array x0 x1 x2 x3 l (place n) := by
  have e := sigm_at x0 n
  unfold val_main_v19 val_main_v18 val_main_v17 val_main_v16 val_main_v15 val_main_v14 val_main_v13 val_main_v12 val_main_v11 val_main_v4 val_main_v3 val_main_v2
  generalize val_main_v10 (F := Ideal) x0 = s at e
  pointwise
  rw [e, e, e]
  rfl

/-- The reference's array. -/
theorem reference (i : Fin 4224) : (val_main_v20 (F := Ideal) x0 x1 x2 x3 (ix2 i l) : EReal) = result x0 x1 x2 x3 i l := by
  have e := ref_row x0 x1 x2 x3 l
  unfold val_main_v20 val_main_call0_v0 val_main_c
  generalize val_main_v19 (F := Ideal) x0 x1 x2 x3 = s at e
  pointwise
  simp only [e, zero_int]
  exact padRow_eq (fun n => array x0 x1 x2 x3 l (place n)) 0 i

end reference

theorem claim : algebraic_Kernel27Ideal_Reference27Ideal (hKernel27Ideal := facts) (hReference27Ideal := Reference27Ideal.Gen.facts) := by
  intro m g m' g' _ ha
  refine ⟨fun c => (dats m 0 c).arrAt 4 cfg0.N, Value.run_blocks m g, ?_⟩
  refine (θ_run Reference27Ideal.defs _ _).mono (fun r h c => ⟨(h c).1.trans ?_, (h c).2⟩) (Reference27Ideal.Value.run m' g')
  dsimp only
  rw [Reference27Ideal.Read.val_main_v20_eq, final, (ha c).1, (ha c).2.1, (ha c).2.2.1, (ha c).2.2.2]
  funext i
  idx_vars i
  exact reference _ _ _ _ i1 i0

theorem frame_reference : quiescent_Reference27Ideal (hReference27Ideal := Reference27Ideal.Gen.facts) := fun m ρ _ =>
  (θ_run Reference27Ideal.defs _ _).mono (fun r h => ⟨fun c => (h c).2, sem_eq_zero_of_no_sems (by decide) r.2⟩)
    (Reference27Ideal.Value.run (F := Ideal) m ρ)

end Cert.MergeFwd
end
-- ==== Proof.NormFwd.lean ====
module
public import proofs.«01_k».proof.Defs
public import proofs.«01_k».proof.Proof.NormBwd
public import proofs.«01_k».proof.Proof.Gen.Kernel28Ideal.Value
public import proofs.«01_k».proof.Proof.Gen.Reference28Ideal.Read
@[expose] public section
set_option maxRecDepth 16384
noncomputable section
/-! The normalised rows `x · rsqrt(mean(x²) + ε) · g`. -/
namespace Cert.NormFwd
open Idealize.ShloMosaic Idealize.ShloMosaic.TcCoe Idealize.ShloMosaic.Tactic Idealize.SL.Sem
open Cert.Kernel28Ideal Cert.Kernel28Ideal.Gen
open Cert.NormBwd (len eps meanSq scale)

/-- One entry of a row `x`. -/
def norm (x : Fin 1024 → EReal) (g : EReal) (l : Fin 1024) : EReal := x l * scale x * g

/-- What one point leaves in its block. -/
theorem block (x0 : Vec Ideal S384x1024 .f32) (x1 : Vec Ideal S1x1024 .f32) (p : Fin 384) (l : Fin 1024) :
    (out0_2 (F := Ideal) x0 x1 (ix2 p l) : EReal) = norm (fun k => x0 (ix2 p k)) (x1 (ix2 0 l)) l := by
  frame_out
  unfold norm scale meanSq len eps k0_pay1
  pointwise

variable (m : (ℓ : Loc nD τ sig) → Buf (Elt Ideal) ℓ) (c : Dev nD)

theorem index_at : ∀ t : Fin cfg0.N, win0_0.index t = ![t.val, 0] ∧ win0_1.index t = ![0, 0] ∧ win0_2.index t = ![t.val, 0] :=
  (by decide +kernel : ∀ t : Fin grid0.N, win0_0.index t = ![t.val, 0] ∧ win0_1.index t = ![0, 0] ∧ win0_2.index t = ![t.val, 0])

/-- The array of all rows. -/
def array (x : FVec Ideal S4224x1024 .f32) (g : FVec Ideal S1x1024 .f32) (i : Fin 4224) (l : Fin 1024) : EReal :=
  norm (fun k => x (ix2 i k)) (g (ix2 0 l)) l

/-- The array the kernel leaves. -/
theorem final : (dats m 0 c).arrAt 2 cfg0.N = fun i : S4224x1024.Idx =>
    array (V m c (Pipeline.arrRef spec0 0)) (V m c (Pipeline.arrRef spec0 1)) (i 0) (i 1) := by
  refine (dats m 0 c).arrAt_eq_of_covers 2 _ (by decide +kernel) fun t hf y => ?_
  blk_simp
  rw [after0_2]
  idx_vars y
  refine (block _ _ y0 y1).trans ?_
  unfold array
  refine congr (congrArg₂ norm (funext fun k => ?_) ?_) (Fin.ext (by blk_simp [(index_at t).2.2]))
  · blk_ext [iblk, (index_at t).1, (index_at t).2.2]
  · blk_ext [iblk, (index_at t).2.1, (index_at t).2.2]

section reference
open Reference28Ideal.Read

/-- The reference's array. -/
theorem reference (x : (⟨S4224x1024, .f32⟩ : BufTy).Contents (Elt Ideal)) (g : (⟨S1x1024, .f32⟩ : BufTy).Contents (Elt Ideal)) (i : Fin 4224) (l : Fin 1024) :
    (val_main_v14 (F := Ideal) x g (ix2 i l) : EReal) = array x g i l := by
  unfold val_main_v14 val_main_v13 val_main_v12 val_main_v11 val_main_v10 val_main_v9 val_main_v8 val_main_v7 val_main_v6 val_main_v5 val_main_v4 val_main_v3
    val_main_v2 val_main_v1 val_main_v0 val_main_cst val_main_cst_0 val_main_cst_1 array norm scale meanSq len eps
  pointwise

end reference

theorem claim : algebraic_Kernel28Ideal_Reference28Ideal (hKernel28Ideal := facts) (hReference28Ideal := Reference28Ideal.Gen.facts) := by
  intro m g m' g' _ ha
  refine ⟨fun c => (dats m 0 c).arrAt 2 cfg0.N, Value.run_blocks m g, ?_⟩
  refine (θ_run Reference28Ideal.defs _ _).mono (fun r h c => ⟨(h c).1.trans ?_, (h c).2⟩) (Reference28Ideal.Value.run m' g')
  dsimp only
  rw [Reference28Ideal.Read.val_main_v14_eq, final, (ha c).1, (ha c).2]
  funext i
  idx_vars i
  exact reference _ _ i0 i1

theorem frame_reference : quiescent_Reference28Ideal (hReference28Ideal := Reference28Ideal.Gen.facts) := fun m ρ _ =>
  (θ_run Reference28Ideal.defs _ _).mono (fun r h => ⟨fun c => (h c).2, sem_eq_zero_of_no_sems (by decide) r.2⟩)
    (Reference28Ideal.Value.run (F := Ideal) m ρ)

end Cert.NormFwd
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Loops
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Loops
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Pre_finite
public import proofs.«01_k».proof.Proof.Gen.KernelIdeal.Value
public import proofs.«01_k».proof.Proof.Gen.Kernel2Ideal.Value
public import proofs.«01_k».proof.Proof.Gen.ReferenceIdeal.Run
public import proofs.«01_k».proof.Proof.Gen.ReferenceIdeal.Read
public import proofs.«01_k».proof.Proof.Gen.Reference2Ideal.Run
public import proofs.«01_k».proof.Proof.Gen.Reference2Ideal.Read
public import proofs.«01_k».proof.Proof.DqEq
public import proofs.«01_k».proof.Proof.DkvEq
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Kernel8Ideal.Value
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.Kernel9Ideal.Value
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Reference10Ideal
public import proofs.«01_k».proof.Proof.Gen.Kernel10Ideal.Value
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Reference11Ideal
public import proofs.«01_k».proof.Proof.Gen.Kernel11Ideal.Value
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Reference12Ideal
public import proofs.«01_k».proof.Proof.Gen.Kernel12Ideal.Value
public import proofs.«01_k».proof.Proof.Gen.Reference12Ideal.Run
public import proofs.«01_k».proof.Proof.Gen.Reference12Ideal.Read
public import proofs.«01_k».proof.Proof.DwIn
public import proofs.«01_k».proof.Proof.Du
public import proofs.«01_k».proof.Proof.DwFfnIn
public import proofs.«01_k».proof.Proof.DuFfn
public import proofs.«01_k».proof.Proof.DwFfnOut
public import proofs.«01_k».proof.Proof.DAct
public import proofs.«01_k».proof.Proof.DwOut
public import proofs.«01_k».proof.Proof.DMerged
public import proofs.«01_k».proof.Proof.DwBranch
public import proofs.«01_k».proof.Proof.DBranch
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Reference13Ideal
public import proofs.«01_k».proof.Proof.Gen.Kernel13Ideal.Value
public import proofs.«01_k».proof.Proof.Gen.Reference13Ideal.Run
public import proofs.«01_k».proof.Proof.Gen.Reference13Ideal.Read
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Reference14Ideal
public import proofs.«01_k».proof.Proof.Gen.Kernel14Ideal.Value
public import proofs.«01_k».proof.Proof.Gen.Reference14Ideal.Run
public import proofs.«01_k».proof.Proof.Gen.Reference14Ideal.Read
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Reference15Ideal
public import proofs.«01_k».proof.Proof.Gen.Kernel15Ideal.Value
public import proofs.«01_k».proof.Proof.Gen.Reference15Ideal.Run
public import proofs.«01_k».proof.Proof.Gen.Reference15Ideal.Read
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Reference16Ideal
public import proofs.«01_k».proof.Proof.Gen.Kernel16Ideal.Value
public import proofs.«01_k».proof.Proof.Gen.Reference16Ideal.Run
public import proofs.«01_k».proof.Proof.Gen.Reference16Ideal.Read
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Reference17Ideal
public import proofs.«01_k».proof.Proof.Gen.Kernel17Ideal.Value
public import proofs.«01_k».proof.Proof.Gen.Reference17Ideal.Run
public import proofs.«01_k».proof.Proof.Gen.Reference17Ideal.Read
public import proofs.«01_k».proof.Proof.Gen.Kernel18
public import proofs.«01_k».proof.Proof.Gen.Kernel18.Skeleton
public import proofs.«01_k».proof.Proof.Gen.Kernel18.Launch
public import proofs.«01_k».proof.Proof.Gen.Kernel18.Points
public import proofs.«01_k».proof.Proof.Gen.Kernel18.Frame
public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Reference18Ideal
public import proofs.«01_k».proof.Proof.Gen.Kernel18Ideal.Value
public import proofs.«01_k».proof.Proof.Gen.Reference18Ideal.Run
public import proofs.«01_k».proof.Proof.Gen.Reference18Ideal.Read
public import proofs.«01_k».proof.Proof.Gen.Kernel19
public import proofs.«01_k».proof.Proof.Gen.Kernel19.Skeleton
public import proofs.«01_k».proof.Proof.Gen.Kernel19.Launch
public import proofs.«01_k».proof.Proof.Gen.Kernel19.Points
public import proofs.«01_k».proof.Proof.Gen.Kernel19.Frame
public import proofs.«01_k».proof.Proof.Gen.Kernel19Ideal
public import proofs.«01_k».proof.Proof.Gen.Kernel19Ideal.Skeleton
public import proofs.«01_k».proof.Proof.Gen.Kernel19Ideal.Launch
public import proofs.«01_k».proof.Proof.Gen.Kernel19Ideal.Points
public import proofs.«01_k».proof.Proof.Gen.Kernel19Ideal.Frame
public import proofs.«01_k».proof.Proof.Gen.Reference19Ideal
public import proofs.«01_k».proof.Proof.Gen.Kernel19Ideal.Value
public import proofs.«01_k».proof.Proof.Gen.Reference19Ideal.Run
public import proofs.«01_k».proof.Proof.Gen.Reference19Ideal.Read
public import proofs.«01_k».proof.Proof.Gen.Kernel20
public import proofs.«01_k».proof.Proof.Gen.Kernel20.Skeleton
public import proofs.«01_k».proof.Proof.Gen.Kernel20.Launch
public import proofs.«01_k».proof.Proof.Gen.Kernel20.Points
public import proofs.«01_k».proof.Proof.Gen.Kernel20.Frame
public import proofs.«01_k».proof.Proof.Gen.Kernel20Ideal
public import proofs.«01_k».proof.Proof.Gen.Kernel20Ideal.Skeleton
public import proofs.«01_k».proof.Proof.Gen.Kernel20Ideal.Launch
public import proofs.«01_k».proof.Proof.Gen.Kernel20Ideal.Points
public import proofs.«01_k».proof.Proof.Gen.Kernel20Ideal.Frame
public import proofs.«01_k».proof.Proof.Gen.Reference20Ideal
public import proofs.«01_k».proof.Proof.Gen.Kernel20Ideal.Value
public import proofs.«01_k».proof.Proof.Gen.Reference20Ideal.Run
public import proofs.«01_k».proof.Proof.Gen.Reference20Ideal.Read
public import proofs.«01_k».proof.Proof.Gen.Kernel21
public import proofs.«01_k».proof.Proof.Gen.Kernel21.Skeleton
public import proofs.«01_k».proof.Proof.Gen.Kernel21.Launch
public import proofs.«01_k».proof.Proof.Gen.Kernel21.Points
public import proofs.«01_k».proof.Proof.Gen.Kernel21.Frame
public import proofs.«01_k».proof.Proof.Gen.Kernel21Ideal
public import proofs.«01_k».proof.Proof.Gen.Kernel21Ideal.Skeleton
public import proofs.«01_k».proof.Proof.Gen.Kernel21Ideal.Launch
public import proofs.«01_k».proof.Proof.Gen.Kernel21Ideal.Points
public import proofs.«01_k».proof.Proof.Gen.Kernel21Ideal.Frame
public import proofs.«01_k».proof.Proof.Gen.Reference21Ideal
public import proofs.«01_k».proof.Proof.Gen.Kernel21Ideal.Value
public import proofs.«01_k».proof.Proof.Gen.Reference21Ideal.Run
public import proofs.«01_k».proof.Proof.Gen.Reference21Ideal.Read
public import proofs.«01_k».proof.Proof.Gen.Kernel22
public import proofs.«01_k».proof.Proof.Gen.Kernel22.Skeleton
public import proofs.«01_k».proof.Proof.Gen.Kernel22.Launch
public import proofs.«01_k».proof.Proof.Gen.Kernel22.Points
public import proofs.«01_k».proof.Proof.Gen.Kernel22.Frame
public import proofs.«01_k».proof.Proof.Gen.Kernel22Ideal
public import proofs.«01_k».proof.Proof.Gen.Kernel22Ideal.Skeleton
public import proofs.«01_k».proof.Proof.Gen.Kernel22Ideal.Launch
public import proofs.«01_k».proof.Proof.Gen.Kernel22Ideal.Points
public import proofs.«01_k».proof.Proof.Gen.Kernel22Ideal.Frame
public import proofs.«01_k».proof.Proof.Gen.Reference22Ideal
public import proofs.«01_k».proof.Proof.Gen.Kernel22Ideal.Value
public import proofs.«01_k».proof.Proof.Gen.Reference22Ideal.Run
public import proofs.«01_k».proof.Proof.Gen.Reference22Ideal.Read
public import proofs.«01_k».proof.Proof.DwBranchScan
public import proofs.«01_k».proof.Proof.DwGates
public import proofs.«01_k».proof.Proof.DConv
public import proofs.«01_k».proof.Proof.InProj
public import proofs.«01_k».proof.Proof.Gates
public import proofs.«01_k».proof.Proof.Branch
public import proofs.«01_k».proof.Proof.BranchScan
public import proofs.«01_k».proof.Proof.OutProj
public import proofs.«01_k».proof.Proof.FfnIn
public import proofs.«01_k».proof.Proof.FfnOut
public import proofs.«01_k».proof.Proof.Gen.Kernel23
public import proofs.«01_k».proof.Proof.Gen.Kernel23.Skeleton
public import proofs.«01_k».proof.Proof.Gen.Kernel23.Launch
public import proofs.«01_k».proof.Proof.Gen.Kernel23.Points
public import proofs.«01_k».proof.Proof.Gen.Kernel23.Frame
public import proofs.«01_k».proof.Proof.Gen.Kernel23Ideal
public import proofs.«01_k».proof.Proof.Gen.Kernel23Ideal.Skeleton
public import proofs.«01_k».proof.Proof.Gen.Kernel23Ideal.Launch
public import proofs.«01_k».proof.Proof.Gen.Kernel23Ideal.Points
public import proofs.«01_k».proof.Proof.Gen.Kernel23Ideal.Frame
public import proofs.«01_k».proof.Proof.Gen.Reference23Ideal
public import proofs.«01_k».proof.Proof.Gen.Kernel23Ideal.Value
public import proofs.«01_k».proof.Proof.Gen.Reference23Ideal.Run
public import proofs.«01_k».proof.Proof.Gen.Reference23Ideal.Read
public import proofs.«01_k».proof.Proof.Gen.Kernel24
public import proofs.«01_k».proof.Proof.Gen.Kernel24.Skeleton
public import proofs.«01_k».proof.Proof.Gen.Kernel24.Launch
public import proofs.«01_k».proof.Proof.Gen.Kernel24.Points
public import proofs.«01_k».proof.Proof.Gen.Kernel24.Frame
public import proofs.«01_k».proof.Proof.Gen.Kernel24Ideal
public import proofs.«01_k».proof.Proof.Gen.Kernel24Ideal.Skeleton
public import proofs.«01_k».proof.Proof.Gen.Kernel24Ideal.Launch
public import proofs.«01_k».proof.Proof.Gen.Kernel24Ideal.Points
public import proofs.«01_k».proof.Proof.Gen.Kernel24Ideal.Frame
public import proofs.«01_k».proof.Proof.Gen.Reference24Ideal
public import proofs.«01_k».proof.Proof.Gen.Kernel24Ideal.Value
public import proofs.«01_k».proof.Proof.Gen.Reference24Ideal.Run
public import proofs.«01_k».proof.Proof.Gen.Reference24Ideal.Read
public import proofs.«01_k».proof.Proof.Gen.Kernel25
public import proofs.«01_k».proof.Proof.Gen.Kernel25.Skeleton
public import proofs.«01_k».proof.Proof.Gen.Kernel25.Launch
public import proofs.«01_k».proof.Proof.Gen.Kernel25.Points
public import proofs.«01_k».proof.Proof.Gen.Kernel25.Frame
public import proofs.«01_k».proof.Proof.Gen.Kernel25Ideal
public import proofs.«01_k».proof.Proof.Gen.Kernel25Ideal.Skeleton
public import proofs.«01_k».proof.Proof.Gen.Kernel25Ideal.Launch
public import proofs.«01_k».proof.Proof.Gen.Kernel25Ideal.Points
public import proofs.«01_k».proof.Proof.Gen.Kernel25Ideal.Frame
public import proofs.«01_k».proof.Proof.Gen.Reference25Ideal
public import proofs.«01_k».proof.Proof.Gen.Kernel25Ideal.Value
public import proofs.«01_k».proof.Proof.Gen.Reference25Ideal.Run
public import proofs.«01_k».proof.Proof.Gen.Reference25Ideal.Read
public import proofs.«01_k».proof.Proof.Gen.Kernel26
public import proofs.«01_k».proof.Proof.Gen.Kernel26.Skeleton
public import proofs.«01_k».proof.Proof.Gen.Kernel26.Launch
public import proofs.«01_k».proof.Proof.Gen.Kernel26.Points
public import proofs.«01_k».proof.Proof.Gen.Kernel26.Frame
public import proofs.«01_k».proof.Proof.Gen.Kernel26Ideal
public import proofs.«01_k».proof.Proof.Gen.Kernel26Ideal.Skeleton
public import proofs.«01_k».proof.Proof.Gen.Kernel26Ideal.Launch
public import proofs.«01_k».proof.Proof.Gen.Kernel26Ideal.Points
public import proofs.«01_k».proof.Proof.Gen.Kernel26Ideal.Frame
public import proofs.«01_k».proof.Proof.Gen.Reference26Ideal
public import proofs.«01_k».proof.Proof.Gen.Kernel26Ideal.Value
public import proofs.«01_k».proof.Proof.Gen.Reference26Ideal.Run
public import proofs.«01_k».proof.Proof.Gen.Reference26Ideal.Read
public import proofs.«01_k».proof.Proof.Gen.Kernel27
public import proofs.«01_k».proof.Proof.Gen.Kernel27.Skeleton
public import proofs.«01_k».proof.Proof.Gen.Kernel27.Launch
public import proofs.«01_k».proof.Proof.Gen.Kernel27.Points
public import proofs.«01_k».proof.Proof.Gen.Kernel27.Frame
public import proofs.«01_k».proof.Proof.Gen.Kernel27Ideal
public import proofs.«01_k».proof.Proof.Gen.Kernel27Ideal.Skeleton
public import proofs.«01_k».proof.Proof.Gen.Kernel27Ideal.Launch
public import proofs.«01_k».proof.Proof.Gen.Kernel27Ideal.Points
public import proofs.«01_k».proof.Proof.Gen.Kernel27Ideal.Frame
public import proofs.«01_k».proof.Proof.Gen.Reference27Ideal
public import proofs.«01_k».proof.Proof.Gen.Kernel27Ideal.Value
public import proofs.«01_k».proof.Proof.Gen.Reference27Ideal.Run
public import proofs.«01_k».proof.Proof.Gen.Reference27Ideal.Read
public import proofs.«01_k».proof.Proof.Gen.Kernel28
public import proofs.«01_k».proof.Proof.Gen.Kernel28.Skeleton
public import proofs.«01_k».proof.Proof.Gen.Kernel28.Launch
public import proofs.«01_k».proof.Proof.Gen.Kernel28.Points
public import proofs.«01_k».proof.Proof.Gen.Kernel28.Frame
public import proofs.«01_k».proof.Proof.Gen.Kernel28Ideal
public import proofs.«01_k».proof.Proof.Gen.Kernel28Ideal.Skeleton
public import proofs.«01_k».proof.Proof.Gen.Kernel28Ideal.Launch
public import proofs.«01_k».proof.Proof.Gen.Kernel28Ideal.Points
public import proofs.«01_k».proof.Proof.Gen.Kernel28Ideal.Frame
public import proofs.«01_k».proof.Proof.Gen.Reference28Ideal
public import proofs.«01_k».proof.Proof.Gen.Kernel28Ideal.Value
public import proofs.«01_k».proof.Proof.Gen.Reference28Ideal.Run
public import proofs.«01_k».proof.Proof.Gen.Reference28Ideal.Read
public import proofs.«01_k».proof.Proof.Gen.Pre_finite_act
public import proofs.«01_k».proof.Proof.MergeBwd
public import proofs.«01_k».proof.Proof.ActBwd
public import proofs.«01_k».proof.Proof.NormBwd
public import proofs.«01_k».proof.Proof.ActFwd
public import proofs.«01_k».proof.Proof.MergeFwd
public import proofs.«01_k».proof.Proof.NormFwd
public import Idealize.ShloMosaic.Adequacy
public import Idealize.ShloMosaic.Init

@[expose] public section

noncomputable section

namespace Cert.Proof

open Idealize.ShloMosaic Idealize.SL.Sem Cert.Kernel

/-- The first reference runs, keeps its arguments and leaves every semaphore counter at zero. -/
theorem frame_reference : Cert.quiescent_ReferenceIdeal (hReferenceIdeal := Cert.ReferenceIdeal.Gen.facts) := fun m ρ _ =>
  (θ_run Cert.ReferenceIdeal.defs _ _).mono (fun r h => ⟨fun c => (h c).2.2,
      Idealize.ShloMosaic.sem_eq_zero_of_no_sems (by decide) r.2⟩)
    (Cert.ReferenceIdeal.Value.run (F := Ideal) m ρ)

/-- The second reference does the same. -/
theorem frame_reference2 : Cert.quiescent_Reference2Ideal (hReference2Ideal := Cert.Reference2Ideal.Gen.facts) := fun m ρ _ =>
  (θ_run Cert.Reference2Ideal.defs _ _).mono (fun r h => ⟨fun c => (h c).2.2.2,
      Idealize.ShloMosaic.sem_eq_zero_of_no_sems (by decide) r.2⟩)
    (Cert.Reference2Ideal.Value.run (F := Ideal) m ρ)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Kernel20.Gen.facts, Cert.Kernel20Ideal.Gen.facts, Cert.Reference20Ideal.Gen.facts,
  Cert.Kernel21.Gen.facts, Cert.Kernel21Ideal.Gen.facts, Cert.Reference21Ideal.Gen.facts,
  Cert.Kernel22.Gen.facts, Cert.Kernel22Ideal.Gen.facts, Cert.Reference22Ideal.Gen.facts,
  Cert.Kernel23.Gen.facts, Cert.Kernel23Ideal.Gen.facts, Cert.Reference23Ideal.Gen.facts,
  Cert.Kernel24.Gen.facts, Cert.Kernel24Ideal.Gen.facts, Cert.Reference24Ideal.Gen.facts,
  Cert.Kernel25.Gen.facts, Cert.Kernel25Ideal.Gen.facts, Cert.Reference25Ideal.Gen.facts,
  Cert.Kernel26.Gen.facts, Cert.Kernel26Ideal.Gen.facts, Cert.Reference26Ideal.Gen.facts,
  Cert.Kernel27.Gen.facts, Cert.Kernel27Ideal.Gen.facts, Cert.Reference27Ideal.Gen.facts,
  Cert.Kernel28.Gen.facts, Cert.Kernel28Ideal.Gen.facts, Cert.Reference28Ideal.Gen.facts,
  Cert.Pre_finite.Gen.facts, Cert.Pre_finite_act.Gen.facts,
  fun m ρ _ => Cert.Kernel.Gen.frame m ρ,
  fun m ρ _ => Cert.KernelIdeal.Gen.frame m ρ,
  fun m ρ _ => Cert.KernelIdeal.Gen.frame m ρ,
  frame_reference,
  fun m ρ _ => frame_reference m ρ trivial,
  fun m ρ _ => Cert.Kernel2.Gen.frame m ρ,
  fun m ρ _ => Cert.Kernel2Ideal.Gen.frame m ρ,
  fun m ρ _ => Cert.Kernel2Ideal.Gen.frame m ρ,
  frame_reference2,
  fun m ρ _ => frame_reference2 m ρ trivial,
  fun m ρ _ => Cert.Kernel3.Gen.frame m ρ,
  fun m ρ _ => Cert.Kernel3Ideal.Gen.frame m ρ,
  Cert.DwIn.frame_reference,
  fun m ρ _ => Cert.Kernel4.Gen.frame m ρ,
  fun m ρ _ => Cert.Kernel4Ideal.Gen.frame m ρ,
  Cert.Du.frame_reference,
  fun m ρ _ => Cert.Kernel5.Gen.frame m ρ,
  fun m ρ _ => Cert.Kernel5Ideal.Gen.frame m ρ,
  Cert.DwFfnIn.frame_reference,
  fun m ρ _ => Cert.Kernel6.Gen.frame m ρ,
  fun m ρ _ => Cert.Kernel6Ideal.Gen.frame m ρ,
  Cert.DuFfn.frame_reference,
  fun m ρ _ => Cert.Kernel7.Gen.frame m ρ,
  fun m ρ _ => Cert.Kernel7Ideal.Gen.frame m ρ,
  Cert.DwFfnOut.frame_reference,
  fun m ρ _ => Cert.Kernel8.Gen.frame m ρ,
  fun m ρ _ => Cert.Kernel8Ideal.Gen.frame m ρ,
  Cert.DAct.frame_reference,
  fun m ρ _ => Cert.Kernel9.Gen.frame m ρ,
  fun m ρ _ => Cert.Kernel9Ideal.Gen.frame m ρ,
  Cert.DwOut.frame_reference,
  fun m ρ _ => Cert.Kernel10.Gen.frame m ρ,
  fun m ρ _ => Cert.Kernel10Ideal.Gen.frame m ρ,
  Cert.DMerged.frame_reference,
  fun m ρ _ => Cert.Kernel11.Gen.frame m ρ,
  fun m ρ _ => Cert.Kernel11Ideal.Gen.frame m ρ,
  Cert.DwBranch.frame_reference,
  fun m ρ _ => Cert.Kernel12.Gen.frame m ρ,
  fun m ρ _ => Cert.Kernel12Ideal.Gen.frame m ρ,
  Cert.DBranch.frame_reference,
  fun m ρ _ => Cert.Kernel13.Gen.frame m ρ,
  fun m ρ _ => Cert.Kernel13Ideal.Gen.frame m ρ,
  Cert.DwBranchScan.frame_reference,
  fun m ρ _ => Cert.Kernel14.Gen.frame m ρ,
  fun m ρ _ => Cert.Kernel14Ideal.Gen.frame m ρ,
  Cert.DwGates.frame_reference,
  fun m ρ _ => Cert.Kernel15.Gen.frame m ρ,
  fun m ρ _ => Cert.Kernel15Ideal.Gen.frame m ρ,
  Cert.DConv.frame_reference,
  fun m ρ _ => Cert.Kernel16.Gen.frame m ρ,
  fun m ρ _ => Cert.Kernel16Ideal.Gen.frame m ρ,
  Cert.InProj.frame_reference,
  fun m ρ _ => Cert.Kernel17.Gen.frame m ρ,
  fun m ρ _ => Cert.Kernel17Ideal.Gen.frame m ρ,
  Cert.Gates.frame_reference,
  fun m ρ _ => Cert.Kernel18.Gen.frame m ρ,
  fun m ρ _ => Cert.Kernel18Ideal.Gen.frame m ρ,
  Cert.Branch.frame_reference,
  fun m ρ _ => Cert.Kernel19.Gen.frame m ρ,
  fun m ρ _ => Cert.Kernel19Ideal.Gen.frame m ρ,
  Cert.BranchScan.frame_reference,
  fun m ρ _ => Cert.Kernel20.Gen.frame m ρ,
  fun m ρ _ => Cert.Kernel20Ideal.Gen.frame m ρ,
  Cert.OutProj.frame_reference,
  fun m ρ _ => Cert.Kernel21.Gen.frame m ρ,
  fun m ρ _ => Cert.Kernel21Ideal.Gen.frame m ρ,
  Cert.FfnIn.frame_reference,
  fun m ρ _ => Cert.Kernel22.Gen.frame m ρ,
  fun m ρ _ => Cert.Kernel22Ideal.Gen.frame m ρ,
  Cert.FfnOut.frame_reference,
  fun m ρ _ => Cert.Kernel23.Gen.frame m ρ,
  fun m ρ _ => Cert.Kernel23Ideal.Gen.frame m ρ,
  Cert.MergeBwd.frame_reference,
  fun m ρ _ => Cert.Kernel24.Gen.frame m ρ,
  fun m ρ _ => Cert.Kernel24Ideal.Gen.frame m ρ,
  fun m ρ _ => Cert.Kernel24Ideal.Gen.frame m ρ,
  Cert.ActBwd.frame_reference,
  fun m ρ _ => Cert.ActBwd.frame_reference m ρ trivial,
  fun m ρ _ => Cert.Kernel25.Gen.frame m ρ,
  fun m ρ _ => Cert.Kernel25Ideal.Gen.frame m ρ,
  Cert.NormBwd.frame_reference,
  fun m ρ _ => Cert.Kernel26.Gen.frame m ρ,
  fun m ρ _ => Cert.Kernel26Ideal.Gen.frame m ρ,
  Cert.ActFwd.frame_reference,
  fun m ρ _ => Cert.Kernel27.Gen.frame m ρ,
  fun m ρ _ => Cert.Kernel27Ideal.Gen.frame m ρ,
  Cert.MergeFwd.frame_reference,
  fun m ρ _ => Cert.Kernel28.Gen.frame m ρ,
  fun m ρ _ => Cert.Kernel28Ideal.Gen.frame m ρ,
  Cert.NormFwd.frame_reference,
  IdealRules.named_const.statement _ _ _ _ _ rfl,
  Cert.DqEq.claim,
  IdealRules.named_const.statement _ _ _ _ _ rfl,
  Cert.DkvEq.claim,
  trivial,
  Cert.DwIn.claim,
  trivial,
  Cert.Du.claim,
  trivial,
  Cert.DwFfnIn.claim,
  trivial,
  Cert.DuFfn.claim,
  trivial,
  Cert.DwFfnOut.claim,
  trivial,
  Cert.DAct.claim,
  trivial,
  Cert.DwOut.claim,
  trivial,
  Cert.DMerged.claim,
  trivial,
  Cert.DwBranch.claim,
  trivial,
  Cert.DBranch.claim,
  trivial,
  Cert.DwBranchScan.claim,
  trivial,
  Cert.DwGates.claim,
  trivial,
  Cert.DConv.claim,
  trivial,
  Cert.InProj.claim,
  trivial,
  Cert.Gates.claim,
  trivial,
  Cert.Branch.claim,
  trivial,
  Cert.BranchScan.claim,
  trivial,
  Cert.OutProj.claim,
  trivial,
  Cert.FfnIn.claim,
  trivial,
  Cert.FfnOut.claim,
  trivial,
  Cert.MergeBwd.claim,
  trivial,
  Cert.ActBwd.claim,
  trivial,
  Cert.NormBwd.claim,
  trivial,
  Cert.ActFwd.claim,
  trivial,
  Cert.MergeFwd.claim,
  trivial,
  Cert.NormFwd.claim⟩

end Cert.Proof

end
